-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2))
      ∧ r.2.sem = fun _ => 0)

def preserves_Kernel_KernelIdeal : Prop :=
  IdealRules.named_const.Statement Cert.KernelIdeal.κ "qscale" .f32 0x3DD53B95#32 (((Real.log 2)⁻¹ * (Real.sqrt 192)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v24_0)) (v2 : (c : Dev Cert.KernelIdeal.nD) → Buf (Elt Ideal) ((c.tc : Thread Cert.KernelIdeal.nD Cert.KernelIdeal.τ).loc Cert.KernelIdeal.main_v24_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v24_0) = v1 c
          ∧ r.2.mem ((c.tc : Thread Cert.KernelIdeal.nD Cert.KernelIdeal.τ).loc Cert.KernelIdeal.main_v24_3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_v158) = v1 c
          ∧ r.2.mem ((c.tc : Thread Cert.ReferenceIdeal.nD Cert.ReferenceIdeal.τ).loc Cert.ReferenceIdeal.main_v160) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Prep_PrepIdeal : Prop :=
  True

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)) →
    ∃ (v0 : (c : Dev Cert.PrepIdeal.nD) → Buf (Elt Ideal) ((c.tc : Thread Cert.PrepIdeal.nD Cert.PrepIdeal.τ).loc Cert.PrepIdeal.main_v5_0)) (v1 : (c : Dev Cert.PrepIdeal.nD) → Buf (Elt Ideal) ((c.tc : Thread Cert.PrepIdeal.nD Cert.PrepIdeal.τ).loc Cert.PrepIdeal.main_v5_1)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v5_0) = v0 c
          ∧ r.2.mem ((c.tc : Thread Cert.PrepIdeal.nD Cert.PrepIdeal.τ).loc Cert.PrepIdeal.main_v5_1) = v1 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v20) = v0 c
          ∧ r.2.mem ((c.tc : Thread Cert.PrepReferenceIdeal.nD Cert.PrepReferenceIdeal.τ).loc Cert.PrepReferenceIdeal.main_v21) = v1 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3))

def preserves_Final_FinalIdeal : Prop :=
  True

def algebraic_FinalIdeal_FinalReferenceIdeal [hFinalIdeal : Cert.FinalIdeal.Facts] [hFinalReferenceIdeal : Cert.FinalReferenceIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)
      ∧ m' ((c.tc : Thread Cert.FinalReferenceIdeal.nD Cert.FinalReferenceIdeal.τ).loc Cert.FinalReferenceIdeal.main_arg2) = m ((c.tc : Thread Cert.FinalIdeal.nD Cert.FinalIdeal.τ).loc Cert.FinalIdeal.main_arg2)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v14) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2))

def Claim : Prop :=
  ∃ (hKernel : Cert.Kernel.Facts) (hKernelIdeal : Cert.KernelIdeal.Facts) (hReferenceIdeal : Cert.ReferenceIdeal.Facts) (hPrep : Cert.Prep.Facts) (hPrepIdeal : Cert.PrepIdeal.Facts) (hPrepReferenceIdeal : Cert.PrepReferenceIdeal.Facts) (hFinal : Cert.Final.Facts) (hFinalIdeal : Cert.FinalIdeal.Facts) (hFinalReferenceIdeal : Cert.FinalReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Prep (hPrep := hPrep)
    ∧ quiescent_PrepIdeal (hPrepIdeal := hPrepIdeal)
    ∧ quiescent_PrepReferenceIdeal (hPrepReferenceIdeal := hPrepReferenceIdeal)
    ∧ quiescent_Final (hFinal := hFinal)
    ∧ quiescent_FinalIdeal (hFinalIdeal := hFinalIdeal)
    ∧ quiescent_FinalReferenceIdeal (hFinalReferenceIdeal := hFinalReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Prep_PrepIdeal
    ∧ algebraic_PrepIdeal_PrepReferenceIdeal (hPrepIdeal := hPrepIdeal) (hPrepReferenceIdeal := hPrepReferenceIdeal)
    ∧ preserves_Final_FinalIdeal
    ∧ algebraic_FinalIdeal_FinalReferenceIdeal (hFinalIdeal := hFinalIdeal) (hFinalReferenceIdeal := hFinalReferenceIdeal)
-- ==== Pre_finite.lean ====
abbrev S4x4096x1024 : Shape := ⟨3, ![4, 4096, 1024]⟩
abbrev S4x4096 : Shape := ⟨2, ![4, 4096]⟩
abbrev S1024 : Shape := ⟨1, ![1024]⟩
abbrev S1024x4544 : Shape := ⟨2, ![1024, 4544]⟩
abbrev S2048 : Shape := ⟨1, ![2048]⟩
abbrev S256 : Shape := ⟨1, ![256]⟩
abbrev S256x1536 : Shape := ⟨2, ![256, 1536]⟩
abbrev S128 : Shape := ⟨1, ![128]⟩
abbrev S128x2048 : Shape := ⟨2, ![128, 2048]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x4544 : S_.BroadcastsInDim S1024x4544 (![] : Fin 0 → Fin S1024x4544.rank)
  reducesTo_S1024x4544_S_d0_1 : S1024x4544.ReducesTo [0, 1] S_
  bcast_S_S2048 : S_.BroadcastsInDim S2048 (![] : Fin 0 → Fin S2048.rank)
  reducesTo_S2048_S_d0 : S2048.ReducesTo [0] S_
  bcast_S_S256 : S_.BroadcastsInDim S256 (![] : Fin 0 → Fin S256.rank)
  reducesTo_S256_S_d0 : S256.ReducesTo [0] S_
  bcast_S_S256x1536 : S_.BroadcastsInDim S256x1536 (![] : Fin 0 → Fin S256x1536.rank)
  reducesTo_S256x1536_S_d0_1 : S256x1536.ReducesTo [0, 1] S_
  bcast_S_S128 : S_.BroadcastsInDim S128 (![] : Fin 0 → Fin S128.rank)
  reducesTo_S128_S_d0 : S128.ReducesTo [0] S_
  bcast_S_S128x2048 : S_.BroadcastsInDim S128x2048 (![] : Fin 0 → Fin S128x2048.rank)
  reducesTo_S128x2048_S_d0_1 : S128x2048.ReducesTo [0, 1] S_

variable [Facts]

def fn_part2 {F : FTy → Type} [FloatOps F] (main_arg8 : FVec F S128x2048 .f32) (main_v33 : IVec S_ 1) : IVec S_ 1 :=
  let main_v34 : FVec F S128x2048 .f32 := Host.absf main_arg8
  let main_cst_12 : FVec F S_ .f32 := constant S_ .f32 0x7F800000#32
  let main_v35 : FVec F S128x2048 .f32 := broadcastInDim S128x2048 ![] bcast_S_S128x2048 main_cst_12
  let main_v36 : IVec S128x2048 1 := cmpf .olt main_v34 main_v35
  let main_c_13 : IVec S_ 1 := constantI S_ 1 1#1
  let main_v37 : IVec S_ 1 := (fun x v => Host.reduce IntOp.andi x v reducesTo_S128x2048_S_d0_1 h_S_) main_v36 main_c_13
  let main_v38 : IVec S_ 1 := andi main_v33 main_v37
  main_v38

def fn_part1 {F : FTy → Type} [FloatOps F] (main_arg5 : FVec F S256 .f32) (main_arg6 : FVec F S256x1536 .f32) (main_arg7 : FVec F S128 .f32) (main_arg8 : FVec F S128x2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1536 .f32 := Host.absf main_arg6
  let main_cst_8 : FVec F S_ .f32 := constant S_ .f32 0x7F800000#32
  let main_v25 : FVec F S256x1536 .f32 := broadcastInDim S256x1536 ![] bcast_S_S256x1536 main_cst_8
  let main_v26 : IVec S256x1536 1 := cmpf .olt main_v24 main_v25
  let main_c_9 : IVec S_ 1 := constantI S_ 1 1#1
  let main_v27 : IVec S_ 1 := (fun x v => Host.reduce IntOp.andi x v reducesTo_S256x1536_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S4x4096x1024 .f32) (main_arg1 : IVec S4x4096 32) (main_arg2 : FVec F S1024 .f32) (main_arg3 : FVec F S1024x4544 .f32) (main_arg4 : FVec F S2048 .f32) (main_arg5 : FVec F S256 .f32) (main_arg6 : FVec F S256x1536 .f32) (main_arg7 : FVec F S128 .f32) (main_arg8 : FVec F S128x2048 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4544 .f32 := Host.absf main_arg3
  let main_cst_2 : FVec F S_ .f32 := constant S_ .f32 0x7F800000#32
  let main_v10 : FVec F S1024x4544 .f32 := broadcastInDim S1024x4544 ![] bcast_S_S1024x4544 main_cst_2
  let main_v11 : IVec S1024x4544 1 := cmpf .olt main_v9 main_v10
  let main_c_3 : IVec S_ 1 := constantI S_ 1 1#1
  let main_v12 : IVec S_ 1 := (fun x v => Host.reduce IntOp.andi x v reducesTo_S1024x4544_S_d0_1 h_S_) main_v11 main_c_3
  let main_v13 : IVec S_ 1 := andi main_v8 main_v12
  let main_v14 : FVec F S2048 .f32 := Host.absf main_arg4
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg5 main_arg6 main_arg7 main_arg8 main_v13 main_v16
-- ==== Kernel.lean ====
abbrev S4x4096x1024 : Shape := ⟨3, ![4, 4096, 1024]⟩
abbrev S4x4096 : Shape := ⟨2, ![4, 4096]⟩
abbrev S1024 : Shape := ⟨1, ![1024]⟩
abbrev S1024x4544 : Shape := ⟨2, ![1024, 4544]⟩
abbrev S2048 : Shape := ⟨1, ![2048]⟩
abbrev S256 : Shape := ⟨1, ![256]⟩
abbrev S256x1536 : Shape := ⟨2, ![256, 1536]⟩
abbrev S128 : Shape := ⟨1, ![128]⟩
abbrev S128x2048 : Shape := ⟨2, ![128, 2048]⟩
abbrev S64 : Shape := ⟨1, ![64]⟩
abbrev S1024x64 : Shape := ⟨2, ![1024, 64]⟩
abbrev S256x8x64 : Shape := ⟨3, ![256, 8, 64]⟩
abbrev S32 : Shape := ⟨1, ![32]⟩
abbrev S_ : Shape := ⟨0, ![]⟩
abbrev S1x128 : Shape := ⟨2, ![1, 128]⟩
abbrev S16384x1 : Shape := ⟨2, ![16384, 1]⟩
abbrev S16384x1024 : Shape := ⟨2, ![16384, 1024]⟩
abbrev S1024x128 : Shape := ⟨2, ![1024, 128]⟩
abbrev S1024x32 : Shape := ⟨2, ![1024, 32]⟩
abbrev S1024x384 : Shape := ⟨2, ![1024, 384]⟩
abbrev S1x1024 : Shape := ⟨2, ![1, 1024]⟩
abbrev S1024x1024 : Shape := ⟨2, ![1024, 1024]⟩
abbrev S1024x256 : Shape := ⟨2, ![1024, 256]⟩
abbrev S1024x2048 : Shape := ⟨2, ![1024, 2048]⟩
abbrev S1x2048 : Shape := ⟨2, ![1, 2048]⟩
abbrev S16384x256 : Shape := ⟨2, ![16384, 256]⟩
abbrev S16384x384 : Shape := ⟨2, ![16384, 384]⟩
abbrev S16384x2048 : Shape := ⟨2, ![16384, 2048]⟩
abbrev S512x1024 : Shape := ⟨2, ![512, 1024]⟩
abbrev S512x256 : Shape := ⟨2, ![512, 256]⟩
abbrev S512x384 : Shape := ⟨2, ![512, 384]⟩
abbrev S512x2048 : Shape := ⟨2, ![512, 2048]⟩
abbrev S512 : Shape := ⟨1, ![512]⟩
abbrev S512x1 : Shape := ⟨2, ![512, 1]⟩
abbrev S256x8x192 : Shape := ⟨3, ![256, 8, 192]⟩
abbrev S256x8x256 : Shape := ⟨3, ![256, 8, 256]⟩
abbrev S256x2048 : Shape := ⟨2, ![256, 2048]⟩
abbrev S256x8x32 : Shape := ⟨3, ![256, 8, 32]⟩
abbrev S256x8x128 : Shape := ⟨3, ![256, 8, 128]⟩
abbrev S256x1024 : Shape := ⟨2, ![256, 1024]⟩
abbrev S128x8x256 : Shape := ⟨3, ![128, 8, 256]⟩
abbrev S128x8x128 : Shape := ⟨3, ![128, 8, 128]⟩
abbrev S128x1024 : Shape := ⟨2, ![128, 1024]⟩
abbrev S1x256 : Shape := ⟨2, ![1, 256]⟩
abbrev S4x8x4096x256 : Shape := ⟨4, ![4, 8, 4096, 256]⟩
abbrev S4x8x128x4096 : Shape := ⟨4, ![4, 8, 128, 4096]⟩
abbrev S1x8x512x256 : Shape := ⟨4, ![1, 8, 512, 256]⟩
abbrev S1x8x128x512 : Shape := ⟨4, ![1, 8, 128, 512]⟩
abbrev S512x128 : Shape := ⟨2, ![512, 128]⟩
abbrev S1024x512 : Shape := ⟨2, ![1024, 512]⟩
abbrev S1x1x512x128 : Shape := ⟨4, ![1, 1, 512, 128]⟩
abbrev S128x512 : Shape := ⟨2, ![128, 512]⟩
abbrev S1x1x128x512 : Shape := ⟨4, ![1, 1, 128, 512]⟩
abbrev S1x4x512x256 : Shape := ⟨4, ![1, 4, 512, 256]⟩
abbrev S1x4x4096x256 : Shape := ⟨4, ![1, 4, 4096, 256]⟩
abbrev S1x4x128x4096 : Shape := ⟨4, ![1, 4, 128, 4096]⟩
abbrev S1x512x512 : Shape := ⟨3, ![1, 512, 512]⟩
abbrev S4x128x512 : Shape := ⟨3, ![4, 128, 512]⟩
abbrev S1x512 : Shape := ⟨2, ![1, 512]⟩
abbrev S1x1x512x256 : Shape := ⟨4, ![1, 1, 512, 256]⟩
abbrev S512x512 : Shape := ⟨2, ![512, 512]⟩
abbrev S1x128x512 : Shape := ⟨3, ![1, 128, 512]⟩
abbrev S1x512x128 : Shape := ⟨3, ![1, 512, 128]⟩

abbrev nBuf : Space → Nat
  | .hbm => 68
  | .vmem => 45
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .i32⟩
  | .hbm, ⟨2, _⟩ => ⟨S1024, .f32⟩
  | .hbm, ⟨3, _⟩ => ⟨S1024x4544, .f32⟩
  | .hbm, ⟨4, _⟩ => ⟨S2048, .f32⟩
  | .hbm, ⟨5, _⟩ => ⟨S256, .f32⟩
  | .hbm, ⟨6, _⟩ => ⟨S256x1536, .f32⟩
  | .hbm, ⟨7, _⟩ => ⟨S128, .f32⟩
  | .hbm, ⟨8, _⟩ => ⟨S128x2048, .f32⟩
  | .hbm, ⟨9, _⟩ => ⟨S64, .f32⟩
  | .hbm, ⟨10, _⟩ => ⟨S1024x64, .bf16⟩
  | .hbm, ⟨11, _⟩ => ⟨S1024x64, .bf16⟩
  | .hbm, ⟨12, _⟩ => ⟨S256x8x64, .bf16⟩
  | .hbm, ⟨13, _⟩ => ⟨S256x8x64, .bf16⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S128, .f32⟩
  | .hbm, ⟨23, _⟩ => ⟨S1x128, .f32⟩
  | .hbm, ⟨24, _⟩ => ⟨S16384x1, .i32⟩
  | .hbm, ⟨25, _⟩ => ⟨S16384x1024, .f32⟩
  | .hbm, ⟨26, _⟩ => ⟨S1024x4544, .bf16⟩
  | .hbm, ⟨27, _⟩ => ⟨S1024x64, .bf16⟩
  | .hbm, ⟨28, _⟩ => ⟨S1024x128, .bf16⟩
  | .hbm, ⟨29, _⟩ => ⟨S1024x32, .bf16⟩
  | .hbm, ⟨30, _⟩ => ⟨S1024x32, .bf16⟩
  | .hbm, ⟨31, _⟩ => ⟨S1024x32, .bf16⟩
  | .hbm, ⟨32, _⟩ => ⟨S1024x64, .bf16⟩
  | .hbm, ⟨33, _⟩ => ⟨S1024x384, .bf16⟩
  | .hbm, ⟨34, _⟩ => ⟨S1x1024, .f32⟩
  | .hbm, ⟨35, _⟩ => ⟨S1024x1024, .bf16⟩
  | .hbm, ⟨36, _⟩ => ⟨S1024x1024, .bf16⟩
  | .hbm, ⟨37, _⟩ => ⟨S1024x256, .bf16⟩
  | .hbm, ⟨38, _⟩ => ⟨S1024x2048, .bf16⟩
  | .hbm, ⟨39, _⟩ => ⟨S1x2048, .f32⟩
  | .hbm, ⟨40, _⟩ => ⟨S16384x1024, .f32⟩
  | .hbm, ⟨41, _⟩ => ⟨S16384x256, .f32⟩
  | .hbm, ⟨42, _⟩ => ⟨S16384x384, .f32⟩
  | .hbm, ⟨43, _⟩ => ⟨S16384x2048, .bf16⟩
  | .hbm, ⟨44, _⟩ => ⟨S256x1536, .bf16⟩
  | .hbm, ⟨45, _⟩ => ⟨S256x8x192, .bf16⟩
  | .hbm, ⟨46, _⟩ => ⟨S256x8x256, .bf16⟩
  | .hbm, ⟨47, _⟩ => ⟨S256x2048, .bf16⟩
  | .hbm, ⟨48, _⟩ => ⟨S256x8x64, .bf16⟩
  | .hbm, ⟨49, _⟩ => ⟨S256x8x32, .bf16⟩
  | .hbm, ⟨50, _⟩ => ⟨S256x8x32, .bf16⟩
  | .hbm, ⟨51, _⟩ => ⟨S256x8x32, .bf16⟩
  | .hbm, ⟨52, _⟩ => ⟨S256x8x64, .bf16⟩
  | .hbm, ⟨53, _⟩ => ⟨S256x8x128, .bf16⟩
  | .hbm, ⟨54, _⟩ => ⟨S256x1024, .bf16⟩
  | .hbm, ⟨55, _⟩ => ⟨S128x2048, .bf16⟩
  | .hbm, ⟨56, _⟩ => ⟨S128x8x256, .bf16⟩
  | .hbm, ⟨57, _⟩ => ⟨S128x8x128, .bf16⟩
  | .hbm, ⟨58, _⟩ => ⟨S128x1024, .bf16⟩
  | .hbm, ⟨59, _⟩ => ⟨S128x8x128, .bf16⟩
  | .hbm, ⟨60, _⟩ => ⟨S128x1024, .bf16⟩
  | .hbm, ⟨61, _⟩ => ⟨S1x256, .f32⟩
  | .hbm, ⟨62, _⟩ => ⟨S1x128, .f32⟩
  | .hbm, ⟨63, _⟩ => ⟨S1024x128, .bf16⟩
  | .hbm, ⟨64, _⟩ => ⟨S4x8x4096x256, .bf16⟩
  | .hbm, ⟨65, _⟩ => ⟨S4x8x4096x256, .bf16⟩
  | .hbm, ⟨66, _⟩ => ⟨S4x8x128x4096, .bf16⟩
  | .hbm, ⟨67, _⟩ => ⟨S4x4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x256, .bf16⟩
  | .local _ .vmem, ⟨6, _⟩ => ⟨S1024x384, .bf16⟩
  | .local _ .vmem, ⟨7, _⟩ => ⟨S1024x2048, .bf16⟩
  | .local _ .vmem, ⟨8, _⟩ => ⟨S1x2048, .f32⟩
  | .local _ .vmem, ⟨9, _⟩ => ⟨S512x1024, .f32⟩
  | .local _ .vmem, ⟨10, _⟩ => ⟨S512x1024, .f32⟩
  | .local _ .vmem, ⟨11, _⟩ => ⟨S512x256, .f32⟩
  | .local _ .vmem, ⟨12, _⟩ => ⟨S512x256, .f32⟩
  | .local _ .vmem, ⟨13, _⟩ => ⟨S512x384, .f32⟩
  | .local _ .vmem, ⟨14, _⟩ => ⟨S512x384, .f32⟩
  | .local _ .vmem, ⟨15, _⟩ => ⟨S512x2048, .bf16⟩
  | .local _ .vmem, ⟨16, _⟩ => ⟨S512x2048, .bf16⟩
  | .local _ .vmem, ⟨17, _⟩ => ⟨S512x256, .f32⟩
  | .local _ .vmem, ⟨18, _⟩ => ⟨S512x256, .f32⟩
  | .local _ .vmem, ⟨19, _⟩ => ⟨S512x384, .f32⟩
  | .local _ .vmem, ⟨20, _⟩ => ⟨S512x384, .f32⟩
  | .local _ .vmem, ⟨21, _⟩ => ⟨S512x1, .i32⟩
  | .local _ .vmem, ⟨22, _⟩ => ⟨S512x1, .i32⟩
  | .local _ .vmem, ⟨23, _⟩ => ⟨S1x128, .f32⟩
  | .local _ .vmem, ⟨24, _⟩ => ⟨S1x256, .f32⟩
  | .local _ .vmem, ⟨25, _⟩ => ⟨S256x2048, .bf16⟩
  | .local _ .vmem, ⟨26, _⟩ => ⟨S256x1024, .bf16⟩
  | .local _ .vmem, ⟨27, _⟩ => ⟨S1x128, .f32⟩
  | .local _ .vmem, ⟨28, _⟩ => ⟨S128x1024, .bf16⟩
  | .local _ .vmem, ⟨29, _⟩ => ⟨S1024x128, .bf16⟩
  | .local _ .vmem, ⟨30, _⟩ => ⟨S1x8x512x256, .bf16⟩
  | .local _ .vmem, ⟨31, _⟩ => ⟨S1x8x512x256, .bf16⟩
  | .local _ .vmem, ⟨32, _⟩ => ⟨S1x8x512x256, .bf16⟩
  | .local _ .vmem, ⟨33, _⟩ => ⟨S1x8x512x256, .bf16⟩
  | .local _ .vmem, ⟨34, _⟩ => ⟨S1x8x128x512, .bf16⟩
  | .local _ .vmem, ⟨35, _⟩ => ⟨S1x8x128x512, .bf16⟩
  | .local _ .vmem, ⟨36, _⟩ => ⟨S1x4x512x256, .bf16⟩
  | .local _ .vmem, ⟨37, _⟩ => ⟨S1x4x512x256, .bf16⟩
  | .local _ .vmem, ⟨38, _⟩ => ⟨S1x4x4096x256, .bf16⟩
  | .local _ .vmem, ⟨39, _⟩ => ⟨S1x4x4096x256, .bf16⟩
  | .local _ .vmem, ⟨40, _⟩ => ⟨S1x4x128x4096, .bf16⟩
  | .local _ .vmem, ⟨41, _⟩ => ⟨S1x4x128x4096, .bf16⟩
  | .local _ .vmem, ⟨42, _⟩ => ⟨S1x512x512, .bf16⟩
  | .local _ .vmem, ⟨43, _⟩ => ⟨S1x512x512, .bf16⟩
  | .local _ .vmem, ⟨44, _⟩ => ⟨S4x128x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_cst_1 : Ref sig .tc := ⟨.hbm, 11, rfl⟩
abbrev main_cst_2 : Ref sig .tc := ⟨.hbm, 12, rfl⟩
abbrev main_cst_3 : Ref sig .tc := ⟨.hbm, 13, rfl⟩
abbrev main_v0 : Ref sig .tc := ⟨.hbm, 14, rfl⟩
abbrev main_v1 : Ref sig .tc := ⟨.hbm, 15, rfl⟩
abbrev main_cst_4 : Ref sig .tc := ⟨.hbm, 16, rfl⟩
abbrev main_v2 : Ref sig .tc := ⟨.hbm, 17, rfl⟩
abbrev main_v3 : Ref sig .tc := ⟨.hbm, 18, rfl⟩
abbrev main_cst_5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24_0 : Ref sig .tc := ⟨.hbm, 40, rfl⟩
abbrev main_v24_1 : Ref sig .tc := ⟨.hbm, 41, rfl⟩
abbrev main_v24_2 : Ref sig .tc := ⟨.hbm, 42, rfl⟩
abbrev main_v24_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45_0 : Ref sig .tc := ⟨.hbm, 64, rfl⟩
abbrev main_v45_1 : Ref sig .tc := ⟨.hbm, 65, rfl⟩
abbrev main_v45_2 : Ref sig .tc := ⟨.hbm, 66, rfl⟩
abbrev main_v46 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg10_1 : Ref sig .tc := ⟨.vmem, 31, rfl⟩
abbrev cc1_stg11_0 : Ref sig .tc := ⟨.vmem, 32, rfl⟩
abbrev cc1_stg11_1 : Ref sig .tc := ⟨.vmem, 33, rfl⟩
abbrev cc1_stg12_0 : Ref sig .tc := ⟨.vmem, 34, rfl⟩
abbrev cc1_stg12_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg3_1 : Ref sig .tc := ⟨.vmem, 43, rfl⟩
abbrev cc2_scratch0 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem10_1 : DmaSem sig := 31
abbrev cc1_sem11_0 : DmaSem sig := 32
abbrev cc1_sem11_1 : DmaSem sig := 33
abbrev cc1_sem12_0 : DmaSem sig := 34
abbrev cc1_sem12_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem2_1 : DmaSem sig := 41
abbrev cc2_sem3_0 : DmaSem sig := 42
abbrev cc2_sem3_1 : DmaSem sig := 43

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc1_transform_11 (i : grid1.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc1_transform_12 (i : grid1.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x2048 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S1x8x512x256 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x8x512x256 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x8x128x512 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨3, ![4, 2, 8], ![false, false, false]⟩

@[reducible] def k2_t1_loop (i : grid2.Coords) : Scf.Loop 32 :=
  let c0_i32_8 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_10 : BitVec 32 := 1#32
  ⟨c0_i32_8, v27, c1_i32_10⟩
def k2_mult1 (i : grid2.Coords) (k2_t1 : Fin (k2_t1_loop i).trips) : BitVec 32 :=
  let c2_i32_120 : BitVec 32 := 2#32
  let c0_i32_8 : BitVec 32 := 0#32
  let c1_i32_10 : BitVec 32 := 1#32
  let arg8 : BitVec 32 := Scf.iv c0_i32_8 c1_i32_10 k2_t1
  let v222 : BitVec 32 := Scalar.muli c2_i32_120 arg8
  let c512_i32_121 : BitVec 32 := 512#32
  let v223 : BitVec 32 := Scalar.muli v222 c512_i32_121
  v223
def k2_off1 (i : grid2.Coords) (k2_t1 : Fin (k2_t1_loop i).trips) : Fin 4 → Nat :=
  let c0_122 : Index := 0#32
  let c0_123 : Index := 0#32
  let c2_i32_120 : BitVec 32 := 2#32
  let c0_i32_8 : BitVec 32 := 0#32
  let c1_i32_10 : BitVec 32 := 1#32
  let arg8 : BitVec 32 := Scf.iv c0_i32_8 c1_i32_10 k2_t1
  let v222 : BitVec 32 := Scalar.muli c2_i32_120 arg8
  let c512_i32_121 : BitVec 32 := 512#32
  let v223 : BitVec 32 := Scalar.muli v222 c512_i32_121
  let v224 : BitVec 32 := v223
  let v225 : Index := Scalar.indexCast v224
  let c0_124 : Index := 0#32
  ![0, 0, v225.toNat, 0]
def k2_off2 (i : grid2.Coords) (k2_t1 : Fin (k2_t1_loop i).trips) : Fin 4 → Nat :=
  let c0_132 : Index := 0#32
  let c0_133 : Index := 0#32
  let c0_134 : Index := 0#32
  let c2_i32_120 : BitVec 32 := 2#32
  let c0_i32_8 : BitVec 32 := 0#32
  let c1_i32_10 : BitVec 32 := 1#32
  let arg8 : BitVec 32 := Scf.iv c0_i32_8 c1_i32_10 k2_t1
  let v222 : BitVec 32 := Scalar.muli c2_i32_120 arg8
  let c512_i32_121 : BitVec 32 := 512#32
  let v223 : BitVec 32 := Scalar.muli v222 c512_i32_121
  let v224 : BitVec 32 := v223
  let v243 : Index := Scalar.indexCast v224
  ![0, 0, 0, v243.toNat]
def k2_off3 (i : grid2.Coords) (k2_t1 : Fin (k2_t1_loop i).trips) : Fin 4 → Nat :=
  let c0_142 : Index := 0#32
  let c1_143 : Index := 1#32
  let c2_i32_120 : BitVec 32 := 2#32
  let c0_i32_8 : BitVec 32 := 0#32
  let c1_i32_10 : BitVec 32 := 1#32
  let arg8 : BitVec 32 := Scf.iv c0_i32_8 c1_i32_10 k2_t1
  let v222 : BitVec 32 := Scalar.muli c2_i32_120 arg8
  let c512_i32_121 : BitVec 32 := 512#32
  let v223 : BitVec 32 := Scalar.muli v222 c512_i32_121
  let v224 : BitVec 32 := v223
  let v256 : Index := Scalar.indexCast v224
  let c0_144 : Index := 0#32
  ![0, 1, v256.toNat, 0]
def k2_off4 (i : grid2.Coords) (k2_t1 : Fin (k2_t1_loop i).trips) : Fin 4 → Nat :=
  let c0_152 : Index := 0#32
  let c1_153 : Index := 1#32
  let c0_154 : Index := 0#32
  let c2_i32_120 : BitVec 32 := 2#32
  let c0_i32_8 : BitVec 32 := 0#32
  let c1_i32_10 : BitVec 32 := 1#32
  let arg8 : BitVec 32 := Scf.iv c0_i32_8 c1_i32_10 k2_t1
  let v222 : BitVec 32 := Scalar.muli c2_i32_120 arg8
  let c512_i32_121 : BitVec 32 := 512#32
  let v223 : BitVec 32 := Scalar.muli v222 c512_i32_121
  let v224 : BitVec 32 := v223
  let v274 : Index := Scalar.indexCast v224
  ![0, 1, 0, v274.toNat]
def k2_off5 (i : grid2.Coords) (k2_t1 : Fin (k2_t1_loop i).trips) : Fin 4 → Nat :=
  let c0_162 : Index := 0#32
  let c2_163 : Index := 2#32
  let c2_i32_120 : BitVec 32 := 2#32
  let c0_i32_8 : BitVec 32 := 0#32
  let c1_i32_10 : BitVec 32 := 1#32
  let arg8 : BitVec 32 := Scf.iv c0_i32_8 c1_i32_10 k2_t1
  let v222 : BitVec 32 := Scalar.muli c2_i32_120 arg8
  let c512_i32_121 : BitVec 32 := 512#32
  let v223 : BitVec 32 := Scalar.muli v222 c512_i32_121
  let v224 : BitVec 32 := v223
  let v287 : Index := Scalar.indexCast v224
  let c0_164 : Index := 0#32
  ![0, 2, v287.toNat, 0]
def k2_off6 (i : grid2.Coords) (k2_t1 : Fin (k2_t1_loop i).trips) : Fin 4 → Nat :=
  let c0_172 : Index := 0#32
  let c2_173 : Index := 2#32
  let c0_174 : Index := 0#32
  let c2_i32_120 : BitVec 32 := 2#32
  let c0_i32_8 : BitVec 32 := 0#32
  let c1_i32_10 : BitVec 32 := 1#32
  let arg8 : BitVec 32 := Scf.iv c0_i32_8 c1_i32_10 k2_t1
  let v222 : BitVec 32 := Scalar.muli c2_i32_120 arg8
  let c512_i32_121 : BitVec 32 := 512#32
  let v223 : BitVec 32 := Scalar.muli v222 c512_i32_121
  let v224 : BitVec 32 := v223
  let v305 : Index := Scalar.indexCast v224
  ![0, 2, 0, v305.toNat]
def k2_off7 (i : grid2.Coords) (k2_t1 : Fin (k2_t1_loop i).trips) : Fin 4 → Nat :=
  let c0_182 : Index := 0#32
  let c3_183 : Index := 3#32
  let c2_i32_120 : BitVec 32 := 2#32
  let c0_i32_8 : BitVec 32 := 0#32
  let c1_i32_10 : BitVec 32 := 1#32
  let arg8 : BitVec 32 := Scf.iv c0_i32_8 c1_i32_10 k2_t1
  let v222 : BitVec 32 := Scalar.muli c2_i32_120 arg8
  let c512_i32_121 : BitVec 32 := 512#32
  let v223 : BitVec 32 := Scalar.muli v222 c512_i32_121
  let v224 : BitVec 32 := v223
  let v318 : Index := Scalar.indexCast v224
  let c0_184 : Index := 0#32
  ![0, 3, v318.toNat, 0]
def k2_off8 (i : grid2.Coords) (k2_t1 : Fin (k2_t1_loop i).trips) : Fin 4 → Nat :=
  let c0_192 : Index := 0#32
  let c3_193 : Index := 3#32
  let c0_194 : Index := 0#32
  let c2_i32_120 : BitVec 32 := 2#32
  let c0_i32_8 : BitVec 32 := 0#32
  let c1_i32_10 : BitVec 32 := 1#32
  let arg8 : BitVec 32 := Scf.iv c0_i32_8 c1_i32_10 k2_t1
  let v222 : BitVec 32 := Scalar.muli c2_i32_120 arg8
  let c512_i32_121 : BitVec 32 := 512#32
  let v223 : BitVec 32 := Scalar.muli v222 c512_i32_121
  let v224 : BitVec 32 := v223
  let v336 : Index := Scalar.indexCast v224
  ![0, 3, 0, v336.toNat]
def k2_mult2 (i : grid2.Coords) (k2_t1 : Fin (k2_t1_loop i).trips) : BitVec 32 :=
  let c2_i32_118 : BitVec 32 := 2#32
  let c0_i32_8 : BitVec 32 := 0#32
  let c1_i32_10 : BitVec 32 := 1#32
  let arg8 : BitVec 32 := Scf.iv c0_i32_8 c1_i32_10 k2_t1
  let v220 : BitVec 32 := Scalar.muli c2_i32_118 arg8
  let c1_i32_119 : BitVec 32 := 1#32
  let v221 : BitVec 32 := Scalar.addi v220 c1_i32_119
  let c512_i32_202 : BitVec 32 := 512#32
  let v349 : BitVec 32 := Scalar.muli v221 c512_i32_202
  v349
def k2_off9 (i : grid2.Coords) (k2_t1 : Fin (k2_t1_loop i).trips) : Fin 4 → Nat :=
  let c0_203 : Index := 0#32
  let c0_204 : Index := 0#32
  let c2_i32_118 : BitVec 32 := 2#32
  let c0_i32_8 : BitVec 32 := 0#32
  let c1_i32_10 : BitVec 32 := 1#32
  let arg8 : BitVec 32 := Scf.iv c0_i32_8 c1_i32_10 k2_t1
  let v220 : BitVec 32 := Scalar.muli c2_i32_118 arg8
  let c1_i32_119 : BitVec 32 := 1#32
  let v221 : BitVec 32 := Scalar.addi v220 c1_i32_119
  let c512_i32_202 : BitVec 32 := 512#32
  let v349 : BitVec 32 := Scalar.muli v221 c512_i32_202
  let v350 : BitVec 32 := v349
  let v351 : Index := Scalar.indexCast v350
  let c0_205 : Index := 0#32
  ![0, 0, v351.toNat, 0]
def k2_off10 (i : grid2.Coords) (k2_t1 : Fin (k2_t1_loop i).trips) : Fin 4 → Nat :=
  let c0_213 : Index := 0#32
  let c0_214 : Index := 0#32
  let c0_215 : Index := 0#32
  let c2_i32_118 : BitVec 32 := 2#32
  let c0_i32_8 : BitVec 32 := 0#32
  let c1_i32_10 : BitVec 32 := 1#32
  let arg8 : BitVec 32 := Scf.iv c0_i32_8 c1_i32_10 k2_t1
  let v220 : BitVec 32 := Scalar.muli c2_i32_118 arg8
  let c1_i32_119 : BitVec 32 := 1#32
  let v221 : BitVec 32 := Scalar.addi v220 c1_i32_119
  let c512_i32_202 : BitVec 32 := 512#32
  let v349 : BitVec 32 := Scalar.muli v221 c512_i32_202
  let v350 : BitVec 32 := v349
  let v369 : Index := Scalar.indexCast v350
  ![0, 0, 0, v369.toNat]
def k2_off11 (i : grid2.Coords) (k2_t1 : Fin (k2_t1_loop i).trips) : Fin 4 → Nat :=
  let c0_223 : Index := 0#32
  let c1_224 : Index := 1#32
  let c2_i32_118 : BitVec 32 := 2#32
  let c0_i32_8 : BitVec 32 := 0#32
  let c1_i32_10 : BitVec 32 := 1#32
  let arg8 : BitVec 32 := Scf.iv c0_i32_8 c1_i32_10 k2_t1
  let v220 : BitVec 32 := Scalar.muli c2_i32_118 arg8
  let c1_i32_119 : BitVec 32 := 1#32
  let v221 : BitVec 32 := Scalar.addi v220 c1_i32_119
  let c512_i32_202 : BitVec 32 := 512#32
  let v349 : BitVec 32 := Scalar.muli v221 c512_i32_202
  let v350 : BitVec 32 := v349
  let v382 : Index := Scalar.indexCast v350
  let c0_225 : Index := 0#32
  ![0, 1, v382.toNat, 0]
def k2_off12 (i : grid2.Coords) (k2_t1 : Fin (k2_t1_loop i).trips) : Fin 4 → Nat :=
  let c0_233 : Index := 0#32
  let c1_234 : Index := 1#32
  let c0_235 : Index := 0#32
  let c2_i32_118 : BitVec 32 := 2#32
  let c0_i32_8 : BitVec 32 := 0#32
  let c1_i32_10 : BitVec 32 := 1#32
  let arg8 : BitVec 32 := Scf.iv c0_i32_8 c1_i32_10 k2_t1
  let v220 : BitVec 32 := Scalar.muli c2_i32_118 arg8
  let c1_i32_119 : BitVec 32 := 1#32
  let v221 : BitVec 32 := Scalar.addi v220 c1_i32_119
  let c512_i32_202 : BitVec 32 := 512#32
  let v349 : BitVec 32 := Scalar.muli v221 c512_i32_202
  let v350 : BitVec 32 := v349
  let v400 : Index := Scalar.indexCast v350
  ![0, 1, 0, v400.toNat]
def k2_off13 (i : grid2.Coords) (k2_t1 : Fin (k2_t1_loop i).trips) : Fin 4 → Nat :=
  let c0_243 : Index := 0#32
  let c2_244 : Index := 2#32
  let c2_i32_118 : BitVec 32 := 2#32
  let c0_i32_8 : BitVec 32 := 0#32
  let c1_i32_10 : BitVec 32 := 1#32
  let arg8 : BitVec 32 := Scf.iv c0_i32_8 c1_i32_10 k2_t1
  let v220 : BitVec 32 := Scalar.muli c2_i32_118 arg8
  let c1_i32_119 : BitVec 32 := 1#32
  let v221 : BitVec 32 := Scalar.addi v220 c1_i32_119
  let c512_i32_202 : BitVec 32 := 512#32
  let v349 : BitVec 32 := Scalar.muli v221 c512_i32_202
  let v350 : BitVec 32 := v349
  let v413 : Index := Scalar.indexCast v350
  let c0_245 : Index := 0#32
  ![0, 2, v413.toNat, 0]
def k2_off14 (i : grid2.Coords) (k2_t1 : Fin (k2_t1_loop i).trips) : Fin 4 → Nat :=
  let c0_253 : Index := 0#32
  let c2_254 : Index := 2#32
  let c0_255 : Index := 0#32
  let c2_i32_118 : BitVec 32 := 2#32
  let c0_i32_8 : BitVec 32 := 0#32
  let c1_i32_10 : BitVec 32 := 1#32
  let arg8 : BitVec 32 := Scf.iv c0_i32_8 c1_i32_10 k2_t1
  let v220 : BitVec 32 := Scalar.muli c2_i32_118 arg8
  let c1_i32_119 : BitVec 32 := 1#32
  let v221 : BitVec 32 := Scalar.addi v220 c1_i32_119
  let c512_i32_202 : BitVec 32 := 512#32
  let v349 : BitVec 32 := Scalar.muli v221 c512_i32_202
  let v350 : BitVec 32 := v349
  let v431 : Index := Scalar.indexCast v350
  ![0, 2, 0, v431.toNat]
def k2_off15 (i : grid2.Coords) (k2_t1 : Fin (k2_t1_loop i).trips) : Fin 4 → Nat :=
  let c0_263 : Index := 0#32
  let c3_264 : Index := 3#32
  let c2_i32_118 : BitVec 32 := 2#32
  let c0_i32_8 : BitVec 32 := 0#32
  let c1_i32_10 : BitVec 32 := 1#32
  let arg8 : BitVec 32 := Scf.iv c0_i32_8 c1_i32_10 k2_t1
  let v220 : BitVec 32 := Scalar.muli c2_i32_118 arg8
  let c1_i32_119 : BitVec 32 := 1#32
  let v221 : BitVec 32 := Scalar.addi v220 c1_i32_119
  let c512_i32_202 : BitVec 32 := 512#32
  let v349 : BitVec 32 := Scalar.muli v221 c512_i32_202
  let v350 : BitVec 32 := v349
  let v444 : Index := Scalar.indexCast v350
  let c0_265 : Index := 0#32
  ![0, 3, v444.toNat, 0]
def k2_off16 (i : grid2.Coords) (k2_t1 : Fin (k2_t1_loop i).trips) : Fin 4 → Nat :=
  let c0_273 : Index := 0#32
  let c3_274 : Index := 3#32
  let c0_275 : Index := 0#32
  let c2_i32_118 : BitVec 32 := 2#32
  let c0_i32_8 : BitVec 32 := 0#32
  let c1_i32_10 : BitVec 32 := 1#32
  let arg8 : BitVec 32 := Scf.iv c0_i32_8 c1_i32_10 k2_t1
  let v220 : BitVec 32 := Scalar.muli c2_i32_118 arg8
  let c1_i32_119 : BitVec 32 := 1#32
  let v221 : BitVec 32 := Scalar.addi v220 c1_i32_119
  let c512_i32_202 : BitVec 32 := 512#32
  let v349 : BitVec 32 := Scalar.muli v221 c512_i32_202
  let v350 : BitVec 32 := v349
  let v462 : Index := Scalar.indexCast v350
  ![0, 3, 0, v462.toNat]
@[reducible] def k2_t2_loop (i : grid2.Coords) : Scf.Loop 32 :=
  let c0_i32_8 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let v24 : BitVec 32 := Scalar.addi c0_i32_8 v23
  let c1_i32_11 : BitVec 32 := 1#32
  ⟨v27, v24, c1_i32_11⟩
def k2_mult3 (i : grid2.Coords) (k2_t2 : Fin (k2_t2_loop i).trips) : BitVec 32 :=
  let c2_i32_120 : BitVec 32 := 2#32
  let c0_i32_8 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg8 : BitVec 32 := Scf.iv v27 c1_i32_11 k2_t2
  let v222 : BitVec 32 := Scalar.muli c2_i32_120 arg8
  let c512_i32_121 : BitVec 32 := 512#32
  let v223 : BitVec 32 := Scalar.muli v222 c512_i32_121
  v223
def k2_off17 (i : grid2.Coords) (k2_t2 : Fin (k2_t2_loop i).trips) : Fin 4 → Nat :=
  let c0_122 : Index := 0#32
  let c0_123 : Index := 0#32
  let c2_i32_120 : BitVec 32 := 2#32
  let c0_i32_8 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg8 : BitVec 32 := Scf.iv v27 c1_i32_11 k2_t2
  let v222 : BitVec 32 := Scalar.muli c2_i32_120 arg8
  let c512_i32_121 : BitVec 32 := 512#32
  let v223 : BitVec 32 := Scalar.muli v222 c512_i32_121
  let v224 : BitVec 32 := v223
  let v225 : Index := Scalar.indexCast v224
  let c0_124 : Index := 0#32
  ![0, 0, v225.toNat, 0]
def k2_off18 (i : grid2.Coords) (k2_t2 : Fin (k2_t2_loop i).trips) : Fin 4 → Nat :=
  let c0_132 : Index := 0#32
  let c0_133 : Index := 0#32
  let c0_134 : Index := 0#32
  let c2_i32_120 : BitVec 32 := 2#32
  let c0_i32_8 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg8 : BitVec 32 := Scf.iv v27 c1_i32_11 k2_t2
  let v222 : BitVec 32 := Scalar.muli c2_i32_120 arg8
  let c512_i32_121 : BitVec 32 := 512#32
  let v223 : BitVec 32 := Scalar.muli v222 c512_i32_121
  let v224 : BitVec 32 := v223
  let v243 : Index := Scalar.indexCast v224
  ![0, 0, 0, v243.toNat]
def k2_off19 (i : grid2.Coords) (k2_t2 : Fin (k2_t2_loop i).trips) : Fin 4 → Nat :=
  let c0_142 : Index := 0#32
  let c1_143 : Index := 1#32
  let c2_i32_120 : BitVec 32 := 2#32
  let c0_i32_8 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg8 : BitVec 32 := Scf.iv v27 c1_i32_11 k2_t2
  let v222 : BitVec 32 := Scalar.muli c2_i32_120 arg8
  let c512_i32_121 : BitVec 32 := 512#32
  let v223 : BitVec 32 := Scalar.muli v222 c512_i32_121
  let v224 : BitVec 32 := v223
  let v256 : Index := Scalar.indexCast v224
  let c0_144 : Index := 0#32
  ![0, 1, v256.toNat, 0]
def k2_off20 (i : grid2.Coords) (k2_t2 : Fin (k2_t2_loop i).trips) : Fin 4 → Nat :=
  let c0_152 : Index := 0#32
  let c1_153 : Index := 1#32
  let c0_154 : Index := 0#32
  let c2_i32_120 : BitVec 32 := 2#32
  let c0_i32_8 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg8 : BitVec 32 := Scf.iv v27 c1_i32_11 k2_t2
  let v222 : BitVec 32 := Scalar.muli c2_i32_120 arg8
  let c512_i32_121 : BitVec 32 := 512#32
  let v223 : BitVec 32 := Scalar.muli v222 c512_i32_121
  let v224 : BitVec 32 := v223
  let v274 : Index := Scalar.indexCast v224
  ![0, 1, 0, v274.toNat]
def k2_off21 (i : grid2.Coords) (k2_t2 : Fin (k2_t2_loop i).trips) : Fin 4 → Nat :=
  let c0_162 : Index := 0#32
  let c2_163 : Index := 2#32
  let c2_i32_120 : BitVec 32 := 2#32
  let c0_i32_8 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg8 : BitVec 32 := Scf.iv v27 c1_i32_11 k2_t2
  let v222 : BitVec 32 := Scalar.muli c2_i32_120 arg8
  let c512_i32_121 : BitVec 32 := 512#32
  let v223 : BitVec 32 := Scalar.muli v222 c512_i32_121
  let v224 : BitVec 32 := v223
  let v287 : Index := Scalar.indexCast v224
  let c0_164 : Index := 0#32
  ![0, 2, v287.toNat, 0]
def k2_off22 (i : grid2.Coords) (k2_t2 : Fin (k2_t2_loop i).trips) : Fin 4 → Nat :=
  let c0_172 : Index := 0#32
  let c2_173 : Index := 2#32
  let c0_174 : Index := 0#32
  let c2_i32_120 : BitVec 32 := 2#32
  let c0_i32_8 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg8 : BitVec 32 := Scf.iv v27 c1_i32_11 k2_t2
  let v222 : BitVec 32 := Scalar.muli c2_i32_120 arg8
  let c512_i32_121 : BitVec 32 := 512#32
  let v223 : BitVec 32 := Scalar.muli v222 c512_i32_121
  let v224 : BitVec 32 := v223
  let v305 : Index := Scalar.indexCast v224
  ![0, 2, 0, v305.toNat]
def k2_off23 (i : grid2.Coords) (k2_t2 : Fin (k2_t2_loop i).trips) : Fin 4 → Nat :=
  let c0_182 : Index := 0#32
  let c3_183 : Index := 3#32
  let c2_i32_120 : BitVec 32 := 2#32
  let c0_i32_8 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg8 : BitVec 32 := Scf.iv v27 c1_i32_11 k2_t2
  let v222 : BitVec 32 := Scalar.muli c2_i32_120 arg8
  let c512_i32_121 : BitVec 32 := 512#32
  let v223 : BitVec 32 := Scalar.muli v222 c512_i32_121
  let v224 : BitVec 32 := v223
  let v318 : Index := Scalar.indexCast v224
  let c0_184 : Index := 0#32
  ![0, 3, v318.toNat, 0]
def k2_off24 (i : grid2.Coords) (k2_t2 : Fin (k2_t2_loop i).trips) : Fin 4 → Nat :=
  let c0_192 : Index := 0#32
  let c3_193 : Index := 3#32
  let c0_194 : Index := 0#32
  let c2_i32_120 : BitVec 32 := 2#32
  let c0_i32_8 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg8 : BitVec 32 := Scf.iv v27 c1_i32_11 k2_t2
  let v222 : BitVec 32 := Scalar.muli c2_i32_120 arg8
  let c512_i32_121 : BitVec 32 := 512#32
  let v223 : BitVec 32 := Scalar.muli v222 c512_i32_121
  let v224 : BitVec 32 := v223
  let v336 : Index := Scalar.indexCast v224
  ![0, 3, 0, v336.toNat]
def k2_mult4 (i : grid2.Coords) (k2_t2 : Fin (k2_t2_loop i).trips) : BitVec 32 :=
  let c2_i32_118 : BitVec 32 := 2#32
  let c0_i32_8 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg8 : BitVec 32 := Scf.iv v27 c1_i32_11 k2_t2
  let v220 : BitVec 32 := Scalar.muli c2_i32_118 arg8
  let c1_i32_119 : BitVec 32 := 1#32
  let v221 : BitVec 32 := Scalar.addi v220 c1_i32_119
  let c512_i32_202 : BitVec 32 := 512#32
  let v349 : BitVec 32 := Scalar.muli v221 c512_i32_202
  v349
def k2_off25 (i : grid2.Coords) (k2_t2 : Fin (k2_t2_loop i).trips) : Fin 4 → Nat :=
  let c0_203 : Index := 0#32
  let c0_204 : Index := 0#32
  let c2_i32_118 : BitVec 32 := 2#32
  let c0_i32_8 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg8 : BitVec 32 := Scf.iv v27 c1_i32_11 k2_t2
  let v220 : BitVec 32 := Scalar.muli c2_i32_118 arg8
  let c1_i32_119 : BitVec 32 := 1#32
  let v221 : BitVec 32 := Scalar.addi v220 c1_i32_119
  let c512_i32_202 : BitVec 32 := 512#32
  let v349 : BitVec 32 := Scalar.muli v221 c512_i32_202
  let v350 : BitVec 32 := v349
  let v351 : Index := Scalar.indexCast v350
  let c0_205 : Index := 0#32
  ![0, 0, v351.toNat, 0]
def k2_off26 (i : grid2.Coords) (k2_t2 : Fin (k2_t2_loop i).trips) : Fin 4 → Nat :=
  let c0_213 : Index := 0#32
  let c0_214 : Index := 0#32
  let c0_215 : Index := 0#32
  let c2_i32_118 : BitVec 32 := 2#32
  let c0_i32_8 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg8 : BitVec 32 := Scf.iv v27 c1_i32_11 k2_t2
  let v220 : BitVec 32 := Scalar.muli c2_i32_118 arg8
  let c1_i32_119 : BitVec 32 := 1#32
  let v221 : BitVec 32 := Scalar.addi v220 c1_i32_119
  let c512_i32_202 : BitVec 32 := 512#32
  let v349 : BitVec 32 := Scalar.muli v221 c512_i32_202
  let v350 : BitVec 32 := v349
  let v369 : Index := Scalar.indexCast v350
  ![0, 0, 0, v369.toNat]
def k2_off27 (i : grid2.Coords) (k2_t2 : Fin (k2_t2_loop i).trips) : Fin 4 → Nat :=
  let c0_223 : Index := 0#32
  let c1_224 : Index := 1#32
  let c2_i32_118 : BitVec 32 := 2#32
  let c0_i32_8 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg8 : BitVec 32 := Scf.iv v27 c1_i32_11 k2_t2
  let v220 : BitVec 32 := Scalar.muli c2_i32_118 arg8
  let c1_i32_119 : BitVec 32 := 1#32
  let v221 : BitVec 32 := Scalar.addi v220 c1_i32_119
  let c512_i32_202 : BitVec 32 := 512#32
  let v349 : BitVec 32 := Scalar.muli v221 c512_i32_202
  let v350 : BitVec 32 := v349
  let v382 : Index := Scalar.indexCast v350
  let c0_225 : Index := 0#32
  ![0, 1, v382.toNat, 0]
def k2_off28 (i : grid2.Coords) (k2_t2 : Fin (k2_t2_loop i).trips) : Fin 4 → Nat :=
  let c0_233 : Index := 0#32
  let c1_234 : Index := 1#32
  let c0_235 : Index := 0#32
  let c2_i32_118 : BitVec 32 := 2#32
  let c0_i32_8 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg8 : BitVec 32 := Scf.iv v27 c1_i32_11 k2_t2
  let v220 : BitVec 32 := Scalar.muli c2_i32_118 arg8
  let c1_i32_119 : BitVec 32 := 1#32
  let v221 : BitVec 32 := Scalar.addi v220 c1_i32_119
  let c512_i32_202 : BitVec 32 := 512#32
  let v349 : BitVec 32 := Scalar.muli v221 c512_i32_202
  let v350 : BitVec 32 := v349
  let v400 : Index := Scalar.indexCast v350
  ![0, 1, 0, v400.toNat]
def k2_off29 (i : grid2.Coords) (k2_t2 : Fin (k2_t2_loop i).trips) : Fin 4 → Nat :=
  let c0_243 : Index := 0#32
  let c2_244 : Index := 2#32
  let c2_i32_118 : BitVec 32 := 2#32
  let c0_i32_8 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg8 : BitVec 32 := Scf.iv v27 c1_i32_11 k2_t2
  let v220 : BitVec 32 := Scalar.muli c2_i32_118 arg8
  let c1_i32_119 : BitVec 32 := 1#32
  let v221 : BitVec 32 := Scalar.addi v220 c1_i32_119
  let c512_i32_202 : BitVec 32 := 512#32
  let v349 : BitVec 32 := Scalar.muli v221 c512_i32_202
  let v350 : BitVec 32 := v349
  let v413 : Index := Scalar.indexCast v350
  let c0_245 : Index := 0#32
  ![0, 2, v413.toNat, 0]
def k2_off30 (i : grid2.Coords) (k2_t2 : Fin (k2_t2_loop i).trips) : Fin 4 → Nat :=
  let c0_253 : Index := 0#32
  let c2_254 : Index := 2#32
  let c0_255 : Index := 0#32
  let c2_i32_118 : BitVec 32 := 2#32
  let c0_i32_8 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg8 : BitVec 32 := Scf.iv v27 c1_i32_11 k2_t2
  let v220 : BitVec 32 := Scalar.muli c2_i32_118 arg8
  let c1_i32_119 : BitVec 32 := 1#32
  let v221 : BitVec 32 := Scalar.addi v220 c1_i32_119
  let c512_i32_202 : BitVec 32 := 512#32
  let v349 : BitVec 32 := Scalar.muli v221 c512_i32_202
  let v350 : BitVec 32 := v349
  let v431 : Index := Scalar.indexCast v350
  ![0, 2, 0, v431.toNat]
def k2_off31 (i : grid2.Coords) (k2_t2 : Fin (k2_t2_loop i).trips) : Fin 4 → Nat :=
  let c0_263 : Index := 0#32
  let c3_264 : Index := 3#32
  let c2_i32_118 : BitVec 32 := 2#32
  let c0_i32_8 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg8 : BitVec 32 := Scf.iv v27 c1_i32_11 k2_t2
  let v220 : BitVec 32 := Scalar.muli c2_i32_118 arg8
  let c1_i32_119 : BitVec 32 := 1#32
  let v221 : BitVec 32 := Scalar.addi v220 c1_i32_119
  let c512_i32_202 : BitVec 32 := 512#32
  let v349 : BitVec 32 := Scalar.muli v221 c512_i32_202
  let v350 : BitVec 32 := v349
  let v444 : Index := Scalar.indexCast v350
  let c0_265 : Index := 0#32
  ![0, 3, v444.toNat, 0]
def k2_off32 (i : grid2.Coords) (k2_t2 : Fin (k2_t2_loop i).trips) : Fin 4 → Nat :=
  let c0_273 : Index := 0#32
  let c3_274 : Index := 3#32
  let c0_275 : Index := 0#32
  let c2_i32_118 : BitVec 32 := 2#32
  let c0_i32_8 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v23 : BitVec 32 := Scalar.subi v22 c0_i32_8
  let c1_i32_9 : BitVec 32 := 1#32
  let v25 : BitVec 32 := Scalar.divsi v23 c1_i32_9
  let v26 : BitVec 32 := Scalar.muli v25 c1_i32_9
  let v27 : BitVec 32 := Scalar.addi c0_i32_8 v26
  let c1_i32_11 : BitVec 32 := 1#32
  let arg8 : BitVec 32 := Scf.iv v27 c1_i32_11 k2_t2
  let v220 : BitVec 32 := Scalar.muli c2_i32_118 arg8
  let c1_i32_119 : BitVec 32 := 1#32
  let v221 : BitVec 32 := Scalar.addi v220 c1_i32_119
  let c512_i32_202 : BitVec 32 := 512#32
  let v349 : BitVec 32 := Scalar.muli v221 c512_i32_202
  let v350 : BitVec 32 := v349
  let v462 : Index := Scalar.indexCast v350
  ![0, 3, 0, v462.toNat]
@[reducible] def k2_t3_loop (i : grid2.Coords) : Scf.Loop 32 :=
  let c2_i32_12 : BitVec 32 := 2#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v30 : BitVec 32 := Scalar.muli c2_i32_12 v22
  let v31 : BitVec 32 := Scalar.subi arg2 v30
  let c1_i32_13 : BitVec 32 := 1#32
  let v33 : BitVec 32 := Scalar.divsi v31 c1_i32_13
  let v34 : BitVec 32 := Scalar.muli v33 c1_i32_13
  let v35 : BitVec 32 := Scalar.addi v30 v34
  let c1_i32_14 : BitVec 32 := 1#32
  ⟨v30, v35, c1_i32_14⟩
def k2_mult5 (i : grid2.Coords) (k2_t3 : Fin (k2_t3_loop i).trips) : BitVec 32 :=
  let c2_i32_12 : BitVec 32 := 2#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v30 : BitVec 32 := Scalar.muli c2_i32_12 v22
  let c1_i32_14 : BitVec 32 := 1#32
  let arg8 : BitVec 32 := Scf.iv v30 c1_i32_14 k2_t3
  let c512_i32_118 : BitVec 32 := 512#32
  let v220 : BitVec 32 := Scalar.muli arg8 c512_i32_118
  v220
def k2_off33 (i : grid2.Coords) (k2_t3 : Fin (k2_t3_loop i).trips) : Fin 4 → Nat :=
  let c0_119 : Index := 0#32
  let c0_120 : Index := 0#32
  let c2_i32_12 : BitVec 32 := 2#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v30 : BitVec 32 := Scalar.muli c2_i32_12 v22
  let c1_i32_14 : BitVec 32 := 1#32
  let arg8 : BitVec 32 := Scf.iv v30 c1_i32_14 k2_t3
  let c512_i32_118 : BitVec 32 := 512#32
  let v220 : BitVec 32 := Scalar.muli arg8 c512_i32_118
  let v221 : BitVec 32 := v220
  let v222 : Index := Scalar.indexCast v221
  let c0_121 : Index := 0#32
  ![0, 0, v222.toNat, 0]
def k2_off34 (i : grid2.Coords) (k2_t3 : Fin (k2_t3_loop i).trips) : Fin 4 → Nat :=
  let c0_129 : Index := 0#32
  let c0_130 : Index := 0#32
  let c0_131 : Index := 0#32
  let c2_i32_12 : BitVec 32 := 2#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v30 : BitVec 32 := Scalar.muli c2_i32_12 v22
  let c1_i32_14 : BitVec 32 := 1#32
  let arg8 : BitVec 32 := Scf.iv v30 c1_i32_14 k2_t3
  let c512_i32_118 : BitVec 32 := 512#32
  let v220 : BitVec 32 := Scalar.muli arg8 c512_i32_118
  let v221 : BitVec 32 := v220
  let v240 : Index := Scalar.indexCast v221
  ![0, 0, 0, v240.toNat]
def k2_off35 (i : grid2.Coords) (k2_t3 : Fin (k2_t3_loop i).trips) : Fin 4 → Nat :=
  let c0_139 : Index := 0#32
  let c1_140 : Index := 1#32
  let c2_i32_12 : BitVec 32 := 2#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v30 : BitVec 32 := Scalar.muli c2_i32_12 v22
  let c1_i32_14 : BitVec 32 := 1#32
  let arg8 : BitVec 32 := Scf.iv v30 c1_i32_14 k2_t3
  let c512_i32_118 : BitVec 32 := 512#32
  let v220 : BitVec 32 := Scalar.muli arg8 c512_i32_118
  let v221 : BitVec 32 := v220
  let v253 : Index := Scalar.indexCast v221
  let c0_141 : Index := 0#32
  ![0, 1, v253.toNat, 0]
def k2_off36 (i : grid2.Coords) (k2_t3 : Fin (k2_t3_loop i).trips) : Fin 4 → Nat :=
  let c0_149 : Index := 0#32
  let c1_150 : Index := 1#32
  let c0_151 : Index := 0#32
  let c2_i32_12 : BitVec 32 := 2#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v30 : BitVec 32 := Scalar.muli c2_i32_12 v22
  let c1_i32_14 : BitVec 32 := 1#32
  let arg8 : BitVec 32 := Scf.iv v30 c1_i32_14 k2_t3
  let c512_i32_118 : BitVec 32 := 512#32
  let v220 : BitVec 32 := Scalar.muli arg8 c512_i32_118
  let v221 : BitVec 32 := v220
  let v271 : Index := Scalar.indexCast v221
  ![0, 1, 0, v271.toNat]
def k2_off37 (i : grid2.Coords) (k2_t3 : Fin (k2_t3_loop i).trips) : Fin 4 → Nat :=
  let c0_159 : Index := 0#32
  let c2_160 : Index := 2#32
  let c2_i32_12 : BitVec 32 := 2#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v30 : BitVec 32 := Scalar.muli c2_i32_12 v22
  let c1_i32_14 : BitVec 32 := 1#32
  let arg8 : BitVec 32 := Scf.iv v30 c1_i32_14 k2_t3
  let c512_i32_118 : BitVec 32 := 512#32
  let v220 : BitVec 32 := Scalar.muli arg8 c512_i32_118
  let v221 : BitVec 32 := v220
  let v284 : Index := Scalar.indexCast v221
  let c0_161 : Index := 0#32
  ![0, 2, v284.toNat, 0]
def k2_off38 (i : grid2.Coords) (k2_t3 : Fin (k2_t3_loop i).trips) : Fin 4 → Nat :=
  let c0_169 : Index := 0#32
  let c2_170 : Index := 2#32
  let c0_171 : Index := 0#32
  let c2_i32_12 : BitVec 32 := 2#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v30 : BitVec 32 := Scalar.muli c2_i32_12 v22
  let c1_i32_14 : BitVec 32 := 1#32
  let arg8 : BitVec 32 := Scf.iv v30 c1_i32_14 k2_t3
  let c512_i32_118 : BitVec 32 := 512#32
  let v220 : BitVec 32 := Scalar.muli arg8 c512_i32_118
  let v221 : BitVec 32 := v220
  let v302 : Index := Scalar.indexCast v221
  ![0, 2, 0, v302.toNat]
def k2_off39 (i : grid2.Coords) (k2_t3 : Fin (k2_t3_loop i).trips) : Fin 4 → Nat :=
  let c0_179 : Index := 0#32
  let c3_180 : Index := 3#32
  let c2_i32_12 : BitVec 32 := 2#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v30 : BitVec 32 := Scalar.muli c2_i32_12 v22
  let c1_i32_14 : BitVec 32 := 1#32
  let arg8 : BitVec 32 := Scf.iv v30 c1_i32_14 k2_t3
  let c512_i32_118 : BitVec 32 := 512#32
  let v220 : BitVec 32 := Scalar.muli arg8 c512_i32_118
  let v221 : BitVec 32 := v220
  let v315 : Index := Scalar.indexCast v221
  let c0_181 : Index := 0#32
  ![0, 3, v315.toNat, 0]
def k2_off40 (i : grid2.Coords) (k2_t3 : Fin (k2_t3_loop i).trips) : Fin 4 → Nat :=
  let c0_189 : Index := 0#32
  let c3_190 : Index := 3#32
  let c0_191 : Index := 0#32
  let c2_i32_12 : BitVec 32 := 2#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v30 : BitVec 32 := Scalar.muli c2_i32_12 v22
  let c1_i32_14 : BitVec 32 := 1#32
  let arg8 : BitVec 32 := Scf.iv v30 c1_i32_14 k2_t3
  let c512_i32_118 : BitVec 32 := 512#32
  let v220 : BitVec 32 := Scalar.muli arg8 c512_i32_118
  let v221 : BitVec 32 := v220
  let v333 : Index := Scalar.indexCast v221
  ![0, 3, 0, v333.toNat]
@[reducible] def k2_t4_loop (i : grid2.Coords) : Scf.Loop 32 :=
  let c2_i32_12 : BitVec 32 := 2#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v30 : BitVec 32 := Scalar.muli c2_i32_12 v22
  let v31 : BitVec 32 := Scalar.subi arg2 v30
  let c1_i32_13 : BitVec 32 := 1#32
  let v33 : BitVec 32 := Scalar.divsi v31 c1_i32_13
  let v34 : BitVec 32 := Scalar.muli v33 c1_i32_13
  let v35 : BitVec 32 := Scalar.addi v30 v34
  let v32 : BitVec 32 := Scalar.addi v30 v31
  let c1_i32_15 : BitVec 32 := 1#32
  ⟨v35, v32, c1_i32_15⟩
def k2_mult6 (i : grid2.Coords) (k2_t4 : Fin (k2_t4_loop i).trips) : BitVec 32 :=
  let c2_i32_12 : BitVec 32 := 2#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v30 : BitVec 32 := Scalar.muli c2_i32_12 v22
  let v31 : BitVec 32 := Scalar.subi arg2 v30
  let c1_i32_13 : BitVec 32 := 1#32
  let v33 : BitVec 32 := Scalar.divsi v31 c1_i32_13
  let v34 : BitVec 32 := Scalar.muli v33 c1_i32_13
  let v35 : BitVec 32 := Scalar.addi v30 v34
  let c1_i32_15 : BitVec 32 := 1#32
  let arg8 : BitVec 32 := Scf.iv v35 c1_i32_15 k2_t4
  let c512_i32_118 : BitVec 32 := 512#32
  let v220 : BitVec 32 := Scalar.muli arg8 c512_i32_118
  v220
def k2_off41 (i : grid2.Coords) (k2_t4 : Fin (k2_t4_loop i).trips) : Fin 4 → Nat :=
  let c0_119 : Index := 0#32
  let c0_120 : Index := 0#32
  let c2_i32_12 : BitVec 32 := 2#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v30 : BitVec 32 := Scalar.muli c2_i32_12 v22
  let v31 : BitVec 32 := Scalar.subi arg2 v30
  let c1_i32_13 : BitVec 32 := 1#32
  let v33 : BitVec 32 := Scalar.divsi v31 c1_i32_13
  let v34 : BitVec 32 := Scalar.muli v33 c1_i32_13
  let v35 : BitVec 32 := Scalar.addi v30 v34
  let c1_i32_15 : BitVec 32 := 1#32
  let arg8 : BitVec 32 := Scf.iv v35 c1_i32_15 k2_t4
  let c512_i32_118 : BitVec 32 := 512#32
  let v220 : BitVec 32 := Scalar.muli arg8 c512_i32_118
  let v221 : BitVec 32 := v220
  let v222 : Index := Scalar.indexCast v221
  let c0_121 : Index := 0#32
  ![0, 0, v222.toNat, 0]
def k2_off42 (i : grid2.Coords) (k2_t4 : Fin (k2_t4_loop i).trips) : Fin 4 → Nat :=
  let c0_129 : Index := 0#32
  let c0_130 : Index := 0#32
  let c0_131 : Index := 0#32
  let c2_i32_12 : BitVec 32 := 2#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v30 : BitVec 32 := Scalar.muli c2_i32_12 v22
  let v31 : BitVec 32 := Scalar.subi arg2 v30
  let c1_i32_13 : BitVec 32 := 1#32
  let v33 : BitVec 32 := Scalar.divsi v31 c1_i32_13
  let v34 : BitVec 32 := Scalar.muli v33 c1_i32_13
  let v35 : BitVec 32 := Scalar.addi v30 v34
  let c1_i32_15 : BitVec 32 := 1#32
  let arg8 : BitVec 32 := Scf.iv v35 c1_i32_15 k2_t4
  let c512_i32_118 : BitVec 32 := 512#32
  let v220 : BitVec 32 := Scalar.muli arg8 c512_i32_118
  let v221 : BitVec 32 := v220
  let v240 : Index := Scalar.indexCast v221
  ![0, 0, 0, v240.toNat]
def k2_off43 (i : grid2.Coords) (k2_t4 : Fin (k2_t4_loop i).trips) : Fin 4 → Nat :=
  let c0_139 : Index := 0#32
  let c1_140 : Index := 1#32
  let c2_i32_12 : BitVec 32 := 2#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v30 : BitVec 32 := Scalar.muli c2_i32_12 v22
  let v31 : BitVec 32 := Scalar.subi arg2 v30
  let c1_i32_13 : BitVec 32 := 1#32
  let v33 : BitVec 32 := Scalar.divsi v31 c1_i32_13
  let v34 : BitVec 32 := Scalar.muli v33 c1_i32_13
  let v35 : BitVec 32 := Scalar.addi v30 v34
  let c1_i32_15 : BitVec 32 := 1#32
  let arg8 : BitVec 32 := Scf.iv v35 c1_i32_15 k2_t4
  let c512_i32_118 : BitVec 32 := 512#32
  let v220 : BitVec 32 := Scalar.muli arg8 c512_i32_118
  let v221 : BitVec 32 := v220
  let v253 : Index := Scalar.indexCast v221
  let c0_141 : Index := 0#32
  ![0, 1, v253.toNat, 0]
def k2_off44 (i : grid2.Coords) (k2_t4 : Fin (k2_t4_loop i).trips) : Fin 4 → Nat :=
  let c0_149 : Index := 0#32
  let c1_150 : Index := 1#32
  let c0_151 : Index := 0#32
  let c2_i32_12 : BitVec 32 := 2#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v30 : BitVec 32 := Scalar.muli c2_i32_12 v22
  let v31 : BitVec 32 := Scalar.subi arg2 v30
  let c1_i32_13 : BitVec 32 := 1#32
  let v33 : BitVec 32 := Scalar.divsi v31 c1_i32_13
  let v34 : BitVec 32 := Scalar.muli v33 c1_i32_13
  let v35 : BitVec 32 := Scalar.addi v30 v34
  let c1_i32_15 : BitVec 32 := 1#32
  let arg8 : BitVec 32 := Scf.iv v35 c1_i32_15 k2_t4
  let c512_i32_118 : BitVec 32 := 512#32
  let v220 : BitVec 32 := Scalar.muli arg8 c512_i32_118
  let v221 : BitVec 32 := v220
  let v271 : Index := Scalar.indexCast v221
  ![0, 1, 0, v271.toNat]
def k2_off45 (i : grid2.Coords) (k2_t4 : Fin (k2_t4_loop i).trips) : Fin 4 → Nat :=
  let c0_159 : Index := 0#32
  let c2_160 : Index := 2#32
  let c2_i32_12 : BitVec 32 := 2#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v30 : BitVec 32 := Scalar.muli c2_i32_12 v22
  let v31 : BitVec 32 := Scalar.subi arg2 v30
  let c1_i32_13 : BitVec 32 := 1#32
  let v33 : BitVec 32 := Scalar.divsi v31 c1_i32_13
  let v34 : BitVec 32 := Scalar.muli v33 c1_i32_13
  let v35 : BitVec 32 := Scalar.addi v30 v34
  let c1_i32_15 : BitVec 32 := 1#32
  let arg8 : BitVec 32 := Scf.iv v35 c1_i32_15 k2_t4
  let c512_i32_118 : BitVec 32 := 512#32
  let v220 : BitVec 32 := Scalar.muli arg8 c512_i32_118
  let v221 : BitVec 32 := v220
  let v284 : Index := Scalar.indexCast v221
  let c0_161 : Index := 0#32
  ![0, 2, v284.toNat, 0]
def k2_off46 (i : grid2.Coords) (k2_t4 : Fin (k2_t4_loop i).trips) : Fin 4 → Nat :=
  let c0_169 : Index := 0#32
  let c2_170 : Index := 2#32
  let c0_171 : Index := 0#32
  let c2_i32_12 : BitVec 32 := 2#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v30 : BitVec 32 := Scalar.muli c2_i32_12 v22
  let v31 : BitVec 32 := Scalar.subi arg2 v30
  let c1_i32_13 : BitVec 32 := 1#32
  let v33 : BitVec 32 := Scalar.divsi v31 c1_i32_13
  let v34 : BitVec 32 := Scalar.muli v33 c1_i32_13
  let v35 : BitVec 32 := Scalar.addi v30 v34
  let c1_i32_15 : BitVec 32 := 1#32
  let arg8 : BitVec 32 := Scf.iv v35 c1_i32_15 k2_t4
  let c512_i32_118 : BitVec 32 := 512#32
  let v220 : BitVec 32 := Scalar.muli arg8 c512_i32_118
  let v221 : BitVec 32 := v220
  let v302 : Index := Scalar.indexCast v221
  ![0, 2, 0, v302.toNat]
def k2_off47 (i : grid2.Coords) (k2_t4 : Fin (k2_t4_loop i).trips) : Fin 4 → Nat :=
  let c0_179 : Index := 0#32
  let c3_180 : Index := 3#32
  let c2_i32_12 : BitVec 32 := 2#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v30 : BitVec 32 := Scalar.muli c2_i32_12 v22
  let v31 : BitVec 32 := Scalar.subi arg2 v30
  let c1_i32_13 : BitVec 32 := 1#32
  let v33 : BitVec 32 := Scalar.divsi v31 c1_i32_13
  let v34 : BitVec 32 := Scalar.muli v33 c1_i32_13
  let v35 : BitVec 32 := Scalar.addi v30 v34
  let c1_i32_15 : BitVec 32 := 1#32
  let arg8 : BitVec 32 := Scf.iv v35 c1_i32_15 k2_t4
  let c512_i32_118 : BitVec 32 := 512#32
  let v220 : BitVec 32 := Scalar.muli arg8 c512_i32_118
  let v221 : BitVec 32 := v220
  let v315 : Index := Scalar.indexCast v221
  let c0_181 : Index := 0#32
  ![0, 3, v315.toNat, 0]
def k2_off48 (i : grid2.Coords) (k2_t4 : Fin (k2_t4_loop i).trips) : Fin 4 → Nat :=
  let c0_189 : Index := 0#32
  let c3_190 : Index := 3#32
  let c0_191 : Index := 0#32
  let c2_i32_12 : BitVec 32 := 2#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_4 : BitVec 32 := 0#32
  let v9 : BitVec 1 := Scalar.cmpi .slt arg2 c0_i32_4
  let v10 : BitVec 32 := Scalar.extui v9
  let v11 : BitVec 32 := Scalar.subi v8 v10
  let c2_i32 : BitVec 32 := 2#32
  let c0_i32_5 : BitVec 32 := 0#32
  let v12 : BitVec 1 := Scalar.cmpi .sgt c2_i32 c0_i32_5
  let v13 : BitVec 32 := Scalar.extui v12
  let c0_i32_6 : BitVec 32 := 0#32
  let v14 : BitVec 1 := Scalar.cmpi .slt c2_i32 c0_i32_6
  let v15 : BitVec 32 := Scalar.extui v14
  let v16 : BitVec 32 := Scalar.subi v13 v15
  let v17 : BitVec 1 := Scalar.cmpi .ne v11 v16
  let v18 : BitVec 32 := Scalar.remsi arg2 c2_i32
  let c0_i32_7 : BitVec 32 := 0#32
  let v19 : BitVec 1 := Scalar.cmpi .ne v18 c0_i32_7
  let v20 : BitVec 1 := Scalar.andi v17 v19
  let v6 : BitVec 32 := Scalar.divsi arg2 c2_i32
  let c1_i32 : BitVec 32 := 1#32
  let v21 : BitVec 32 := Scalar.subi v6 c1_i32
  let v22 : BitVec 32 := Scalar.select v20 v21 v6
  let v30 : BitVec 32 := Scalar.muli c2_i32_12 v22
  let v31 : BitVec 32 := Scalar.subi arg2 v30
  let c1_i32_13 : BitVec 32 := 1#32
  let v33 : BitVec 32 := Scalar.divsi v31 c1_i32_13
  let v34 : BitVec 32 := Scalar.muli v33 c1_i32_13
  let v35 : BitVec 32 := Scalar.addi v30 v34
  let c1_i32_15 : BitVec 32 := 1#32
  let arg8 : BitVec 32 := Scf.iv v35 c1_i32_15 k2_t4
  let c512_i32_118 : BitVec 32 := 512#32
  let v220 : BitVec 32 := Scalar.muli arg8 c512_i32_118
  let v221 : BitVec 32 := v220
  let v333 : Index := Scalar.indexCast v221
  ![0, 3, 0, v333.toNat]
def k2_mult7 (i : grid2.Coords) : BitVec 32 :=
  let arg2 : BitVec 32 := BitVec.ofNat 32 (i 2).val
  let c512_i32 : BitVec 32 := 512#32
  let v38 : BitVec 32 := Scalar.muli arg2 c512_i32
  v38
def k2_off49 (i : grid2.Coords) : Fin 4 → Nat :=
  let c0_16 : Index := 0#32
  let c0_17 : Index := 0#32
  let arg2 : BitVec 32 := BitVec.ofNat 32 (i 2).val
  let c512_i32 : BitVec 32 := 512#32
  let v38 : BitVec 32 := Scalar.muli arg2 c512_i32
  let v39 : BitVec 32 := v38
  let v40 : Index := Scalar.indexCast v39
  let c0_18 : Index := 0#32
  ![0, 0, v40.toNat, 0]
def k2_off50 (i : grid2.Coords) : Fin 4 → Nat :=
  let c0_27 : Index := 0#32
  let c0_28 : Index := 0#32
  let c0_29 : Index := 0#32
  let arg2 : BitVec 32 := BitVec.ofNat 32 (i 2).val
  let c512_i32 : BitVec 32 := 512#32
  let v38 : BitVec 32 := Scalar.muli arg2 c512_i32
  let v39 : BitVec 32 := v38
  let v63 : Index := Scalar.indexCast v39
  ![0, 0, 0, v63.toNat]
def k2_off51 (i : grid2.Coords) : Fin 4 → Nat :=
  let c0_37 : Index := 0#32
  let c1 : Index := 1#32
  let arg2 : BitVec 32 := BitVec.ofNat 32 (i 2).val
  let c512_i32 : BitVec 32 := 512#32
  let v38 : BitVec 32 := Scalar.muli arg2 c512_i32
  let v39 : BitVec 32 := v38
  let v76 : Index := Scalar.indexCast v39
  let c0_38 : Index := 0#32
  ![0, 1, v76.toNat, 0]
def k2_off52 (i : grid2.Coords) : Fin 4 → Nat :=
  let c0_47 : Index := 0#32
  let c1_48 : Index := 1#32
  let c0_49 : Index := 0#32
  let arg2 : BitVec 32 := BitVec.ofNat 32 (i 2).val
  let c512_i32 : BitVec 32 := 512#32
  let v38 : BitVec 32 := Scalar.muli arg2 c512_i32
  let v39 : BitVec 32 := v38
  let v99 : Index := Scalar.indexCast v39
  ![0, 1, 0, v99.toNat]
def k2_off53 (i : grid2.Coords) : Fin 4 → Nat :=
  let c0_57 : Index := 0#32
  let c2 : Index := 2#32
  let arg2 : BitVec 32 := BitVec.ofNat 32 (i 2).val
  let c512_i32 : BitVec 32 := 512#32
  let v38 : BitVec 32 := Scalar.muli arg2 c512_i32
  let v39 : BitVec 32 := v38
  let v112 : Index := Scalar.indexCast v39
  let c0_58 : Index := 0#32
  ![0, 2, v112.toNat, 0]
def k2_off54 (i : grid2.Coords) : Fin 4 → Nat :=
  let c0_67 : Index := 0#32
  let c2_68 : Index := 2#32
  let c0_69 : Index := 0#32
  let arg2 : BitVec 32 := BitVec.ofNat 32 (i 2).val
  let c512_i32 : BitVec 32 := 512#32
  let v38 : BitVec 32 := Scalar.muli arg2 c512_i32
  let v39 : BitVec 32 := v38
  let v135 : Index := Scalar.indexCast v39
  ![0, 2, 0, v135.toNat]
def k2_off55 (i : grid2.Coords) : Fin 4 → Nat :=
  let c0_77 : Index := 0#32
  let c3 : Index := 3#32
  let arg2 : BitVec 32 := BitVec.ofNat 32 (i 2).val
  let c512_i32 : BitVec 32 := 512#32
  let v38 : BitVec 32 := Scalar.muli arg2 c512_i32
  let v39 : BitVec 32 := v38
  let v148 : Index := Scalar.indexCast v39
  let c0_78 : Index := 0#32
  ![0, 3, v148.toNat, 0]
def k2_off56 (i : grid2.Coords) : Fin 4 → Nat :=
  let c0_87 : Index := 0#32
  let c3_88 : Index := 3#32
  let c0_89 : Index := 0#32
  let arg2 : BitVec 32 := BitVec.ofNat 32 (i 2).val
  let c512_i32 : BitVec 32 := 512#32
  let v38 : BitVec 32 := Scalar.muli arg2 c512_i32
  let v39 : BitVec 32 := v38
  let v171 : Index := Scalar.indexCast v39
  ![0, 3, 0, v171.toNat]
def cc2_transform_0 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc2_transform_1 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage2_0 : Fin 2 → Memref sig .tc .vmem S1x4x512x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x4x4096x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S1x4x128x4096 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1x512x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]
-- ==== KernelIdeal.lean ====
variable {F : FTy → Type} [FloatOps F] [Named F]
def κ : String → Option EReal := fun
  | "mask" => some ⊥
  | "qscale" => some (((Real.log 2)⁻¹ * (Real.sqrt 192)⁻¹ : ℝ) : EReal)
  | _ => none
-- ==== ReferenceIdeal.lean ====
abbrev S4x4096x1024 : Shape := ⟨3, ![4, 4096, 1024]⟩
abbrev S4x4096 : Shape := ⟨2, ![4, 4096]⟩
abbrev S1024 : Shape := ⟨1, ![1024]⟩
abbrev S1024x4544 : Shape := ⟨2, ![1024, 4544]⟩
abbrev S2048 : Shape := ⟨1, ![2048]⟩
abbrev S256 : Shape := ⟨1, ![256]⟩
abbrev S256x1536 : Shape := ⟨2, ![256, 1536]⟩
abbrev S128 : Shape := ⟨1, ![128]⟩
abbrev S128x2048 : Shape := ⟨2, ![128, 2048]⟩
abbrev S_ : Shape := ⟨0, ![]⟩
abbrev S4x4096x1 : Shape := ⟨3, ![4, 4096, 1]⟩
abbrev S1x1x1024 : Shape := ⟨3, ![1, 1, 1024]⟩
abbrev S4x4096x4544 : Shape := ⟨3, ![4, 4096, 4544]⟩
abbrev S4x4096x256 : Shape := ⟨3, ![4, 4096, 256]⟩
abbrev S4x4096x192 : Shape := ⟨3, ![4, 4096, 192]⟩
abbrev S4x4096x2048 : Shape := ⟨3, ![4, 4096, 2048]⟩
abbrev S4x4096x128 : Shape := ⟨3, ![4, 4096, 128]⟩
abbrev S4x4096x64 : Shape := ⟨3, ![4, 4096, 64]⟩
abbrev S1x1x256 : Shape := ⟨3, ![1, 1, 256]⟩
abbrev S4x4096x1536 : Shape := ⟨3, ![4, 4096, 1536]⟩
abbrev S4x4096x8x192 : Shape := ⟨4, ![4, 4096, 8, 192]⟩
abbrev S4x4096x8x128 : Shape := ⟨4, ![4, 4096, 8, 128]⟩
abbrev S4x4096x8x64 : Shape := ⟨4, ![4, 4096, 8, 64]⟩
abbrev S32 : Shape := ⟨1, ![32]⟩
abbrev S1x1x32 : Shape := ⟨3, ![1, 1, 32]⟩
abbrev S4x4096x32 : Shape := ⟨3, ![4, 4096, 32]⟩
abbrev S4x4096x1x32 : Shape := ⟨4, ![4, 4096, 1, 32]⟩
abbrev S4x4096x8x32 : Shape := ⟨4, ![4, 4096, 8, 32]⟩
abbrev S1x1x128 : Shape := ⟨3, ![1, 1, 128]⟩
abbrev S4x4096x8x256 : Shape := ⟨4, ![4, 4096, 8, 256]⟩
abbrev S4x4096x1x64 : Shape := ⟨4, ![4, 4096, 1, 64]⟩
abbrev S4x8x4096x4096 : Shape := ⟨4, ![4, 8, 4096, 4096]⟩
abbrev S4x4096x4096x8 : Shape := ⟨4, ![4, 4096, 4096, 8]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S4x8x4096 : Shape := ⟨3, ![4, 8, 4096]⟩
abbrev S4x8x4096x1 : Shape := ⟨4, ![4, 8, 4096, 1]⟩
abbrev S4x8x128x4096 : Shape := ⟨4, ![4, 8, 128, 4096]⟩
abbrev S1x1x2048 : Shape := ⟨3, ![1, 1, 2048]⟩
abbrev S16384x1024 : Shape := ⟨2, ![16384, 1024]⟩
abbrev S16384x2048 : Shape := ⟨2, ![16384, 2048]⟩

abbrev nBuf : Space → Nat
  | .hbm => 196
  | .vmem => 0
  | .smem => 0
  | _ => 0

abbrev hbmTy0_0 (i : Nat) : BufTy := match i % 128 with
  | 0 => ⟨S4x4096x1024, .f32⟩
  | 1 => ⟨S4x4096, .i32⟩
  | 2 => ⟨S1024, .f32⟩
  | 3 => ⟨S1024x4544, .f32⟩
  | 4 => ⟨S2048, .f32⟩
  | 5 => ⟨S256, .f32⟩
  | 6 => ⟨S256x1536, .f32⟩
  | 7 => ⟨S128, .f32⟩
  | 8 => ⟨S128x2048, .f32⟩
  | 9 => ⟨S4x4096x1024, .f32⟩
  | 10 => ⟨S_, .f32⟩
  | 11 => ⟨S4x4096, .f32⟩
  | 12 => ⟨S4x4096x1, .f32⟩
  | 13 => ⟨S_, .f32⟩
  | 14 => ⟨S4x4096x1, .f32⟩
  | 15 => ⟨S4x4096x1, .f32⟩
  | 16 => ⟨S_, .f32⟩
  | 17 => ⟨S4x4096x1, .f32⟩
  | 18 => ⟨S4x4096x1, .f32⟩
  | 19 => ⟨S4x4096x1, .f32⟩
  | 20 => ⟨S4x4096x1024, .f32⟩
  | 21 => ⟨S4x4096x1024, .f32⟩
  | 22 => ⟨S1x1x1024, .f32⟩
  | 23 => ⟨S4x4096x1024, .f32⟩
  | 24 => ⟨S4x4096x1024, .f32⟩
  | 25 => ⟨S4x4096x4544, .f32⟩
  | 26 => ⟨S4x4096x1024, .f32⟩
  | 27 => ⟨S4x4096x1024, .f32⟩
  | 28 => ⟨S4x4096x256, .f32⟩
  | 29 => ⟨S4x4096x192, .f32⟩
  | 30 => ⟨S4x4096x2048, .f32⟩
  | 31 => ⟨S4x4096x128, .f32⟩
  | 32 => ⟨S4x4096x64, .f32⟩
  | 33 => ⟨S4x4096x256, .f32⟩
  | 34 => ⟨S_, .f32⟩
  | 35 => ⟨S4x4096, .f32⟩
  | 36 => ⟨S4x4096x1, .f32⟩
  | 37 => ⟨S_, .f32⟩
  | 38 => ⟨S4x4096x1, .f32⟩
  | 39 => ⟨S4x4096x1, .f32⟩
  | 40 => ⟨S_, .f32⟩
  | 41 => ⟨S4x4096x1, .f32⟩
  | 42 => ⟨S4x4096x1, .f32⟩
  | 43 => ⟨S4x4096x1, .f32⟩
  | 44 => ⟨S4x4096x256, .f32⟩
  | 45 => ⟨S4x4096x256, .f32⟩
  | 46 => ⟨S1x1x256, .f32⟩
  | 47 => ⟨S4x4096x256, .f32⟩
  | 48 => ⟨S4x4096x256, .f32⟩
  | 49 => ⟨S4x4096x1536, .f32⟩
  | 50 => ⟨S4x4096x8x192, .f32⟩
  | 51 => ⟨S4x4096x8x128, .f32⟩
  | 52 => ⟨S4x4096x8x64, .f32⟩
  | 53 => ⟨S32, .f32⟩
  | 54 => ⟨S32, .f32⟩
  | 55 => ⟨S_, .f32⟩
  | 56 => ⟨S32, .f32⟩
  | 57 => ⟨S32, .f32⟩
  | 58 => ⟨S_, .f32⟩
  | 59 => ⟨S32, .f32⟩
  | 60 => ⟨S32, .f32⟩
  | 61 => ⟨S4x4096, .f32⟩
  | 62 => ⟨S4x4096x1, .f32⟩
  | 63 => ⟨S1x1x32, .f32⟩
  | 64 => ⟨S4x4096x32, .f32⟩
  | 65 => ⟨S4x4096x32, .f32⟩
  | 66 => ⟨S4x4096x32, .f32⟩
  | 67 => ⟨S4x4096x32, .f32⟩
  | 68 => ⟨S4x4096x1x32, .f32⟩
  | 69 => ⟨S4x4096x32, .f32⟩
  | 70 => ⟨S4x4096x1x32, .f32⟩
  | 71 => ⟨S4x4096x8x32, .f32⟩
  | 72 => ⟨S4x4096x8x32, .f32⟩
  | 73 => ⟨S4x4096x8x32, .f32⟩
  | 74 => ⟨S4x4096x8x32, .f32⟩
  | 75 => ⟨S4x4096x8x32, .f32⟩
  | 76 => ⟨S4x4096x8x32, .f32⟩
  | 77 => ⟨S4x4096x8x32, .f32⟩
  | 78 => ⟨S4x4096x8x32, .f32⟩
  | 79 => ⟨S4x4096x8x32, .f32⟩
  | 80 => ⟨S4x4096x8x32, .f32⟩
  | 81 => ⟨S4x4096x8x32, .f32⟩
  | 82 => ⟨S4x4096x8x32, .f32⟩
  | 83 => ⟨S4x4096x8x64, .f32⟩
  | 84 => ⟨S4x4096x128, .f32⟩
  | 85 => ⟨S_, .f32⟩
  | 86 => ⟨S4x4096, .f32⟩
  | 87 => ⟨S4x4096x1, .f32⟩
  | 88 => ⟨S_, .f32⟩
  | 89 => ⟨S4x4096x1, .f32⟩
  | 90 => ⟨S4x4096x1, .f32⟩
  | 91 => ⟨S_, .f32⟩
  | 92 => ⟨S4x4096x1, .f32⟩
  | 93 => ⟨S4x4096x1, .f32⟩
  | 94 => ⟨S4x4096x1, .f32⟩
  | 95 => ⟨S4x4096x128, .f32⟩
  | 96 => ⟨S4x4096x128, .f32⟩
  | 97 => ⟨S1x1x128, .f32⟩
  | 98 => ⟨S4x4096x128, .f32⟩
  | 99 => ⟨S4x4096x128, .f32⟩
  | 100 => ⟨S4x4096x2048, .f32⟩
  | 101 => ⟨S4x4096x8x256, .f32⟩
  | 102 => ⟨S4x4096x8x128, .f32⟩
  | 103 => ⟨S4x4096x8x128, .f32⟩
  | 104 => ⟨S4x4096x1x64, .f32⟩
  | 105 => ⟨S32, .f32⟩
  | 106 => ⟨S32, .f32⟩
  | 107 => ⟨S_, .f32⟩
  | 108 => ⟨S32, .f32⟩
  | 109 => ⟨S32, .f32⟩
  | 110 => ⟨S_, .f32⟩
  | 111 => ⟨S32, .f32⟩
  | 112 => ⟨S32, .f32⟩
  | 113 => ⟨S4x4096, .f32⟩
  | 114 => ⟨S4x4096x1, .f32⟩
  | 115 => ⟨S1x1x32, .f32⟩
  | 116 => ⟨S4x4096x32, .f32⟩
  | 117 => ⟨S4x4096x32, .f32⟩
  | 118 => ⟨S4x4096x32, .f32⟩
  | 119 => ⟨S4x4096x32, .f32⟩
  | 120 => ⟨S4x4096x1x32, .f32⟩
  | 121 => ⟨S4x4096x32, .f32⟩
  | 122 => ⟨S4x4096x1x32, .f32⟩
  | 123 => ⟨S4x4096x1x32, .f32⟩
  | 124 => ⟨S4x4096x1x32, .f32⟩
  | 125 => ⟨S4x4096x1x32, .f32⟩
  | 126 => ⟨S4x4096x1x32, .f32⟩
  | 127 => ⟨S4x4096x1x32, .f32⟩
  | _ => ⟨S4x4096x1024, .f32⟩

abbrev hbmTy0_1 (i : Nat) : BufTy := match i % 128 with
  | 0 => ⟨S4x4096x1x32, .f32⟩
  | 1 => ⟨S4x4096x1x32, .f32⟩
  | 2 => ⟨S4x4096x1x32, .f32⟩
  | 3 => ⟨S4x4096x1x64, .f32⟩
  | 4 => ⟨S4x4096x64, .f32⟩
  | 5 => ⟨S_, .f32⟩
  | 6 => ⟨S_, .f32⟩
  | 7 => ⟨S_, .f32⟩
  | 8 => ⟨S_, .f32⟩
  | 9 => ⟨S4x8x4096x4096, .f32⟩
  | 10 => ⟨S4x4096x4096x8, .f32⟩
  | 11 => ⟨S4x8x4096x4096, .f32⟩
  | 12 => ⟨S4x8x4096x4096, .f32⟩
  | 13 => ⟨S4x8x4096x4096, .f32⟩
  | 14 => ⟨S4x8x4096x4096, .f32⟩
  | 15 => ⟨S4096, .i32⟩
  | 16 => ⟨S1x4096, .i32⟩
  | 17 => ⟨S4096x1, .i32⟩
  | 18 => ⟨S4096x4096, .i32⟩
  | 19 => ⟨S4096x4096, .i32⟩
  | 20 => ⟨S4096x4096, .i1⟩
  | 21 => ⟨S1x1x4096x4096, .i1⟩
  | 22 => ⟨S_, .f32⟩
  | 23 => ⟨S_, .f32⟩
  | 24 => ⟨S4x8x4096x4096, .i1⟩
  | 25 => ⟨S4x8x4096x4096, .f32⟩
  | 26 => ⟨S4x8x4096x4096, .f32⟩
  | 27 => ⟨S_, .f32⟩
  | 28 => ⟨S4x8x4096, .f32⟩
  | 29 => ⟨S_, .f32⟩
  | 30 => ⟨S4x8x4096, .f32⟩
  | 31 => ⟨S4x8x4096, .f32⟩
  | 32 => ⟨S4x8x4096x1, .f32⟩
  | 33 => ⟨S4x8x4096x4096, .f32⟩
  | 34 => ⟨S4x8x4096x4096, .f32⟩
  | 35 => ⟨S4x8x4096x4096, .f32⟩
  | 36 => ⟨S_, .f32⟩
  | 37 => ⟨S4x8x4096, .f32⟩
  | 38 => ⟨S4x8x4096x1, .f32⟩
  | 39 => ⟨S4x8x4096x4096, .f32⟩
  | 40 => ⟨S4x8x4096x4096, .f32⟩
  | 41 => ⟨S4x8x128x4096, .f32⟩
  | 42 => ⟨S4x4096x8x128, .f32⟩
  | 43 => ⟨S4x4096x1024, .f32⟩
  | 44 => ⟨S4x4096x1024, .f32⟩
  | 45 => ⟨S4x4096x1024, .f32⟩
  | 46 => ⟨S_, .f32⟩
  | 47 => ⟨S4x4096x1024, .f32⟩
  | 48 => ⟨S4x4096x1024, .f32⟩
  | 49 => ⟨S_, .f32⟩
  | 50 => ⟨S4x4096x1024, .f32⟩
  | 51 => ⟨S4x4096x1024, .f32⟩
  | 52 => ⟨S4x4096x1024, .f32⟩
  | 53 => ⟨S1x1x2048, .f32⟩
  | 54 => ⟨S4x4096x2048, .f32⟩
  | 55 => ⟨S4x4096x2048, .f32⟩
  | 56 => ⟨S4x4096x2048, .f32⟩
  | 57 => ⟨S4x4096x2048, .f32⟩
  | 58 => ⟨S_, .f32⟩
  | 59 => ⟨S4x4096x2048, .f32⟩
  | 60 => ⟨S4x4096x2048, .f32⟩
  | 61 => ⟨S_, .f32⟩
  | 62 => ⟨S4x4096x2048, .f32⟩
  | 63 => ⟨S4x4096x2048, .f32⟩
  | 64 => ⟨S4x4096x1024, .bf16⟩
  | 65 => ⟨S16384x1024, .f32⟩
  | 66 => ⟨S16384x2048, .f32⟩
  | 67 => ⟨S16384x2048, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_7 : Ref sig .tc := ⟨.hbm, 85, rfl⟩
abbrev main_v68 : Ref sig .tc := ⟨.hbm, 86, rfl⟩
abbrev main_v69 : Ref sig .tc := ⟨.hbm, 87, rfl⟩
abbrev main_cst_8 : Ref sig .tc := ⟨.hbm, 88, rfl⟩
abbrev main_v70 : Ref sig .tc := ⟨.hbm, 89, rfl⟩
abbrev main_v71 : Ref sig .tc := ⟨.hbm, 90, rfl⟩
abbrev main_cst_9 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_cst_10 : Ref sig .tc := ⟨.hbm, 107, rfl⟩
abbrev main_v87 : Ref sig .tc := ⟨.hbm, 108, rfl⟩
abbrev main_v88 : Ref sig .tc := ⟨.hbm, 109, rfl⟩
abbrev main_cst_11 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_cst_12 : Ref sig .tc := ⟨.hbm, 133, rfl⟩
abbrev main_v111 : Ref sig .tc := ⟨.hbm, 134, rfl⟩
abbrev main_cst_13 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_cst_14 : Ref sig .tc := ⟨.hbm, 150, rfl⟩
abbrev main_call0_v0 : Ref sig .tc := ⟨.hbm, 151, rfl⟩
abbrev main_call0_v1 : Ref sig .tc := ⟨.hbm, 152, rfl⟩
abbrev main_call0_v2 : Ref sig .tc := ⟨.hbm, 153, rfl⟩
abbrev main_v126 : Ref sig .tc := ⟨.hbm, 154, rfl⟩
abbrev main_cst_15 : Ref sig .tc := ⟨.hbm, 155, rfl⟩
abbrev main_v127 : Ref sig .tc := ⟨.hbm, 156, rfl⟩
abbrev main_cst_16 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_cst_17 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_cst_18 : Ref sig .tc := ⟨.hbm, 174, rfl⟩
abbrev main_v143 : Ref sig .tc := ⟨.hbm, 175, rfl⟩
abbrev main_v144 : Ref sig .tc := ⟨.hbm, 176, rfl⟩
abbrev main_cst_19 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_cst_20 : Ref sig .tc := ⟨.hbm, 186, rfl⟩
abbrev main_v153 : Ref sig .tc := ⟨.hbm, 187, rfl⟩
abbrev main_v154 : Ref sig .tc := ⟨.hbm, 188, rfl⟩
abbrev main_cst_21 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩

abbrev nD : Nat := 1
abbrev τ : Topo := Topo.v7x

variable {F : FTy → Type} [FloatOps F]
-- ==== Prep.lean ====
abbrev S16384x1024 : Shape := ⟨2, ![16384, 1024]⟩
abbrev S1024 : Shape := ⟨1, ![1024]⟩
abbrev S1024x2048 : Shape := ⟨2, ![1024, 2048]⟩
abbrev S8x2x128x128 : Shape := ⟨4, ![8, 2, 128, 128]⟩
abbrev S16x128x128 : Shape := ⟨3, ![16, 128, 128]⟩
abbrev S1x1024 : Shape := ⟨2, ![1, 1024]⟩
abbrev S2048x1024 : Shape := ⟨2, ![2048, 1024]⟩
abbrev S1024x16384 : Shape := ⟨2, ![1024, 16384]⟩
abbrev S256x1024x128 : Shape := ⟨3, ![256, 1024, 128]⟩
abbrev S512x1024 : Shape := ⟨2, ![512, 1024]⟩
abbrev S1024x512 : Shape := ⟨2, ![1024, 512]⟩
abbrev S256x32x128 : Shape := ⟨3, ![256, 32, 128]⟩
abbrev S512 : Shape := ⟨1, ![512]⟩
abbrev S512x1 : Shape := ⟨2, ![512, 1]⟩
abbrev S2048x512 : Shape := ⟨2, ![2048, 512]⟩
abbrev S1x128x128 : Shape := ⟨3, ![1, 128, 128]⟩
abbrev S128x128 : Shape := ⟨2, ![128, 128]⟩
abbrev S128x512 : Shape := ⟨2, ![128, 512]⟩
abbrev S16x8x128 : Shape := ⟨3, ![16, 8, 128]⟩

abbrev nBuf : Space → Nat
  | .hbm => 11
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S8x2x128x128, .f32⟩
  | .hbm, ⟨4, _⟩ => ⟨S16x128x128, .f32⟩
  | .hbm, ⟨5, _⟩ => ⟨S16x128x128, .bf16⟩
  | .hbm, ⟨6, _⟩ => ⟨S1x1024, .f32⟩
  | .hbm, ⟨7, _⟩ => ⟨S2048x1024, .f32⟩
  | .hbm, ⟨8, _⟩ => ⟨S2048x1024, .bf16⟩
  | .hbm, ⟨9, _⟩ => ⟨S1024x16384, .bf16⟩
  | .hbm, ⟨10, _⟩ => ⟨S256x1024x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2048x1024, .bf16⟩
  | .local _ .vmem, ⟨4, _⟩ => ⟨S16x128x128, .bf16⟩
  | .local _ .vmem, ⟨5, _⟩ => ⟨S1024x512, .bf16⟩
  | .local _ .vmem, ⟨6, _⟩ => ⟨S1024x512, .bf16⟩
  | .local _ .vmem, ⟨7, _⟩ => ⟨S256x32x128, .f32⟩
  | .local _ .vmem, ⟨8, _⟩ => ⟨S256x32x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PrepReferenceIdeal.lean ====
abbrev S16384x1024 : Shape := ⟨2, ![16384, 1024]⟩
abbrev S1024 : Shape := ⟨1, ![1024]⟩
abbrev S1024x2048 : Shape := ⟨2, ![1024, 2048]⟩
abbrev S8x2x128x128 : Shape := ⟨4, ![8, 2, 128, 128]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩
abbrev S16384x8x2x128 : Shape := ⟨4, ![16384, 8, 2, 128]⟩
abbrev S8x2x128x16384 : Shape := ⟨4, ![8, 2, 128, 16384]⟩
abbrev S128x128x256x8 : Shape := ⟨4, ![128, 128, 256, 8]⟩
abbrev S256x128x8x128 : Shape := ⟨4, ![256, 128, 8, 128]⟩
abbrev S1024x16384 : Shape := ⟨2, ![1024, 16384]⟩
abbrev S256x1024x128 : Shape := ⟨3, ![256, 1024, 128]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S8x2x128x128, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x2048, .f32⟩
  | .hbm, ⟨21, _⟩ => ⟨S16384x8x2x128, .f32⟩
  | .hbm, ⟨22, _⟩ => ⟨S8x2x128x16384, .f32⟩
  | .hbm, ⟨23, _⟩ => ⟨S16384x8x2x128, .f32⟩
  | .hbm, ⟨24, _⟩ => ⟨S128x128x256x8, .f32⟩
  | .hbm, ⟨25, _⟩ => ⟨S256x128x8x128, .f32⟩
  | .hbm, ⟨26, _⟩ => ⟨S1024x16384, .f32⟩
  | .hbm, ⟨27, _⟩ => ⟨S1024x16384, .bf16⟩
  | .hbm, ⟨28, _⟩ => ⟨S256x1024x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Final.lean ====
abbrev S1024x16384 : Shape := ⟨2, ![1024, 16384]⟩
abbrev S16384x1024 : Shape := ⟨2, ![16384, 1024]⟩
abbrev S1024 : Shape := ⟨1, ![1024]⟩
abbrev S1x1024 : Shape := ⟨2, ![1, 1024]⟩
abbrev S1024x512 : Shape := ⟨2, ![1024, 512]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S1024x16384, .f32⟩
  | .hbm, ⟨1, _⟩ => ⟨S16384x1024, .f32⟩
  | .hbm, ⟨2, _⟩ => ⟨S1024, .f32⟩
  | .hbm, ⟨3, _⟩ => ⟨S1x1024, .f32⟩
  | .hbm, ⟨4, _⟩ => ⟨S16384x1024, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S1024x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FinalReferenceIdeal.lean ====
abbrev S1024x16384 : Shape := ⟨2, ![1024, 16384]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S16384x1024, .f32⟩
  | .hbm, ⟨2, _⟩ => ⟨S1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Frames.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

/-!
# The frames and the named constants

The three programs run and leave their arguments alone; the idealized kernel differs from the kernel only in its two
named constants.
-/

@[expose] public section

noncomputable section

namespace Cert.Proof

open Idealize.ShloMosaic Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_ri : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

theorem preserves : Cert.preserves_Kernel_KernelIdeal :=
  ⟨IdealRules.named_const.statement _ _ _ _ _ rfl, IdealRules.named_const.statement _ _ _ _ _ rfl⟩

end Cert.Proof

end
-- ==== Proof.KernelRun.lean ====
module

public import proofs.«01_k».proof.Proof.Gen.KernelIdeal.Frame

/-!
# The kernel program's run

Every final state holds, in each array a result names, the last boundary's contents, which the three calls determine:
the attention call's array, and two arrays of the projection call that nothing later writes.
-/

@[expose] public section

set_option maxRecDepth 16384

noncomputable section

namespace Cert.KernelIdeal.Val

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

set_option backward.isDefEq.respectTransparency.types false in
/-- The launch over the segments: each result array ends at the last boundary's contents, each argument as launched. -/
theorem kernelRun : θ_run defs (onTc (τ := τ) (main (F := F))) ⟨m, fun _ => 0, ρ⟩ (fun r => ∀ c : Dev nD,
      r.2.mem ((c.tc : Thread nD τ).loc main_v46) = V5 m ρ c main_v46
      ∧ r.2.mem ((c.tc : Thread nD τ).loc main_v24_0) = V5 m ρ c main_v24_0
      ∧ r.2.mem ((c.tc : Thread nD τ).loc main_v24_3) = V5 m ρ c main_v24_3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v46 (by decide)), h c _ (mem_uc main_v24_0 (by decide)), h c _ (mem_uc main_v24_3 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

/-- The attention array. -/
theorem V5_o (c : Dev nD) : V5 m ρ c main_v46 = (dat2 (V4 m ρ) c).arrAt 3 cfg2.N := W5_arr m ρ c 3

/-- An array of the first call that nothing later writes. -/
theorem V5_hglu (c : Dev nD) : V5 m ρ c main_v24_0 = (dat0 (V1 m ρ) c).arrAt 8 cfg0.N :=
  (W5_of_ne m ρ c main_v24_0 (by decide)).trans ((W4_of_ne m ρ c main_v24_0 (by decide)).trans
    ((W3_of m ρ c main_v24_0 (by decide)).trans (W2_arr m ρ c 8)))

theorem V5_gates (c : Dev nD) : V5 m ρ c main_v24_3 = (dat0 (V1 m ρ) c).arrAt 11 cfg0.N :=
  (W5_of_ne m ρ c main_v24_3 (by decide)).trans ((W4_of_ne m ρ c main_v24_3 (by decide)).trans
    ((W3_of m ρ c main_v24_3 (by decide)).trans (W2_arr m ρ c 11)))

/-- What the attention call reads is what the projection call left. -/
theorem V4_q (c : Dev nD) : V4 m ρ c main_v45_0 = (dat1 (V3 m ρ) c).arrAt 10 cfg1.N := W4_arr m ρ c 10
theorem V4_k (c : Dev nD) : V4 m ρ c main_v45_1 = (dat1 (V3 m ρ) c).arrAt 11 cfg1.N := W4_arr m ρ c 11
theorem V4_v (c : Dev nD) : V4 m ρ c main_v45_2 = (dat1 (V3 m ρ) c).arrAt 12 cfg1.N := W4_arr m ρ c 12

/-- The latents the projection call reads are what the first call left. -/
theorem V3_cq (c : Dev nD) : V3 m ρ c main_v24_1 = (dat0 (V1 m ρ) c).arrAt 9 cfg0.N :=
  (W3_of m ρ c main_v24_1 (by decide)).trans (W2_arr m ρ c 9)
theorem V3_ckv (c : Dev nD) : V3 m ρ c main_v24_2 = (dat0 (V1 m ρ) c).arrAt 10 cfg0.N :=
  (W3_of m ρ c main_v24_2 (by decide)).trans (W2_arr m ρ c 10)

/-- An array written before the first call and by nothing after. -/
theorem V3_old (c : Dev nD) (r : Ref sig .tc) (h1 : r ∉ hostOps1_W) (h0 : ∀ w, Pipeline.arrRef spec0 w ≠ r) : V3 m ρ c r = V1 m ρ c r :=
  (W3_of m ρ c r h1).trans (W2_of_ne m ρ c r h0)

end Cert.KernelIdeal.Val

end
-- ==== Proof.Spec.lean ====
module

public import Idealize.ShloMosaic.Lib.Pointwise

/-!
# What the layer's part computes, in plain words

Everything is an extended real.  A token is given by the row `x` of its features; `rms` scales a row to unit mean
square, `z` is the token's fused projection, and `hglu`, `gate` are the two results that need nothing else.
-/

@[expose] public section

noncomputable section

namespace Cert.Spec

open Idealize.ShloMosaic

/-- The constant added under the square root. -/
abbrev eps : EReal := Ideal.ofBits FTy.f32 0x358637BD#32

/-- The factor that scales `v` to unit mean square; `N` is its length. -/
def rinv {n : ℕ} (N : EReal) (v : Fin n → EReal) : EReal := Ideal.rsqrt (Ideal.div (∑ k, v k * v k) N + eps)

/-- `v` scaled to unit mean square, then by `g`. -/
def rms {n : ℕ} (N : EReal) (v g : Fin n → EReal) (i : Fin n) : EReal := v i * rinv N v * g i

/-- The logistic function. -/
def sigm (t : EReal) : EReal := Ideal.div 1 (1 + Ideal.exp (-t))

/-- 1024, 256 and 128 as the programs write them. -/
abbrev n1024 : EReal := Ideal.ofBits FTy.f32 0x44800000#32
abbrev n256 : EReal := Ideal.ofBits FTy.f32 0x43800000#32
abbrev n128 : EReal := Ideal.ofBits FTy.f32 0x43000000#32

/-- A scaled row against one column. -/
def proj (x g : Fin 1024 → EReal) (w : Fin 1024 → EReal) : EReal := ∑ d, rms n1024 x g d * w d

end Cert.Spec

end
-- ==== Proof.Online.lean ====
module

public import Idealize.ShloMosaic.Lib.Pointwise

/-!
# The running softmax of one query, over the extended reals

`Acc m l a L A` says that the carried maximum `m`, sum `l` and weighted sum `a` stand for the sum `L` of the weights
`2 ^ s` seen so far and the weighted sum `A` of the values: scaled by `2 ^ (-m)`, or nothing seen yet.  Which number `m`
is does not matter.  One block of keys, some of them masked with `⊥`, adds its weights to `L` and `A`; the quotient at
the end is `A / L`.
-/

@[expose] public section

noncomputable section

namespace Cert.Online

open Idealize.ShloMosaic

/-- The sum of real numbers, read in the extended reals. -/
theorem coe_sum {ι : Type*} (t : Finset ι) (f : ι → ℝ) : ∑ k ∈ t, ((f k : ℝ) : EReal) = ((∑ k ∈ t, f k : ℝ) : EReal) := by
  classical
  induction t using Finset.induction_on with
  | empty => simp
  | insert a t h ih => rw [Finset.sum_insert h, Finset.sum_insert h, ih, EReal.coe_add]

/-- The maximum of numbers of which at least one is real and none is `⊤` is real. -/
theorem fold_max_real {ι : Type*} [Fintype ι] (g : ι → EReal) (h : ∀ k, g k ≠ ⊤) (k : ι) (hk : g k ≠ ⊥) :
    ∃ μ : ℝ, Finset.univ.fold max (⊥ : EReal) g = μ := by
  classical
  have top : ∀ t : Finset ι, t.fold max (⊥ : EReal) g ≠ ⊤ := by
    intro t
    induction t using Finset.induction_on with
    | empty => simp
    | insert a t ha ih =>
      rw [Finset.fold_insert ha]
      rcases max_choice (g a) (t.fold max ⊥ g) with e | e <;> rw [e]
      · exact h a
      · exact ih
  have bot : Finset.univ.fold max (⊥ : EReal) g ≠ ⊥ := by
    intro e
    have : g k ≤ Finset.univ.fold max (⊥ : EReal) g := Finset.le_fold_max _ |>.mpr (.inr ⟨k, Finset.mem_univ k, le_rfl⟩)
    rw [e] at this
    exact hk (le_bot_iff.mp this)
  exact ⟨_, (EReal.coe_toReal (top _) bot).symm⟩

/-- What the carried numbers stand for. -/
def Acc {φ : Type*} (m l : EReal) (a : φ → EReal) (L : ℝ) (A : φ → ℝ) : Prop :=
  (m = ⊥ ∧ l = 0 ∧ (∀ f, a f = 0) ∧ L = 0 ∧ ∀ f, A f = 0) ∨
  ∃ μ : ℝ, m = μ ∧ l = (((2 : ℝ) ^ (-μ) * L : ℝ) : EReal) ∧ ∀ f, a f = (((2 : ℝ) ^ (-μ) * A f : ℝ) : EReal)

variable {φ : Type*}

theorem exp2_sub (x y : ℝ) : Ideal.exp2 ((x : EReal) - (y : EReal)) = (((2 : ℝ) ^ (-y) * (2 : ℝ) ^ x : ℝ) : EReal) := by
  rw [← EReal.coe_sub, Ideal.exp2_coe]
  congr 1
  show (2 : ℝ) ^ (x - y) = _
  rw [← Real.rpow_add (by norm_num)]
  congr 1
  ring

/-- A masked key weighs nothing, an unmasked one `2 ^ s` scaled. -/
theorem weight (c : Prop) [Decidable c] (s μ : ℝ) :
    Ideal.exp2 ((if c then (s : EReal) else ⊥) - (μ : EReal)) = (((2 : ℝ) ^ (-μ) * (if c then (2 : ℝ) ^ s else 0) : ℝ) : EReal) := by
  by_cases h : c
  · rw [if_pos h, if_pos h, exp2_sub]
  · rw [if_neg h, if_neg h, mul_zero, EReal.coe_zero, sub_eq_add_neg, EReal.bot_add, Ideal.exp2_bot]

/-- One block of keys. -/
theorem acc_step {ι : Type*} [Fintype ι] {m l : EReal} {a : φ → EReal} {L : ℝ} {A : φ → ℝ} (h : Acc m l a L A)
    (c : ι → Prop) [DecidablePred c] (s : ι → ℝ) (v : φ → ι → ℝ) (k₀ : ι) (hk : c k₀)
    (g : ι → EReal) (hg : ∀ k, g k = if c k then (s k : EReal) else ⊥)
    {m' : EReal} (hm' : m' = max m (Finset.univ.fold max (⊥ : EReal) g))
    {l' : EReal} (hl' : l' = Ideal.exp2 (m - m') * l + ∑ k, Ideal.exp2 (g k - m'))
    {a' : φ → EReal} (ha' : ∀ f, a' f = Ideal.exp2 (m - m') * a f + ∑ k, (v f k : EReal) * Ideal.exp2 (g k - m')) :
    Acc m' l' a' (L + ∑ k, if c k then (2 : ℝ) ^ s k else 0) (fun f => A f + ∑ k, if c k then (2 : ℝ) ^ s k * v f k else 0) := by
  obtain ⟨ν, hν⟩ : ∃ ν : ℝ, Finset.univ.fold max (⊥ : EReal) g = ν := by
    refine fold_max_real g (fun k => ?_) k₀ ?_
    · rw [hg]; split_ifs <;> simp
    · rw [hg, if_pos hk]; simp
  have hr : ∃ μ : ℝ, m' = μ := by
    rcases h with h | ⟨μ, h, -⟩
    · exact ⟨ν, by rw [hm', h.1, hν, max_eq_right bot_le]⟩
    · exact ⟨max μ ν, by rw [hm', h, hν]; exact (EReal.coe_strictMono.monotone.map_max).symm⟩
  obtain ⟨μ, hμ⟩ := hr
  have hw : ∀ k, Ideal.exp2 (g k - m') = (((2 : ℝ) ^ (-μ) * (if c k then (2 : ℝ) ^ s k else 0) : ℝ) : EReal) := fun k => by
    rw [hg, hμ, weight]
  have hS : ∑ k, Ideal.exp2 (g k - m') = (((2 : ℝ) ^ (-μ) * ∑ k, (if c k then (2 : ℝ) ^ s k else 0) : ℝ) : EReal) := by
    rw [Finset.sum_congr rfl fun k _ => hw k, coe_sum, Finset.mul_sum]
  have hV : ∀ f, ∑ k, (v f k : EReal) * Ideal.exp2 (g k - m') = (((2 : ℝ) ^ (-μ) * ∑ k, (if c k then (2 : ℝ) ^ s k * v f k else 0) : ℝ) : EReal) := by
    intro f
    rw [Finset.mul_sum, ← coe_sum]
    refine Finset.sum_congr rfl fun k _ => ?_
    rw [hw k, ← EReal.coe_mul]
    congr 1
    split_ifs <;> ring
  refine .inr ⟨μ, hμ, ?_⟩
  rcases h with ⟨h1, h2, h3, h4, h5⟩ | ⟨μ₀, h1, h2, h3⟩
  · constructor
    · rw [hl', h2, mul_zero, zero_add, hS, h4, zero_add]
    · intro f; rw [ha', h3, mul_zero, zero_add, hV]; beta_reduce; rw [h5, zero_add]
  · have e : Ideal.exp2 (m - m') = (((2 : ℝ) ^ (-μ) * (2 : ℝ) ^ μ₀ : ℝ) : EReal) := by rw [h1, hμ, exp2_sub]
    have cc : (2 : ℝ) ^ μ₀ * (2 : ℝ) ^ (-μ₀) = 1 := by rw [← Real.rpow_add (by norm_num)]; simp
    constructor
    · rw [hl', hS, h2, e, ← EReal.coe_mul, ← EReal.coe_add]
      congr 1
      linear_combination ((2 : ℝ) ^ (-μ) * L) * cc
    · intro f
      rw [ha', hV, h3, e, ← EReal.coe_mul, ← EReal.coe_add]
      congr 1
      linear_combination ((2 : ℝ) ^ (-μ) * A f) * cc

/-- The quotient at the end. -/
theorem acc_div {m l : EReal} {a : φ → EReal} {L : ℝ} {A : φ → ℝ} (h : Acc m l a L A) (hL : L ≠ 0) (f : φ) :
    Ideal.div (a f) l = ((A f / L : ℝ) : EReal) := by
  rcases h with h | ⟨μ, -, h2, h3⟩
  · exact absurd h.2.2.2.1 hL
  · have hp : (2 : ℝ) ^ (-μ) ≠ 0 := (Real.rpow_pos_of_pos (by norm_num) _).ne'
    rw [h2, h3, Ideal.div_coe (mul_ne_zero hp hL), ← EReal.coe_mul]
    congr 1
    field_simp

/-- The same weights taken all at once, each divided by their sum, as the host's softmax does; the weights are powers of
    `e` there. -/
theorem softmax_all {ι : Type*} [Fintype ι] (c : ι → Prop) [DecidablePred c] (s v : ι → ℝ) (k₀ : ι) (hk : c k₀)
    (g : ι → EReal) (hg : ∀ k, g k = if c k then (s k : EReal) else ⊥) :
    ∑ k, (v k : EReal) * Ideal.div (Ideal.exp (g k - max ⊥ (Finset.univ.fold max (⊥ : EReal) g)))
        (∑ j, Ideal.exp (g j - max ⊥ (Finset.univ.fold max (⊥ : EReal) g)))
      = (((∑ k, if c k then Real.exp (s k) * v k else 0) / (∑ k, if c k then Real.exp (s k) else 0) : ℝ) : EReal) := by
  obtain ⟨ν, hν⟩ : ∃ ν : ℝ, Finset.univ.fold max (⊥ : EReal) g = ν := by
    refine fold_max_real g (fun k => ?_) k₀ ?_
    · rw [hg]; split_ifs <;> simp
    · rw [hg, if_pos hk]; simp
  have hw : ∀ k, Ideal.exp (g k - max ⊥ (Finset.univ.fold max (⊥ : EReal) g)) = ((Real.exp (-ν) * (if c k then Real.exp (s k) else 0) : ℝ) : EReal) := by
    intro k
    rw [hν, max_eq_right bot_le, hg]
    by_cases h : c k
    · rw [if_pos h, if_pos h, ← EReal.coe_sub, Ideal.exp_coe, ← Real.exp_add]
      congr 2; ring
    · rw [if_neg h, if_neg h, mul_zero, EReal.coe_zero, sub_eq_add_neg, EReal.bot_add, Ideal.exp_bot]
  have hpos : 0 < ∑ k, (if c k then Real.exp (s k) else 0) := by
    refine Finset.sum_pos' (fun k _ => ?_) ⟨k₀, Finset.mem_univ _, ?_⟩
    · split_ifs <;> positivity
    · rw [if_pos hk]; positivity
  have hS : ∑ j, Ideal.exp (g j - max ⊥ (Finset.univ.fold max (⊥ : EReal) g)) = ((Real.exp (-ν) * ∑ k, (if c k then Real.exp (s k) else 0) : ℝ) : EReal) := by
    rw [Finset.sum_congr rfl fun k _ => hw k, coe_sum, Finset.mul_sum]
  have hne : Real.exp (-ν) * ∑ k, (if c k then Real.exp (s k) else 0) ≠ 0 := (mul_pos (Real.exp_pos _) hpos).ne'
  rw [Finset.sum_div, ← coe_sum]
  refine Finset.sum_congr rfl fun k _ => ?_
  rw [hS, hw, Ideal.div_coe hne, ← EReal.coe_mul, ← EReal.coe_mul]
  congr 1
  have := (Real.exp_pos (-ν)).ne'
  have := hpos.ne'
  split_ifs with h
  · field_simp
  · simp

/-- The keys before block `n`, block by block of 512. -/
theorem sum_before (f : ℕ → ℝ) (n : ℕ) :
    ∑ k ∈ Finset.range (512 * n), f k = ∑ n' ∈ Finset.range n, ∑ j : Fin 512, f (512 * n' + j.val) := by
  induction n with
  | zero => simp
  | succ n ih =>
    rw [Nat.mul_succ, Finset.sum_range_add, ih, Finset.sum_range_succ _ n, Finset.sum_range fun x => f (512 * n + x)]

/-- The keys a query in row `r` of block `n` sees. -/
theorem sum_causal (f : ℕ → ℝ) {n r : ℕ} (hn : n < 8) (hr : r < 512) :
    ∑ k : Fin 4096, (if k.val ≤ 512 * n + r then f k.val else 0)
      = ∑ n' ∈ Finset.range n, ∑ j : Fin 512, f (512 * n' + j.val) + ∑ j : Fin 512, if j.val ≤ r then f (512 * n + j.val) else 0 := by
  rw [← Finset.sum_range fun k => if k ≤ 512 * n + r then f k else 0, ← sum_before]
  obtain ⟨d, hd⟩ : ∃ d, 4096 = 512 * n + 512 + d := ⟨4096 - (512 * n + 512), by omega⟩
  rw [hd, Finset.sum_range_add, Finset.sum_range_add, Finset.sum_range fun x => if 512 * n + x ≤ 512 * n + r then f (512 * n + x) else 0]
  rw [Finset.sum_eq_zero (s := Finset.range d) fun x _ => if_neg (by omega), add_zero]
  congr 1
  · exact Finset.sum_congr rfl fun x hx => if_pos (by have := Finset.mem_range.mp hx; omega)
  · exact Finset.sum_congr rfl fun x _ => if_congr (by omega) rfl rfl

end Cert.Online

end
-- ==== Proof.Layer.lean ====
module

public import proofs.«01_k».proof.Proof.Spec
public import proofs.«01_k».proof.Proof.Online

/-!
# The attention branch in real numbers

From real arguments: the scaled rows, the projections, the rotation of features by the token's place, the scores and
the causal softmax.  Beside each stands the same expression over the extended reals, which is what a program computes.
-/

@[expose] public section

noncomputable section

namespace Cert.Layer

open Idealize.ShloMosaic Cert.Spec

/-- The constant under the square root is a positive real. -/
theorem eps_pos : ∃ e : ℝ, 0 < e ∧ eps = (e : EReal) := by
  refine ⟨(8796093 : ℝ) * 2 ^ (-43 : ℤ), by positivity, ?_⟩
  simp [eps, Ideal.ofBits, Ideal.ieee, -EReal.coe_mul]
  try norm_num

/-- That real. -/
def epsR : ℝ := eps_pos.choose

theorem epsR_pos : 0 < epsR := eps_pos.choose_spec.1

theorem eps_eq : eps = (epsR : EReal) := eps_pos.choose_spec.2

theorem n1024_eq : n1024 = ((1024 : ℝ) : EReal) := by
  simp [n1024, Ideal.ofBits, Ideal.ieee, -EReal.coe_mul]; try norm_num

theorem n256_eq : n256 = ((256 : ℝ) : EReal) := by
  simp [n256, Ideal.ofBits, Ideal.ieee, -EReal.coe_mul]; try norm_num

theorem n128_eq : n128 = ((128 : ℝ) : EReal) := by
  simp [n128, Ideal.ofBits, Ideal.ieee, -EReal.coe_mul]; try norm_num

/-- `v` scaled to unit mean square, then by `g`. -/
def rmsR {n : ℕ} (N : ℝ) (v g : Fin n → ℝ) (i : Fin n) : ℝ :=
  v i * (Real.sqrt ((∑ k, v k * v k) * (1 / N) + epsR))⁻¹ * g i

theorem rms_coe {n : ℕ} {M : EReal} {N : ℝ} (hM : M = (N : EReal)) (hN : 0 < N) (v g : Fin n → ℝ) (i : Fin n) :
    rms M (fun k => (v k : EReal)) (fun k => (g k : EReal)) i = (rmsR N v g i : EReal) := by
  have hs : (0 : ℝ) ≤ ∑ k, v k * v k := Finset.sum_nonneg fun k _ => mul_self_nonneg _
  have hp : 0 < (∑ k, v k * v k) * (1 / N) + epsR := by have := epsR_pos; positivity
  have hr : rinv M (fun k => (v k : EReal)) = (((Real.sqrt ((∑ k, v k * v k) * (1 / N) + epsR))⁻¹ : ℝ) : EReal) := by
    unfold rinv
    simp only [← EReal.coe_mul]
    rw [Online.coe_sum, hM, Ideal.div_coe hN.ne', eps_eq, ← EReal.coe_mul, ← EReal.coe_add, Ideal.rsqrt_coe,
      if_neg hp.not_gt, if_neg hp.ne']
  unfold rms rmsR
  rw [hr, ← EReal.coe_mul, ← EReal.coe_mul]

/-- A row of real numbers against a column of them. -/
theorem dot_coe {n : ℕ} (a b : Fin n → ℝ) : ∑ k, ((a k : ℝ) : EReal) * ((b k : ℝ) : EReal) = ((∑ k, a k * b k : ℝ) : EReal) := by
  simp only [← EReal.coe_mul]
  exact Online.coe_sum _ _

/-- The real arguments of the branch. -/
structure Args where
  x : Fin 4 → Fin 4096 → Fin 1024 → ℝ
  p : Fin 4 → Fin 4096 → BitVec 32
  g : Fin 1024 → ℝ
  w : Fin 1024 → Fin 4544 → ℝ
  qg : Fin 256 → ℝ
  uq : Fin 256 → Fin 1536 → ℝ
  kg : Fin 128 → ℝ
  ukv : Fin 128 → Fin 2048 → ℝ

/-- `A` is what the argument arrays hold. -/
structure Args.Reads (A : Args) (x : Vec Ideal ⟨3, ![4, 4096, 1024]⟩ .f32) (p : Vec Ideal ⟨2, ![4, 4096]⟩ .i32) (g : Vec Ideal ⟨1, ![1024]⟩ .f32)
    (w : Vec Ideal ⟨2, ![1024, 4544]⟩ .f32) (qg : Vec Ideal ⟨1, ![256]⟩ .f32) (uq : Vec Ideal ⟨2, ![256, 1536]⟩ .f32)
    (kg : Vec Ideal ⟨1, ![128]⟩ .f32) (ukv : Vec Ideal ⟨2, ![128, 2048]⟩ .f32) : Prop where
  x : ∀ b s d, x (ix3 b s d) = ((A.x b s d : ℝ) : EReal)
  p : ∀ b s, p (ix2 b s) = A.p b s
  g : ∀ d, g (ix1 d) = ((A.g d : ℝ) : EReal)
  w : ∀ d e, w (ix2 d e) = ((A.w d e : ℝ) : EReal)
  qg : ∀ d, qg (ix1 d) = ((A.qg d : ℝ) : EReal)
  uq : ∀ d e, uq (ix2 d e) = ((A.uq d e : ℝ) : EReal)
  kg : ∀ d, kg (ix1 d) = ((A.kg d : ℝ) : EReal)
  ukv : ∀ d e, ukv (ix2 d e) = ((A.ukv d e : ℝ) : EReal)

/-- The frequency of a pair of rotated features, as both programs compute it. -/
def freq (k : Fin 32) : EReal :=
  Ideal.pow (Ideal.ofBits FTy.f32 0x461C4000#32)
    (Ideal.div (-(FloatOps.sitofp (F := Ideal) .f32 (BitVec.ofNat 32 k.val))) (Ideal.ofBits FTy.f32 0x42000000#32))

/-- It is real. -/
theorem freq_real (k : Fin 32) : ∃ f : ℝ, freq k = (f : EReal) := by
  have h1 : Ideal.ofBits FTy.f32 0x461C4000#32 = ((10000 : ℝ) : EReal) := by
    simp [Ideal.ofBits, Ideal.ieee, -EReal.coe_mul]; try norm_num
  have h2 : Ideal.ofBits FTy.f32 0x42000000#32 = ((32 : ℝ) : EReal) := by
    simp [Ideal.ofBits, Ideal.ieee, -EReal.coe_mul]; try norm_num
  refine ⟨Real.rpow 10000 (-((BitVec.ofNat 32 k.val).toInt : ℝ) * (1 / 32)), ?_⟩
  unfold freq
  rw [h1, h2, Ideal.div_coe (by norm_num)]
  show Ideal.pow _ ((-(((BitVec.ofNat 32 k.val).toInt : ℝ) : EReal)) * _) = _
  rw [← EReal.coe_neg, ← EReal.coe_mul, Ideal.pow_coe_coe]

def freqR (k : Fin 32) : ℝ := (freq_real k).choose

theorem freq_eq (k : Fin 32) : freq k = (freqR k : EReal) := (freq_real k).choose_spec

/-- Rotates 64 features, in pairs half of them apart. -/
def rot (t : Fin 64 → ℝ) (co si : Fin 32 → ℝ) (j : Fin 64) : ℝ :=
  if h : j.val < 32 then t ⟨j.val, by omega⟩ * co ⟨j.val, h⟩ - t ⟨32 + j.val, by omega⟩ * si ⟨j.val, h⟩
  else t ⟨j.val, by omega⟩ * co ⟨j.val - 32, by omega⟩ + t ⟨j.val - 32, by omega⟩ * si ⟨j.val - 32, by omega⟩

namespace Args

variable (A : Args)

/-- Column `e` of the token's fused projection. -/
def z (b : Fin 4) (s : Fin 4096) (e : Fin 4544) : ℝ := ∑ d, rmsR 1024 (A.x b s) A.g d * A.w d e

/-- The scaled query latent and the queries of all heads. -/
def qn (b : Fin 4) (s : Fin 4096) (d : Fin 256) : ℝ := rmsR 256 (fun d : Fin 256 => A.z b s ⟨2048 + d.val, by omega⟩) A.qg d
def qf (b : Fin 4) (s : Fin 4096) (e : Fin 1536) : ℝ := ∑ d, A.qn b s d * A.uq d e

/-- The scaled latent of keys and values, and the keys and values of all heads. -/
def kvn (b : Fin 4) (s : Fin 4096) (d : Fin 128) : ℝ := rmsR 128 (fun d : Fin 128 => A.z b s ⟨2304 + d.val, by omega⟩) A.kg d
def kvf (b : Fin 4) (s : Fin 4096) (e : Fin 2048) : ℝ := ∑ d, A.kvn b s d * A.ukv d e

/-- Cosine and sine of the token's angles. -/
def co (b : Fin 4) (s : Fin 4096) (j : Fin 32) : ℝ := Real.cos (((A.p b s).toInt : ℝ) * freqR j)
def si (b : Fin 4) (s : Fin 4096) (j : Fin 32) : ℝ := Real.sin (((A.p b s).toInt : ℝ) * freqR j)

/-- Rotated features of a head's query, and those of the key, which all heads share. -/
def qrot (b : Fin 4) (s : Fin 4096) (h : Fin 8) (j : Fin 64) : ℝ :=
  rot (fun j => A.qf b s ⟨192 * h.val + 128 + j.val, by omega⟩) (A.co b s) (A.si b s) j
def krot (b : Fin 4) (s : Fin 4096) (j : Fin 64) : ℝ :=
  rot (fun j => A.z b s ⟨2432 + j.val, by omega⟩) (A.co b s) (A.si b s) j

/-- The score of key `k` for query `s`. -/
def score (b : Fin 4) (h : Fin 8) (s k : Fin 4096) : ℝ :=
  ((∑ d : Fin 128, A.qf b s ⟨192 * h.val + d.val, by omega⟩ * A.kvf b k ⟨256 * h.val + d.val, by omega⟩)
    + ∑ j : Fin 64, A.krot b k j * A.qrot b s h j) * (Real.sqrt 192)⁻¹

/-- The value features of a head. -/
def v (b : Fin 4) (k : Fin 4096) (h : Fin 8) (e : Fin 128) : ℝ := A.kvf b k ⟨256 * h.val + (128 + e.val), by omega⟩

/-- The causal softmax of a query's scores, against the values. -/
def att (b : Fin 4) (h : Fin 8) (s : Fin 4096) (e : Fin 128) : ℝ :=
  (∑ k : Fin 4096, if k.val ≤ s.val then Real.exp (A.score b h s k) * A.v b k h e else 0)
    / (∑ k : Fin 4096, if k.val ≤ s.val then Real.exp (A.score b h s k) else 0)

/-! ## The same over the extended reals -/

theorem z_coe (b : Fin 4) (s : Fin 4096) (e : Fin 4544) :
    proj (fun d => (A.x b s d : EReal)) (fun d => (A.g d : EReal)) (fun d => (A.w d e : EReal)) = (A.z b s e : EReal) := by
  unfold proj z
  simp only [rms_coe n1024_eq (by norm_num)]
  exact dot_coe _ _

/-- A column whose sign is turned gives the negative. -/
theorem z_neg (b : Fin 4) (s : Fin 4096) (e : Fin 4544) :
    proj (fun d => (A.x b s d : EReal)) (fun d => (A.g d : EReal)) (fun d => -(A.w d e : EReal)) = ((-A.z b s e : ℝ) : EReal) := by
  unfold proj z
  simp only [rms_coe n1024_eq (by norm_num), ← EReal.coe_neg, dot_coe, mul_neg, Finset.sum_neg_distrib]

theorem z_zero (b : Fin 4) (s : Fin 4096) :
    proj (fun d => (A.x b s d : EReal)) (fun d => (A.g d : EReal)) (fun _ => 0) = 0 := by
  unfold proj
  simp only [mul_zero, Finset.sum_const_zero]

theorem qn_coe (b : Fin 4) (s : Fin 4096) (d : Fin 256) :
    rms n256 (fun d : Fin 256 => ((A.z b s ⟨2048 + d.val, by omega⟩ : ℝ) : EReal)) (fun d => (A.qg d : EReal)) d = (A.qn b s d : EReal) :=
  rms_coe n256_eq (by norm_num) _ _ _

theorem qf_coe (b : Fin 4) (s : Fin 4096) (e : Fin 1536) : ∑ d, (A.qn b s d : EReal) * (A.uq d e : EReal) = (A.qf b s e : EReal) :=
  dot_coe _ _

theorem qf_neg (b : Fin 4) (s : Fin 4096) (e : Fin 1536) : ∑ d, (A.qn b s d : EReal) * -(A.uq d e : EReal) = ((-A.qf b s e : ℝ) : EReal) := by
  unfold qf
  simp only [← EReal.coe_neg, dot_coe, mul_neg, Finset.sum_neg_distrib]

theorem kvn_coe (b : Fin 4) (s : Fin 4096) (d : Fin 128) :
    rms n128 (fun d : Fin 128 => ((A.z b s ⟨2304 + d.val, by omega⟩ : ℝ) : EReal)) (fun d => (A.kg d : EReal)) d = (A.kvn b s d : EReal) :=
  rms_coe n128_eq (by norm_num) _ _ _

theorem kvf_coe (b : Fin 4) (s : Fin 4096) (e : Fin 2048) : ∑ d, (A.kvn b s d : EReal) * (A.ukv d e : EReal) = (A.kvf b s e : EReal) :=
  dot_coe _ _

theorem co_coe (b : Fin 4) (s : Fin 4096) (j : Fin 32) :
    Ideal.cos ((((A.p b s).toInt : ℝ) : EReal) * freq j) = (A.co b s j : EReal) := by
  rw [freq_eq, ← EReal.coe_mul, Ideal.cos_coe]; rfl

theorem si_coe (b : Fin 4) (s : Fin 4096) (j : Fin 32) :
    Ideal.sin ((((A.p b s).toInt : ℝ) : EReal) * freq j) = (A.si b s j : EReal) := by
  rw [freq_eq, ← EReal.coe_mul, Ideal.sin_coe]; rfl

/-! ## The kernel's queries and keys, padded to 256 features -/

/-- The scale the kernel multiplies its queries by: scores in base two. -/
def qsR : ℝ := (Real.log 2)⁻¹ * (Real.sqrt 192)⁻¹

def qk (b : Fin 4) (h : Fin 8) (s : Fin 4096) (d : Fin 256) : ℝ :=
  if h1 : d.val < 128 then A.qf b s ⟨192 * h.val + d.val, by omega⟩ * qsR
  else if h2 : d.val - 128 < 64 then A.qrot b s h ⟨d.val - 128, h2⟩ * qsR else 0

def kk (b : Fin 4) (h : Fin 8) (s : Fin 4096) (d : Fin 256) : ℝ :=
  if h1 : d.val < 128 then A.kvf b s ⟨256 * h.val + d.val, by omega⟩
  else if h2 : d.val - 128 < 64 then A.krot b s ⟨d.val - 128, h2⟩ else 0

/-- Their products sum to the score in base two. -/
theorem kk_qk (b : Fin 4) (h : Fin 8) (s k : Fin 4096) :
    ∑ d, A.kk b h k d * A.qk b h s d = A.score b h s k * (Real.log 2)⁻¹ := by
  have e1 : ∀ f : Fin 256 → ℝ, ∑ d, f d = (∑ d : Fin 128, f ⟨d.val, by omega⟩)
      + ((∑ d : Fin 64, f ⟨128 + d.val, by omega⟩) + ∑ d : Fin 64, f ⟨192 + d.val, by omega⟩) := by
    intro f
    have a := Fin.sum_univ_add (a := 128) (b := 128) f
    have a' := Fin.sum_univ_add (a := 64) (b := 64) (fun i : Fin (64 + 64) => f (Fin.natAdd 128 i))
    refine a.trans (congrArg₂ (· + ·) rfl (a'.trans (congrArg₂ (· + ·) rfl (Finset.sum_congr rfl fun d _ => ?_))))
    congr 1
    apply Fin.ext
    show 128 + (64 + d.val) = 192 + d.val
    omega
  rw [e1]
  have t1 : ∀ d : Fin 128, A.kk b h k ⟨d.val, by omega⟩ * A.qk b h s ⟨d.val, by omega⟩
      = (A.qf b s ⟨192 * h.val + d.val, by omega⟩ * A.kvf b k ⟨256 * h.val + d.val, by omega⟩) * qsR := by
    intro d
    unfold kk qk
    rw [dif_pos d.isLt, dif_pos d.isLt]
    ring
  have t2 : ∀ d : Fin 64, A.kk b h k ⟨128 + d.val, by omega⟩ * A.qk b h s ⟨128 + d.val, by omega⟩
      = (A.krot b k d * A.qrot b s h d) * qsR := by
    intro d
    unfold kk qk
    have n1 : ¬ (128 + d.val < 128) := by omega
    have n2 : 128 + d.val - 128 < 64 := by omega
    have n3 : (⟨128 + d.val - 128, n2⟩ : Fin 64) = d := Fin.ext (by show 128 + d.val - 128 = d.val; omega)
    rw [dif_neg n1, dif_neg n1, dif_pos n2, dif_pos n2, n3]
    ring
  have t3 : ∀ d : Fin 64, A.kk b h k ⟨192 + d.val, by omega⟩ * A.qk b h s ⟨192 + d.val, by omega⟩ = 0 := by
    intro d
    unfold kk
    have n1 : ¬ (192 + d.val < 128) := by omega
    have n2 : ¬ (192 + d.val - 128 < 64) := by omega
    rw [dif_neg n1, dif_neg n2, zero_mul]
  simp only [t1, t2, t3, Finset.sum_const_zero, add_zero, ← Finset.sum_mul]
  unfold score qsR
  ring

/-- Hence the weights agree. -/
theorem weight (b : Fin 4) (h : Fin 8) (s k : Fin 4096) :
    (2 : ℝ) ^ (∑ d, A.kk b h k d * A.qk b h s d) = Real.exp (A.score b h s k) := by
  rw [kk_qk, Real.rpow_def_of_pos (by norm_num)]
  congr 1
  have : Real.log 2 ≠ 0 := (Real.log_pos (by norm_num)).ne'
  field_simp

end Args

end Cert.Layer

end
-- ==== Proof.HostReads.lean ====
module

public import proofs.«01_k».proof.Proof.KernelRun
public import proofs.«01_k».proof.Proof.Layer
public import Idealize.ShloMosaic.Lib.Pointwise
public import Idealize.ShloMosaic.Lib.StableHlo.RunClose

/-!
# What the kernel program's host operations prepare

Every array the calls read, entry by entry, from the arguments: casts are the identity over the extended reals, so
each is a slice, a padding or a quarter turn of an argument.
-/

@[expose] public section

set_option maxRecDepth 16384

noncomputable section

namespace Cert.KernelIdeal.Val

open Cert.KernelIdeal Cert.KernelIdeal.Gen Idealize.ShloMosaic Idealize.ShloMosaic.TcCoe Idealize.ShloMosaic.StableHlo
open Cert.Layer (freq)

/-- Batch and place of a row. -/
abbrev rowB (r : Fin 16384) : Fin 4 := ⟨r.val / 4096, by omega⟩
abbrev rowS (r : Fin 16384) : Fin 4096 := ⟨r.val % 4096, by omega⟩

variable (m : (ℓ : Loc nD τ sig) → Buf (Elt Ideal) ℓ) (ρ : Dev nD → PrngReg) (c : Dev nD)

/-- The arguments, as arrays of extended reals. -/
abbrev aX : Vec Ideal S4x4096x1024 .f32 := m ((c : Thread nD τ).loc main_arg0)
abbrev aP : Vec Ideal S4x4096 .i32 := m ((c : Thread nD τ).loc main_arg1)
abbrev aG : Vec Ideal S1024 .f32 := m ((c : Thread nD τ).loc main_arg2)
abbrev aWi : Vec Ideal S1024x4544 .f32 := m ((c : Thread nD τ).loc main_arg3)
abbrev aB : Vec Ideal S2048 .f32 := m ((c : Thread nD τ).loc main_arg4)
abbrev aQg : Vec Ideal S256 .f32 := m ((c : Thread nD τ).loc main_arg5)
abbrev aUq : Vec Ideal S256x1536 .f32 := m ((c : Thread nD τ).loc main_arg6)
abbrev aKg : Vec Ideal S128 .f32 := m ((c : Thread nD τ).loc main_arg7)
abbrev aUkv : Vec Ideal S128x2048 .f32 := m ((c : Thread nD τ).loc main_arg8)

/-- The rows of all batches, one after another. -/
theorem V1_x (r : Fin 16384) (d : Fin 1024) : (V1 m ρ c main_v9 : Vec Ideal S16384x1024 .f32) (ix2 r d) = aX m c (ix3 (rowB r) (rowS r) d) := by
  show (StableHlo.after hostOps0 (W0 m ρ c) (Proc.devRef .tc main_v9) : Vec Ideal S16384x1024 .f32) (ix2 r d) = _
  simp only [hostOps0]
  after_results_simp
  pointwise

theorem V1_pos (r : Fin 16384) : (V1 m ρ c main_v8 : Vec Ideal S16384x1 .i32) (ix2 r 0) = aP m c (ix2 (rowB r) (rowS r)) := by
  show (StableHlo.after hostOps0 (W0 m ρ c) (Proc.devRef .tc main_v8) : Vec Ideal S16384x1 .i32) (ix2 r 0) = _
  simp only [hostOps0]
  after_results_simp
  pointwise

/-- The frequencies, twice over, then zeros. -/
theorem V1_invf (j : Fin 128) : (V1 m ρ c main_v7 : Vec Ideal S1x128 .f32) (ix2 0 j) = if h : j.val < 32 then freq ⟨j.val, h⟩ else if h : j.val - 32 < 32 then freq ⟨j.val - 32, h⟩ else 0 := by
  show (StableHlo.after hostOps0 (W0 m ρ c) (Proc.devRef .tc main_v7) : Vec Ideal S1x128 .f32) (ix2 0 j) = _
  simp only [hostOps0]
  after_results_simp
  pointwise
  after_results_simp
  pointwise
  rfl

theorem V1_g (d : Fin 1024) : (V1 m ρ c main_v18 : Vec Ideal S1x1024 .f32) (ix2 0 d) = aG m c (ix1 d) := by
  show (StableHlo.after hostOps0 (W0 m ρ c) (Proc.devRef .tc main_v18) : Vec Ideal S1x1024 .f32) (ix2 0 d) = _
  simp only [hostOps0]
  after_results_simp
  pointwise

theorem V1_wval (d e : Fin 1024) : (V1 m ρ c main_v19 : Vec Ideal S1024x1024 .bf16) (ix2 d e) = aWi m c (ix2 d ⟨e.val, by omega⟩) := by
  show (StableHlo.after hostOps0 (W0 m ρ c) (Proc.devRef .tc main_v19) : Vec Ideal S1024x1024 .bf16) (ix2 d e) = _
  simp only [hostOps0]
  after_results_simp
  pointwise

theorem V1_wgate (d e : Fin 1024) : (V1 m ρ c main_v20 : Vec Ideal S1024x1024 .bf16) (ix2 d e) = aWi m c (ix2 d ⟨1024 + e.val, by omega⟩) := by
  show (StableHlo.after hostOps0 (W0 m ρ c) (Proc.devRef .tc main_v20) : Vec Ideal S1024x1024 .bf16) (ix2 d e) = _
  simp only [hostOps0]
  after_results_simp
  pointwise

theorem V1_wcq (d : Fin 1024) (e : Fin 256) : (V1 m ρ c main_v21 : Vec Ideal S1024x256 .bf16) (ix2 d e) = aWi m c (ix2 d ⟨2048 + e.val, by omega⟩) := by
  show (StableHlo.after hostOps0 (W0 m ρ c) (Proc.devRef .tc main_v21) : Vec Ideal S1024x256 .bf16) (ix2 d e) = _
  simp only [hostOps0]
  after_results_simp
  pointwise

theorem V1_wg (d : Fin 1024) (e : Fin 2048) : (V1 m ρ c main_v22 : Vec Ideal S1024x2048 .bf16) (ix2 d e) = aWi m c (ix2 d ⟨2496 + e.val, by omega⟩) := by
  show (StableHlo.after hostOps0 (W0 m ρ c) (Proc.devRef .tc main_v22) : Vec Ideal S1024x2048 .bf16) (ix2 d e) = _
  simp only [hostOps0]
  after_results_simp
  pointwise

theorem V1_bg (e : Fin 2048) : (V1 m ρ c main_v23 : Vec Ideal S1x2048 .f32) (ix2 0 e) = aB m c (ix1 e) := by
  show (StableHlo.after hostOps0 (W0 m ρ c) (Proc.devRef .tc main_v23) : Vec Ideal S1x2048 .f32) (ix2 0 e) = _
  simp only [hostOps0]
  after_results_simp
  pointwise

/-- The columns of the key and value latents, of the rotated key, and of the rotated key turned by a right angle. -/
theorem V1_wckv (d : Fin 1024) (e : Fin 384) : (V1 m ρ c main_v17 : Vec Ideal S1024x384 .bf16) (ix2 d e) =
    if h : e.val < 128 then aWi m c (ix2 d ⟨2304 + e.val, by omega⟩)
    else if h : e.val - 128 < 64 then aWi m c (ix2 d ⟨2432 + (e.val - 128), by omega⟩)
    else if h : e.val - 128 - 64 < 64 then 0
    else if h : e.val - 128 - 64 - 64 < 64 then
      (if h : e.val - 128 - 64 - 64 < 32 then -(aWi m c (ix2 d ⟨2432 + (32 + (e.val - 128 - 64 - 64)), by omega⟩) : EReal)
      else aWi m c (ix2 d ⟨2432 + (e.val - 128 - 64 - 64 - 32), by omega⟩))
    else (0 : EReal) := by
  show (StableHlo.after hostOps0 (W0 m ρ c) (Proc.devRef .tc main_v17) : Vec Ideal S1024x384 .bf16) (ix2 d e) = _
  simp only [hostOps0]
  after_results_simp
  pointwise
  after_results_simp
  pointwise

/-- An argument is as launched when the second stretch of host operations begins; the paddings are zeros. -/
theorem W2_a5 : W2 m ρ c (Proc.devRef .tc main_arg5) = m ((c : Thread nD τ).loc main_arg5) := W2_args m ρ c main_arg5 (by decide)
theorem W2_a6 : W2 m ρ c (Proc.devRef .tc main_arg6) = m ((c : Thread nD τ).loc main_arg6) := W2_args m ρ c main_arg6 (by decide)
theorem W2_a7 : W2 m ρ c (Proc.devRef .tc main_arg7) = m ((c : Thread nD τ).loc main_arg7) := W2_args m ρ c main_arg7 (by decide)
theorem W2_a8 : W2 m ρ c (Proc.devRef .tc main_arg8) = m ((c : Thread nD τ).loc main_arg8) := W2_args m ρ c main_arg8 (by decide)
theorem W2_pad2 : W2 m ρ c (Proc.devRef .tc main_cst_2) = (constant (F := Ideal) S256x8x64 .bf16 0x0000#16) := by
  refine (W2_of_ne m ρ c main_cst_2 (by decide)).trans ?_
  show StableHlo.after hostOps0 (W0 m ρ c) (Proc.devRef .tc main_cst_2) = _
  simp only [hostOps0]
  after_results_simp
theorem W2_pad3 : W2 m ρ c (Proc.devRef .tc main_cst_3) = (constant (F := Ideal) S256x8x64 .bf16 0x0000#16) := by
  refine (W2_of_ne m ρ c main_cst_3 (by decide)).trans ?_
  show StableHlo.after hostOps0 (W0 m ρ c) (Proc.devRef .tc main_cst_3) = _
  simp only [hostOps0]
  after_results_simp

theorem V3_gq (d : Fin 256) : (V3 m ρ c main_v42 : Vec Ideal S1x256 .f32) (ix2 0 d) = aQg m c (ix1 d) := by
  show (StableHlo.after hostOps1 (W2 m ρ c) (Proc.devRef .tc main_v42) : Vec Ideal S1x256 .f32) (ix2 0 d) = _
  simp only [hostOps1]
  after_results_simp
  pointwise
  exact congrFun (W2_a5 m ρ c) _

theorem V3_gkv (d : Fin 128) : (V3 m ρ c main_v43 : Vec Ideal S1x128 .f32) (ix2 0 d) = aKg m c (ix1 d) := by
  show (StableHlo.after hostOps1 (W2 m ρ c) (Proc.devRef .tc main_v43) : Vec Ideal S1x128 .f32) (ix2 0 d) = _
  simp only [hostOps1]
  after_results_simp
  pointwise
  exact congrFun (W2_a7 m ρ c) _

/-- A head's query columns, padded with zeros. -/
theorem V3_wq (d : Fin 256) (e : Fin 2048) : (V3 m ρ c main_v28 : Vec Ideal S256x2048 .bf16) (ix2 d e) =
    if h : e.val % 256 < 192 then aUq m c (ix2 d ⟨e.val / 256 * 192 + e.val % 256, by omega⟩) else (0 : EReal) := by
  show (StableHlo.after hostOps1 (W2 m ρ c) (Proc.devRef .tc main_v28) : Vec Ideal S256x2048 .bf16) (ix2 d e) = _
  simp only [hostOps1]
  after_results_simp
  pointwise
  after_results_simp
  rw [W2_a6, W2_pad2]
  pointwise

/-- A head's rotated query columns, turned by a right angle, padded with zeros. -/
theorem V3_wr (d : Fin 256) (e : Fin 1024) : (V3 m ρ c main_v35 : Vec Ideal S256x1024 .bf16) (ix2 d e) =
    if h : e.val % 128 < 64 then
      (if h : e.val % 128 < 32 then -(aUq m c (ix2 d ⟨e.val / 128 * 192 + (128 + (32 + e.val % 128)), by omega⟩) : EReal)
      else aUq m c (ix2 d ⟨e.val / 128 * 192 + (128 + (e.val % 128 - 32)), by omega⟩))
    else (0 : EReal) := by
  show (StableHlo.after hostOps1 (W2 m ρ c) (Proc.devRef .tc main_v35) : Vec Ideal S256x1024 .bf16) (ix2 d e) = _
  simp only [hostOps1]
  after_results
  rw [W2_a6, W2_pad3]
  pointwise

theorem V3_wk (d : Fin 128) (e : Fin 1024) : (V3 m ρ c main_v39 : Vec Ideal S128x1024 .bf16) (ix2 d e) = aUkv m c (ix2 d ⟨e.val / 128 * 256 + e.val % 128, by omega⟩) := by
  show (StableHlo.after hostOps1 (W2 m ρ c) (Proc.devRef .tc main_v39) : Vec Ideal S128x1024 .bf16) (ix2 d e) = _
  simp only [hostOps1]
  after_results_simp
  pointwise
  exact congrFun (W2_a8 m ρ c) _

theorem V3_wv (e : Fin 1024) (d : Fin 128) : (V3 m ρ c main_v44 : Vec Ideal S1024x128 .bf16) (ix2 e d) = aUkv m c (ix2 d ⟨e.val / 128 * 256 + (128 + e.val % 128), by omega⟩) := by
  show (StableHlo.after hostOps1 (W2 m ρ c) (Proc.devRef .tc main_v44) : Vec Ideal S1024x128 .bf16) (ix2 e d) = _
  simp only [hostOps1]
  after_results_simp
  pointwise
  exact congrFun (W2_a8 m ρ c) _

end Cert.KernelIdeal.Val

end
-- ==== Proof.InProj.lean ====
module

public import proofs.«01_k».proof.Proof.Gen.KernelIdeal.Frame
public import proofs.«01_k».proof.Proof.Spec
public import Idealize.ShloMosaic.Lib.Pipeline.Value

/-!
# The fused projection call, its four arrays as functions of its operands

The grid walks the 16384 tokens in blocks of 512; a block's rows read nothing but themselves and the weights, so every
array is one function of the operand arrays.
-/

@[expose] public section

set_option maxRecDepth 16384

noncomputable section

namespace Cert.KernelIdeal.Val

open Cert.KernelIdeal Cert.KernelIdeal.Gen Idealize.ShloMosaic Idealize.ShloMosaic.TcCoe Idealize.SL.Sem Cert.Spec

theorem z2 : (![0, 0] : Fin 2 → Nat) = fun _ => 0 := funext fun a => by fin_cases a <;> rfl

/-- The block of a window that walks the rows starts at row 512 t. -/
theorem idx0_row : ∀ t : Fin grid0.N, (cc0_transform_0 (grid0.coords t) 0 = t.val ∧ cc0_transform_0 (grid0.coords t) 1 = 0) ∧
    (cc0_transform_8 (grid0.coords t) 0 = t.val ∧ cc0_transform_8 (grid0.coords t) 1 = 0) ∧
    (cc0_transform_9 (grid0.coords t) 0 = t.val ∧ cc0_transform_9 (grid0.coords t) 1 = 0) ∧
    (cc0_transform_10 (grid0.coords t) 0 = t.val ∧ cc0_transform_10 (grid0.coords t) 1 = 0) ∧
    (cc0_transform_11 (grid0.coords t) 0 = t.val ∧ cc0_transform_11 (grid0.coords t) 1 = 0) := by
  decide +kernel

variable (V : (c : Dev nD) → (b : Ref sig .tc) → Buf (Elt Ideal) ((c : Thread nD τ).loc b))

theorem lt0 (t : Fin cfg0.N) : t.val < 32 := lt_of_lt_of_eq t.isLt N_0

/-- A row of a block of 512 is a row of the array. -/
abbrev row512 (t : ℕ) (ht : t < 32) (r : Fin 512) : Fin 16384 := ⟨512 * t + r.val, by omega⟩

theorem blk0_0 (c : Dev nD) (t : Fin cfg0.N) (r : Fin 512) (d : Fin 1024) :
    (iblk0 V c 0 t : Vec Ideal S512x1024 .f32) (ix2 r d) = (V c main_v9 : Vec Ideal S16384x1024 .f32) (ix2 (row512 t.val (lt0 t) r) d) := by
  have hi := (idx0_row t).1
  unfold iblk0
  rw [View.read_apply]
  show V c main_v9 _ = V c main_v9 _
  congr 1
  funext a
  apply Fin.ext
  match a with
  | ⟨0, _⟩ => show cc0_transform_0 (grid0.coords t) 0 * 512 + 1 * r.val = 512 * t.val + r.val; rw [hi.1]; omega
  | ⟨1, _⟩ => show cc0_transform_0 (grid0.coords t) 1 * 1024 + 1 * d.val = d.val; rw [hi.2]; omega

theorem blk0_1 (c : Dev nD) (t : Fin cfg0.N) : (iblk0 V c 1 t : Vec Ideal S1x1024 .f32) = V c main_v18 := by
  funext j
  unfold iblk0
  rw [View.read_apply]
  show V c main_v18 _ = V c main_v18 _
  congr 1
  funext a
  apply Fin.ext
  match a with
  | ⟨0, _⟩ => show 0 * 1 + 1 * (j 0).val = (j 0).val; omega
  | ⟨1, _⟩ => show 0 * 1024 + 1 * (j 1).val = (j 1).val; omega

theorem blk0_2 (c : Dev nD) (t : Fin cfg0.N) : (iblk0 V c 2 t : Vec Ideal S1024x1024 .bf16) = V c main_v19 := by
  funext j
  unfold iblk0
  rw [View.read_apply]
  show V c main_v19 _ = V c main_v19 _
  congr 1
  funext a
  apply Fin.ext
  match a with
  | ⟨0, _⟩ => show 0 * 1024 + 1 * (j 0).val = (j 0).val; omega
  | ⟨1, _⟩ => show 0 * 1024 + 1 * (j 1).val = (j 1).val; omega

theorem blk0_3 (c : Dev nD) (t : Fin cfg0.N) : (iblk0 V c 3 t : Vec Ideal S1024x1024 .bf16) = V c main_v20 := by
  funext j
  unfold iblk0
  rw [View.read_apply]
  show V c main_v20 _ = V c main_v20 _
  congr 1
  funext a
  apply Fin.ext
  match a with
  | ⟨0, _⟩ => show 0 * 1024 + 1 * (j 0).val = (j 0).val; omega
  | ⟨1, _⟩ => show 0 * 1024 + 1 * (j 1).val = (j 1).val; omega

theorem blk0_4 (c : Dev nD) (t : Fin cfg0.N) : (iblk0 V c 4 t : Vec Ideal S1024x256 .bf16) = V c main_v21 := by
  funext j
  unfold iblk0
  rw [View.read_apply]
  show V c main_v21 _ = V c main_v21 _
  congr 1
  funext a
  apply Fin.ext
  match a with
  | ⟨0, _⟩ => show 0 * 1024 + 1 * (j 0).val = (j 0).val; omega
  | ⟨1, _⟩ => show 0 * 256 + 1 * (j 1).val = (j 1).val; omega

theorem blk0_5 (c : Dev nD) (t : Fin cfg0.N) : (iblk0 V c 5 t : Vec Ideal S1024x384 .bf16) = V c main_v17 := by
  funext j
  unfold iblk0
  rw [View.read_apply]
  show V c main_v17 _ = V c main_v17 _
  congr 1
  funext a
  apply Fin.ext
  match a with
  | ⟨0, _⟩ => show 0 * 1024 + 1 * (j 0).val = (j 0).val; omega
  | ⟨1, _⟩ => show 0 * 384 + 1 * (j 1).val = (j 1).val; omega

theorem blk0_6 (c : Dev nD) (t : Fin cfg0.N) : (iblk0 V c 6 t : Vec Ideal S1024x2048 .bf16) = V c main_v22 := by
  funext j
  unfold iblk0
  rw [View.read_apply]
  show V c main_v22 _ = V c main_v22 _
  congr 1
  funext a
  apply Fin.ext
  match a with
  | ⟨0, _⟩ => show 0 * 1024 + 1 * (j 0).val = (j 0).val; omega
  | ⟨1, _⟩ => show 0 * 2048 + 1 * (j 1).val = (j 1).val; omega

theorem blk0_7 (c : Dev nD) (t : Fin cfg0.N) : (iblk0 V c 7 t : Vec Ideal S1x2048 .f32) = V c main_v23 := by
  funext j
  unfold iblk0
  rw [View.read_apply]
  show V c main_v23 _ = V c main_v23 _
  congr 1
  funext a
  apply Fin.ext
  match a with
  | ⟨0, _⟩ => show 0 * 1 + 1 * (j 0).val = (j 0).val; omega
  | ⟨1, _⟩ => show 0 * 2048 + 1 * (j 1).val = (j 1).val; omega

/-- A token's scaled row against one column of a weight array. -/
def projA (x : Vec Ideal S16384x1024 .f32) (g : Vec Ideal S1x1024 .f32) {n : ℕ} (w : Vec Ideal ⟨2, ![1024, n]⟩ .bf16)
    (r : Fin 16384) (e : Fin n) : EReal :=
  proj (fun d => x (ix2 r d)) (fun d => g (ix2 0 d)) (fun d => w (ix2 d e))

/-- The gated values, as an array. -/
def hgluA (x : Vec Ideal S16384x1024 .f32) (g : Vec Ideal S1x1024 .f32) (wv wg : Vec Ideal S1024x1024 .bf16) : Vec Ideal S16384x1024 .f32 :=
  fun i => projA x g wv (i 0) (i 1) * sigm (projA x g wg (i 0) (i 1))

/-- A plain projection, as an array. -/
def plainA (x : Vec Ideal S16384x1024 .f32) (g : Vec Ideal S1x1024 .f32) {n : ℕ} (w : Vec Ideal ⟨2, ![1024, n]⟩ .bf16) : Vec Ideal ⟨2, ![16384, n]⟩ .f32 :=
  fun i => projA x g w (i 0) (i 1)

/-- The gates, as an array. -/
def gatesA (x : Vec Ideal S16384x1024 .f32) (g : Vec Ideal S1x1024 .f32) (w : Vec Ideal S1024x2048 .bf16) (b : Vec Ideal S1x2048 .f32) : Vec Ideal S16384x2048 .bf16 :=
  fun i => sigm (projA x g w (i 0) (i 1) + b (ix2 0 (i 1)))

theorem G8_at (c : Dev nD) (t : Fin cfg0.N) (r : Fin 512) (e : Fin 1024) :
    (out0_8 (iblk0 V c 0 t) (iblk0 V c 1 t) (iblk0 V c 2 t) (iblk0 V c 3 t) (iblk0 V c 4 t) (iblk0 V c 5 t)
        (iblk0 V c 6 t) (iblk0 V c 7 t) : Vec Ideal S512x1024 .f32) (ix2 r e) = (hgluA (V c main_v9) (V c main_v18) (V c main_v19) (V c main_v20)) (ix2 (row512 t.val (lt0 t) r) e) := by
  rw [blk0_1, blk0_2, blk0_3, blk0_4, blk0_5, blk0_6, blk0_7]
  have hx := fun d => blk0_0 V c t r d
  generalize (iblk0 V c 0 t : Vec Ideal S512x1024 .f32) = x0 at hx ⊢
  unfold out0_8
  rw [View.canon_unit_zero z2]
  pointwise [k0_pay4, k0_pay3]
  simp only [hx, hgluA, projA, proj, rms, rinv, sigm, zero_sub]
  rfl

theorem final0_8 (c : Dev nD) : (dat0 V c).arrAt 8 cfg0.N = (hgluA (V c main_v9) (V c main_v18) (V c main_v19) (V c main_v20)) :=
  (dat0 V c).arrAt_eq_of_cover 8 (hgluA (V c main_v9) (V c main_v18) (V c main_v19) (V c main_v20)) (fun t _ => by
    show (cfg0.win 8).cut (grid0.coords t) ((dat0 V c).after 8 t) = _
    rw [after0_8]
    have hi := (idx0_row t).2.1
    funext j
    obtain ⟨r, e, rfl⟩ : ∃ (r : Fin 512) (e : Fin 1024), j = ix2 r e := ⟨j 0, j 1, eq_ix2 j⟩
    refine (G8_at V c t r e).trans ?_
    rw [View.read_apply]
    show (hgluA (V c main_v9) (V c main_v18) (V c main_v19) (V c main_v20)) _ = (hgluA (V c main_v9) (V c main_v18) (V c main_v19) (V c main_v20)) _
    congr 1
    funext a
    apply Fin.ext
    match a with
    | ⟨0, _⟩ => show 512 * t.val + r.val = cc0_transform_8 (grid0.coords t) 0 * 512 + 1 * r.val; rw [hi.1]; omega
    | ⟨1, _⟩ => show e.val = cc0_transform_8 (grid0.coords t) 1 * 1024 + 1 * e.val; rw [hi.2]; omega)
  fun i => by
    have h0 : (i 0 : Nat) < 16384 := (i 0).isLt
    have h1 : (i 1 : Nat) < 1024 := (i 1).isLt
    obtain ⟨t, htv⟩ : ∃ t : Fin cfg0.N, t.val = (i 0 : Nat) / 512 := ⟨⟨(i 0 : Nat) / 512, by rw [show cfg0.N = 32 from N_0]; omega⟩, rfl⟩
    refine ⟨t, flush0_8 _, ?_⟩
    have hi := (idx0_row t).2.1
    show i ∈ ((View.whole main_v24_0).slice (win0_8.rect t)).set
    rw [View.set_slice_whole, Rect.mem_set_unit]
    intro a
    match a with
    | ⟨0, _⟩ => show cc0_transform_8 (grid0.coords t) 0 * 512 ≤ (i 0 : Nat) ∧ (i 0 : Nat) < cc0_transform_8 (grid0.coords t) 0 * 512 + 512
                rw [hi.1]; omega
    | ⟨1, _⟩ => show cc0_transform_8 (grid0.coords t) 1 * 1024 ≤ (i 1 : Nat) ∧ (i 1 : Nat) < cc0_transform_8 (grid0.coords t) 1 * 1024 + 1024
                rw [hi.2]; omega

theorem G9_at (c : Dev nD) (t : Fin cfg0.N) (r : Fin 512) (e : Fin 256) :
    (out0_9 (iblk0 V c 0 t) (iblk0 V c 1 t) (iblk0 V c 2 t) (iblk0 V c 3 t) (iblk0 V c 4 t) (iblk0 V c 5 t)
        (iblk0 V c 6 t) (iblk0 V c 7 t) : Vec Ideal S512x256 .f32) (ix2 r e) = (plainA (V c main_v9) (V c main_v18) (n := 256) (V c main_v21)) (ix2 (row512 t.val (lt0 t) r) e) := by
  rw [blk0_1, blk0_2, blk0_3, blk0_4, blk0_5, blk0_6, blk0_7]
  have hx := fun d => blk0_0 V c t r d
  generalize (iblk0 V c 0 t : Vec Ideal S512x1024 .f32) = x0 at hx ⊢
  unfold out0_9
  rw [View.canon_unit_zero z2]
  pointwise [k0_pay5, k0_pay3]
  simp only [hx, plainA, projA, proj, rms, rinv, sigm, zero_sub]
  rfl

theorem final0_9 (c : Dev nD) : (dat0 V c).arrAt 9 cfg0.N = (plainA (V c main_v9) (V c main_v18) (n := 256) (V c main_v21)) :=
  (dat0 V c).arrAt_eq_of_cover 9 (plainA (V c main_v9) (V c main_v18) (n := 256) (V c main_v21)) (fun t _ => by
    show (cfg0.win 9).cut (grid0.coords t) ((dat0 V c).after 9 t) = _
    rw [after0_9]
    have hi := (idx0_row t).2.2.1
    funext j
    obtain ⟨r, e, rfl⟩ : ∃ (r : Fin 512) (e : Fin 256), j = ix2 r e := ⟨j 0, j 1, eq_ix2 j⟩
    refine (G9_at V c t r e).trans ?_
    rw [View.read_apply]
    show (plainA (V c main_v9) (V c main_v18) (n := 256) (V c main_v21)) _ = (plainA (V c main_v9) (V c main_v18) (n := 256) (V c main_v21)) _
    congr 1
    funext a
    apply Fin.ext
    match a with
    | ⟨0, _⟩ => show 512 * t.val + r.val = cc0_transform_9 (grid0.coords t) 0 * 512 + 1 * r.val; rw [hi.1]; omega
    | ⟨1, _⟩ => show e.val = cc0_transform_9 (grid0.coords t) 1 * 256 + 1 * e.val; rw [hi.2]; omega)
  fun i => by
    have h0 : (i 0 : Nat) < 16384 := (i 0).isLt
    have h1 : (i 1 : Nat) < 256 := (i 1).isLt
    obtain ⟨t, htv⟩ : ∃ t : Fin cfg0.N, t.val = (i 0 : Nat) / 512 := ⟨⟨(i 0 : Nat) / 512, by rw [show cfg0.N = 32 from N_0]; omega⟩, rfl⟩
    refine ⟨t, flush0_9 _, ?_⟩
    have hi := (idx0_row t).2.2.1
    show i ∈ ((View.whole main_v24_1).slice (win0_9.rect t)).set
    rw [View.set_slice_whole, Rect.mem_set_unit]
    intro a
    match a with
    | ⟨0, _⟩ => show cc0_transform_9 (grid0.coords t) 0 * 512 ≤ (i 0 : Nat) ∧ (i 0 : Nat) < cc0_transform_9 (grid0.coords t) 0 * 512 + 512
                rw [hi.1]; omega
    | ⟨1, _⟩ => show cc0_transform_9 (grid0.coords t) 1 * 256 ≤ (i 1 : Nat) ∧ (i 1 : Nat) < cc0_transform_9 (grid0.coords t) 1 * 256 + 256
                rw [hi.2]; omega

theorem G10_at (c : Dev nD) (t : Fin cfg0.N) (r : Fin 512) (e : Fin 384) :
    (out0_10 (iblk0 V c 0 t) (iblk0 V c 1 t) (iblk0 V c 2 t) (iblk0 V c 3 t) (iblk0 V c 4 t) (iblk0 V c 5 t)
        (iblk0 V c 6 t) (iblk0 V c 7 t) : Vec Ideal S512x384 .f32) (ix2 r e) = (plainA (V c main_v9) (V c main_v18) (n := 384) (V c main_v17)) (ix2 (row512 t.val (lt0 t) r) e) := by
  rw [blk0_1, blk0_2, blk0_3, blk0_4, blk0_5, blk0_6, blk0_7]
  have hx := fun d => blk0_0 V c t r d
  generalize (iblk0 V c 0 t : Vec Ideal S512x1024 .f32) = x0 at hx ⊢
  unfold out0_10
  rw [View.canon_unit_zero z2]
  pointwise [k0_pay6, k0_pay1, k0_pay3]
  simp only [hx, plainA, projA, proj, rms, rinv, sigm, zero_sub]
  rfl

theorem final0_10 (c : Dev nD) : (dat0 V c).arrAt 10 cfg0.N = (plainA (V c main_v9) (V c main_v18) (n := 384) (V c main_v17)) :=
  (dat0 V c).arrAt_eq_of_cover 10 (plainA (V c main_v9) (V c main_v18) (n := 384) (V c main_v17)) (fun t _ => by
    show (cfg0.win 10).cut (grid0.coords t) ((dat0 V c).after 10 t) = _
    rw [after0_10]
    have hi := (idx0_row t).2.2.2.1
    funext j
    obtain ⟨r, e, rfl⟩ : ∃ (r : Fin 512) (e : Fin 384), j = ix2 r e := ⟨j 0, j 1, eq_ix2 j⟩
    refine (G10_at V c t r e).trans ?_
    rw [View.read_apply]
    show (plainA (V c main_v9) (V c main_v18) (n := 384) (V c main_v17)) _ = (plainA (V c main_v9) (V c main_v18) (n := 384) (V c main_v17)) _
    congr 1
    funext a
    apply Fin.ext
    match a with
    | ⟨0, _⟩ => show 512 * t.val + r.val = cc0_transform_10 (grid0.coords t) 0 * 512 + 1 * r.val; rw [hi.1]; omega
    | ⟨1, _⟩ => show e.val = cc0_transform_10 (grid0.coords t) 1 * 384 + 1 * e.val; rw [hi.2]; omega)
  fun i => by
    have h0 : (i 0 : Nat) < 16384 := (i 0).isLt
    have h1 : (i 1 : Nat) < 384 := (i 1).isLt
    obtain ⟨t, htv⟩ : ∃ t : Fin cfg0.N, t.val = (i 0 : Nat) / 512 := ⟨⟨(i 0 : Nat) / 512, by rw [show cfg0.N = 32 from N_0]; omega⟩, rfl⟩
    refine ⟨t, flush0_10 _, ?_⟩
    have hi := (idx0_row t).2.2.2.1
    show i ∈ ((View.whole main_v24_2).slice (win0_10.rect t)).set
    rw [View.set_slice_whole, Rect.mem_set_unit]
    intro a
    match a with
    | ⟨0, _⟩ => show cc0_transform_10 (grid0.coords t) 0 * 512 ≤ (i 0 : Nat) ∧ (i 0 : Nat) < cc0_transform_10 (grid0.coords t) 0 * 512 + 512
                rw [hi.1]; omega
    | ⟨1, _⟩ => show cc0_transform_10 (grid0.coords t) 1 * 384 ≤ (i 1 : Nat) ∧ (i 1 : Nat) < cc0_transform_10 (grid0.coords t) 1 * 384 + 384
                rw [hi.2]; omega

theorem G11_at (c : Dev nD) (t : Fin cfg0.N) (r : Fin 512) (e : Fin 2048) :
    (out0_11 (iblk0 V c 0 t) (iblk0 V c 1 t) (iblk0 V c 2 t) (iblk0 V c 3 t) (iblk0 V c 4 t) (iblk0 V c 5 t)
        (iblk0 V c 6 t) (iblk0 V c 7 t) : Vec Ideal S512x2048 .bf16) (ix2 r e) = (gatesA (V c main_v9) (V c main_v18) (V c main_v22) (V c main_v23)) (ix2 (row512 t.val (lt0 t) r) e) := by
  rw [blk0_1, blk0_2, blk0_3, blk0_4, blk0_5, blk0_6, blk0_7]
  have hx := fun d => blk0_0 V c t r d
  generalize (iblk0 V c 0 t : Vec Ideal S512x1024 .f32) = x0 at hx ⊢
  unfold out0_11
  rw [View.canon_unit_zero z2]
  pointwise [k0_pay6, k0_pay2, k0_pay3]
  simp only [hx, gatesA, projA, proj, rms, rinv, sigm, zero_sub]
  rfl

theorem final0_11 (c : Dev nD) : (dat0 V c).arrAt 11 cfg0.N = (gatesA (V c main_v9) (V c main_v18) (V c main_v22) (V c main_v23)) :=
  (dat0 V c).arrAt_eq_of_cover 11 (gatesA (V c main_v9) (V c main_v18) (V c main_v22) (V c main_v23)) (fun t _ => by
    show (cfg0.win 11).cut (grid0.coords t) ((dat0 V c).after 11 t) = _
    rw [after0_11]
    have hi := (idx0_row t).2.2.2.2
    funext j
    obtain ⟨r, e, rfl⟩ : ∃ (r : Fin 512) (e : Fin 2048), j = ix2 r e := ⟨j 0, j 1, eq_ix2 j⟩
    refine (G11_at V c t r e).trans ?_
    rw [View.read_apply]
    show (gatesA (V c main_v9) (V c main_v18) (V c main_v22) (V c main_v23)) _ = (gatesA (V c main_v9) (V c main_v18) (V c main_v22) (V c main_v23)) _
    congr 1
    funext a
    apply Fin.ext
    match a with
    | ⟨0, _⟩ => show 512 * t.val + r.val = cc0_transform_11 (grid0.coords t) 0 * 512 + 1 * r.val; rw [hi.1]; omega
    | ⟨1, _⟩ => show e.val = cc0_transform_11 (grid0.coords t) 1 * 2048 + 1 * e.val; rw [hi.2]; omega)
  fun i => by
    have h0 : (i 0 : Nat) < 16384 := (i 0).isLt
    have h1 : (i 1 : Nat) < 2048 := (i 1).isLt
    obtain ⟨t, htv⟩ : ∃ t : Fin cfg0.N, t.val = (i 0 : Nat) / 512 := ⟨⟨(i 0 : Nat) / 512, by rw [show cfg0.N = 32 from N_0]; omega⟩, rfl⟩
    refine ⟨t, flush0_11 _, ?_⟩
    have hi := (idx0_row t).2.2.2.2
    show i ∈ ((View.whole main_v24_3).slice (win0_11.rect t)).set
    rw [View.set_slice_whole, Rect.mem_set_unit]
    intro a
    match a with
    | ⟨0, _⟩ => show cc0_transform_11 (grid0.coords t) 0 * 512 ≤ (i 0 : Nat) ∧ (i 0 : Nat) < cc0_transform_11 (grid0.coords t) 0 * 512 + 512
                rw [hi.1]; omega
    | ⟨1, _⟩ => show cc0_transform_11 (grid0.coords t) 1 * 2048 ≤ (i 1 : Nat) ∧ (i 1 : Nat) < cc0_transform_11 (grid0.coords t) 1 * 2048 + 2048
                rw [hi.2]; omega

end Cert.KernelIdeal.Val

end
-- ==== Proof.MlaBlock.lean ====
module

public import proofs.«01_k».proof.Proof.Gen.KernelIdeal.Frame
public import proofs.«01_k».proof.Proof.Spec
public import Idealize.ShloMosaic.Lib.Pipeline.Value
public import Idealize.ShloMosaic.Lib.Pipeline.ValueKit.Tiles

/-!
# The attention projection call: one block of 512 tokens

The queries, keys and values of a token as functions of its latents, its position and the weights, and the three blocks
of the call written with them: a head's queries and keys are 128 plain features and 128 rotated ones.
-/

@[expose] public section

set_option maxRecDepth 16384

noncomputable section

namespace Cert.KernelIdeal.Val

open Cert.KernelIdeal Cert.KernelIdeal.Gen Idealize.ShloMosaic Idealize.ShloMosaic.TcCoe Cert.Spec

/-- The factor of the queries. -/
abbrev qs : EReal := Named.named (F := Ideal) κ "qscale" (φ := .f32) 0x3DD53B95#32

section

variable {R : ℕ} (cq : Vec Ideal ⟨2, ![R, 256]⟩ .f32) (ckv : Vec Ideal ⟨2, ![R, 384]⟩ .f32) (pos : Vec Ideal ⟨2, ![R, 1]⟩ .i32)
    (invf : Vec Ideal S1x128 .f32) (gq : Vec Ideal S1x256 .f32) (wq : Vec Ideal S256x2048 .bf16) (wr : Vec Ideal S256x1024 .bf16)
    (gkv : Vec Ideal S1x128 .f32) (wk : Vec Ideal S128x1024 .bf16) (wv : Vec Ideal S1024x128 .bf16)

/-- The scaled query latent. -/
def qnT (r : Fin R) (d : Fin 256) : EReal := rms n256 (fun d => cq (ix2 r d)) (fun d => gq (ix2 0 d)) d

/-- The scaled key and value latent. -/
def kvnT (r : Fin R) (d : Fin 128) : EReal := rms n128 (fun d : Fin 128 => ckv (ix2 r ⟨d.val, by omega⟩)) (fun d => gkv (ix2 0 d)) d

/-- A query feature before rotation. -/
def qaT (r : Fin R) (e : Fin 2048) : EReal := ∑ d, qnT cq gq r d * wq (ix2 d e)

/-- A query feature turned by a right angle. -/
def qrT (r : Fin R) (e : Fin 1024) : EReal := ∑ d, qnT cq gq r d * wr (ix2 d e)

/-- A plain key feature. -/
def kaT (r : Fin R) (e : Fin 1024) : EReal := ∑ d, kvnT ckv gkv r d * wk (ix2 d e)

/-- A value feature. -/
def vaT (e : Fin 1024) (r : Fin R) : EReal := ∑ d, wv (ix2 e d) * kvnT ckv gkv r d

/-- The cosine of a token's angle. -/
def cosT (r : Fin R) (j : Fin 128) : EReal := FloatOps.cos (F := Ideal) (φ := .f32) (FloatOps.sitofp (F := Ideal) .f32 (pos (ix2 r 0)) * invf (ix2 0 j))

/-- The sine of a token's angle. -/
def sinT (r : Fin R) (j : Fin 128) : EReal := FloatOps.sin (F := Ideal) (φ := .f32) (FloatOps.sitofp (F := Ideal) .f32 (pos (ix2 r 0)) * invf (ix2 0 j))

/-- The rotated key, one for all heads. -/
def krT (r : Fin R) (j : Fin 128) : EReal :=
  ckv (ix2 r ⟨128 + j.val, by omega⟩) * cosT pos invf r j + ckv (ix2 r ⟨256 + j.val, by omega⟩) * sinT pos invf r j

/-- A query, scaled. -/
def qT (r : Fin R) (h : Fin 8) (d : Fin 256) : EReal :=
  if hd : d.val < 128 then qaT cq gq wq r ⟨256 * h.val + d.val, by omega⟩ * qs
  else (qaT cq gq wq r ⟨256 * h.val + d.val, by omega⟩ * cosT pos invf r ⟨d.val - 128, by omega⟩
    + qrT cq gq wr r ⟨128 * h.val + (d.val - 128), by omega⟩ * sinT pos invf r ⟨d.val - 128, by omega⟩) * qs

/-- A key. -/
def kT (r : Fin R) (h : Fin 8) (d : Fin 256) : EReal :=
  if hd : d.val < 128 then kaT ckv gkv wk r ⟨128 * h.val + d.val, by omega⟩
  else krT ckv pos invf r ⟨d.val - 128, by omega⟩

/-- A value. -/
def vT (r : Fin R) (h : Fin 8) (e : Fin 128) : EReal := vaT ckv gkv wv ⟨128 * h.val + e.val, by omega⟩ r

end

section

variable (cq : Vec Ideal S512x256 .f32) (ckv : Vec Ideal S512x384 .f32) (pos : Vec Ideal S512x1 .i32)
    (invf : Vec Ideal S1x128 .f32) (gq : Vec Ideal S1x256 .f32) (wq : Vec Ideal S256x2048 .bf16) (wr : Vec Ideal S256x1024 .bf16)
    (gkv : Vec Ideal S1x128 .f32) (wk : Vec Ideal S128x1024 .bf16) (wv : Vec Ideal S1024x128 .bf16)

theorem pay60_at (r : Fin 512) (d : Fin 256) : k1_pay60 (F := Ideal) cq ckv pos invf gq wq wr gkv wk wv (ix2 r d) = qnT cq gq r d := by
  unfold k1_pay60
  pointwise [k1_pay3]
  rfl

theorem pay61_at (r : Fin 512) (d : Fin 128) : k1_pay61 (F := Ideal) cq ckv pos invf gq wq wr gkv wk wv (ix2 r d) = kvnT ckv gkv r d := by
  unfold k1_pay61
  pointwise [k1_pay5, k1_pay4]
  simp only [kvnT, rms, rinv, Nat.zero_add]

theorem pay64_at (r : Fin 512) (j : Fin 128) : k1_pay64 (F := Ideal) cq ckv pos invf gq wq wr gkv wk wv (ix2 r j) = cosT pos invf r j := by
  unfold k1_pay64 k1_pay62 k1_pay63
  pointwise [k1_pay9, k1_pay8, k1_pay7, k1_pay6]
  rfl

theorem pay65_at (r : Fin 512) (j : Fin 128) : k1_pay65 (F := Ideal) cq ckv pos invf gq wq wr gkv wk wv (ix2 r j) = sinT pos invf r j := by
  unfold k1_pay65 k1_pay62 k1_pay63
  pointwise [k1_pay10, k1_pay8, k1_pay7, k1_pay6]
  rfl

theorem pay66_at (r : Fin 512) (j : Fin 128) : k1_pay66 (F := Ideal) cq ckv pos invf gq wq wr gkv wk wv (ix2 r j) = krT ckv pos invf r j := by
  unfold k1_pay66 k1_pay62 k1_pay63
  pointwise [k1_pay11, k1_pay10, k1_pay9, k1_pay8, k1_pay7, k1_pay6, k1_pay4]
  rfl

theorem pay67_at (r : Fin 512) (e : Fin 2048) : k1_pay67 (F := Ideal) cq ckv pos invf gq wq wr gkv wk wv (ix2 r e) = qaT cq gq wq r e := by
  unfold k1_pay67
  pointwise [k1_pay12]
  simp only [pay60_at]
  rfl

theorem pay68_at (r : Fin 512) (e : Fin 1024) : k1_pay68 (F := Ideal) cq ckv pos invf gq wq wr gkv wk wv (ix2 r e) = qrT cq gq wr r e := by
  unfold k1_pay68
  pointwise [k1_pay13]
  simp only [pay60_at]
  rfl

theorem pay69_at (r : Fin 512) (e : Fin 1024) : k1_pay69 (F := Ideal) cq ckv pos invf gq wq wr gkv wk wv (ix2 r e) = kaT ckv gkv wk r e := by
  unfold k1_pay69
  pointwise [k1_pay14]
  simp only [pay61_at]
  rfl

theorem pay70_at (e : Fin 1024) (r : Fin 512) : k1_pay70 (F := Ideal) cq ckv pos invf gq wq wr gkv wk wv (ix2 e r) = vaT ckv gkv wv e r := by
  unfold k1_pay70
  pointwise [k1_pay15]
  simp only [pay61_at]
  rfl

/-- A tile of a head's block sits at its head and its feature. -/
theorem emb_head (h : Fin 8) (o : ℕ) (inb : ∀ a, (![0, h.val, 0, o] : Fin 4 → ℕ) a + S1x1x512x128.size a ≤ S1x8x512x256.size a)
    (r : Fin 512) (d : Fin 128) (e : Fin 256) (he : e.val = o + d.val) :
    (Rect.unit (s := S1x8x512x256) ![0, h.val, 0, o] S1x1x512x128.size inb).emb (ix4 0 0 r d) = ix4 0 h r e := by
  funext a
  apply Fin.ext
  match a with
  | ⟨0, _⟩ => rfl
  | ⟨1, _⟩ => rfl
  | ⟨2, _⟩ => show 0 + 1 * r.val = r.val; omega
  | ⟨3, _⟩ => show o + 1 * d.val = e.val; omega

theorem emb_headT (h : Fin 8) (inb : ∀ a, (![0, h.val, 0, 0] : Fin 4 → ℕ) a + S1x1x128x512.size a ≤ S1x8x128x512.size a)
    (e : Fin 128) (r : Fin 512) :
    (Rect.unit (s := S1x8x128x512) ![0, h.val, 0, 0] S1x1x128x512.size inb).emb (ix4 0 0 e r) = ix4 0 h e r := by
  funext a
  apply Fin.ext
  match a with
  | ⟨0, _⟩ => rfl
  | ⟨1, _⟩ => rfl
  | ⟨2, _⟩ => show 0 + 1 * e.val = e.val; omega
  | ⟨3, _⟩ => show 0 + 1 * r.val = r.val; omega

/-- A piece whose payload is a function's values at head `h` and features from `o` on. -/
theorem tile_at {G : Fin 512 → Fin 8 → Fin 256 → EReal} (y : S1x8x512x256.Idx) (h : Fin 8) (o : ℕ)
    (inb : ∀ a, (![0, h.val, 0, o] : Fin 4 → ℕ) a + S1x1x512x128.size a ≤ S1x8x512x256.size a) (P : Vec Ideal S1x1x512x128 .bf16)
    (hP : ∀ (r : Fin 512) (d : Fin 128) (e : Fin 256), e.val = o + d.val → P (ix4 0 0 r d) = G r h e) :
    View.RectAt (Val := Elt Ideal) (e := .bf16) y (Rect.unit (s := S1x8x512x256) ![0, h.val, 0, o] S1x1x512x128.size inb) P (G (y 2) (y 1) (y 3)) := by
  intro x hx
  obtain ⟨u0, u1, r, d, rfl⟩ : ∃ (u0 : Fin 1) (u1 : Fin 1) (r : Fin 512) (d : Fin 128), x = ix4 u0 u1 r d := ⟨x 0, x 1, x 2, x 3, eq_ix4 x⟩
  obtain rfl : u0 = 0 := Subsingleton.elim _ _
  obtain rfl : u1 = 0 := Subsingleton.elim _ _
  have hb : o + 128 ≤ 256 := inb 3
  rw [← hx, emb_head h o inb r d ⟨o + d.val, by omega⟩ rfl]
  exact hP r d _ rfl

theorem tile_atT {G : Fin 512 → Fin 8 → Fin 128 → EReal} (y : S1x8x128x512.Idx) (h : Fin 8)
    (inb : ∀ a, (![0, h.val, 0, 0] : Fin 4 → ℕ) a + S1x1x128x512.size a ≤ S1x8x128x512.size a) (P : Vec Ideal S1x1x128x512 .bf16)
    (hP : ∀ (r : Fin 512) (e : Fin 128), P (ix4 0 0 e r) = G r h e) :
    View.RectAt (Val := Elt Ideal) (e := .bf16) y (Rect.unit (s := S1x8x128x512) ![0, h.val, 0, 0] S1x1x128x512.size inb) P (G (y 3) (y 1) (y 2)) := by
  intro x hx
  obtain ⟨u0, u1, e, r, rfl⟩ : ∃ (u0 : Fin 1) (u1 : Fin 1) (e : Fin 128) (r : Fin 512), x = ix4 u0 u1 e r := ⟨x 0, x 1, x 2, x 3, eq_ix4 x⟩
  obtain rfl : u0 = 0 := Subsingleton.elim _ _
  obtain rfl : u1 = 0 := Subsingleton.elim _ _
  rw [← hx, emb_headT h inb e r]
  exact hP r e

/-- The plain features of a head, scaled. -/
theorem q_plain (r : Fin 512) (h : Fin 8) (d : Fin 128) (e : Fin 256) (he : e.val = 0 + d.val) (i : Fin 2048) (hi : i.val = 256 * h.val + d.val) :
    qT cq pos invf gq wq wr r h e = qaT cq gq wq r i * qs := by
  unfold qT
  rw [dif_pos (by omega)]
  congr 3
  omega

/-- The rotated features of a head, scaled. -/
theorem q_rot (r : Fin 512) (h : Fin 8) (d : Fin 128) (e : Fin 256) (he : e.val = 128 + d.val) (i : Fin 2048) (hi : i.val = 256 * h.val + 128 + d.val)
    (j : Fin 1024) (hj : j.val = 128 * h.val + d.val) :
    qT cq pos invf gq wq wr r h e = (qaT cq gq wq r i * cosT pos invf r d + qrT cq gq wr r j * sinT pos invf r d) * qs := by
  unfold qT
  rw [dif_neg (by omega)]
  have ei : (⟨256 * h.val + e.val, by omega⟩ : Fin 2048) = i := Fin.ext (by show 256 * h.val + e.val = i.val; omega)
  have ej : (⟨128 * h.val + (e.val - 128), by omega⟩ : Fin 1024) = j := Fin.ext (by show 128 * h.val + (e.val - 128) = j.val; omega)
  have ed : (⟨e.val - 128, by omega⟩ : Fin 128) = d := Fin.ext (by show e.val - 128 = d.val; omega)
  rw [ei, ej, ed]

theorem k_plain (r : Fin 512) (h : Fin 8) (d : Fin 128) (e : Fin 256) (he : e.val = 0 + d.val) (i : Fin 1024) (hi : i.val = 128 * h.val + d.val) :
    kT ckv pos invf gkv wk r h e = kaT ckv gkv wk r i := by
  unfold kT
  rw [dif_pos (by omega)]
  congr 2
  omega

theorem k_rot (r : Fin 512) (h : Fin 8) (d : Fin 128) (e : Fin 256) (he : e.val = 128 + d.val) :
    kT ckv pos invf gkv wk r h e = krT ckv pos invf r d := by
  unfold kT
  rw [dif_neg (by omega)]
  congr 2
  omega

theorem out1_10_at (y : S1x8x512x256.Idx) : out1_10 (F := Ideal) cq ckv pos invf gq wq wr gkv wk wv y = qT cq pos invf gq wq wr (y 2) (y 1) (y 3) := by
  unfold out1_10
  refine View.canon_eq_of_allAt _ y _ (cover1_10 (F := Ideal) _ _ _ _ _ _ _ _ _ _ _ _ _ _ _ _ y) ?_
  refine View.allAt_cons _ _ _ (tile_at (G := qT cq pos invf gq wq wr) y 7 128 inb_S1x8x512x256_S1x1x512x128_0_7_0_128 _ (fun r d e he => by
    refine Eq.trans ?_ (q_rot cq pos invf gq wq wr r 7 d e he ⟨1920 + d.val, by omega⟩ (by show 1920 + d.val = 256 * 7 + 128 + d.val; omega) ⟨896 + d.val, by omega⟩ (by show 896 + d.val = 128 * 7 + d.val; omega)).symm
    rw [← pay67_at cq ckv pos invf gq wq wr gkv wk wv, ← pay68_at cq ckv pos invf gq wq wr gkv wk wv, ← pay64_at cq ckv pos invf gq wq wr gkv wk wv, ← pay65_at cq ckv pos invf gq wq wr gkv wk wv]
    pointwise [k1_pay58])) ?_
  refine View.allAt_cons _ _ _ (tile_at (G := qT cq pos invf gq wq wr) y 7 0 inb_S1x8x512x256_S1x1x512x128_0_7_0_0 _ (fun r d e he => by
    refine Eq.trans ?_ (q_plain cq pos invf gq wq wr r 7 d e he ⟨1792 + d.val, by omega⟩ (by show 1792 + d.val = 256 * 7 + d.val; omega)).symm
    rw [← pay67_at cq ckv pos invf gq wq wr gkv wk wv]
    pointwise [k1_pay57])) ?_
  refine View.allAt_cons _ _ _ (tile_at (G := qT cq pos invf gq wq wr) y 6 128 inb_S1x8x512x256_S1x1x512x128_0_6_0_128 _ (fun r d e he => by
    refine Eq.trans ?_ (q_rot cq pos invf gq wq wr r 6 d e he ⟨1664 + d.val, by omega⟩ (by show 1664 + d.val = 256 * 6 + 128 + d.val; omega) ⟨768 + d.val, by omega⟩ (by show 768 + d.val = 128 * 6 + d.val; omega)).symm
    rw [← pay67_at cq ckv pos invf gq wq wr gkv wk wv, ← pay68_at cq ckv pos invf gq wq wr gkv wk wv, ← pay64_at cq ckv pos invf gq wq wr gkv wk wv, ← pay65_at cq ckv pos invf gq wq wr gkv wk wv]
    pointwise [k1_pay52])) ?_
  refine View.allAt_cons _ _ _ (tile_at (G := qT cq pos invf gq wq wr) y 6 0 inb_S1x8x512x256_S1x1x512x128_0_6_0_0 _ (fun r d e he => by
    refine Eq.trans ?_ (q_plain cq pos invf gq wq wr r 6 d e he ⟨1536 + d.val, by omega⟩ (by show 1536 + d.val = 256 * 6 + d.val; omega)).symm
    rw [← pay67_at cq ckv pos invf gq wq wr gkv wk wv]
    pointwise [k1_pay51])) ?_
  refine View.allAt_cons _ _ _ (tile_at (G := qT cq pos invf gq wq wr) y 5 128 inb_S1x8x512x256_S1x1x512x128_0_5_0_128 _ (fun r d e he => by
    refine Eq.trans ?_ (q_rot cq pos invf gq wq wr r 5 d e he ⟨1408 + d.val, by omega⟩ (by show 1408 + d.val = 256 * 5 + 128 + d.val; omega) ⟨640 + d.val, by omega⟩ (by show 640 + d.val = 128 * 5 + d.val; omega)).symm
    rw [← pay67_at cq ckv pos invf gq wq wr gkv wk wv, ← pay68_at cq ckv pos invf gq wq wr gkv wk wv, ← pay64_at cq ckv pos invf gq wq wr gkv wk wv, ← pay65_at cq ckv pos invf gq wq wr gkv wk wv]
    pointwise [k1_pay46])) ?_
  refine View.allAt_cons _ _ _ (tile_at (G := qT cq pos invf gq wq wr) y 5 0 inb_S1x8x512x256_S1x1x512x128_0_5_0_0 _ (fun r d e he => by
    refine Eq.trans ?_ (q_plain cq pos invf gq wq wr r 5 d e he ⟨1280 + d.val, by omega⟩ (by show 1280 + d.val = 256 * 5 + d.val; omega)).symm
    rw [← pay67_at cq ckv pos invf gq wq wr gkv wk wv]
    pointwise [k1_pay45])) ?_
  refine View.allAt_cons _ _ _ (tile_at (G := qT cq pos invf gq wq wr) y 4 128 inb_S1x8x512x256_S1x1x512x128_0_4_0_128 _ (fun r d e he => by
    refine Eq.trans ?_ (q_rot cq pos invf gq wq wr r 4 d e he ⟨1152 + d.val, by omega⟩ (by show 1152 + d.val = 256 * 4 + 128 + d.val; omega) ⟨512 + d.val, by omega⟩ (by show 512 + d.val = 128 * 4 + d.val; omega)).symm
    rw [← pay67_at cq ckv pos invf gq wq wr gkv wk wv, ← pay68_at cq ckv pos invf gq wq wr gkv wk wv, ← pay64_at cq ckv pos invf gq wq wr gkv wk wv, ← pay65_at cq ckv pos invf gq wq wr gkv wk wv]
    pointwise [k1_pay40])) ?_
  refine View.allAt_cons _ _ _ (tile_at (G := qT cq pos invf gq wq wr) y 4 0 inb_S1x8x512x256_S1x1x512x128_0_4_0_0 _ (fun r d e he => by
    refine Eq.trans ?_ (q_plain cq pos invf gq wq wr r 4 d e he ⟨1024 + d.val, by omega⟩ (by show 1024 + d.val = 256 * 4 + d.val; omega)).symm
    rw [← pay67_at cq ckv pos invf gq wq wr gkv wk wv]
    pointwise [k1_pay39])) ?_
  refine View.allAt_cons _ _ _ (tile_at (G := qT cq pos invf gq wq wr) y 3 128 inb_S1x8x512x256_S1x1x512x128_0_3_0_128 _ (fun r d e he => by
    refine Eq.trans ?_ (q_rot cq pos invf gq wq wr r 3 d e he ⟨896 + d.val, by omega⟩ (by show 896 + d.val = 256 * 3 + 128 + d.val; omega) ⟨384 + d.val, by omega⟩ (by show 384 + d.val = 128 * 3 + d.val; omega)).symm
    rw [← pay67_at cq ckv pos invf gq wq wr gkv wk wv, ← pay68_at cq ckv pos invf gq wq wr gkv wk wv, ← pay64_at cq ckv pos invf gq wq wr gkv wk wv, ← pay65_at cq ckv pos invf gq wq wr gkv wk wv]
    pointwise [k1_pay34])) ?_
  refine View.allAt_cons _ _ _ (tile_at (G := qT cq pos invf gq wq wr) y 3 0 inb_S1x8x512x256_S1x1x512x128_0_3_0_0 _ (fun r d e he => by
    refine Eq.trans ?_ (q_plain cq pos invf gq wq wr r 3 d e he ⟨768 + d.val, by omega⟩ (by show 768 + d.val = 256 * 3 + d.val; omega)).symm
    rw [← pay67_at cq ckv pos invf gq wq wr gkv wk wv]
    pointwise [k1_pay33])) ?_
  refine View.allAt_cons _ _ _ (tile_at (G := qT cq pos invf gq wq wr) y 2 128 inb_S1x8x512x256_S1x1x512x128_0_2_0_128 _ (fun r d e he => by
    refine Eq.trans ?_ (q_rot cq pos invf gq wq wr r 2 d e he ⟨640 + d.val, by omega⟩ (by show 640 + d.val = 256 * 2 + 128 + d.val; omega) ⟨256 + d.val, by omega⟩ (by show 256 + d.val = 128 * 2 + d.val; omega)).symm
    rw [← pay67_at cq ckv pos invf gq wq wr gkv wk wv, ← pay68_at cq ckv pos invf gq wq wr gkv wk wv, ← pay64_at cq ckv pos invf gq wq wr gkv wk wv, ← pay65_at cq ckv pos invf gq wq wr gkv wk wv]
    pointwise [k1_pay29])) ?_
  refine View.allAt_cons _ _ _ (tile_at (G := qT cq pos invf gq wq wr) y 2 0 inb_S1x8x512x256_S1x1x512x128_0_2_0_0 _ (fun r d e he => by
    refine Eq.trans ?_ (q_plain cq pos invf gq wq wr r 2 d e he ⟨512 + d.val, by omega⟩ (by show 512 + d.val = 256 * 2 + d.val; omega)).symm
    rw [← pay67_at cq ckv pos invf gq wq wr gkv wk wv]
    pointwise [k1_pay28])) ?_
  refine View.allAt_cons _ _ _ (tile_at (G := qT cq pos invf gq wq wr) y 1 128 inb_S1x8x512x256_S1x1x512x128_0_1_0_128 _ (fun r d e he => by
    refine Eq.trans ?_ (q_rot cq pos invf gq wq wr r 1 d e he ⟨384 + d.val, by omega⟩ (by show 384 + d.val = 256 * 1 + 128 + d.val; omega) ⟨128 + d.val, by omega⟩ (by show 128 + d.val = 128 * 1 + d.val; omega)).symm
    rw [← pay67_at cq ckv pos invf gq wq wr gkv wk wv, ← pay68_at cq ckv pos invf gq wq wr gkv wk wv, ← pay64_at cq ckv pos invf gq wq wr gkv wk wv, ← pay65_at cq ckv pos invf gq wq wr gkv wk wv]
    pointwise [k1_pay24, k1_pay23])) ?_
  refine View.allAt_cons _ _ _ (tile_at (G := qT cq pos invf gq wq wr) y 1 0 inb_S1x8x512x256_S1x1x512x128_0_1_0_0 _ (fun r d e he => by
    refine Eq.trans ?_ (q_plain cq pos invf gq wq wr r 1 d e he ⟨256 + d.val, by omega⟩ (by show 256 + d.val = 256 * 1 + d.val; omega)).symm
    rw [← pay67_at cq ckv pos invf gq wq wr gkv wk wv]
    pointwise [k1_pay22])) ?_
  refine View.allAt_cons _ _ _ (tile_at (G := qT cq pos invf gq wq wr) y 0 128 inb_S1x8x512x256_S1x1x512x128_0_0_0_128 _ (fun r d e he => by
    refine Eq.trans ?_ (q_rot cq pos invf gq wq wr r 0 d e he ⟨128 + d.val, by omega⟩ (by show 128 + d.val = 256 * 0 + 128 + d.val; omega) ⟨0 + d.val, by omega⟩ (by show 0 + d.val = 128 * 0 + d.val; omega)).symm
    rw [← pay67_at cq ckv pos invf gq wq wr gkv wk wv, ← pay68_at cq ckv pos invf gq wq wr gkv wk wv, ← pay64_at cq ckv pos invf gq wq wr gkv wk wv, ← pay65_at cq ckv pos invf gq wq wr gkv wk wv]
    unfold k1_pay67 k1_pay68 k1_pay64 k1_pay65
    pointwise [k1_pay18, k1_pay17])) ?_
  refine View.allAt_cons _ _ _ (tile_at (G := qT cq pos invf gq wq wr) y 0 0 inb_S1x8x512x256_S1x1x512x128_0_0_0_0 _ (fun r d e he => by
    refine Eq.trans ?_ (q_plain cq pos invf gq wq wr r 0 d e he ⟨0 + d.val, by omega⟩ (by show 0 + d.val = 256 * 0 + d.val; omega)).symm
    rw [← pay67_at cq ckv pos invf gq wq wr gkv wk wv]
    unfold k1_pay67
    pointwise [k1_pay16])) ?_
  exact View.allAt_nil _ _

theorem out1_11_at (y : S1x8x512x256.Idx) : out1_11 (F := Ideal) cq ckv pos invf gq wq wr gkv wk wv y = kT ckv pos invf gkv wk (y 2) (y 1) (y 3) := by
  unfold out1_11
  refine View.canon_eq_of_allAt _ y _ (cover1_11 (F := Ideal) _ _ _ _ _ _ _ _ _ _ _ _ _ _ _ _ y) ?_
  refine View.allAt_cons _ _ _ (tile_at (G := kT ckv pos invf gkv wk) y 7 128 inb_S1x8x512x256_S1x1x512x128_0_7_0_128 _ (fun r d e he => by
    refine Eq.trans ?_ (k_rot ckv pos invf gkv wk r 7 d e he).symm
    rw [← pay66_at cq ckv pos invf gq wq wr gkv wk wv]
    pointwise [k1_pay1])) ?_
  refine View.allAt_cons _ _ _ (tile_at (G := kT ckv pos invf gkv wk) y 7 0 inb_S1x8x512x256_S1x1x512x128_0_7_0_0 _ (fun r d e he => by
    refine Eq.trans ?_ (k_plain ckv pos invf gkv wk r 7 d e he ⟨896 + d.val, by omega⟩ (by show 896 + d.val = 128 * 7 + d.val; omega)).symm
    rw [← pay69_at cq ckv pos invf gq wq wr gkv wk wv]
    pointwise [k1_pay59])) ?_
  refine View.allAt_cons _ _ _ (tile_at (G := kT ckv pos invf gkv wk) y 6 128 inb_S1x8x512x256_S1x1x512x128_0_6_0_128 _ (fun r d e he => by
    refine Eq.trans ?_ (k_rot ckv pos invf gkv wk r 6 d e he).symm
    rw [← pay66_at cq ckv pos invf gq wq wr gkv wk wv]
    pointwise [k1_pay55])) ?_
  refine View.allAt_cons _ _ _ (tile_at (G := kT ckv pos invf gkv wk) y 6 0 inb_S1x8x512x256_S1x1x512x128_0_6_0_0 _ (fun r d e he => by
    refine Eq.trans ?_ (k_plain ckv pos invf gkv wk r 6 d e he ⟨768 + d.val, by omega⟩ (by show 768 + d.val = 128 * 6 + d.val; omega)).symm
    rw [← pay69_at cq ckv pos invf gq wq wr gkv wk wv]
    pointwise [k1_pay54, k1_pay53])) ?_
  refine View.allAt_cons _ _ _ (tile_at (G := kT ckv pos invf gkv wk) y 5 128 inb_S1x8x512x256_S1x1x512x128_0_5_0_128 _ (fun r d e he => by
    refine Eq.trans ?_ (k_rot ckv pos invf gkv wk r 5 d e he).symm
    rw [← pay66_at cq ckv pos invf gq wq wr gkv wk wv]
    pointwise [k1_pay49])) ?_
  refine View.allAt_cons _ _ _ (tile_at (G := kT ckv pos invf gkv wk) y 5 0 inb_S1x8x512x256_S1x1x512x128_0_5_0_0 _ (fun r d e he => by
    refine Eq.trans ?_ (k_plain ckv pos invf gkv wk r 5 d e he ⟨640 + d.val, by omega⟩ (by show 640 + d.val = 128 * 5 + d.val; omega)).symm
    rw [← pay69_at cq ckv pos invf gq wq wr gkv wk wv]
    pointwise [k1_pay48, k1_pay47])) ?_
  refine View.allAt_cons _ _ _ (tile_at (G := kT ckv pos invf gkv wk) y 4 128 inb_S1x8x512x256_S1x1x512x128_0_4_0_128 _ (fun r d e he => by
    refine Eq.trans ?_ (k_rot ckv pos invf gkv wk r 4 d e he).symm
    rw [← pay66_at cq ckv pos invf gq wq wr gkv wk wv]
    pointwise [k1_pay43])) ?_
  refine View.allAt_cons _ _ _ (tile_at (G := kT ckv pos invf gkv wk) y 4 0 inb_S1x8x512x256_S1x1x512x128_0_4_0_0 _ (fun r d e he => by
    refine Eq.trans ?_ (k_plain ckv pos invf gkv wk r 4 d e he ⟨512 + d.val, by omega⟩ (by show 512 + d.val = 128 * 4 + d.val; omega)).symm
    rw [← pay69_at cq ckv pos invf gq wq wr gkv wk wv]
    pointwise [k1_pay42, k1_pay41])) ?_
  refine View.allAt_cons _ _ _ (tile_at (G := kT ckv pos invf gkv wk) y 3 128 inb_S1x8x512x256_S1x1x512x128_0_3_0_128 _ (fun r d e he => by
    refine Eq.trans ?_ (k_rot ckv pos invf gkv wk r 3 d e he).symm
    rw [← pay66_at cq ckv pos invf gq wq wr gkv wk wv]
    pointwise [k1_pay37])) ?_
  refine View.allAt_cons _ _ _ (tile_at (G := kT ckv pos invf gkv wk) y 3 0 inb_S1x8x512x256_S1x1x512x128_0_3_0_0 _ (fun r d e he => by
    refine Eq.trans ?_ (k_plain ckv pos invf gkv wk r 3 d e he ⟨384 + d.val, by omega⟩ (by show 384 + d.val = 128 * 3 + d.val; omega)).symm
    rw [← pay69_at cq ckv pos invf gq wq wr gkv wk wv]
    pointwise [k1_pay36, k1_pay35])) ?_
  refine View.allAt_cons _ _ _ (tile_at (G := kT ckv pos invf gkv wk) y 2 128 inb_S1x8x512x256_S1x1x512x128_0_2_0_128 _ (fun r d e he => by
    refine Eq.trans ?_ (k_rot ckv pos invf gkv wk r 2 d e he).symm
    rw [← pay66_at cq ckv pos invf gq wq wr gkv wk wv]
    pointwise [k1_pay31])) ?_
  refine View.allAt_cons _ _ _ (tile_at (G := kT ckv pos invf gkv wk) y 2 0 inb_S1x8x512x256_S1x1x512x128_0_2_0_0 _ (fun r d e he => by
    refine Eq.trans ?_ (k_plain ckv pos invf gkv wk r 2 d e he ⟨256 + d.val, by omega⟩ (by show 256 + d.val = 128 * 2 + d.val; omega)).symm
    rw [← pay69_at cq ckv pos invf gq wq wr gkv wk wv]
    pointwise [k1_pay30])) ?_
  refine View.allAt_cons _ _ _ (tile_at (G := kT ckv pos invf gkv wk) y 1 128 inb_S1x8x512x256_S1x1x512x128_0_1_0_128 _ (fun r d e he => by
    refine Eq.trans ?_ (k_rot ckv pos invf gkv wk r 1 d e he).symm
    rw [← pay66_at cq ckv pos invf gq wq wr gkv wk wv]
    pointwise [k1_pay26])) ?_
  refine View.allAt_cons _ _ _ (tile_at (G := kT ckv pos invf gkv wk) y 1 0 inb_S1x8x512x256_S1x1x512x128_0_1_0_0 _ (fun r d e he => by
    refine Eq.trans ?_ (k_plain ckv pos invf gkv wk r 1 d e he ⟨128 + d.val, by omega⟩ (by show 128 + d.val = 128 * 1 + d.val; omega)).symm
    rw [← pay69_at cq ckv pos invf gq wq wr gkv wk wv]
    pointwise [k1_pay25])) ?_
  refine View.allAt_cons _ _ _ (tile_at (G := kT ckv pos invf gkv wk) y 0 128 inb_S1x8x512x256_S1x1x512x128_0_0_0_128 _ (fun r d e he => by
    refine Eq.trans ?_ (k_rot ckv pos invf gkv wk r 0 d e he).symm
    rw [← pay66_at cq ckv pos invf gq wq wr gkv wk wv]
    pointwise [k1_pay20])) ?_
  refine View.allAt_cons _ _ _ (tile_at (G := kT ckv pos invf gkv wk) y 0 0 inb_S1x8x512x256_S1x1x512x128_0_0_0_0 _ (fun r d e he => by
    refine Eq.trans ?_ (k_plain ckv pos invf gkv wk r 0 d e he ⟨0 + d.val, by omega⟩ (by show 0 + d.val = 128 * 0 + d.val; omega)).symm
    rw [← pay69_at cq ckv pos invf gq wq wr gkv wk wv]
    pointwise [k1_pay19])) ?_
  exact View.allAt_nil _ _

theorem out1_12_at (y : S1x8x128x512.Idx) : out1_12 (F := Ideal) cq ckv pos invf gq wq wr gkv wk wv y = vT ckv gkv wv (y 3) (y 1) (y 2) := by
  unfold out1_12
  refine View.canon_eq_of_allAt _ y _ (cover1_12 (F := Ideal) _ _ _ _ _ _ _ _ y) ?_
  refine View.allAt_cons _ _ _ (tile_atT (G := vT ckv gkv wv) y 7 inb_S1x8x128x512_S1x1x128x512_0_7_0_0 _ (fun r e => by
    refine Eq.trans ?_ (show vaT ckv gkv wv ⟨896 + e.val, by omega⟩ r = vT ckv gkv wv r 7 e from rfl)
    rw [← pay70_at cq ckv pos invf gq wq wr gkv wk wv]
    pointwise [k1_pay2])) ?_
  refine View.allAt_cons _ _ _ (tile_atT (G := vT ckv gkv wv) y 6 inb_S1x8x128x512_S1x1x128x512_0_6_0_0 _ (fun r e => by
    refine Eq.trans ?_ (show vaT ckv gkv wv ⟨768 + e.val, by omega⟩ r = vT ckv gkv wv r 6 e from rfl)
    rw [← pay70_at cq ckv pos invf gq wq wr gkv wk wv]
    pointwise [k1_pay56])) ?_
  refine View.allAt_cons _ _ _ (tile_atT (G := vT ckv gkv wv) y 5 inb_S1x8x128x512_S1x1x128x512_0_5_0_0 _ (fun r e => by
    refine Eq.trans ?_ (show vaT ckv gkv wv ⟨640 + e.val, by omega⟩ r = vT ckv gkv wv r 5 e from rfl)
    rw [← pay70_at cq ckv pos invf gq wq wr gkv wk wv]
    pointwise [k1_pay50])) ?_
  refine View.allAt_cons _ _ _ (tile_atT (G := vT ckv gkv wv) y 4 inb_S1x8x128x512_S1x1x128x512_0_4_0_0 _ (fun r e => by
    refine Eq.trans ?_ (show vaT ckv gkv wv ⟨512 + e.val, by omega⟩ r = vT ckv gkv wv r 4 e from rfl)
    rw [← pay70_at cq ckv pos invf gq wq wr gkv wk wv]
    pointwise [k1_pay44])) ?_
  refine View.allAt_cons _ _ _ (tile_atT (G := vT ckv gkv wv) y 3 inb_S1x8x128x512_S1x1x128x512_0_3_0_0 _ (fun r e => by
    refine Eq.trans ?_ (show vaT ckv gkv wv ⟨384 + e.val, by omega⟩ r = vT ckv gkv wv r 3 e from rfl)
    rw [← pay70_at cq ckv pos invf gq wq wr gkv wk wv]
    pointwise [k1_pay38])) ?_
  refine View.allAt_cons _ _ _ (tile_atT (G := vT ckv gkv wv) y 2 inb_S1x8x128x512_S1x1x128x512_0_2_0_0 _ (fun r e => by
    refine Eq.trans ?_ (show vaT ckv gkv wv ⟨256 + e.val, by omega⟩ r = vT ckv gkv wv r 2 e from rfl)
    rw [← pay70_at cq ckv pos invf gq wq wr gkv wk wv]
    pointwise [k1_pay32])) ?_
  refine View.allAt_cons _ _ _ (tile_atT (G := vT ckv gkv wv) y 1 inb_S1x8x128x512_S1x1x128x512_0_1_0_0 _ (fun r e => by
    refine Eq.trans ?_ (show vaT ckv gkv wv ⟨128 + e.val, by omega⟩ r = vT ckv gkv wv r 1 e from rfl)
    rw [← pay70_at cq ckv pos invf gq wq wr gkv wk wv]
    pointwise [k1_pay27])) ?_
  refine View.allAt_cons _ _ _ (tile_atT (G := vT ckv gkv wv) y 0 inb_S1x8x128x512_S1x1x128x512_0_0_0_0 _ (fun r e => by
    refine Eq.trans ?_ (show vaT ckv gkv wv ⟨0 + e.val, by omega⟩ r = vT ckv gkv wv r 0 e from rfl)
    rw [← pay70_at cq ckv pos invf gq wq wr gkv wk wv]
    pointwise [k1_pay21])) ?_
  exact View.allAt_nil _ _

end

end Cert.KernelIdeal.Val

end
-- ==== Proof.MlaProj.lean ====
module

public import proofs.«01_k».proof.Proof.MlaBlock
public import proofs.«01_k».proof.Proof.InProj

/-!
# The attention projection call, its three arrays as functions of its operands

The grid walks the 16384 tokens in blocks of 512; the result arrays are by sequence, head and position.
-/

@[expose] public section

set_option maxRecDepth 16384

noncomputable section

namespace Cert.KernelIdeal.Val

open Cert.KernelIdeal Cert.KernelIdeal.Gen Idealize.ShloMosaic Idealize.ShloMosaic.TcCoe Idealize.SL.Sem Cert.Spec

section

variable {R R' : ℕ} (r : Fin R) (r' : Fin R') {cq : Vec Ideal ⟨2, ![R, 256]⟩ .f32} {ckv : Vec Ideal ⟨2, ![R, 384]⟩ .f32} {pos : Vec Ideal ⟨2, ![R, 1]⟩ .i32}
    {cq' : Vec Ideal ⟨2, ![R', 256]⟩ .f32} {ckv' : Vec Ideal ⟨2, ![R', 384]⟩ .f32} {pos' : Vec Ideal ⟨2, ![R', 1]⟩ .i32}
    (invf : Vec Ideal S1x128 .f32) (gq : Vec Ideal S1x256 .f32) (wq : Vec Ideal S256x2048 .bf16) (wr : Vec Ideal S256x1024 .bf16)
    (gkv : Vec Ideal S1x128 .f32) (wk : Vec Ideal S128x1024 .bf16) (wv : Vec Ideal S1024x128 .bf16)

/-- A token's queries read that token's row alone. -/
theorem qT_congr (hq : ∀ d, cq (ix2 r d) = cq' (ix2 r' d)) (hp : pos (ix2 r 0) = pos' (ix2 r' 0)) (h : Fin 8) (d : Fin 256) :
    qT cq pos invf gq wq wr r h d = qT cq' pos' invf gq wq wr r' h d := by
  simp only [qT, qaT, qrT, qnT, cosT, sinT, hq, hp]

theorem kT_congr (hk : ∀ d, ckv (ix2 r d) = ckv' (ix2 r' d)) (hp : pos (ix2 r 0) = pos' (ix2 r' 0)) (h : Fin 8) (d : Fin 256) :
    kT ckv pos invf gkv wk r h d = kT ckv' pos' invf gkv wk r' h d := by
  simp only [kT, kaT, krT, kvnT, cosT, sinT, hk, hp]

theorem vT_congr (hk : ∀ d, ckv (ix2 r d) = ckv' (ix2 r' d)) (h : Fin 8) (d : Fin 128) :
    vT ckv gkv wv r h d = vT ckv' gkv wv r' h d := by
  simp only [vT, vaT, kvnT, hk]

end

/-- The token at a position of a sequence. -/
abbrev tok (b : Fin 4) (s : Fin 4096) : Fin 16384 := ⟨4096 * b.val + s.val, by omega⟩

/-- The queries, as an array. -/
def qA (cq : Vec Ideal S16384x256 .f32) (pos : Vec Ideal S16384x1 .i32) (invf : Vec Ideal S1x128 .f32) (gq : Vec Ideal S1x256 .f32)
    (wq : Vec Ideal S256x2048 .bf16) (wr : Vec Ideal S256x1024 .bf16) : Vec Ideal S4x8x4096x256 .bf16 :=
  fun i => qT cq pos invf gq wq wr (tok (i 0) (i 2)) (i 1) (i 3)

/-- The keys, as an array. -/
def kA (ckv : Vec Ideal S16384x384 .f32) (pos : Vec Ideal S16384x1 .i32) (invf : Vec Ideal S1x128 .f32) (gkv : Vec Ideal S1x128 .f32)
    (wk : Vec Ideal S128x1024 .bf16) : Vec Ideal S4x8x4096x256 .bf16 :=
  fun i => kT ckv pos invf gkv wk (tok (i 0) (i 2)) (i 1) (i 3)

/-- The values, feature by position, as an array. -/
def vA (ckv : Vec Ideal S16384x384 .f32) (gkv : Vec Ideal S1x128 .f32) (wv : Vec Ideal S1024x128 .bf16) : Vec Ideal S4x8x128x4096 .bf16 :=
  fun i => vT ckv gkv wv (tok (i 0) (i 3)) (i 1) (i 2)

/-- Where the blocks lie. -/
theorem idx1 : ∀ t : Fin grid1.N, (cc1_transform_0 (grid1.coords t) 0 = t.val ∧ cc1_transform_0 (grid1.coords t) 1 = 0) ∧
    (cc1_transform_1 (grid1.coords t) 0 = t.val ∧ cc1_transform_1 (grid1.coords t) 1 = 0) ∧
    (cc1_transform_2 (grid1.coords t) 0 = t.val ∧ cc1_transform_2 (grid1.coords t) 1 = 0) ∧
    (cc1_transform_10 (grid1.coords t) 0 = t.val / 8 ∧ cc1_transform_10 (grid1.coords t) 1 = 0 ∧ cc1_transform_10 (grid1.coords t) 2 = t.val % 8 ∧ cc1_transform_10 (grid1.coords t) 3 = 0) ∧
    (cc1_transform_11 (grid1.coords t) 0 = t.val / 8 ∧ cc1_transform_11 (grid1.coords t) 1 = 0 ∧ cc1_transform_11 (grid1.coords t) 2 = t.val % 8 ∧ cc1_transform_11 (grid1.coords t) 3 = 0) ∧
    (cc1_transform_12 (grid1.coords t) 0 = t.val / 8 ∧ cc1_transform_12 (grid1.coords t) 1 = 0 ∧ cc1_transform_12 (grid1.coords t) 2 = 0 ∧ cc1_transform_12 (grid1.coords t) 3 = t.val % 8) := by
  decide +kernel

variable (V : (c : Dev nD) → (b : Ref sig .tc) → Buf (Elt Ideal) ((c : Thread nD τ).loc b))

theorem lt1 (t : Fin cfg1.N) : t.val < 32 := lt_of_lt_of_eq t.isLt N_1

theorem blk1_0 (c : Dev nD) (t : Fin cfg1.N) (r : Fin 512) (d : Fin 256) :
    (iblk1 V c 0 t : Vec Ideal S512x256 .f32) (ix2 r d) = (V c main_v24_1 : Vec Ideal S16384x256 .f32) (ix2 (row512 t.val (lt1 t) r) d) := by
  have hi := (idx1 t).1
  unfold iblk1
  rw [View.read_apply]
  show V c main_v24_1 _ = V c main_v24_1 _
  congr 1
  funext a
  apply Fin.ext
  match a with
  | ⟨0, _⟩ => show cc1_transform_0 (grid1.coords t) 0 * 512 + 1 * r.val = 512 * t.val + r.val; rw [hi.1]; omega
  | ⟨1, _⟩ => show cc1_transform_0 (grid1.coords t) 1 * 256 + 1 * d.val = d.val; rw [hi.2]; omega

theorem blk1_1 (c : Dev nD) (t : Fin cfg1.N) (r : Fin 512) (d : Fin 384) :
    (iblk1 V c 1 t : Vec Ideal S512x384 .f32) (ix2 r d) = (V c main_v24_2 : Vec Ideal S16384x384 .f32) (ix2 (row512 t.val (lt1 t) r) d) := by
  have hi := (idx1 t).2.1
  unfold iblk1
  rw [View.read_apply]
  show V c main_v24_2 _ = V c main_v24_2 _
  congr 1
  funext a
  apply Fin.ext
  match a with
  | ⟨0, _⟩ => show cc1_transform_1 (grid1.coords t) 0 * 512 + 1 * r.val = 512 * t.val + r.val; rw [hi.1]; omega
  | ⟨1, _⟩ => show cc1_transform_1 (grid1.coords t) 1 * 384 + 1 * d.val = d.val; rw [hi.2]; omega

theorem blk1_2 (c : Dev nD) (t : Fin cfg1.N) (r : Fin 512) (d : Fin 1) :
    (iblk1 V c 2 t : Vec Ideal S512x1 .i32) (ix2 r d) = (V c main_v8 : Vec Ideal S16384x1 .i32) (ix2 (row512 t.val (lt1 t) r) d) := by
  have hi := (idx1 t).2.2.1
  unfold iblk1
  rw [View.read_apply]
  show V c main_v8 _ = V c main_v8 _
  congr 1
  funext a
  apply Fin.ext
  match a with
  | ⟨0, _⟩ => show cc1_transform_2 (grid1.coords t) 0 * 512 + 1 * r.val = 512 * t.val + r.val; rw [hi.1]; omega
  | ⟨1, _⟩ => show cc1_transform_2 (grid1.coords t) 1 * 1 + 1 * d.val = d.val; rw [hi.2]; omega

theorem blk1_3 (c : Dev nD) (t : Fin cfg1.N) : (iblk1 V c 3 t : Vec Ideal S1x128 .f32) = V c main_v7 := by
  funext j
  unfold iblk1
  rw [View.read_apply]
  show V c main_v7 _ = V c main_v7 _
  congr 1
  funext a
  apply Fin.ext
  match a with
  | ⟨0, _⟩ => show 0 * 1 + 1 * (j 0).val = (j 0).val; omega
  | ⟨1, _⟩ => show 0 * 128 + 1 * (j 1).val = (j 1).val; omega

theorem blk1_4 (c : Dev nD) (t : Fin cfg1.N) : (iblk1 V c 4 t : Vec Ideal S1x256 .f32) = V c main_v42 := by
  funext j
  unfold iblk1
  rw [View.read_apply]
  show V c main_v42 _ = V c main_v42 _
  congr 1
  funext a
  apply Fin.ext
  match a with
  | ⟨0, _⟩ => show 0 * 1 + 1 * (j 0).val = (j 0).val; omega
  | ⟨1, _⟩ => show 0 * 256 + 1 * (j 1).val = (j 1).val; omega

theorem blk1_5 (c : Dev nD) (t : Fin cfg1.N) : (iblk1 V c 5 t : Vec Ideal S256x2048 .bf16) = V c main_v28 := by
  funext j
  unfold iblk1
  rw [View.read_apply]
  show V c main_v28 _ = V c main_v28 _
  congr 1
  funext a
  apply Fin.ext
  match a with
  | ⟨0, _⟩ => show 0 * 256 + 1 * (j 0).val = (j 0).val; omega
  | ⟨1, _⟩ => show 0 * 2048 + 1 * (j 1).val = (j 1).val; omega

theorem blk1_6 (c : Dev nD) (t : Fin cfg1.N) : (iblk1 V c 6 t : Vec Ideal S256x1024 .bf16) = V c main_v35 := by
  funext j
  unfold iblk1
  rw [View.read_apply]
  show V c main_v35 _ = V c main_v35 _
  congr 1
  funext a
  apply Fin.ext
  match a with
  | ⟨0, _⟩ => show 0 * 256 + 1 * (j 0).val = (j 0).val; omega
  | ⟨1, _⟩ => show 0 * 1024 + 1 * (j 1).val = (j 1).val; omega

theorem blk1_7 (c : Dev nD) (t : Fin cfg1.N) : (iblk1 V c 7 t : Vec Ideal S1x128 .f32) = V c main_v43 := by
  funext j
  unfold iblk1
  rw [View.read_apply]
  show V c main_v43 _ = V c main_v43 _
  congr 1
  funext a
  apply Fin.ext
  match a with
  | ⟨0, _⟩ => show 0 * 1 + 1 * (j 0).val = (j 0).val; omega
  | ⟨1, _⟩ => show 0 * 128 + 1 * (j 1).val = (j 1).val; omega

theorem blk1_8 (c : Dev nD) (t : Fin cfg1.N) : (iblk1 V c 8 t : Vec Ideal S128x1024 .bf16) = V c main_v39 := by
  funext j
  unfold iblk1
  rw [View.read_apply]
  show V c main_v39 _ = V c main_v39 _
  congr 1
  funext a
  apply Fin.ext
  match a with
  | ⟨0, _⟩ => show 0 * 128 + 1 * (j 0).val = (j 0).val; omega
  | ⟨1, _⟩ => show 0 * 1024 + 1 * (j 1).val = (j 1).val; omega

theorem blk1_9 (c : Dev nD) (t : Fin cfg1.N) : (iblk1 V c 9 t : Vec Ideal S1024x128 .bf16) = V c main_v44 := by
  funext j
  unfold iblk1
  rw [View.read_apply]
  show V c main_v44 _ = V c main_v44 _
  congr 1
  funext a
  apply Fin.ext
  match a with
  | ⟨0, _⟩ => show 0 * 1024 + 1 * (j 0).val = (j 0).val; omega
  | ⟨1, _⟩ => show 0 * 128 + 1 * (j 1).val = (j 1).val; omega

theorem G10_at1 (c : Dev nD) (t : Fin cfg1.N) (y : S1x8x512x256.Idx) (i : S4x8x4096x256.Idx) (h0 : (i 0).val = t.val / 8) (h1 : (i 1).val = (y 1).val)
    (hs : (i 2).val = 512 * (t.val % 8) + (y 2).val) (hf : (i 3).val = (y 3).val) :
    (out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) : Vec Ideal S1x8x512x256 .bf16) y = (qA (V c main_v24_1) (V c main_v8) (V c main_v7) (V c main_v42) (V c main_v28) (V c main_v35)) i := by
  rw [blk1_3, blk1_4, blk1_5, blk1_6, blk1_7, blk1_8, blk1_9]
  have hx0 := fun r d => blk1_0 V c t r d
  have hx1 := fun r d => blk1_1 V c t r d
  have hx2 := fun r d => blk1_2 V c t r d
  generalize (iblk1 V c 0 t : Vec Ideal S512x256 .f32) = x0 at hx0 ⊢
  generalize (iblk1 V c 1 t : Vec Ideal S512x384 .f32) = x1 at hx1 ⊢
  generalize (iblk1 V c 2 t : Vec Ideal S512x1 .i32) = x2 at hx2 ⊢
  have ht := lt1 t
  have hy : (y 2).val < 512 := (y 2).isLt
  refine (out1_10_at _ _ _ _ _ _ _ _ _ _ y).trans ?_
  have et : row512 t.val ht (y 2) = tok (i 0) (i 2) := Fin.ext (by show 512 * t.val + (y 2).val = 4096 * (i 0).val + (i 2).val; omega)
  have eh : y 1 = i 1 := Fin.ext h1.symm
  have ef : y 3 = i 3 := Fin.ext hf.symm
  refine (qT_congr _ (row512 t.val ht (y 2)) _ _ _ _ (fun d => hx0 (y 2) d) (hx2 (y 2) 0) _ _).trans ?_
  rw [et, eh, ef]
  rfl

theorem final1_10 (c : Dev nD) : (dat1 V c).arrAt 10 cfg1.N = (qA (V c main_v24_1) (V c main_v8) (V c main_v7) (V c main_v42) (V c main_v28) (V c main_v35)) :=
  (dat1 V c).arrAt_eq_of_cover 10 (qA (V c main_v24_1) (V c main_v8) (V c main_v7) (V c main_v42) (V c main_v28) (V c main_v35)) (fun t _ => by
    show (cfg1.win 10).cut (grid1.coords t) ((dat1 V c).after 10 t) = _
    rw [after1_10]
    have hi := (idx1 t).2.2.2.1
    funext j
    rw [View.read_apply]
    show (out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) : Vec Ideal S1x8x512x256 .bf16) j = (qA (V c main_v24_1) (V c main_v8) (V c main_v7) (V c main_v42) (V c main_v28) (V c main_v35)) _
    refine G10_at1 V c t j _ ?_ ?_ ?_ ?_
    · show cc1_transform_10 (grid1.coords t) 0 * 1 + 1 * (j 0).val = _; rw [hi.1]; have : (j 0).val < 1 := (j 0).isLt; omega
    · show cc1_transform_10 (grid1.coords t) 1 * 8 + 1 * (j 1).val = _; rw [hi.2.1]; omega
    · show cc1_transform_10 (grid1.coords t) 2 * 512 + 1 * (j 2).val = _; rw [hi.2.2.1]; omega
    · show cc1_transform_10 (grid1.coords t) 3 * 256 + 1 * (j 3).val = _; rw [hi.2.2.2]; omega)
  fun i => by
    have h0 : (i 0 : Nat) < 4 := (i 0).isLt
    have h1 : (i 1 : Nat) < 8 := (i 1).isLt
    have h2 : (i 2 : Nat) < 4096 := (i 2).isLt
    have h3 : (i 3 : Nat) < 256 := (i 3).isLt
    obtain ⟨t, htv⟩ : ∃ t : Fin cfg1.N, t.val = 8 * (i 0 : Nat) + (i 2 : Nat) / 512 := ⟨⟨8 * (i 0 : Nat) + (i 2 : Nat) / 512, by rw [show cfg1.N = 32 from N_1]; omega⟩, rfl⟩
    refine ⟨t, flush1_10 _, ?_⟩
    have hi := (idx1 t).2.2.2.1
    show i ∈ ((View.whole main_v45_0).slice (win1_10.rect t)).set
    rw [View.set_slice_whole, Rect.mem_set_unit]
    intro a
    match a with
    | ⟨0, _⟩ => show cc1_transform_10 (grid1.coords t) 0 * 1 ≤ (i 0 : Nat) ∧ (i 0 : Nat) < cc1_transform_10 (grid1.coords t) 0 * 1 + 1
                rw [hi.1]; omega
    | ⟨1, _⟩ => show cc1_transform_10 (grid1.coords t) 1 * 8 ≤ (i 1 : Nat) ∧ (i 1 : Nat) < cc1_transform_10 (grid1.coords t) 1 * 8 + 8
                rw [hi.2.1]; omega
    | ⟨2, _⟩ => show cc1_transform_10 (grid1.coords t) 2 * 512 ≤ (i 2 : Nat) ∧ (i 2 : Nat) < cc1_transform_10 (grid1.coords t) 2 * 512 + 512
                rw [hi.2.2.1]; omega
    | ⟨3, _⟩ => show cc1_transform_10 (grid1.coords t) 3 * 256 ≤ (i 3 : Nat) ∧ (i 3 : Nat) < cc1_transform_10 (grid1.coords t) 3 * 256 + 256
                rw [hi.2.2.2]; omega

theorem G11_at1 (c : Dev nD) (t : Fin cfg1.N) (y : S1x8x512x256.Idx) (i : S4x8x4096x256.Idx) (h0 : (i 0).val = t.val / 8) (h1 : (i 1).val = (y 1).val)
    (hs : (i 2).val = 512 * (t.val % 8) + (y 2).val) (hf : (i 3).val = (y 3).val) :
    (out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) : Vec Ideal S1x8x512x256 .bf16) y = (kA (V c main_v24_2) (V c main_v8) (V c main_v7) (V c main_v43) (V c main_v39)) i := by
  rw [blk1_3, blk1_4, blk1_5, blk1_6, blk1_7, blk1_8, blk1_9]
  have hx0 := fun r d => blk1_0 V c t r d
  have hx1 := fun r d => blk1_1 V c t r d
  have hx2 := fun r d => blk1_2 V c t r d
  generalize (iblk1 V c 0 t : Vec Ideal S512x256 .f32) = x0 at hx0 ⊢
  generalize (iblk1 V c 1 t : Vec Ideal S512x384 .f32) = x1 at hx1 ⊢
  generalize (iblk1 V c 2 t : Vec Ideal S512x1 .i32) = x2 at hx2 ⊢
  have ht := lt1 t
  have hy : (y 2).val < 512 := (y 2).isLt
  refine (out1_11_at _ _ _ _ _ _ _ _ _ _ y).trans ?_
  have et : row512 t.val ht (y 2) = tok (i 0) (i 2) := Fin.ext (by show 512 * t.val + (y 2).val = 4096 * (i 0).val + (i 2).val; omega)
  have eh : y 1 = i 1 := Fin.ext h1.symm
  have ef : y 3 = i 3 := Fin.ext hf.symm
  refine (kT_congr _ (row512 t.val ht (y 2)) _ _ _ (fun d => hx1 (y 2) d) (hx2 (y 2) 0) _ _).trans ?_
  rw [et, eh, ef]
  rfl

theorem final1_11 (c : Dev nD) : (dat1 V c).arrAt 11 cfg1.N = (kA (V c main_v24_2) (V c main_v8) (V c main_v7) (V c main_v43) (V c main_v39)) :=
  (dat1 V c).arrAt_eq_of_cover 11 (kA (V c main_v24_2) (V c main_v8) (V c main_v7) (V c main_v43) (V c main_v39)) (fun t _ => by
    show (cfg1.win 11).cut (grid1.coords t) ((dat1 V c).after 11 t) = _
    rw [after1_11]
    have hi := (idx1 t).2.2.2.2.1
    funext j
    rw [View.read_apply]
    show (out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) : Vec Ideal S1x8x512x256 .bf16) j = (kA (V c main_v24_2) (V c main_v8) (V c main_v7) (V c main_v43) (V c main_v39)) _
    refine G11_at1 V c t j _ ?_ ?_ ?_ ?_
    · show cc1_transform_11 (grid1.coords t) 0 * 1 + 1 * (j 0).val = _; rw [hi.1]; have : (j 0).val < 1 := (j 0).isLt; omega
    · show cc1_transform_11 (grid1.coords t) 1 * 8 + 1 * (j 1).val = _; rw [hi.2.1]; omega
    · show cc1_transform_11 (grid1.coords t) 2 * 512 + 1 * (j 2).val = _; rw [hi.2.2.1]; omega
    · show cc1_transform_11 (grid1.coords t) 3 * 256 + 1 * (j 3).val = _; rw [hi.2.2.2]; omega)
  fun i => by
    have h0 : (i 0 : Nat) < 4 := (i 0).isLt
    have h1 : (i 1 : Nat) < 8 := (i 1).isLt
    have h2 : (i 2 : Nat) < 4096 := (i 2).isLt
    have h3 : (i 3 : Nat) < 256 := (i 3).isLt
    obtain ⟨t, htv⟩ : ∃ t : Fin cfg1.N, t.val = 8 * (i 0 : Nat) + (i 2 : Nat) / 512 := ⟨⟨8 * (i 0 : Nat) + (i 2 : Nat) / 512, by rw [show cfg1.N = 32 from N_1]; omega⟩, rfl⟩
    refine ⟨t, flush1_11 _, ?_⟩
    have hi := (idx1 t).2.2.2.2.1
    show i ∈ ((View.whole main_v45_1).slice (win1_11.rect t)).set
    rw [View.set_slice_whole, Rect.mem_set_unit]
    intro a
    match a with
    | ⟨0, _⟩ => show cc1_transform_11 (grid1.coords t) 0 * 1 ≤ (i 0 : Nat) ∧ (i 0 : Nat) < cc1_transform_11 (grid1.coords t) 0 * 1 + 1
                rw [hi.1]; omega
    | ⟨1, _⟩ => show cc1_transform_11 (grid1.coords t) 1 * 8 ≤ (i 1 : Nat) ∧ (i 1 : Nat) < cc1_transform_11 (grid1.coords t) 1 * 8 + 8
                rw [hi.2.1]; omega
    | ⟨2, _⟩ => show cc1_transform_11 (grid1.coords t) 2 * 512 ≤ (i 2 : Nat) ∧ (i 2 : Nat) < cc1_transform_11 (grid1.coords t) 2 * 512 + 512
                rw [hi.2.2.1]; omega
    | ⟨3, _⟩ => show cc1_transform_11 (grid1.coords t) 3 * 256 ≤ (i 3 : Nat) ∧ (i 3 : Nat) < cc1_transform_11 (grid1.coords t) 3 * 256 + 256
                rw [hi.2.2.2]; omega

theorem G12_at1 (c : Dev nD) (t : Fin cfg1.N) (y : S1x8x128x512.Idx) (i : S4x8x128x4096.Idx) (h0 : (i 0).val = t.val / 8) (h1 : (i 1).val = (y 1).val)
    (hs : (i 3).val = 512 * (t.val % 8) + (y 3).val) (hf : (i 2).val = (y 2).val) :
    (out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) : Vec Ideal S1x8x128x512 .bf16) y = (vA (V c main_v24_2) (V c main_v43) (V c main_v44)) i := by
  rw [blk1_3, blk1_4, blk1_5, blk1_6, blk1_7, blk1_8, blk1_9]
  have hx0 := fun r d => blk1_0 V c t r d
  have hx1 := fun r d => blk1_1 V c t r d
  have hx2 := fun r d => blk1_2 V c t r d
  generalize (iblk1 V c 0 t : Vec Ideal S512x256 .f32) = x0 at hx0 ⊢
  generalize (iblk1 V c 1 t : Vec Ideal S512x384 .f32) = x1 at hx1 ⊢
  generalize (iblk1 V c 2 t : Vec Ideal S512x1 .i32) = x2 at hx2 ⊢
  have ht := lt1 t
  have hy : (y 3).val < 512 := (y 3).isLt
  refine (out1_12_at _ _ _ _ _ _ _ _ _ _ y).trans ?_
  have et : row512 t.val ht (y 3) = tok (i 0) (i 3) := Fin.ext (by show 512 * t.val + (y 3).val = 4096 * (i 0).val + (i 3).val; omega)
  have eh : y 1 = i 1 := Fin.ext h1.symm
  have ef : y 2 = i 2 := Fin.ext hf.symm
  refine (vT_congr _ (row512 t.val ht (y 3)) _ _ (fun d => hx1 (y 3) d) _ _).trans ?_
  rw [et, eh, ef]
  rfl

theorem final1_12 (c : Dev nD) : (dat1 V c).arrAt 12 cfg1.N = (vA (V c main_v24_2) (V c main_v43) (V c main_v44)) :=
  (dat1 V c).arrAt_eq_of_cover 12 (vA (V c main_v24_2) (V c main_v43) (V c main_v44)) (fun t _ => by
    show (cfg1.win 12).cut (grid1.coords t) ((dat1 V c).after 12 t) = _
    rw [after1_12]
    have hi := (idx1 t).2.2.2.2.2
    funext j
    rw [View.read_apply]
    show (out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) : Vec Ideal S1x8x128x512 .bf16) j = (vA (V c main_v24_2) (V c main_v43) (V c main_v44)) _
    refine G12_at1 V c t j _ ?_ ?_ ?_ ?_
    · show cc1_transform_12 (grid1.coords t) 0 * 1 + 1 * (j 0).val = _; rw [hi.1]; have : (j 0).val < 1 := (j 0).isLt; omega
    · show cc1_transform_12 (grid1.coords t) 1 * 8 + 1 * (j 1).val = _; rw [hi.2.1]; omega
    · show cc1_transform_12 (grid1.coords t) 3 * 512 + 1 * (j 3).val = _; rw [hi.2.2.2]; omega
    · show cc1_transform_12 (grid1.coords t) 2 * 128 + 1 * (j 2).val = _; rw [hi.2.2.1]; omega)
  fun i => by
    have h0 : (i 0 : Nat) < 4 := (i 0).isLt
    have h1 : (i 1 : Nat) < 8 := (i 1).isLt
    have h2 : (i 2 : Nat) < 128 := (i 2).isLt
    have h3 : (i 3 : Nat) < 4096 := (i 3).isLt
    obtain ⟨t, htv⟩ : ∃ t : Fin cfg1.N, t.val = 8 * (i 0 : Nat) + (i 3 : Nat) / 512 := ⟨⟨8 * (i 0 : Nat) + (i 3 : Nat) / 512, by rw [show cfg1.N = 32 from N_1]; omega⟩, rfl⟩
    refine ⟨t, flush1_12 _, ?_⟩
    have hi := (idx1 t).2.2.2.2.2
    show i ∈ ((View.whole main_v45_2).slice (win1_12.rect t)).set
    rw [View.set_slice_whole, Rect.mem_set_unit]
    intro a
    match a with
    | ⟨0, _⟩ => show cc1_transform_12 (grid1.coords t) 0 * 1 ≤ (i 0 : Nat) ∧ (i 0 : Nat) < cc1_transform_12 (grid1.coords t) 0 * 1 + 1
                rw [hi.1]; omega
    | ⟨1, _⟩ => show cc1_transform_12 (grid1.coords t) 1 * 8 ≤ (i 1 : Nat) ∧ (i 1 : Nat) < cc1_transform_12 (grid1.coords t) 1 * 8 + 8
                rw [hi.2.1]; omega
    | ⟨2, _⟩ => show cc1_transform_12 (grid1.coords t) 2 * 128 ≤ (i 2 : Nat) ∧ (i 2 : Nat) < cc1_transform_12 (grid1.coords t) 2 * 128 + 128
                rw [hi.2.2.1]; omega
    | ⟨3, _⟩ => show cc1_transform_12 (grid1.coords t) 3 * 512 ≤ (i 3 : Nat) ∧ (i 3 : Nat) < cc1_transform_12 (grid1.coords t) 3 * 512 + 512
                rw [hi.2.2.2]; omega

end Cert.KernelIdeal.Val

end
-- ==== Proof.FlashOffsets.lean ====
module

public import proofs.«01_k».proof.Proof.Gen.KernelIdeal.Frame

/-!
# The attention call: trip counts and offsets

The attention kernel walks over key blocks of 512 positions: pairs of blocks in one loop, a last odd block in a second
loop, and the diagonal block after both.  This file states, for every point of the grid, how often each loop runs and
where each load starts.
-/

@[expose] public section

set_option maxRecDepth 16384

noncomputable section

namespace Cert.KernelIdeal.Val

open Cert.KernelIdeal Cert.KernelIdeal.Gen Idealize.ShloMosaic

/-- The loop over pairs of key blocks runs half as often as there are blocks before the diagonal. -/
theorem trips_t1 : ∀ i : grid2.Coords, (k2_t1_loop i).trips = (i 2).val / 2 := by decide +kernel

/-- The pair loop's remainder is empty. -/
theorem trips_t2 : ∀ i : grid2.Coords, (k2_t2_loop i).trips = 0 := by decide +kernel

/-- The loop over the odd block. -/
theorem trips_t3 : ∀ i : grid2.Coords, (k2_t3_loop i).trips = (i 2).val - 2 * ((i 2).val / 2) := by decide +kernel

/-- The odd loop's remainder is empty. -/
theorem trips_t4 : ∀ i : grid2.Coords, (k2_t4_loop i).trips = 0 := by decide +kernel

theorem off1 : ∀ (i : grid2.Coords) (k : Fin (k2_t1_loop i).trips), k2_off1 i k = ![0, 0, 512 * (2 * k.val), 0] := by decide +kernel
theorem off2 : ∀ (i : grid2.Coords) (k : Fin (k2_t1_loop i).trips), k2_off2 i k = ![0, 0, 0, 512 * (2 * k.val)] := by decide +kernel
theorem off3 : ∀ (i : grid2.Coords) (k : Fin (k2_t1_loop i).trips), k2_off3 i k = ![0, 1, 512 * (2 * k.val), 0] := by decide +kernel
theorem off4 : ∀ (i : grid2.Coords) (k : Fin (k2_t1_loop i).trips), k2_off4 i k = ![0, 1, 0, 512 * (2 * k.val)] := by decide +kernel
theorem off5 : ∀ (i : grid2.Coords) (k : Fin (k2_t1_loop i).trips), k2_off5 i k = ![0, 2, 512 * (2 * k.val), 0] := by decide +kernel
theorem off6 : ∀ (i : grid2.Coords) (k : Fin (k2_t1_loop i).trips), k2_off6 i k = ![0, 2, 0, 512 * (2 * k.val)] := by decide +kernel
theorem off7 : ∀ (i : grid2.Coords) (k : Fin (k2_t1_loop i).trips), k2_off7 i k = ![0, 3, 512 * (2 * k.val), 0] := by decide +kernel
theorem off8 : ∀ (i : grid2.Coords) (k : Fin (k2_t1_loop i).trips), k2_off8 i k = ![0, 3, 0, 512 * (2 * k.val)] := by decide +kernel
theorem off9 : ∀ (i : grid2.Coords) (k : Fin (k2_t1_loop i).trips), k2_off9 i k = ![0, 0, 512 * (2 * k.val + 1), 0] := by decide +kernel
theorem off10 : ∀ (i : grid2.Coords) (k : Fin (k2_t1_loop i).trips), k2_off10 i k = ![0, 0, 0, 512 * (2 * k.val + 1)] := by decide +kernel
theorem off11 : ∀ (i : grid2.Coords) (k : Fin (k2_t1_loop i).trips), k2_off11 i k = ![0, 1, 512 * (2 * k.val + 1), 0] := by decide +kernel
theorem off12 : ∀ (i : grid2.Coords) (k : Fin (k2_t1_loop i).trips), k2_off12 i k = ![0, 1, 0, 512 * (2 * k.val + 1)] := by decide +kernel
theorem off13 : ∀ (i : grid2.Coords) (k : Fin (k2_t1_loop i).trips), k2_off13 i k = ![0, 2, 512 * (2 * k.val + 1), 0] := by decide +kernel
theorem off14 : ∀ (i : grid2.Coords) (k : Fin (k2_t1_loop i).trips), k2_off14 i k = ![0, 2, 0, 512 * (2 * k.val + 1)] := by decide +kernel
theorem off15 : ∀ (i : grid2.Coords) (k : Fin (k2_t1_loop i).trips), k2_off15 i k = ![0, 3, 512 * (2 * k.val + 1), 0] := by decide +kernel
theorem off16 : ∀ (i : grid2.Coords) (k : Fin (k2_t1_loop i).trips), k2_off16 i k = ![0, 3, 0, 512 * (2 * k.val + 1)] := by decide +kernel
theorem off33 : ∀ (i : grid2.Coords) (k : Fin (k2_t3_loop i).trips), k2_off33 i k = ![0, 0, 512 * (2 * ((i 2).val / 2) + k.val), 0] := by decide +kernel
theorem off34 : ∀ (i : grid2.Coords) (k : Fin (k2_t3_loop i).trips), k2_off34 i k = ![0, 0, 0, 512 * (2 * ((i 2).val / 2) + k.val)] := by decide +kernel
theorem off35 : ∀ (i : grid2.Coords) (k : Fin (k2_t3_loop i).trips), k2_off35 i k = ![0, 1, 512 * (2 * ((i 2).val / 2) + k.val), 0] := by decide +kernel
theorem off36 : ∀ (i : grid2.Coords) (k : Fin (k2_t3_loop i).trips), k2_off36 i k = ![0, 1, 0, 512 * (2 * ((i 2).val / 2) + k.val)] := by decide +kernel
theorem off37 : ∀ (i : grid2.Coords) (k : Fin (k2_t3_loop i).trips), k2_off37 i k = ![0, 2, 512 * (2 * ((i 2).val / 2) + k.val), 0] := by decide +kernel
theorem off38 : ∀ (i : grid2.Coords) (k : Fin (k2_t3_loop i).trips), k2_off38 i k = ![0, 2, 0, 512 * (2 * ((i 2).val / 2) + k.val)] := by decide +kernel
theorem off39 : ∀ (i : grid2.Coords) (k : Fin (k2_t3_loop i).trips), k2_off39 i k = ![0, 3, 512 * (2 * ((i 2).val / 2) + k.val), 0] := by decide +kernel
theorem off40 : ∀ (i : grid2.Coords) (k : Fin (k2_t3_loop i).trips), k2_off40 i k = ![0, 3, 0, 512 * (2 * ((i 2).val / 2) + k.val)] := by decide +kernel
theorem off49 : ∀ i : grid2.Coords, k2_off49 i = ![0, 0, 512 * (i 2).val, 0] := by decide +kernel
theorem off50 : ∀ i : grid2.Coords, k2_off50 i = ![0, 0, 0, 512 * (i 2).val] := by decide +kernel
theorem off51 : ∀ i : grid2.Coords, k2_off51 i = ![0, 1, 512 * (i 2).val, 0] := by decide +kernel
theorem off52 : ∀ i : grid2.Coords, k2_off52 i = ![0, 1, 0, 512 * (i 2).val] := by decide +kernel
theorem off53 : ∀ i : grid2.Coords, k2_off53 i = ![0, 2, 512 * (i 2).val, 0] := by decide +kernel
theorem off54 : ∀ i : grid2.Coords, k2_off54 i = ![0, 2, 0, 512 * (i 2).val] := by decide +kernel
theorem off55 : ∀ i : grid2.Coords, k2_off55 i = ![0, 3, 512 * (i 2).val, 0] := by decide +kernel
theorem off56 : ∀ i : grid2.Coords, k2_off56 i = ![0, 3, 0, 512 * (i 2).val] := by decide +kernel

end Cert.KernelIdeal.Val
-- ==== Proof.FlashTrip.lean ====
module

public import proofs.«01_k».proof.Proof.FlashOffsets
public import Idealize.ShloMosaic.Lib.VecWindow
public import Idealize.ShloMosaic.Lib.WholeRead

/-!
# The attention call: one trip of each loop

One head of the attention kernel carries the running maximum `m`, the running sum `l` and the running weighted sum `a`
of the values.  `step` is what one key block off the diagonal makes of them, `run` what the first blocks make of the
initial ones.  A trip of the pair loop takes every head two steps, a trip of the odd loop takes it one.
-/

@[expose] public section

set_option maxRecDepth 16384

noncomputable section

namespace Cert.KernelIdeal.Val

open Cert.KernelIdeal Cert.KernelIdeal.Gen Idealize.ShloMosaic Idealize.ShloMosaic.TcCoe VecWindow

variable {F : FTy → Type} [FloatOps F] [Named F]

/-- What one head carries from block to block. -/
structure Car (F : FTy → Type) where
  /-- the running maximum of the scores of each query -/
  m : FVec F S1x512 .f32
  /-- the running sum of the weights of each query -/
  l : FVec F S1x512 .f32
  /-- the running weighted sum of the values, feature by query -/
  a : Vec F S1x128x512 .f32

/-- One key block off the diagonal: its keys `k`, the queries `q`, its values `v`. -/
def step (k q : Vec F S1x1x512x256 .bf16) (v : Vec F S1x1x128x512 .bf16) (s : Car F) : Car F :=
  ⟨k2_pay3 s.m k q, k2_pay6 s.m s.l k q, k2_pay8 (k2_pay7 s.m k q v s.a)⟩

/-- The queries of head `hh` in a block of queries. -/
def qW (x0 : Vec F S1x4x512x256 .bf16) (hh : Fin 4) : Vec F S1x1x512x256 .bf16 :=
  window x0 ![0, hh.val, 0, 0] S1x1x512x256.size (fun a => by have := hh.isLt; fin_cases a <;> simp [Shape.ofList] <;> omega)

/-- Block `n` (of eight) of the keys of head `hh`. -/
def kW (x1 : Vec F S1x4x4096x256 .bf16) (hh : Fin 4) (n : ℕ) : Vec F S1x1x512x256 .bf16 :=
  window x1 ![0, hh.val, 512 * (n % 8), 0] S1x1x512x256.size (fun a => by have := hh.isLt; have := Nat.mod_lt n (show 8 > 0 by decide); fin_cases a <;> simp [Shape.ofList] <;> omega)

/-- Block `n` (of eight) of the values of head `hh`, feature by position. -/
def vW (x2 : Vec F S1x4x128x4096 .bf16) (hh : Fin 4) (n : ℕ) : Vec F S1x1x128x512 .bf16 :=
  window x2 ![0, hh.val, 0, 512 * (n % 8)] S1x1x128x512.size (fun a => by have := hh.isLt; have := Nat.mod_lt n (show 8 > 0 by decide); fin_cases a <;> simp [Shape.ofList] <;> omega)

/-- The slab of head `hh` in the scratch. -/
def aW (w : Vec F S4x128x512 .f32) (hh : Fin 4) : Vec F S1x128x512 .f32 :=
  window w ![hh.val, 0, 0] S1x128x512.size (fun a => by have := hh.isLt; fin_cases a <;> simp [Shape.ofList] <;> omega)

/-- Head `hh` after the first `n` key blocks. -/
def run (x0 : Vec F S1x4x512x256 .bf16) (x1 : Vec F S1x4x4096x256 .bf16) (x2 : Vec F S1x4x128x4096 .bf16) (hh : Fin 4) : ℕ → Car F
  | 0 => ⟨k2_pay163, k2_pay164, fun _ => Scalar.ofBits .f32 0x00000000#32⟩
  | n + 1 => step (kW x1 hh n) (qW x0 hh) (vW x2 hh n) (run x0 x1 x2 hh n)

/-- The eight carried vectors of a loop: maximum and sum of each head. -/
abbrev Tup (F : FTy → Type) : Type :=
  FVec F S1x512 .f32 × FVec F S1x512 .f32 × FVec F S1x512 .f32 × FVec F S1x512 .f32 × FVec F S1x512 .f32 × FVec F S1x512 .f32 × FVec F S1x512 .f32 × FVec F S1x512 .f32

/-- The carried vectors of four heads. -/
def tup (s : Fin 4 → Car F) : Tup F := ((s 0).m, (s 0).l, (s 1).m, (s 1).l, (s 2).m, (s 2).l, (s 3).m, (s 3).l)

/-- The scratch holds the weighted sums of four heads. -/
def Slabs (s : Fin 4 → Car F) (w : Vec F S4x128x512 .f32) : Prop := ∀ hh, aW w hh = (s hh).a

theorem lt_i2 (i : grid2.Coords) : (i 2).val < 8 := (i 2).isLt

theorem lt_t1 (i : grid2.Coords) (k : Fin (k2_t1_loop i).trips) (j : ℕ) (hj : j < 2) : 2 * k.val + j < 8 := by
  have h := k.isLt; have := trips_t1 i; have := lt_i2 i; omega

theorem lt_t3 (i : grid2.Coords) (k : Fin (k2_t3_loop i).trips) : 2 * ((i 2).val / 2) + k.val < 8 := by
  have h := k.isLt; have := trips_t3 i; have := lt_i2 i; omega

/-- The four pieces that store the slabs of the scratch, last head first. -/
def pieces (a : Fin 4 → Vec F S1x128x512 .f32) : List (View.Piece (Elt F) S4x128x512 .f32) :=
  [⟨Rect.unit (s := S4x128x512) ![3, 0, 0] S1x128x512.size inb_S4x128x512_S1x128x512_3_0_0, a 3⟩, ⟨Rect.unit (s := S4x128x512) ![2, 0, 0] S1x128x512.size inb_S4x128x512_S1x128x512_2_0_0, a 2⟩, ⟨Rect.unit (s := S4x128x512) ![1, 0, 0] S1x128x512.size inb_S4x128x512_S1x128x512_1_0_0, a 1⟩, ⟨Rect.unit (s := S4x128x512) ![0, 0, 0] S1x128x512.size inb_S4x128x512_S1x128x512_0_0_0, a 0⟩]

/-- After the four stores the scratch holds what was stored. -/
theorem aW_pieces (arg7 : Memref sig .tc .vmem S4x128x512 .f32) (f : BufTy.Contents (Elt F) arg7.view.ty) (a : Fin 4 → Vec F S1x128x512 .f32)
    (L : List (View.Piece (Elt F) S4x128x512 .f32)) (hh : Fin 4) :
    aW (arg7.view.read (Elt F) (arg7.view.writes (Elt F) f (pieces a ++ L))) hh = a hh := by
  unfold pieces
  simp only [List.cons_append, List.nil_append]
  rw [View.read_writes_cons_put _ _ _ _ _ rfl, View.read_writes_cons_put _ _ _ _ _ rfl, View.read_writes_cons_put _ _ _ _ _ rfl,
    View.read_writes_cons_put _ _ _ _ _ rfl]
  unfold aW
  fin_cases hh
  · erw [window_put_of_disjoint _ _ _ _ _ _ _ 0 (by decide), window_put_of_disjoint _ _ _ _ _ _ _ 0 (by decide), window_put_of_disjoint _ _ _ _ _ _ _ 0 (by decide)]
    exact window_put_same _ _ _ _ _
  · erw [window_put_of_disjoint _ _ _ _ _ _ _ 0 (by decide), window_put_of_disjoint _ _ _ _ _ _ _ 0 (by decide)]
    exact window_put_same _ _ _ _ _
  · erw [window_put_of_disjoint _ _ _ _ _ _ _ 0 (by decide)]
    exact window_put_same _ _ _ _ _
  · exact window_put_same _ _ _ _ _

theorem ldA0 (arg7 : Memref sig .tc .vmem S4x128x512 .f32) (f : BufTy.Contents (Elt F) arg7.view.ty) :
    View.readAt (Elt F) arg7.view (Rect.unit (s := S4x128x512) ![0, 0, 0] S1x128x512.size inb_S4x128x512_S1x128x512_0_0_0).toLoadRect f = aW (arg7.view.read (Elt F) f) 0 :=
  View.readAt_unit _ _ _ rfl _

theorem ldA1 (arg7 : Memref sig .tc .vmem S4x128x512 .f32) (f : BufTy.Contents (Elt F) arg7.view.ty) :
    View.readAt (Elt F) arg7.view (Rect.unit (s := S4x128x512) ![1, 0, 0] S1x128x512.size inb_S4x128x512_S1x128x512_1_0_0).toLoadRect f = aW (arg7.view.read (Elt F) f) 1 :=
  View.readAt_unit _ _ _ rfl _

theorem ldA2 (arg7 : Memref sig .tc .vmem S4x128x512 .f32) (f : BufTy.Contents (Elt F) arg7.view.ty) :
    View.readAt (Elt F) arg7.view (Rect.unit (s := S4x128x512) ![2, 0, 0] S1x128x512.size inb_S4x128x512_S1x128x512_2_0_0).toLoadRect f = aW (arg7.view.read (Elt F) f) 2 :=
  View.readAt_unit _ _ _ rfl _

theorem ldA3 (arg7 : Memref sig .tc .vmem S4x128x512 .f32) (f : BufTy.Contents (Elt F) arg7.view.ty) :
    View.readAt (Elt F) arg7.view (Rect.unit (s := S4x128x512) ![3, 0, 0] S1x128x512.size inb_S4x128x512_S1x128x512_3_0_0).toLoadRect f = aW (arg7.view.read (Elt F) f) 3 :=
  View.readAt_unit _ _ _ rfl _

theorem cvA0 (arg7 : Memref sig .tc .vmem S4x128x512 .f32) (a : Fin 4 → Vec F S1x128x512 .f32) :
    arg7.view.readCov (pieces a) (Rect.unit (s := S4x128x512) ![0, 0, 0] S1x128x512.size inb_S4x128x512_S1x128x512_0_0_0).toLoadRect = a 0 := by
  have e := ldA0 arg7 (arg7.view.writes (Elt F) arg7.view.junk (pieces a ++ []))
  rw [aW_pieces] at e
  exact e

theorem cvA1 (arg7 : Memref sig .tc .vmem S4x128x512 .f32) (a : Fin 4 → Vec F S1x128x512 .f32) :
    arg7.view.readCov (pieces a) (Rect.unit (s := S4x128x512) ![1, 0, 0] S1x128x512.size inb_S4x128x512_S1x128x512_1_0_0).toLoadRect = a 1 := by
  have e := ldA1 arg7 (arg7.view.writes (Elt F) arg7.view.junk (pieces a ++ []))
  rw [aW_pieces] at e
  exact e

theorem cvA2 (arg7 : Memref sig .tc .vmem S4x128x512 .f32) (a : Fin 4 → Vec F S1x128x512 .f32) :
    arg7.view.readCov (pieces a) (Rect.unit (s := S4x128x512) ![2, 0, 0] S1x128x512.size inb_S4x128x512_S1x128x512_2_0_0).toLoadRect = a 2 := by
  have e := ldA2 arg7 (arg7.view.writes (Elt F) arg7.view.junk (pieces a ++ []))
  rw [aW_pieces] at e
  exact e

theorem cvA3 (arg7 : Memref sig .tc .vmem S4x128x512 .f32) (a : Fin 4 → Vec F S1x128x512 .f32) :
    arg7.view.readCov (pieces a) (Rect.unit (s := S4x128x512) ![3, 0, 0] S1x128x512.size inb_S4x128x512_S1x128x512_3_0_0).toLoadRect = a 3 := by
  have e := ldA3 arg7 (arg7.view.writes (Elt F) arg7.view.junk (pieces a ++ []))
  rw [aW_pieces] at e
  exact e

/-- A load of one slab passes over an earlier-headed store of another. -/
theorem readAt_cons_ne (arg7 : Memref sig .tc .vmem S4x128x512 .f32) (f : BufTy.Contents (Elt F) arg7.view.ty) {o o' : Fin 3 → ℕ}
    (inb : ∀ a, o a + S1x128x512.size a ≤ S4x128x512.size a) (inb' : ∀ a, o' a + S1x128x512.size a ≤ S4x128x512.size a)
    (w : Vec F S1x128x512 .f32) (L : List (View.Piece (Elt F) S4x128x512 .f32)) (h : o' 0 + 1 ≤ o 0 ∨ o 0 + 1 ≤ o' 0) :
    View.readAt (Elt F) arg7.view (Rect.unit (s := S4x128x512) o' S1x128x512.size inb').toLoadRect
        (arg7.view.writes (Elt F) f (⟨Rect.unit (s := S4x128x512) o S1x128x512.size inb, w⟩ :: L))
      = View.readAt (Elt F) arg7.view (Rect.unit (s := S4x128x512) o' S1x128x512.size inb').toLoadRect (arg7.view.writes (Elt F) f L) := by
  rw [View.readAt_unit _ _ inb' rfl inb', View.readAt_unit _ _ inb' rfl inb', View.read_writes_cons_put _ _ _ _ _ rfl]
  exact window_put_of_disjoint _ _ _ _ _ _ _ 0 h

/-- The same for a load stated over the stores alone. -/
theorem readCov_cons_ne (arg7 : Memref sig .tc .vmem S4x128x512 .f32) {o o' : Fin 3 → ℕ}
    (inb : ∀ a, o a + S1x128x512.size a ≤ S4x128x512.size a) (inb' : ∀ a, o' a + S1x128x512.size a ≤ S4x128x512.size a)
    (w : Vec F S1x128x512 .f32) (L : List (View.Piece (Elt F) S4x128x512 .f32)) (h : o' 0 + 1 ≤ o 0 ∨ o 0 + 1 ≤ o' 0) :
    arg7.view.readCov (⟨Rect.unit (s := S4x128x512) o S1x128x512.size inb, w⟩ :: L) (Rect.unit (s := S4x128x512) o' S1x128x512.size inb').toLoadRect
      = arg7.view.readCov L (Rect.unit (s := S4x128x512) o' S1x128x512.size inb').toLoadRect :=
  readAt_cons_ne arg7 _ inb inb' w L h

section

variable (c : Dev nD) (i : grid2.Coords) (arg3 : Memref sig .tc .vmem S1x4x512x256 .bf16) (harg3 : arg3.IsWhole) (arg4 : Memref sig .tc .vmem S1x4x4096x256 .bf16)
    (harg4 : arg4.IsWhole) (arg5 : Memref sig .tc .vmem S1x4x128x4096 .bf16) (harg5 : arg5.IsWhole) (arg6 : Memref sig .tc .vmem S1x512x512 .bf16)
    (harg6 : arg6.IsWhole) (arg7 : Memref sig .tc .vmem S4x128x512 .f32) (harg7 : arg7.IsWhole)
    (X3 : BufTy.Contents (Elt F) arg3.view.ty) (X4 : BufTy.Contents (Elt F) arg4.view.ty) (X5 : BufTy.Contents (Elt F) arg5.view.ty)

theorem ldQ0 (x0 : Vec F S1x4x512x256 .bf16) (h0 : arg3.view.read (Elt F) X3 = x0) :
    (View.readAt (Elt F) arg3.view (Rect.unit (s := S1x4x512x256) ![0, 0, 0, 0] S1x1x512x256.size inb_S1x4x512x256_S1x1x512x256_0_0_0_0).toLoadRect X3) = qW x0 0 := by
  subst h0; exact View.readAt_unit _ _ _ rfl _

theorem ldQ1 (x0 : Vec F S1x4x512x256 .bf16) (h0 : arg3.view.read (Elt F) X3 = x0) :
    (View.readAt (Elt F) arg3.view (Rect.unit (s := S1x4x512x256) ![0, 1, 0, 0] S1x1x512x256.size inb_S1x4x512x256_S1x1x512x256_0_1_0_0).toLoadRect X3) = qW x0 1 := by
  subst h0; exact View.readAt_unit _ _ _ rfl _

theorem ldQ2 (x0 : Vec F S1x4x512x256 .bf16) (h0 : arg3.view.read (Elt F) X3 = x0) :
    (View.readAt (Elt F) arg3.view (Rect.unit (s := S1x4x512x256) ![0, 2, 0, 0] S1x1x512x256.size inb_S1x4x512x256_S1x1x512x256_0_2_0_0).toLoadRect X3) = qW x0 2 := by
  subst h0; exact View.readAt_unit _ _ _ rfl _

theorem ldQ3 (x0 : Vec F S1x4x512x256 .bf16) (h0 : arg3.view.read (Elt F) X3 = x0) :
    (View.readAt (Elt F) arg3.view (Rect.unit (s := S1x4x512x256) ![0, 3, 0, 0] S1x1x512x256.size inb_S1x4x512x256_S1x1x512x256_0_3_0_0).toLoadRect X3) = qW x0 3 := by
  subst h0; exact View.readAt_unit _ _ _ rfl _

theorem ld1 (k : Fin (k2_t1_loop i).trips) (x1 : Vec F S1x4x4096x256 .bf16) (h1 : arg4.view.read (Elt F) X4 = x1) :
    (View.readAt (Elt F) arg4.view (Rect.unit (s := S1x4x4096x256) (k2_off1 i k) S1x1x512x256.size (k2_off1_inb i k)).toLoadRect X4) = kW x1 0 (2 * k.val) := by
  subst h1; exact View.readAt_unit _ _ _ ((off1 i k).trans (by rw [Nat.mod_eq_of_lt (show 2 * k.val < 8 from lt_t1 i k 0 (by decide))]; rfl)) _
theorem ld2 (k : Fin (k2_t1_loop i).trips) (x2 : Vec F S1x4x128x4096 .bf16) (h2 : arg5.view.read (Elt F) X5 = x2) :
    (View.readAt (Elt F) arg5.view (Rect.unit (s := S1x4x128x4096) (k2_off2 i k) S1x1x128x512.size (k2_off2_inb i k)).toLoadRect X5) = vW x2 0 (2 * k.val) := by
  subst h2; exact View.readAt_unit _ _ _ ((off2 i k).trans (by rw [Nat.mod_eq_of_lt (show 2 * k.val < 8 from lt_t1 i k 0 (by decide))]; rfl)) _

theorem ld3 (k : Fin (k2_t1_loop i).trips) (x1 : Vec F S1x4x4096x256 .bf16) (h1 : arg4.view.read (Elt F) X4 = x1) :
    (View.readAt (Elt F) arg4.view (Rect.unit (s := S1x4x4096x256) (k2_off3 i k) S1x1x512x256.size (k2_off3_inb i k)).toLoadRect X4) = kW x1 1 (2 * k.val) := by
  subst h1; exact View.readAt_unit _ _ _ ((off3 i k).trans (by rw [Nat.mod_eq_of_lt (show 2 * k.val < 8 from lt_t1 i k 0 (by decide))]; rfl)) _
theorem ld4 (k : Fin (k2_t1_loop i).trips) (x2 : Vec F S1x4x128x4096 .bf16) (h2 : arg5.view.read (Elt F) X5 = x2) :
    (View.readAt (Elt F) arg5.view (Rect.unit (s := S1x4x128x4096) (k2_off4 i k) S1x1x128x512.size (k2_off4_inb i k)).toLoadRect X5) = vW x2 1 (2 * k.val) := by
  subst h2; exact View.readAt_unit _ _ _ ((off4 i k).trans (by rw [Nat.mod_eq_of_lt (show 2 * k.val < 8 from lt_t1 i k 0 (by decide))]; rfl)) _

theorem ld5 (k : Fin (k2_t1_loop i).trips) (x1 : Vec F S1x4x4096x256 .bf16) (h1 : arg4.view.read (Elt F) X4 = x1) :
    (View.readAt (Elt F) arg4.view (Rect.unit (s := S1x4x4096x256) (k2_off5 i k) S1x1x512x256.size (k2_off5_inb i k)).toLoadRect X4) = kW x1 2 (2 * k.val) := by
  subst h1; exact View.readAt_unit _ _ _ ((off5 i k).trans (by rw [Nat.mod_eq_of_lt (show 2 * k.val < 8 from lt_t1 i k 0 (by decide))]; rfl)) _
theorem ld6 (k : Fin (k2_t1_loop i).trips) (x2 : Vec F S1x4x128x4096 .bf16) (h2 : arg5.view.read (Elt F) X5 = x2) :
    (View.readAt (Elt F) arg5.view (Rect.unit (s := S1x4x128x4096) (k2_off6 i k) S1x1x128x512.size (k2_off6_inb i k)).toLoadRect X5) = vW x2 2 (2 * k.val) := by
  subst h2; exact View.readAt_unit _ _ _ ((off6 i k).trans (by rw [Nat.mod_eq_of_lt (show 2 * k.val < 8 from lt_t1 i k 0 (by decide))]; rfl)) _

theorem ld7 (k : Fin (k2_t1_loop i).trips) (x1 : Vec F S1x4x4096x256 .bf16) (h1 : arg4.view.read (Elt F) X4 = x1) :
    (View.readAt (Elt F) arg4.view (Rect.unit (s := S1x4x4096x256) (k2_off7 i k) S1x1x512x256.size (k2_off7_inb i k)).toLoadRect X4) = kW x1 3 (2 * k.val) := by
  subst h1; exact View.readAt_unit _ _ _ ((off7 i k).trans (by rw [Nat.mod_eq_of_lt (show 2 * k.val < 8 from lt_t1 i k 0 (by decide))]; rfl)) _
theorem ld8 (k : Fin (k2_t1_loop i).trips) (x2 : Vec F S1x4x128x4096 .bf16) (h2 : arg5.view.read (Elt F) X5 = x2) :
    (View.readAt (Elt F) arg5.view (Rect.unit (s := S1x4x128x4096) (k2_off8 i k) S1x1x128x512.size (k2_off8_inb i k)).toLoadRect X5) = vW x2 3 (2 * k.val) := by
  subst h2; exact View.readAt_unit _ _ _ ((off8 i k).trans (by rw [Nat.mod_eq_of_lt (show 2 * k.val < 8 from lt_t1 i k 0 (by decide))]; rfl)) _

theorem ld9 (k : Fin (k2_t1_loop i).trips) (x1 : Vec F S1x4x4096x256 .bf16) (h1 : arg4.view.read (Elt F) X4 = x1) :
    (View.readAt (Elt F) arg4.view (Rect.unit (s := S1x4x4096x256) (k2_off9 i k) S1x1x512x256.size (k2_off9_inb i k)).toLoadRect X4) = kW x1 0 (2 * k.val + 1) := by
  subst h1; exact View.readAt_unit _ _ _ ((off9 i k).trans (by rw [Nat.mod_eq_of_lt (lt_t1 i k 1 (by decide))]; rfl)) _
theorem ld10 (k : Fin (k2_t1_loop i).trips) (x2 : Vec F S1x4x128x4096 .bf16) (h2 : arg5.view.read (Elt F) X5 = x2) :
    (View.readAt (Elt F) arg5.view (Rect.unit (s := S1x4x128x4096) (k2_off10 i k) S1x1x128x512.size (k2_off10_inb i k)).toLoadRect X5) = vW x2 0 (2 * k.val + 1) := by
  subst h2; exact View.readAt_unit _ _ _ ((off10 i k).trans (by rw [Nat.mod_eq_of_lt (lt_t1 i k 1 (by decide))]; rfl)) _

theorem ld11 (k : Fin (k2_t1_loop i).trips) (x1 : Vec F S1x4x4096x256 .bf16) (h1 : arg4.view.read (Elt F) X4 = x1) :
    (View.readAt (Elt F) arg4.view (Rect.unit (s := S1x4x4096x256) (k2_off11 i k) S1x1x512x256.size (k2_off11_inb i k)).toLoadRect X4) = kW x1 1 (2 * k.val + 1) := by
  subst h1; exact View.readAt_unit _ _ _ ((off11 i k).trans (by rw [Nat.mod_eq_of_lt (lt_t1 i k 1 (by decide))]; rfl)) _
theorem ld12 (k : Fin (k2_t1_loop i).trips) (x2 : Vec F S1x4x128x4096 .bf16) (h2 : arg5.view.read (Elt F) X5 = x2) :
    (View.readAt (Elt F) arg5.view (Rect.unit (s := S1x4x128x4096) (k2_off12 i k) S1x1x128x512.size (k2_off12_inb i k)).toLoadRect X5) = vW x2 1 (2 * k.val + 1) := by
  subst h2; exact View.readAt_unit _ _ _ ((off12 i k).trans (by rw [Nat.mod_eq_of_lt (lt_t1 i k 1 (by decide))]; rfl)) _

theorem ld13 (k : Fin (k2_t1_loop i).trips) (x1 : Vec F S1x4x4096x256 .bf16) (h1 : arg4.view.read (Elt F) X4 = x1) :
    (View.readAt (Elt F) arg4.view (Rect.unit (s := S1x4x4096x256) (k2_off13 i k) S1x1x512x256.size (k2_off13_inb i k)).toLoadRect X4) = kW x1 2 (2 * k.val + 1) := by
  subst h1; exact View.readAt_unit _ _ _ ((off13 i k).trans (by rw [Nat.mod_eq_of_lt (lt_t1 i k 1 (by decide))]; rfl)) _
theorem ld14 (k : Fin (k2_t1_loop i).trips) (x2 : Vec F S1x4x128x4096 .bf16) (h2 : arg5.view.read (Elt F) X5 = x2) :
    (View.readAt (Elt F) arg5.view (Rect.unit (s := S1x4x128x4096) (k2_off14 i k) S1x1x128x512.size (k2_off14_inb i k)).toLoadRect X5) = vW x2 2 (2 * k.val + 1) := by
  subst h2; exact View.readAt_unit _ _ _ ((off14 i k).trans (by rw [Nat.mod_eq_of_lt (lt_t1 i k 1 (by decide))]; rfl)) _

theorem ld15 (k : Fin (k2_t1_loop i).trips) (x1 : Vec F S1x4x4096x256 .bf16) (h1 : arg4.view.read (Elt F) X4 = x1) :
    (View.readAt (Elt F) arg4.view (Rect.unit (s := S1x4x4096x256) (k2_off15 i k) S1x1x512x256.size (k2_off15_inb i k)).toLoadRect X4) = kW x1 3 (2 * k.val + 1) := by
  subst h1; exact View.readAt_unit _ _ _ ((off15 i k).trans (by rw [Nat.mod_eq_of_lt (lt_t1 i k 1 (by decide))]; rfl)) _
theorem ld16 (k : Fin (k2_t1_loop i).trips) (x2 : Vec F S1x4x128x4096 .bf16) (h2 : arg5.view.read (Elt F) X5 = x2) :
    (View.readAt (Elt F) arg5.view (Rect.unit (s := S1x4x128x4096) (k2_off16 i k) S1x1x128x512.size (k2_off16_inb i k)).toLoadRect X5) = vW x2 3 (2 * k.val + 1) := by
  subst h2; exact View.readAt_unit _ _ _ ((off16 i k).trans (by rw [Nat.mod_eq_of_lt (lt_t1 i k 1 (by decide))]; rfl)) _

theorem ld33 (k : Fin (k2_t3_loop i).trips) (x1 : Vec F S1x4x4096x256 .bf16) (h1 : arg4.view.read (Elt F) X4 = x1) :
    (View.readAt (Elt F) arg4.view (Rect.unit (s := S1x4x4096x256) (k2_off33 i k) S1x1x512x256.size (k2_off33_inb i k)).toLoadRect X4) = kW x1 0 (2 * ((i 2).val / 2) + k.val) := by
  subst h1; exact View.readAt_unit _ _ _ ((off33 i k).trans (by rw [Nat.mod_eq_of_lt (lt_t3 i k)]; rfl)) _
theorem ld34 (k : Fin (k2_t3_loop i).trips) (x2 : Vec F S1x4x128x4096 .bf16) (h2 : arg5.view.read (Elt F) X5 = x2) :
    (View.readAt (Elt F) arg5.view (Rect.unit (s := S1x4x128x4096) (k2_off34 i k) S1x1x128x512.size (k2_off34_inb i k)).toLoadRect X5) = vW x2 0 (2 * ((i 2).val / 2) + k.val) := by
  subst h2; exact View.readAt_unit _ _ _ ((off34 i k).trans (by rw [Nat.mod_eq_of_lt (lt_t3 i k)]; rfl)) _

theorem ld35 (k : Fin (k2_t3_loop i).trips) (x1 : Vec F S1x4x4096x256 .bf16) (h1 : arg4.view.read (Elt F) X4 = x1) :
    (View.readAt (Elt F) arg4.view (Rect.unit (s := S1x4x4096x256) (k2_off35 i k) S1x1x512x256.size (k2_off35_inb i k)).toLoadRect X4) = kW x1 1 (2 * ((i 2).val / 2) + k.val) := by
  subst h1; exact View.readAt_unit _ _ _ ((off35 i k).trans (by rw [Nat.mod_eq_of_lt (lt_t3 i k)]; rfl)) _
theorem ld36 (k : Fin (k2_t3_loop i).trips) (x2 : Vec F S1x4x128x4096 .bf16) (h2 : arg5.view.read (Elt F) X5 = x2) :
    (View.readAt (Elt F) arg5.view (Rect.unit (s := S1x4x128x4096) (k2_off36 i k) S1x1x128x512.size (k2_off36_inb i k)).toLoadRect X5) = vW x2 1 (2 * ((i 2).val / 2) + k.val) := by
  subst h2; exact View.readAt_unit _ _ _ ((off36 i k).trans (by rw [Nat.mod_eq_of_lt (lt_t3 i k)]; rfl)) _

theorem ld37 (k : Fin (k2_t3_loop i).trips) (x1 : Vec F S1x4x4096x256 .bf16) (h1 : arg4.view.read (Elt F) X4 = x1) :
    (View.readAt (Elt F) arg4.view (Rect.unit (s := S1x4x4096x256) (k2_off37 i k) S1x1x512x256.size (k2_off37_inb i k)).toLoadRect X4) = kW x1 2 (2 * ((i 2).val / 2) + k.val) := by
  subst h1; exact View.readAt_unit _ _ _ ((off37 i k).trans (by rw [Nat.mod_eq_of_lt (lt_t3 i k)]; rfl)) _
theorem ld38 (k : Fin (k2_t3_loop i).trips) (x2 : Vec F S1x4x128x4096 .bf16) (h2 : arg5.view.read (Elt F) X5 = x2) :
    (View.readAt (Elt F) arg5.view (Rect.unit (s := S1x4x128x4096) (k2_off38 i k) S1x1x128x512.size (k2_off38_inb i k)).toLoadRect X5) = vW x2 2 (2 * ((i 2).val / 2) + k.val) := by
  subst h2; exact View.readAt_unit _ _ _ ((off38 i k).trans (by rw [Nat.mod_eq_of_lt (lt_t3 i k)]; rfl)) _

theorem ld39 (k : Fin (k2_t3_loop i).trips) (x1 : Vec F S1x4x4096x256 .bf16) (h1 : arg4.view.read (Elt F) X4 = x1) :
    (View.readAt (Elt F) arg4.view (Rect.unit (s := S1x4x4096x256) (k2_off39 i k) S1x1x512x256.size (k2_off39_inb i k)).toLoadRect X4) = kW x1 3 (2 * ((i 2).val / 2) + k.val) := by
  subst h1; exact View.readAt_unit _ _ _ ((off39 i k).trans (by rw [Nat.mod_eq_of_lt (lt_t3 i k)]; rfl)) _
theorem ld40 (k : Fin (k2_t3_loop i).trips) (x2 : Vec F S1x4x128x4096 .bf16) (h2 : arg5.view.read (Elt F) X5 = x2) :
    (View.readAt (Elt F) arg5.view (Rect.unit (s := S1x4x128x4096) (k2_off40 i k) S1x1x128x512.size (k2_off40_inb i k)).toLoadRect X5) = vW x2 3 (2 * ((i 2).val / 2) + k.val) := by
  subst h2; exact View.readAt_unit _ _ _ ((off40 i k).trans (by rw [Nat.mod_eq_of_lt (lt_t3 i k)]; rfl)) _

theorem ld49 (x1 : Vec F S1x4x4096x256 .bf16) (h1 : arg4.view.read (Elt F) X4 = x1) :
    (View.readAt (Elt F) arg4.view (Rect.unit (s := S1x4x4096x256) (k2_off49 i) S1x1x512x256.size (k2_off49_inb i)).toLoadRect X4) = kW x1 0 (i 2).val := by
  subst h1; exact View.readAt_unit _ _ _ ((off49 i).trans (by rw [Nat.mod_eq_of_lt (lt_i2 i)]; rfl)) _
theorem ld50 (x2 : Vec F S1x4x128x4096 .bf16) (h2 : arg5.view.read (Elt F) X5 = x2) :
    (View.readAt (Elt F) arg5.view (Rect.unit (s := S1x4x128x4096) (k2_off50 i) S1x1x128x512.size (k2_off50_inb i)).toLoadRect X5) = vW x2 0 (i 2).val := by
  subst h2; exact View.readAt_unit _ _ _ ((off50 i).trans (by rw [Nat.mod_eq_of_lt (lt_i2 i)]; rfl)) _

theorem ld51 (x1 : Vec F S1x4x4096x256 .bf16) (h1 : arg4.view.read (Elt F) X4 = x1) :
    (View.readAt (Elt F) arg4.view (Rect.unit (s := S1x4x4096x256) (k2_off51 i) S1x1x512x256.size (k2_off51_inb i)).toLoadRect X4) = kW x1 1 (i 2).val := by
  subst h1; exact View.readAt_unit _ _ _ ((off51 i).trans (by rw [Nat.mod_eq_of_lt (lt_i2 i)]; rfl)) _
theorem ld52 (x2 : Vec F S1x4x128x4096 .bf16) (h2 : arg5.view.read (Elt F) X5 = x2) :
    (View.readAt (Elt F) arg5.view (Rect.unit (s := S1x4x128x4096) (k2_off52 i) S1x1x128x512.size (k2_off52_inb i)).toLoadRect X5) = vW x2 1 (i 2).val := by
  subst h2; exact View.readAt_unit _ _ _ ((off52 i).trans (by rw [Nat.mod_eq_of_lt (lt_i2 i)]; rfl)) _

theorem ld53 (x1 : Vec F S1x4x4096x256 .bf16) (h1 : arg4.view.read (Elt F) X4 = x1) :
    (View.readAt (Elt F) arg4.view (Rect.unit (s := S1x4x4096x256) (k2_off53 i) S1x1x512x256.size (k2_off53_inb i)).toLoadRect X4) = kW x1 2 (i 2).val := by
  subst h1; exact View.readAt_unit _ _ _ ((off53 i).trans (by rw [Nat.mod_eq_of_lt (lt_i2 i)]; rfl)) _
theorem ld54 (x2 : Vec F S1x4x128x4096 .bf16) (h2 : arg5.view.read (Elt F) X5 = x2) :
    (View.readAt (Elt F) arg5.view (Rect.unit (s := S1x4x128x4096) (k2_off54 i) S1x1x128x512.size (k2_off54_inb i)).toLoadRect X5) = vW x2 2 (i 2).val := by
  subst h2; exact View.readAt_unit _ _ _ ((off54 i).trans (by rw [Nat.mod_eq_of_lt (lt_i2 i)]; rfl)) _

theorem ld55 (x1 : Vec F S1x4x4096x256 .bf16) (h1 : arg4.view.read (Elt F) X4 = x1) :
    (View.readAt (Elt F) arg4.view (Rect.unit (s := S1x4x4096x256) (k2_off55 i) S1x1x512x256.size (k2_off55_inb i)).toLoadRect X4) = kW x1 3 (i 2).val := by
  subst h1; exact View.readAt_unit _ _ _ ((off55 i).trans (by rw [Nat.mod_eq_of_lt (lt_i2 i)]; rfl)) _
theorem ld56 (x2 : Vec F S1x4x128x4096 .bf16) (h2 : arg5.view.read (Elt F) X5 = x2) :
    (View.readAt (Elt F) arg5.view (Rect.unit (s := S1x4x128x4096) (k2_off56 i) S1x1x128x512.size (k2_off56_inb i)).toLoadRect X5) = vW x2 3 (i 2).val := by
  subst h2; exact View.readAt_unit _ _ _ ((off56 i).trans (by rw [Nat.mod_eq_of_lt (lt_i2 i)]; rfl)) _

set_option maxHeartbeats 1000000 in
/-- What a trip of the pair loop returns: every head two blocks further. -/
theorem tripR_t1 (k : Fin (k2_t1_loop i).trips) (s : Fin 4 → Car F) (f : BufTy.Contents (Elt F) arg7.view.ty) (x0 : Vec F S1x4x512x256 .bf16) (x1 : Vec F S1x4x4096x256 .bf16) (x2 : Vec F S1x4x128x4096 .bf16)
    (h0 : arg3.view.read (Elt F) X3 = x0) (h1 : arg4.view.read (Elt F) X4 = x1) (h2 : arg5.view.read (Elt F) X5 = x2) :
    tripR_k2_t1 (F := F) Variants.none c none i arg3 harg3 arg4 harg4 arg5 harg5 arg6 harg6 arg7 harg7 X3 X4 X5 k (tup s) f
      = tup fun hh => step (kW x1 hh (2 * k.val + 1)) (qW x0 hh) (vW x2 hh (2 * k.val + 1)) (step (kW x1 hh (2 * k.val)) (qW x0 hh) (vW x2 hh (2 * k.val)) (s hh)) := by
  have e : tripR_k2_t1 (F := F) Variants.none c none i arg3 harg3 arg4 harg4 arg5 harg5 arg6 harg6 arg7 harg7 X3 X4 X5 k (tup s) f =
     (
      k2_pay3 (k2_pay3 (s 0).m (View.readAt (Elt F) arg4.view (Rect.unit (s := S1x4x4096x256) (k2_off1 i k) S1x1x512x256.size (k2_off1_inb i k)).toLoadRect X4) (View.readAt (Elt F) arg3.view (Rect.unit (s := S1x4x512x256) ![0, 0, 0, 0] S1x1x512x256.size inb_S1x4x512x256_S1x1x512x256_0_0_0_0).toLoadRect X3)) (View.readAt (Elt F) arg4.view (Rect.unit (s := S1x4x4096x256) (k2_off9 i k) S1x1x512x256.size (k2_off9_inb i k)).toLoadRect X4) (View.readAt (Elt F) arg3.view (Rect.unit (s := S1x4x512x256) ![0, 0, 0, 0] S1x1x512x256.size inb_S1x4x512x256_S1x1x512x256_0_0_0_0).toLoadRect X3),
      k2_pay6 (k2_pay3 (s 0).m (View.readAt (Elt F) arg4.view (Rect.unit (s := S1x4x4096x256) (k2_off1 i k) S1x1x512x256.size (k2_off1_inb i k)).toLoadRect X4) (View.readAt (Elt F) arg3.view (Rect.unit (s := S1x4x512x256) ![0, 0, 0, 0] S1x1x512x256.size inb_S1x4x512x256_S1x1x512x256_0_0_0_0).toLoadRect X3)) (k2_pay6 (s 0).m (s 0).l (View.readAt (Elt F) arg4.view (Rect.unit (s := S1x4x4096x256) (k2_off1 i k) S1x1x512x256.size (k2_off1_inb i k)).toLoadRect X4) (View.readAt (Elt F) arg3.view (Rect.unit (s := S1x4x512x256) ![0, 0, 0, 0] S1x1x512x256.size inb_S1x4x512x256_S1x1x512x256_0_0_0_0).toLoadRect X3)) (View.readAt (Elt F) arg4.view (Rect.unit (s := S1x4x4096x256) (k2_off9 i k) S1x1x512x256.size (k2_off9_inb i k)).toLoadRect X4) (View.readAt (Elt F) arg3.view (Rect.unit (s := S1x4x512x256) ![0, 0, 0, 0] S1x1x512x256.size inb_S1x4x512x256_S1x1x512x256_0_0_0_0).toLoadRect X3),
      k2_pay3 (k2_pay3 (s 1).m (View.readAt (Elt F) arg4.view (Rect.unit (s := S1x4x4096x256) (k2_off3 i k) S1x1x512x256.size (k2_off3_inb i k)).toLoadRect X4) (View.readAt (Elt F) arg3.view (Rect.unit (s := S1x4x512x256) ![0, 1, 0, 0] S1x1x512x256.size inb_S1x4x512x256_S1x1x512x256_0_1_0_0).toLoadRect X3)) (View.readAt (Elt F) arg4.view (Rect.unit (s := S1x4x4096x256) (k2_off11 i k) S1x1x512x256.size (k2_off11_inb i k)).toLoadRect X4) (View.readAt (Elt F) arg3.view (Rect.unit (s := S1x4x512x256) ![0, 1, 0, 0] S1x1x512x256.size inb_S1x4x512x256_S1x1x512x256_0_1_0_0).toLoadRect X3),
      k2_pay6 (k2_pay3 (s 1).m (View.readAt (Elt F) arg4.view (Rect.unit (s := S1x4x4096x256) (k2_off3 i k) S1x1x512x256.size (k2_off3_inb i k)).toLoadRect X4) (View.readAt (Elt F) arg3.view (Rect.unit (s := S1x4x512x256) ![0, 1, 0, 0] S1x1x512x256.size inb_S1x4x512x256_S1x1x512x256_0_1_0_0).toLoadRect X3)) (k2_pay6 (s 1).m (s 1).l (View.readAt (Elt F) arg4.view (Rect.unit (s := S1x4x4096x256) (k2_off3 i k) S1x1x512x256.size (k2_off3_inb i k)).toLoadRect X4) (View.readAt (Elt F) arg3.view (Rect.unit (s := S1x4x512x256) ![0, 1, 0, 0] S1x1x512x256.size inb_S1x4x512x256_S1x1x512x256_0_1_0_0).toLoadRect X3)) (View.readAt (Elt F) arg4.view (Rect.unit (s := S1x4x4096x256) (k2_off11 i k) S1x1x512x256.size (k2_off11_inb i k)).toLoadRect X4) (View.readAt (Elt F) arg3.view (Rect.unit (s := S1x4x512x256) ![0, 1, 0, 0] S1x1x512x256.size inb_S1x4x512x256_S1x1x512x256_0_1_0_0).toLoadRect X3),
      k2_pay3 (k2_pay3 (s 2).m (View.readAt (Elt F) arg4.view (Rect.unit (s := S1x4x4096x256) (k2_off5 i k) S1x1x512x256.size (k2_off5_inb i k)).toLoadRect X4) (View.readAt (Elt F) arg3.view (Rect.unit (s := S1x4x512x256) ![0, 2, 0, 0] S1x1x512x256.size inb_S1x4x512x256_S1x1x512x256_0_2_0_0).toLoadRect X3)) (View.readAt (Elt F) arg4.view (Rect.unit (s := S1x4x4096x256) (k2_off13 i k) S1x1x512x256.size (k2_off13_inb i k)).toLoadRect X4) (View.readAt (Elt F) arg3.view (Rect.unit (s := S1x4x512x256) ![0, 2, 0, 0] S1x1x512x256.size inb_S1x4x512x256_S1x1x512x256_0_2_0_0).toLoadRect X3),
      k2_pay6 (k2_pay3 (s 2).m (View.readAt (Elt F) arg4.view (Rect.unit (s := S1x4x4096x256) (k2_off5 i k) S1x1x512x256.size (k2_off5_inb i k)).toLoadRect X4) (View.readAt (Elt F) arg3.view (Rect.unit (s := S1x4x512x256) ![0, 2, 0, 0] S1x1x512x256.size inb_S1x4x512x256_S1x1x512x256_0_2_0_0).toLoadRect X3)) (k2_pay6 (s 2).m (s 2).l (View.readAt (Elt F) arg4.view (Rect.unit (s := S1x4x4096x256) (k2_off5 i k) S1x1x512x256.size (k2_off5_inb i k)).toLoadRect X4) (View.readAt (Elt F) arg3.view (Rect.unit (s := S1x4x512x256) ![0, 2, 0, 0] S1x1x512x256.size inb_S1x4x512x256_S1x1x512x256_0_2_0_0).toLoadRect X3)) (View.readAt (Elt F) arg4.view (Rect.unit (s := S1x4x4096x256) (k2_off13 i k) S1x1x512x256.size (k2_off13_inb i k)).toLoadRect X4) (View.readAt (Elt F) arg3.view (Rect.unit (s := S1x4x512x256) ![0, 2, 0, 0] S1x1x512x256.size inb_S1x4x512x256_S1x1x512x256_0_2_0_0).toLoadRect X3),
      k2_pay3 (k2_pay3 (s 3).m (View.readAt (Elt F) arg4.view (Rect.unit (s := S1x4x4096x256) (k2_off7 i k) S1x1x512x256.size (k2_off7_inb i k)).toLoadRect X4) (View.readAt (Elt F) arg3.view (Rect.unit (s := S1x4x512x256) ![0, 3, 0, 0] S1x1x512x256.size inb_S1x4x512x256_S1x1x512x256_0_3_0_0).toLoadRect X3)) (View.readAt (Elt F) arg4.view (Rect.unit (s := S1x4x4096x256) (k2_off15 i k) S1x1x512x256.size (k2_off15_inb i k)).toLoadRect X4) (View.readAt (Elt F) arg3.view (Rect.unit (s := S1x4x512x256) ![0, 3, 0, 0] S1x1x512x256.size inb_S1x4x512x256_S1x1x512x256_0_3_0_0).toLoadRect X3),
      k2_pay6 (k2_pay3 (s 3).m (View.readAt (Elt F) arg4.view (Rect.unit (s := S1x4x4096x256) (k2_off7 i k) S1x1x512x256.size (k2_off7_inb i k)).toLoadRect X4) (View.readAt (Elt F) arg3.view (Rect.unit (s := S1x4x512x256) ![0, 3, 0, 0] S1x1x512x256.size inb_S1x4x512x256_S1x1x512x256_0_3_0_0).toLoadRect X3)) (k2_pay6 (s 3).m (s 3).l (View.readAt (Elt F) arg4.view (Rect.unit (s := S1x4x4096x256) (k2_off7 i k) S1x1x512x256.size (k2_off7_inb i k)).toLoadRect X4) (View.readAt (Elt F) arg3.view (Rect.unit (s := S1x4x512x256) ![0, 3, 0, 0] S1x1x512x256.size inb_S1x4x512x256_S1x1x512x256_0_3_0_0).toLoadRect X3)) (View.readAt (Elt F) arg4.view (Rect.unit (s := S1x4x4096x256) (k2_off15 i k) S1x1x512x256.size (k2_off15_inb i k)).toLoadRect X4) (View.readAt (Elt F) arg3.view (Rect.unit (s := S1x4x512x256) ![0, 3, 0, 0] S1x1x512x256.size inb_S1x4x512x256_S1x1x512x256_0_3_0_0).toLoadRect X3)) := by
    unfold tripR_k2_t1 trip_k2_t1
    rfl
  rw [e, ldQ0 arg3 X3 x0 h0, ldQ1 arg3 X3 x0 h0, ldQ2 arg3 X3 x0 h0, ldQ3 arg3 X3 x0 h0, ld1 i arg4 X4 k x1 h1, ld3 i arg4 X4 k x1 h1, ld5 i arg4 X4 k x1 h1, ld7 i arg4 X4 k x1 h1, ld9 i arg4 X4 k x1 h1, ld11 i arg4 X4 k x1 h1, ld13 i arg4 X4 k x1 h1, ld15 i arg4 X4 k x1 h1]
  rfl

set_option maxHeartbeats 1000000 in
/-- The stores of a trip of the pair loop, as the run found them. -/
theorem tripL_t1_found (k : Fin (k2_t1_loop i).trips) (s : Fin 4 → Car F) (f : BufTy.Contents (Elt F) arg7.view.ty) :
    ∃ a1 a2 : Fin 4 → Vec F S1x128x512 .f32,
      tripL_k2_t1 (F := F) Variants.none c none i arg3 harg3 arg4 harg4 arg5 harg5 arg6 harg6 arg7 harg7 X3 X4 X5 k (tup s) f = pieces a2 ++ pieces a1
      ∧ a1 0 = k2_pay8 (k2_pay7 (s 0).m (View.readAt (Elt F) arg4.view (Rect.unit (s := S1x4x4096x256) (k2_off1 i k) S1x1x512x256.size (k2_off1_inb i k)).toLoadRect X4) (View.readAt (Elt F) arg3.view (Rect.unit (s := S1x4x512x256) ![0, 0, 0, 0] S1x1x512x256.size inb_S1x4x512x256_S1x1x512x256_0_0_0_0).toLoadRect X3) (View.readAt (Elt F) arg5.view (Rect.unit (s := S1x4x128x4096) (k2_off2 i k) S1x1x128x512.size (k2_off2_inb i k)).toLoadRect X5) (View.readAt (Elt F) arg7.view (Rect.unit (s := S4x128x512) ![0, 0, 0] S1x128x512.size inb_S4x128x512_S1x128x512_0_0_0).toLoadRect f))
      ∧ a1 1 = k2_pay8 (k2_pay7 (s 1).m (View.readAt (Elt F) arg4.view (Rect.unit (s := S1x4x4096x256) (k2_off3 i k) S1x1x512x256.size (k2_off3_inb i k)).toLoadRect X4) (View.readAt (Elt F) arg3.view (Rect.unit (s := S1x4x512x256) ![0, 1, 0, 0] S1x1x512x256.size inb_S1x4x512x256_S1x1x512x256_0_1_0_0).toLoadRect X3) (View.readAt (Elt F) arg5.view (Rect.unit (s := S1x4x128x4096) (k2_off4 i k) S1x1x128x512.size (k2_off4_inb i k)).toLoadRect X5) (View.readAt (Elt F) arg7.view (Rect.unit (s := S4x128x512) ![1, 0, 0] S1x128x512.size inb_S4x128x512_S1x128x512_1_0_0).toLoadRect f))
      ∧ a1 2 = k2_pay8 (k2_pay7 (s 2).m (View.readAt (Elt F) arg4.view (Rect.unit (s := S1x4x4096x256) (k2_off5 i k) S1x1x512x256.size (k2_off5_inb i k)).toLoadRect X4) (View.readAt (Elt F) arg3.view (Rect.unit (s := S1x4x512x256) ![0, 2, 0, 0] S1x1x512x256.size inb_S1x4x512x256_S1x1x512x256_0_2_0_0).toLoadRect X3) (View.readAt (Elt F) arg5.view (Rect.unit (s := S1x4x128x4096) (k2_off6 i k) S1x1x128x512.size (k2_off6_inb i k)).toLoadRect X5) (View.readAt (Elt F) arg7.view (Rect.unit (s := S4x128x512) ![2, 0, 0] S1x128x512.size inb_S4x128x512_S1x128x512_2_0_0).toLoadRect f))
      ∧ a1 3 = k2_pay8 (k2_pay7 (s 3).m (View.readAt (Elt F) arg4.view (Rect.unit (s := S1x4x4096x256) (k2_off7 i k) S1x1x512x256.size (k2_off7_inb i k)).toLoadRect X4) (View.readAt (Elt F) arg3.view (Rect.unit (s := S1x4x512x256) ![0, 3, 0, 0] S1x1x512x256.size inb_S1x4x512x256_S1x1x512x256_0_3_0_0).toLoadRect X3) (View.readAt (Elt F) arg5.view (Rect.unit (s := S1x4x128x4096) (k2_off8 i k) S1x1x128x512.size (k2_off8_inb i k)).toLoadRect X5) (View.readAt (Elt F) arg7.view (Rect.unit (s := S4x128x512) ![3, 0, 0] S1x128x512.size inb_S4x128x512_S1x128x512_3_0_0).toLoadRect f))
      ∧ a2 0 = k2_pay8 (k2_pay7 (k2_pay3 (s 0).m (View.readAt (Elt F) arg4.view (Rect.unit (s := S1x4x4096x256) (k2_off1 i k) S1x1x512x256.size (k2_off1_inb i k)).toLoadRect X4) (View.readAt (Elt F) arg3.view (Rect.unit (s := S1x4x512x256) ![0, 0, 0, 0] S1x1x512x256.size inb_S1x4x512x256_S1x1x512x256_0_0_0_0).toLoadRect X3)) (View.readAt (Elt F) arg4.view (Rect.unit (s := S1x4x4096x256) (k2_off9 i k) S1x1x512x256.size (k2_off9_inb i k)).toLoadRect X4) (View.readAt (Elt F) arg3.view (Rect.unit (s := S1x4x512x256) ![0, 0, 0, 0] S1x1x512x256.size inb_S1x4x512x256_S1x1x512x256_0_0_0_0).toLoadRect X3) (View.readAt (Elt F) arg5.view (Rect.unit (s := S1x4x128x4096) (k2_off10 i k) S1x1x128x512.size (k2_off10_inb i k)).toLoadRect X5) (arg7.view.readCov (pieces a1) (Rect.unit (s := S4x128x512) ![0, 0, 0] S1x128x512.size inb_S4x128x512_S1x128x512_0_0_0).toLoadRect))
      ∧ a2 1 = k2_pay8 (k2_pay7 (k2_pay3 (s 1).m (View.readAt (Elt F) arg4.view (Rect.unit (s := S1x4x4096x256) (k2_off3 i k) S1x1x512x256.size (k2_off3_inb i k)).toLoadRect X4) (View.readAt (Elt F) arg3.view (Rect.unit (s := S1x4x512x256) ![0, 1, 0, 0] S1x1x512x256.size inb_S1x4x512x256_S1x1x512x256_0_1_0_0).toLoadRect X3)) (View.readAt (Elt F) arg4.view (Rect.unit (s := S1x4x4096x256) (k2_off11 i k) S1x1x512x256.size (k2_off11_inb i k)).toLoadRect X4) (View.readAt (Elt F) arg3.view (Rect.unit (s := S1x4x512x256) ![0, 1, 0, 0] S1x1x512x256.size inb_S1x4x512x256_S1x1x512x256_0_1_0_0).toLoadRect X3) (View.readAt (Elt F) arg5.view (Rect.unit (s := S1x4x128x4096) (k2_off12 i k) S1x1x128x512.size (k2_off12_inb i k)).toLoadRect X5) (arg7.view.readCov (⟨Rect.unit (s := S4x128x512) ![0, 0, 0] S1x128x512.size inb_S4x128x512_S1x128x512_0_0_0, a2 0⟩ :: pieces a1) (Rect.unit (s := S4x128x512) ![1, 0, 0] S1x128x512.size inb_S4x128x512_S1x128x512_1_0_0).toLoadRect))
      ∧ a2 2 = k2_pay8 (k2_pay7 (k2_pay3 (s 2).m (View.readAt (Elt F) arg4.view (Rect.unit (s := S1x4x4096x256) (k2_off5 i k) S1x1x512x256.size (k2_off5_inb i k)).toLoadRect X4) (View.readAt (Elt F) arg3.view (Rect.unit (s := S1x4x512x256) ![0, 2, 0, 0] S1x1x512x256.size inb_S1x4x512x256_S1x1x512x256_0_2_0_0).toLoadRect X3)) (View.readAt (Elt F) arg4.view (Rect.unit (s := S1x4x4096x256) (k2_off13 i k) S1x1x512x256.size (k2_off13_inb i k)).toLoadRect X4) (View.readAt (Elt F) arg3.view (Rect.unit (s := S1x4x512x256) ![0, 2, 0, 0] S1x1x512x256.size inb_S1x4x512x256_S1x1x512x256_0_2_0_0).toLoadRect X3) (View.readAt (Elt F) arg5.view (Rect.unit (s := S1x4x128x4096) (k2_off14 i k) S1x1x128x512.size (k2_off14_inb i k)).toLoadRect X5) (arg7.view.readCov (⟨Rect.unit (s := S4x128x512) ![1, 0, 0] S1x128x512.size inb_S4x128x512_S1x128x512_1_0_0, a2 1⟩ :: ⟨Rect.unit (s := S4x128x512) ![0, 0, 0] S1x128x512.size inb_S4x128x512_S1x128x512_0_0_0, a2 0⟩ :: pieces a1) (Rect.unit (s := S4x128x512) ![2, 0, 0] S1x128x512.size inb_S4x128x512_S1x128x512_2_0_0).toLoadRect))
      ∧ a2 3 = k2_pay8 (k2_pay7 (k2_pay3 (s 3).m (View.readAt (Elt F) arg4.view (Rect.unit (s := S1x4x4096x256) (k2_off7 i k) S1x1x512x256.size (k2_off7_inb i k)).toLoadRect X4) (View.readAt (Elt F) arg3.view (Rect.unit (s := S1x4x512x256) ![0, 3, 0, 0] S1x1x512x256.size inb_S1x4x512x256_S1x1x512x256_0_3_0_0).toLoadRect X3)) (View.readAt (Elt F) arg4.view (Rect.unit (s := S1x4x4096x256) (k2_off15 i k) S1x1x512x256.size (k2_off15_inb i k)).toLoadRect X4) (View.readAt (Elt F) arg3.view (Rect.unit (s := S1x4x512x256) ![0, 3, 0, 0] S1x1x512x256.size inb_S1x4x512x256_S1x1x512x256_0_3_0_0).toLoadRect X3) (View.readAt (Elt F) arg5.view (Rect.unit (s := S1x4x128x4096) (k2_off16 i k) S1x1x128x512.size (k2_off16_inb i k)).toLoadRect X5) (arg7.view.readCov (⟨Rect.unit (s := S4x128x512) ![2, 0, 0] S1x128x512.size inb_S4x128x512_S1x128x512_2_0_0, a2 2⟩ :: ⟨Rect.unit (s := S4x128x512) ![1, 0, 0] S1x128x512.size inb_S4x128x512_S1x128x512_1_0_0, a2 1⟩ :: ⟨Rect.unit (s := S4x128x512) ![0, 0, 0] S1x128x512.size inb_S4x128x512_S1x128x512_0_0_0, a2 0⟩ :: pieces a1) (Rect.unit (s := S4x128x512) ![3, 0, 0] S1x128x512.size inb_S4x128x512_S1x128x512_3_0_0).toLoadRect)) := by
  refine ⟨![trip_k2_t1.sl.v255 i arg3 arg4 arg5 arg7 X3 X4 X5 k (tup s) f, trip_k2_t1.sl.v286 i arg3 arg4 arg5 arg7 X3 X4 X5 k (tup s) f, trip_k2_t1.sl.v317 i arg3 arg4 arg5 arg7 X3 X4 X5 k (tup s) f, trip_k2_t1.sl.v348 i arg3 arg4 arg5 arg7 X3 X4 X5 k (tup s) f],
    ![trip_k2_t1.sl.v381 i arg3 arg4 arg5 arg7 X3 X4 X5 k (tup s) f, trip_k2_t1.sl.v412 i arg3 arg4 arg5 arg7 X3 X4 X5 k (tup s) f, trip_k2_t1.sl.v443 i arg3 arg4 arg5 arg7 X3 X4 X5 k (tup s) f, k2_pay165 (trip_k2_t1.sl.v466 i arg3 arg4 arg5 X3 X4 X5 k (tup s)) (trip_k2_t1.sl.v468 i arg3 arg4 arg5 arg7 X3 X4 X5 k (tup s) f) (trip_k2_t1.sl.v469 i arg3 arg4 X3 X4 k (tup s))], ?_, ?_, ?_, ?_, ?_, ?_, ?_, ?_, ?_⟩
  · unfold tripL_k2_t1 trip_k2_t1; rfl
  all_goals rfl

/-- What a trip of the pair loop leaves in the scratch. -/
theorem tripL_t1 (k : Fin (k2_t1_loop i).trips) (s : Fin 4 → Car F) (f : BufTy.Contents (Elt F) arg7.view.ty) (x0 : Vec F S1x4x512x256 .bf16) (x1 : Vec F S1x4x4096x256 .bf16) (x2 : Vec F S1x4x128x4096 .bf16)
    (h0 : arg3.view.read (Elt F) X3 = x0) (h1 : arg4.view.read (Elt F) X4 = x1) (h2 : arg5.view.read (Elt F) X5 = x2)
    (hf : Slabs s (arg7.view.read (Elt F) f)) :
    ∃ L, tripL_k2_t1 (F := F) Variants.none c none i arg3 harg3 arg4 harg4 arg5 harg5 arg6 harg6 arg7 harg7 X3 X4 X5 k (tup s) f
      = pieces (fun hh => (step (kW x1 hh (2 * k.val + 1)) (qW x0 hh) (vW x2 hh (2 * k.val + 1)) (step (kW x1 hh (2 * k.val)) (qW x0 hh) (vW x2 hh (2 * k.val)) (s hh))).a) ++ L := by
  obtain ⟨a1, a2, e, p0, p1, p2, p3, r0, r1, r2, r3⟩ := tripL_t1_found (F := F) c i arg3 harg3 arg4 harg4 arg5 harg5 arg6 harg6 arg7 harg7 X3 X4 X5 k s f
  refine ⟨_, e.trans (congrArg (· ++ _) (congrArg pieces ?_))⟩
  rw [cvA0, p0, ldA0, hf 0, ldQ0 arg3 X3 x0 h0, ld1 i arg4 X4 k x1 h1, ld2 i arg5 X5 k x2 h2, ld9 i arg4 X4 k x1 h1, ld10 i arg5 X5 k x2 h2] at r0
  rw [readCov_cons_ne _ _ _ _ _ (by decide), cvA1, p1, ldA1, hf 1, ldQ1 arg3 X3 x0 h0, ld3 i arg4 X4 k x1 h1, ld4 i arg5 X5 k x2 h2, ld11 i arg4 X4 k x1 h1, ld12 i arg5 X5 k x2 h2] at r1
  rw [readCov_cons_ne _ _ _ _ _ (by decide), readCov_cons_ne _ _ _ _ _ (by decide), cvA2, p2, ldA2, hf 2, ldQ2 arg3 X3 x0 h0, ld5 i arg4 X4 k x1 h1, ld6 i arg5 X5 k x2 h2, ld13 i arg4 X4 k x1 h1, ld14 i arg5 X5 k x2 h2] at r2
  rw [readCov_cons_ne _ _ _ _ _ (by decide), readCov_cons_ne _ _ _ _ _ (by decide), readCov_cons_ne _ _ _ _ _ (by decide), cvA3, p3, ldA3, hf 3, ldQ3 arg3 X3 x0 h0, ld7 i arg4 X4 k x1 h1, ld8 i arg5 X5 k x2 h2, ld15 i arg4 X4 k x1 h1, ld16 i arg5 X5 k x2 h2] at r3
  funext hh
  fin_cases hh
  · exact r0
  · exact r1
  · exact r2
  · exact r3

section

variable (arg2 : BitVec 32) (w0 w1 w2 w3 w4 w5 w6 w7 : FVec F S1x512 .f32) (v30 v35 c1 : BitVec 32)

set_option maxHeartbeats 1000000 in
/-- What a trip of the odd loop returns: every head one block further. -/
theorem tripR_t3 (k : Fin (k2_t3_loop i).trips) (s : Fin 4 → Car F) (f : BufTy.Contents (Elt F) arg7.view.ty) (x0 : Vec F S1x4x512x256 .bf16) (x1 : Vec F S1x4x4096x256 .bf16) (x2 : Vec F S1x4x128x4096 .bf16)
    (h0 : arg3.view.read (Elt F) X3 = x0) (h1 : arg4.view.read (Elt F) X4 = x1) (h2 : arg5.view.read (Elt F) X5 = x2) :
    tripR_k2_t3 (F := F) Variants.none c none i arg3 harg3 arg4 harg4 arg5 harg5 arg6 harg6 arg7 harg7 arg2 w0 w1 w2 w3 w4 w5 w6 w7 v30 v35 c1 X3 X4 X5 k (tup s) f = tup fun hh => step (kW x1 hh (2 * ((i 2).val / 2) + k.val)) (qW x0 hh) (vW x2 hh (2 * ((i 2).val / 2) + k.val)) (s hh) := by
  have e : tripR_k2_t3 (F := F) Variants.none c none i arg3 harg3 arg4 harg4 arg5 harg5 arg6 harg6 arg7 harg7 arg2 w0 w1 w2 w3 w4 w5 w6 w7 v30 v35 c1 X3 X4 X5 k (tup s) f =
     (k2_pay3 (s 0).m (View.readAt (Elt F) arg4.view (Rect.unit (s := S1x4x4096x256) (k2_off33 i k) S1x1x512x256.size (k2_off33_inb i k)).toLoadRect X4) (View.readAt (Elt F) arg3.view (Rect.unit (s := S1x4x512x256) ![0, 0, 0, 0] S1x1x512x256.size inb_S1x4x512x256_S1x1x512x256_0_0_0_0).toLoadRect X3),
      k2_pay6 (s 0).m (s 0).l (View.readAt (Elt F) arg4.view (Rect.unit (s := S1x4x4096x256) (k2_off33 i k) S1x1x512x256.size (k2_off33_inb i k)).toLoadRect X4) (View.readAt (Elt F) arg3.view (Rect.unit (s := S1x4x512x256) ![0, 0, 0, 0] S1x1x512x256.size inb_S1x4x512x256_S1x1x512x256_0_0_0_0).toLoadRect X3),
      k2_pay3 (s 1).m (View.readAt (Elt F) arg4.view (Rect.unit (s := S1x4x4096x256) (k2_off35 i k) S1x1x512x256.size (k2_off35_inb i k)).toLoadRect X4) (View.readAt (Elt F) arg3.view (Rect.unit (s := S1x4x512x256) ![0, 1, 0, 0] S1x1x512x256.size inb_S1x4x512x256_S1x1x512x256_0_1_0_0).toLoadRect X3),
      k2_pay6 (s 1).m (s 1).l (View.readAt (Elt F) arg4.view (Rect.unit (s := S1x4x4096x256) (k2_off35 i k) S1x1x512x256.size (k2_off35_inb i k)).toLoadRect X4) (View.readAt (Elt F) arg3.view (Rect.unit (s := S1x4x512x256) ![0, 1, 0, 0] S1x1x512x256.size inb_S1x4x512x256_S1x1x512x256_0_1_0_0).toLoadRect X3),
      k2_pay3 (s 2).m (View.readAt (Elt F) arg4.view (Rect.unit (s := S1x4x4096x256) (k2_off37 i k) S1x1x512x256.size (k2_off37_inb i k)).toLoadRect X4) (View.readAt (Elt F) arg3.view (Rect.unit (s := S1x4x512x256) ![0, 2, 0, 0] S1x1x512x256.size inb_S1x4x512x256_S1x1x512x256_0_2_0_0).toLoadRect X3),
      k2_pay6 (s 2).m (s 2).l (View.readAt (Elt F) arg4.view (Rect.unit (s := S1x4x4096x256) (k2_off37 i k) S1x1x512x256.size (k2_off37_inb i k)).toLoadRect X4) (View.readAt (Elt F) arg3.view (Rect.unit (s := S1x4x512x256) ![0, 2, 0, 0] S1x1x512x256.size inb_S1x4x512x256_S1x1x512x256_0_2_0_0).toLoadRect X3),
      k2_pay3 (s 3).m (View.readAt (Elt F) arg4.view (Rect.unit (s := S1x4x4096x256) (k2_off39 i k) S1x1x512x256.size (k2_off39_inb i k)).toLoadRect X4) (View.readAt (Elt F) arg3.view (Rect.unit (s := S1x4x512x256) ![0, 3, 0, 0] S1x1x512x256.size inb_S1x4x512x256_S1x1x512x256_0_3_0_0).toLoadRect X3),
      k2_pay6 (s 3).m (s 3).l (View.readAt (Elt F) arg4.view (Rect.unit (s := S1x4x4096x256) (k2_off39 i k) S1x1x512x256.size (k2_off39_inb i k)).toLoadRect X4) (View.readAt (Elt F) arg3.view (Rect.unit (s := S1x4x512x256) ![0, 3, 0, 0] S1x1x512x256.size inb_S1x4x512x256_S1x1x512x256_0_3_0_0).toLoadRect X3)) := by
    unfold tripR_k2_t3 trip_k2_t3
    rfl
  rw [e, ldQ0 arg3 X3 x0 h0, ldQ1 arg3 X3 x0 h0, ldQ2 arg3 X3 x0 h0, ldQ3 arg3 X3 x0 h0, ld33 i arg4 X4 k x1 h1, ld35 i arg4 X4 k x1 h1, ld37 i arg4 X4 k x1 h1, ld39 i arg4 X4 k x1 h1]
  rfl

set_option maxHeartbeats 1000000 in
/-- What a trip of the odd loop leaves in the scratch. -/
theorem tripL_t3 (k : Fin (k2_t3_loop i).trips) (s : Fin 4 → Car F) (f : BufTy.Contents (Elt F) arg7.view.ty) (x0 : Vec F S1x4x512x256 .bf16) (x1 : Vec F S1x4x4096x256 .bf16) (x2 : Vec F S1x4x128x4096 .bf16)
    (h0 : arg3.view.read (Elt F) X3 = x0) (h1 : arg4.view.read (Elt F) X4 = x1) (h2 : arg5.view.read (Elt F) X5 = x2)
    (hf : Slabs s (arg7.view.read (Elt F) f)) :
    tripL_k2_t3 (F := F) Variants.none c none i arg3 harg3 arg4 harg4 arg5 harg5 arg6 harg6 arg7 harg7 arg2 w0 w1 w2 w3 w4 w5 w6 w7 v30 v35 c1 X3 X4 X5 k (tup s) f = pieces (fun hh => (step (kW x1 hh (2 * ((i 2).val / 2) + k.val)) (qW x0 hh) (vW x2 hh (2 * ((i 2).val / 2) + k.val)) (s hh)).a) := by
  have e : tripL_k2_t3 (F := F) Variants.none c none i arg3 harg3 arg4 harg4 arg5 harg5 arg6 harg6 arg7 harg7 arg2 w0 w1 w2 w3 w4 w5 w6 w7 v30 v35 c1 X3 X4 X5 k (tup s) f =
     pieces ![k2_pay8 (k2_pay7 (s 0).m (View.readAt (Elt F) arg4.view (Rect.unit (s := S1x4x4096x256) (k2_off33 i k) S1x1x512x256.size (k2_off33_inb i k)).toLoadRect X4) (View.readAt (Elt F) arg3.view (Rect.unit (s := S1x4x512x256) ![0, 0, 0, 0] S1x1x512x256.size inb_S1x4x512x256_S1x1x512x256_0_0_0_0).toLoadRect X3) (View.readAt (Elt F) arg5.view (Rect.unit (s := S1x4x128x4096) (k2_off34 i k) S1x1x128x512.size (k2_off34_inb i k)).toLoadRect X5) (View.readAt (Elt F) arg7.view (Rect.unit (s := S4x128x512) ![0, 0, 0] S1x128x512.size inb_S4x128x512_S1x128x512_0_0_0).toLoadRect f)),
      k2_pay8 (k2_pay7 (s 1).m (View.readAt (Elt F) arg4.view (Rect.unit (s := S1x4x4096x256) (k2_off35 i k) S1x1x512x256.size (k2_off35_inb i k)).toLoadRect X4) (View.readAt (Elt F) arg3.view (Rect.unit (s := S1x4x512x256) ![0, 1, 0, 0] S1x1x512x256.size inb_S1x4x512x256_S1x1x512x256_0_1_0_0).toLoadRect X3) (View.readAt (Elt F) arg5.view (Rect.unit (s := S1x4x128x4096) (k2_off36 i k) S1x1x128x512.size (k2_off36_inb i k)).toLoadRect X5) (View.readAt (Elt F) arg7.view (Rect.unit (s := S4x128x512) ![1, 0, 0] S1x128x512.size inb_S4x128x512_S1x128x512_1_0_0).toLoadRect f)),
      k2_pay8 (k2_pay7 (s 2).m (View.readAt (Elt F) arg4.view (Rect.unit (s := S1x4x4096x256) (k2_off37 i k) S1x1x512x256.size (k2_off37_inb i k)).toLoadRect X4) (View.readAt (Elt F) arg3.view (Rect.unit (s := S1x4x512x256) ![0, 2, 0, 0] S1x1x512x256.size inb_S1x4x512x256_S1x1x512x256_0_2_0_0).toLoadRect X3) (View.readAt (Elt F) arg5.view (Rect.unit (s := S1x4x128x4096) (k2_off38 i k) S1x1x128x512.size (k2_off38_inb i k)).toLoadRect X5) (View.readAt (Elt F) arg7.view (Rect.unit (s := S4x128x512) ![2, 0, 0] S1x128x512.size inb_S4x128x512_S1x128x512_2_0_0).toLoadRect f)),
      k2_pay8 (k2_pay7 (s 3).m (View.readAt (Elt F) arg4.view (Rect.unit (s := S1x4x4096x256) (k2_off39 i k) S1x1x512x256.size (k2_off39_inb i k)).toLoadRect X4) (View.readAt (Elt F) arg3.view (Rect.unit (s := S1x4x512x256) ![0, 3, 0, 0] S1x1x512x256.size inb_S1x4x512x256_S1x1x512x256_0_3_0_0).toLoadRect X3) (View.readAt (Elt F) arg5.view (Rect.unit (s := S1x4x128x4096) (k2_off40 i k) S1x1x128x512.size (k2_off40_inb i k)).toLoadRect X5) (View.readAt (Elt F) arg7.view (Rect.unit (s := S4x128x512) ![3, 0, 0] S1x128x512.size inb_S4x128x512_S1x128x512_3_0_0).toLoadRect f))] := by
    unfold tripL_k2_t3 trip_k2_t3
    rfl
  rw [e, ldQ0 arg3 X3 x0 h0, ldQ1 arg3 X3 x0 h0, ldQ2 arg3 X3 x0 h0, ldQ3 arg3 X3 x0 h0, ld33 i arg4 X4 k x1 h1, ld35 i arg4 X4 k x1 h1, ld37 i arg4 X4 k x1 h1, ld39 i arg4 X4 k x1 h1, ld34 i arg5 X5 k x2 h2, ld36 i arg5 X5 k x2 h2, ld38 i arg5 X5 k x2 h2, ld40 i arg5 X5 k x2 h2,
    ldA0, ldA1, ldA2, ldA3, hf 0, hf 1, hf 2, hf 3]
  refine congrArg pieces ?_
  funext hh
  fin_cases hh <;> rfl

end

end

/-! ## The two loops -/

section

variable (c : Dev nD) (i : grid2.Coords) (arg3 : Memref sig .tc .vmem S1x4x512x256 .bf16) (harg3 : arg3.IsWhole) (arg4 : Memref sig .tc .vmem S1x4x4096x256 .bf16)
    (harg4 : arg4.IsWhole) (arg5 : Memref sig .tc .vmem S1x4x128x4096 .bf16) (harg5 : arg5.IsWhole) (arg6 : Memref sig .tc .vmem S1x512x512 .bf16)
    (harg6 : arg6.IsWhole) (arg7 : Memref sig .tc .vmem S4x128x512 .f32) (harg7 : arg7.IsWhole)
    (x0 : Vec F S1x4x512x256 .bf16) (x1 : Vec F S1x4x4096x256 .bf16) (x2 : Vec F S1x4x128x4096 .bf16)

/-- The state of a loop after `n` key blocks: the carried vectors and the scratch are those of `run`. -/
def After (n : ℕ) (t : Tup F) (w : Vec F S4x128x512 .f32) : Prop :=
  t = tup (fun hh => run x0 x1 x2 hh n) ∧ Slabs (fun hh => run x0 x1 x2 hh n) w

/-- The pair loop: after `k` trips, `2 k` blocks. -/
theorem after_t1 (G : BufTy.Contents (Elt F) arg7.view.ty) (init : Tup F) (h : After x0 x1 x2 0 init (arg7.view.read (Elt F) G)) :
    ∀ k : ℕ, k ≤ (k2_t1_loop i).trips →
      After x0 x1 x2 (2 * k) (st_k2_t1 (F := F) Variants.none c none i arg3 harg3 arg4 harg4 arg5 harg5 arg6 harg6 arg7 harg7 (harg3.unread x0) (harg4.unread x1) (harg5.unread x2) G init k).1
        (arg7.view.read (Elt F) (arg7.view.writes (Elt F) G (st_k2_t1 (F := F) Variants.none c none i arg3 harg3 arg4 harg4 arg5 harg5 arg6 harg6 arg7 harg7 (harg3.unread x0) (harg4.unread x1) (harg5.unread x2) G init k).2))
  | 0, _ => h
  | k + 1, hk => by
    have ih := after_t1 G init h k (by omega)
    rw [show k + 1 = (⟨k, by omega⟩ : Fin (k2_t1_loop i).trips).val + 1 from rfl, st_k2_t1_succ]
    dsimp only
    revert ih
    generalize st_k2_t1 (F := F) Variants.none c none i arg3 harg3 arg4 harg4 arg5 harg5 arg6 harg6 arg7 harg7 (harg3.unread x0) (harg4.unread x1) (harg5.unread x2) G init k = S
    obtain ⟨t, L⟩ := S
    rintro ⟨rfl, hs⟩
    dsimp only at hs ⊢
    refine ⟨(tripR_t1 c i arg3 harg3 arg4 harg4 arg5 harg5 arg6 harg6 arg7 harg7 _ _ _ ⟨k, by omega⟩ _ _ x0 x1 x2 (harg3.read_unread _) (harg4.read_unread _) (harg5.read_unread _)).trans rfl, ?_⟩
    obtain ⟨L', e⟩ := tripL_t1 c i arg3 harg3 arg4 harg4 arg5 harg5 arg6 harg6 arg7 harg7 _ _ _ ⟨k, by omega⟩ _ _ x0 x1 x2 (harg3.read_unread _) (harg4.read_unread _) (harg5.read_unread _) hs
    rw [e]
    intro hh
    rw [List.append_assoc]
    exact aW_pieces _ _ _ _ _

/-- The odd loop: after `k` trips, `k` blocks more. -/
theorem after_t3 (arg2 : BitVec 32) (w0 w1 w2 w3 w4 w5 w6 w7 : FVec F S1x512 .f32) (v30 v35 c1 : BitVec 32) (G : BufTy.Contents (Elt F) arg7.view.ty) (init : Tup F)
    (h : After x0 x1 x2 (2 * ((i 2).val / 2)) init (arg7.view.read (Elt F) G)) :
    ∀ k : ℕ, k ≤ (k2_t3_loop i).trips →
      After x0 x1 x2 (2 * ((i 2).val / 2) + k) (st_k2_t3 (F := F) Variants.none c none i arg3 harg3 arg4 harg4 arg5 harg5 arg6 harg6 arg7 harg7 arg2 w0 w1 w2 w3 w4 w5 w6 w7 v30 v35 c1 (harg3.unread x0) (harg4.unread x1) (harg5.unread x2) G init k).1
        (arg7.view.read (Elt F) (arg7.view.writes (Elt F) G (st_k2_t3 (F := F) Variants.none c none i arg3 harg3 arg4 harg4 arg5 harg5 arg6 harg6 arg7 harg7 arg2 w0 w1 w2 w3 w4 w5 w6 w7 v30 v35 c1 (harg3.unread x0) (harg4.unread x1) (harg5.unread x2) G init k).2))
  | 0, _ => h
  | k + 1, hk => by
    have ih := after_t3 arg2 w0 w1 w2 w3 w4 w5 w6 w7 v30 v35 c1 G init h k (by omega)
    rw [show k + 1 = (⟨k, by omega⟩ : Fin (k2_t3_loop i).trips).val + 1 from rfl, st_k2_t3_succ]
    dsimp only
    revert ih
    generalize st_k2_t3 (F := F) Variants.none c none i arg3 harg3 arg4 harg4 arg5 harg5 arg6 harg6 arg7 harg7 arg2 w0 w1 w2 w3 w4 w5 w6 w7 v30 v35 c1 (harg3.unread x0) (harg4.unread x1) (harg5.unread x2) G init k = S
    obtain ⟨t, L⟩ := S
    rintro ⟨rfl, hs⟩
    dsimp only at hs ⊢
    refine ⟨(tripR_t3 c i arg3 harg3 arg4 harg4 arg5 harg5 arg6 harg6 arg7 harg7 _ _ _ arg2 w0 w1 w2 w3 w4 w5 w6 w7 v30 v35 c1 ⟨k, by omega⟩ _ _ x0 x1 x2 (harg3.read_unread _) (harg4.read_unread _) (harg5.read_unread _)).trans rfl, ?_⟩
    rw [tripL_t3 c i arg3 harg3 arg4 harg4 arg5 harg5 arg6 harg6 arg7 harg7 _ _ _ arg2 w0 w1 w2 w3 w4 w5 w6 w7 v30 v35 c1 ⟨k, by omega⟩ _ _ x0 x1 x2 (harg3.read_unread _) (harg4.read_unread _) (harg5.read_unread _) hs]
    intro hh
    exact aW_pieces _ _ _ _ _

end

end Cert.KernelIdeal.Val
-- ==== Proof.FlashPoint.lean ====
module

public import proofs.«01_k».proof.Proof.FlashTrip

/-!
# The attention call: one grid point

The two loops, then the diagonal block, then the division: what one point of the grid stores in its block of the
result.  `diag` is what the diagonal block, with its causal mask, makes of a head; the block stored for a head is the
weighted sum over the sum of the weights, turned to position by feature.
-/

@[expose] public section

set_option maxRecDepth 16384

noncomputable section

namespace Cert.KernelIdeal.Val

open Cert.KernelIdeal Cert.KernelIdeal.Gen Idealize.ShloMosaic Idealize.ShloMosaic.TcCoe VecWindow

variable {F : FTy → Type} [FloatOps F] [Named F]

/-- The diagonal key block: its keys `k`, the queries `q`, its values `v`. -/
def diag (k q : Vec F S1x1x512x256 .bf16) (v : Vec F S1x1x128x512 .bf16) (s : Car F) : Car F :=
  ⟨k2_pay190 s.m k q, k2_pay193 s.m s.l k q, k2_pay194 s.m k q v s.a⟩

/-- Head `hh` after all blocks up to the diagonal one, `n`. -/
def full (x0 : Vec F S1x4x512x256 .bf16) (x1 : Vec F S1x4x4096x256 .bf16) (x2 : Vec F S1x4x128x4096 .bf16) (n : ℕ) (hh : Fin 4) : Car F :=
  diag (kW x1 hh n) (qW x0 hh) (vW x2 hh n) (run x0 x1 x2 hh n)

/-- The block of the result of head `hh`. -/
def outB (x0 : Vec F S1x4x512x256 .bf16) (x1 : Vec F S1x4x4096x256 .bf16) (x2 : Vec F S1x4x128x4096 .bf16) (n : ℕ) (hh : Fin 4) : FVec F S1x512x128 .bf16 :=
  k2_pay201 (full x0 x1 x2 n hh).l (full x0 x1 x2 n hh).a

section

variable (c : Dev nD) (i : grid2.Coords) (arg3 : Memref sig .tc .vmem S1x4x512x256 .bf16) (harg3 : arg3.IsWhole) (arg4 : Memref sig .tc .vmem S1x4x4096x256 .bf16)
    (harg4 : arg4.IsWhole) (arg5 : Memref sig .tc .vmem S1x4x128x4096 .bf16) (harg5 : arg5.IsWhole) (arg6 : Memref sig .tc .vmem S1x512x512 .bf16)
    (harg6 : arg6.IsWhole) (arg7 : Memref sig .tc .vmem S4x128x512 .f32) (harg7 : arg7.IsWhole)
    (x0 : Vec F S1x4x512x256 .bf16) (x1 : Vec F S1x4x4096x256 .bf16) (x2 : Vec F S1x4x128x4096 .bf16)

/-- The state after the pair loop. -/
def S1 : Tup F × List (View.Piece (Elt F) S4x128x512 .f32) :=
  st_k2_t1 Variants.none c none i arg3 harg3 arg4 harg4 arg5 harg5 arg6 harg6 arg7 harg7 (harg3.unread x0) (harg4.unread x1) (harg5.unread x2) (arg7.view.writes (Elt F) arg7.view.junk kernelRun2_A.sl.HS0_1)
    (k2_pay163, k2_pay164, k2_pay163, k2_pay164, k2_pay163, k2_pay164, k2_pay163, k2_pay164) (Scf.trips (k2_t1_loop i).lb (k2_t1_loop i).ub (k2_t1_loop i).st)

/-- The state after the pair loop's (empty) remainder. -/
def S2 : Tup F × List (View.Piece (Elt F) S4x128x512 .f32) :=
  st_k2_t2 Variants.none c none i arg3 harg3 arg4 harg4 arg5 harg5 arg6 harg6 arg7 harg7 (kernelRun2_A.sl.v27 i) (harg3.unread x0) (harg4.unread x1) (harg5.unread x2) (arg7.view.writes (Elt F) arg7.view.junk ((S1 c i arg3 harg3 arg4 harg4 arg5 harg5 arg6 harg6 arg7 harg7 x0 x1 x2).2 ++ kernelRun2_A.sl.HS0_1)) ((S1 c i arg3 harg3 arg4 harg4 arg5 harg5 arg6 harg6 arg7 harg7 x0 x1 x2).1.1, (S1 c i arg3 harg3 arg4 harg4 arg5 harg5 arg6 harg6 arg7 harg7 x0 x1 x2).1.2.1, (S1 c i arg3 harg3 arg4 harg4 arg5 harg5 arg6 harg6 arg7 harg7 x0 x1 x2).1.2.2.1, (S1 c i arg3 harg3 arg4 harg4 arg5 harg5 arg6 harg6 arg7 harg7 x0 x1 x2).1.2.2.2.1, (S1 c i arg3 harg3 arg4 harg4 arg5 harg5 arg6 harg6 arg7 harg7 x0 x1 x2).1.2.2.2.2.1, (S1 c i arg3 harg3 arg4 harg4 arg5 harg5 arg6 harg6 arg7 harg7 x0 x1 x2).1.2.2.2.2.2.1, (S1 c i arg3 harg3 arg4 harg4 arg5 harg5 arg6 harg6 arg7 harg7 x0 x1 x2).1.2.2.2.2.2.2.1, (S1 c i arg3 harg3 arg4 harg4 arg5 harg5 arg6 harg6 arg7 harg7 x0 x1 x2).1.2.2.2.2.2.2.2) (Scf.trips (k2_t2_loop i).lb (k2_t2_loop i).ub (k2_t2_loop i).st)

/-- The state after the odd loop. -/
def S3 : Tup F × List (View.Piece (Elt F) S4x128x512 .f32) :=
  st_k2_t3 Variants.none c none i arg3 harg3 arg4 harg4 arg5 harg5 arg6 harg6 arg7 harg7 (BitVec.ofNat 32 (i 2).val) (kernelRun2_A.sl.r c i arg3 harg3 arg4 harg4 arg5 harg5 arg6 harg6 arg7 harg7 x0 x1 x2) (kernelRun2_A.sl.r_1 c i arg3 harg3 arg4 harg4 arg5 harg5 arg6 harg6 arg7 harg7 x0 x1 x2) (kernelRun2_A.sl.r_2 c i arg3 harg3 arg4 harg4 arg5 harg5 arg6 harg6 arg7 harg7 x0 x1 x2) (kernelRun2_A.sl.r_3 c i arg3 harg3 arg4 harg4 arg5 harg5 arg6 harg6 arg7 harg7 x0 x1 x2) (kernelRun2_A.sl.r_4 c i arg3 harg3 arg4 harg4 arg5 harg5 arg6 harg6 arg7 harg7 x0 x1 x2) (kernelRun2_A.sl.r_5 c i arg3 harg3 arg4 harg4 arg5 harg5 arg6 harg6 arg7 harg7 x0 x1 x2) (kernelRun2_A.sl.r_6 c i arg3 harg3 arg4 harg4 arg5 harg5 arg6 harg6 arg7 harg7 x0 x1 x2) (kernelRun2_A.sl.r_7 c i arg3 harg3 arg4 harg4 arg5 harg5 arg6 harg6 arg7 harg7 x0 x1 x2) (kernelRun2_A.sl.v30 i) (kernelRun2_A.sl.v35 i) (1#32) (harg3.unread x0) (harg4.unread x1) (harg5.unread x2) (arg7.view.writes (Elt F) arg7.view.junk ((S2 c i arg3 harg3 arg4 harg4 arg5 harg5 arg6 harg6 arg7 harg7 x0 x1 x2).2 ++ ((S1 c i arg3 harg3 arg4 harg4 arg5 harg5 arg6 harg6 arg7 harg7 x0 x1 x2).2 ++ kernelRun2_A.sl.HS0_1)))
    (kernelRun2_A.sl.r c i arg3 harg3 arg4 harg4 arg5 harg5 arg6 harg6 arg7 harg7 x0 x1 x2, kernelRun2_A.sl.r_1 c i arg3 harg3 arg4 harg4 arg5 harg5 arg6 harg6 arg7 harg7 x0 x1 x2, kernelRun2_A.sl.r_2 c i arg3 harg3 arg4 harg4 arg5 harg5 arg6 harg6 arg7 harg7 x0 x1 x2, kernelRun2_A.sl.r_3 c i arg3 harg3 arg4 harg4 arg5 harg5 arg6 harg6 arg7 harg7 x0 x1 x2, kernelRun2_A.sl.r_4 c i arg3 harg3 arg4 harg4 arg5 harg5 arg6 harg6 arg7 harg7 x0 x1 x2, kernelRun2_A.sl.r_5 c i arg3 harg3 arg4 harg4 arg5 harg5 arg6 harg6 arg7 harg7 x0 x1 x2, kernelRun2_A.sl.r_6 c i arg3 harg3 arg4 harg4 arg5 harg5 arg6 harg6 arg7 harg7 x0 x1 x2, kernelRun2_A.sl.r_7 c i arg3 harg3 arg4 harg4 arg5 harg5 arg6 harg6 arg7 harg7 x0 x1 x2) (Scf.trips (k2_t3_loop i).lb (k2_t3_loop i).ub (k2_t3_loop i).st)

/-- The state after the odd loop's (empty) remainder. -/
def S4 : Tup F × List (View.Piece (Elt F) S4x128x512 .f32) :=
  st_k2_t4 Variants.none c none i arg3 harg3 arg4 harg4 arg5 harg5 arg6 harg6 arg7 harg7 (BitVec.ofNat 32 (i 2).val) (kernelRun2_A.sl.r c i arg3 harg3 arg4 harg4 arg5 harg5 arg6 harg6 arg7 harg7 x0 x1 x2) (kernelRun2_A.sl.r_1 c i arg3 harg3 arg4 harg4 arg5 harg5 arg6 harg6 arg7 harg7 x0 x1 x2) (kernelRun2_A.sl.r_2 c i arg3 harg3 arg4 harg4 arg5 harg5 arg6 harg6 arg7 harg7 x0 x1 x2) (kernelRun2_A.sl.r_3 c i arg3 harg3 arg4 harg4 arg5 harg5 arg6 harg6 arg7 harg7 x0 x1 x2) (kernelRun2_A.sl.r_4 c i arg3 harg3 arg4 harg4 arg5 harg5 arg6 harg6 arg7 harg7 x0 x1 x2) (kernelRun2_A.sl.r_5 c i arg3 harg3 arg4 harg4 arg5 harg5 arg6 harg6 arg7 harg7 x0 x1 x2) (kernelRun2_A.sl.r_6 c i arg3 harg3 arg4 harg4 arg5 harg5 arg6 harg6 arg7 harg7 x0 x1 x2) (kernelRun2_A.sl.r_7 c i arg3 harg3 arg4 harg4 arg5 harg5 arg6 harg6 arg7 harg7 x0 x1 x2) (kernelRun2_A.sl.v30 i) (kernelRun2_A.sl.v35 i) (1#32) (harg3.unread x0) (harg4.unread x1) (harg5.unread x2) (arg7.view.writes (Elt F) arg7.view.junk ((S3 c i arg3 harg3 arg4 harg4 arg5 harg5 arg6 harg6 arg7 harg7 x0 x1 x2).2 ++ ((S2 c i arg3 harg3 arg4 harg4 arg5 harg5 arg6 harg6 arg7 harg7 x0 x1 x2).2 ++ ((S1 c i arg3 harg3 arg4 harg4 arg5 harg5 arg6 harg6 arg7 harg7 x0 x1 x2).2 ++ kernelRun2_A.sl.HS0_1)))) ((S3 c i arg3 harg3 arg4 harg4 arg5 harg5 arg6 harg6 arg7 harg7 x0 x1 x2).1.1, (S3 c i arg3 harg3 arg4 harg4 arg5 harg5 arg6 harg6 arg7 harg7 x0 x1 x2).1.2.1, (S3 c i arg3 harg3 arg4 harg4 arg5 harg5 arg6 harg6 arg7 harg7 x0 x1 x2).1.2.2.1, (S3 c i arg3 harg3 arg4 harg4 arg5 harg5 arg6 harg6 arg7 harg7 x0 x1 x2).1.2.2.2.1, (S3 c i arg3 harg3 arg4 harg4 arg5 harg5 arg6 harg6 arg7 harg7 x0 x1 x2).1.2.2.2.2.1, (S3 c i arg3 harg3 arg4 harg4 arg5 harg5 arg6 harg6 arg7 harg7 x0 x1 x2).1.2.2.2.2.2.1, (S3 c i arg3 harg3 arg4 harg4 arg5 harg5 arg6 harg6 arg7 harg7 x0 x1 x2).1.2.2.2.2.2.2.1, (S3 c i arg3 harg3 arg4 harg4 arg5 harg5 arg6 harg6 arg7 harg7 x0 x1 x2).1.2.2.2.2.2.2.2) (Scf.trips (k2_t4_loop i).lb (k2_t4_loop i).ub (k2_t4_loop i).st)

/-- All stores to the scratch before the diagonal block. -/
def LL : List (View.Piece (Elt F) S4x128x512 .f32) := ((S4 c i arg3 harg3 arg4 harg4 arg5 harg5 arg6 harg6 arg7 harg7 x0 x1 x2).2 ++ ((S3 c i arg3 harg3 arg4 harg4 arg5 harg5 arg6 harg6 arg7 harg7 x0 x1 x2).2 ++ ((S2 c i arg3 harg3 arg4 harg4 arg5 harg5 arg6 harg6 arg7 harg7 x0 x1 x2).2 ++ ((S1 c i arg3 harg3 arg4 harg4 arg5 harg5 arg6 harg6 arg7 harg7 x0 x1 x2).2 ++ kernelRun2_A.sl.HS0_1))))

/-- The slab head 0's diagonal step stores. -/
def D0 : Vec F S1x128x512 .f32 :=
  k2_pay194 ((S4 c i arg3 harg3 arg4 harg4 arg5 harg5 arg6 harg6 arg7 harg7 x0 x1 x2).1.1) (View.readAt (Elt F) arg4.view (Rect.unit (s := S1x4x4096x256) (k2_off49 i) S1x1x512x256.size (k2_off49_inb i)).toLoadRect (harg4.unread x1)) (View.readAt (Elt F) arg3.view (Rect.unit (s := S1x4x512x256) ![0, 0, 0, 0] S1x1x512x256.size inb_S1x4x512x256_S1x1x512x256_0_0_0_0).toLoadRect (harg3.unread x0)) (View.readAt (Elt F) arg5.view (Rect.unit (s := S1x4x128x4096) (k2_off50 i) S1x1x128x512.size (k2_off50_inb i)).toLoadRect (harg5.unread x2)) (arg7.view.readCov (LL c i arg3 harg3 arg4 harg4 arg5 harg5 arg6 harg6 arg7 harg7 x0 x1 x2) (Rect.unit (s := S4x128x512) ![0, 0, 0] S1x128x512.size inb_S4x128x512_S1x128x512_0_0_0).toLoadRect)

/-- The slab head 1's diagonal step stores. -/
def D1 : Vec F S1x128x512 .f32 :=
  k2_pay194 ((S4 c i arg3 harg3 arg4 harg4 arg5 harg5 arg6 harg6 arg7 harg7 x0 x1 x2).1.2.2.1) (View.readAt (Elt F) arg4.view (Rect.unit (s := S1x4x4096x256) (k2_off51 i) S1x1x512x256.size (k2_off51_inb i)).toLoadRect (harg4.unread x1)) (View.readAt (Elt F) arg3.view (Rect.unit (s := S1x4x512x256) ![0, 1, 0, 0] S1x1x512x256.size inb_S1x4x512x256_S1x1x512x256_0_1_0_0).toLoadRect (harg3.unread x0)) (View.readAt (Elt F) arg5.view (Rect.unit (s := S1x4x128x4096) (k2_off52 i) S1x1x128x512.size (k2_off52_inb i)).toLoadRect (harg5.unread x2)) (arg7.view.readCov (⟨Rect.unit (s := S4x128x512) ![0, 0, 0] S1x128x512.size inb_S4x128x512_S1x128x512_0_0_0, D0 c i arg3 harg3 arg4 harg4 arg5 harg5 arg6 harg6 arg7 harg7 x0 x1 x2⟩ :: (LL c i arg3 harg3 arg4 harg4 arg5 harg5 arg6 harg6 arg7 harg7 x0 x1 x2)) (Rect.unit (s := S4x128x512) ![1, 0, 0] S1x128x512.size inb_S4x128x512_S1x128x512_1_0_0).toLoadRect)

/-- The slab head 2's diagonal step stores. -/
def D2 : Vec F S1x128x512 .f32 :=
  k2_pay194 ((S4 c i arg3 harg3 arg4 harg4 arg5 harg5 arg6 harg6 arg7 harg7 x0 x1 x2).1.2.2.2.2.1) (View.readAt (Elt F) arg4.view (Rect.unit (s := S1x4x4096x256) (k2_off53 i) S1x1x512x256.size (k2_off53_inb i)).toLoadRect (harg4.unread x1)) (View.readAt (Elt F) arg3.view (Rect.unit (s := S1x4x512x256) ![0, 2, 0, 0] S1x1x512x256.size inb_S1x4x512x256_S1x1x512x256_0_2_0_0).toLoadRect (harg3.unread x0)) (View.readAt (Elt F) arg5.view (Rect.unit (s := S1x4x128x4096) (k2_off54 i) S1x1x128x512.size (k2_off54_inb i)).toLoadRect (harg5.unread x2)) (arg7.view.readCov (⟨Rect.unit (s := S4x128x512) ![1, 0, 0] S1x128x512.size inb_S4x128x512_S1x128x512_1_0_0, D1 c i arg3 harg3 arg4 harg4 arg5 harg5 arg6 harg6 arg7 harg7 x0 x1 x2⟩ :: (⟨Rect.unit (s := S4x128x512) ![0, 0, 0] S1x128x512.size inb_S4x128x512_S1x128x512_0_0_0, D0 c i arg3 harg3 arg4 harg4 arg5 harg5 arg6 harg6 arg7 harg7 x0 x1 x2⟩ :: (LL c i arg3 harg3 arg4 harg4 arg5 harg5 arg6 harg6 arg7 harg7 x0 x1 x2))) (Rect.unit (s := S4x128x512) ![2, 0, 0] S1x128x512.size inb_S4x128x512_S1x128x512_2_0_0).toLoadRect)

/-- The slab head 3's diagonal step stores. -/
def D3 : Vec F S1x128x512 .f32 :=
  k2_pay194 ((S4 c i arg3 harg3 arg4 harg4 arg5 harg5 arg6 harg6 arg7 harg7 x0 x1 x2).1.2.2.2.2.2.2.1) (View.readAt (Elt F) arg4.view (Rect.unit (s := S1x4x4096x256) (k2_off55 i) S1x1x512x256.size (k2_off55_inb i)).toLoadRect (harg4.unread x1)) (View.readAt (Elt F) arg3.view (Rect.unit (s := S1x4x512x256) ![0, 3, 0, 0] S1x1x512x256.size inb_S1x4x512x256_S1x1x512x256_0_3_0_0).toLoadRect (harg3.unread x0)) (View.readAt (Elt F) arg5.view (Rect.unit (s := S1x4x128x4096) (k2_off56 i) S1x1x128x512.size (k2_off56_inb i)).toLoadRect (harg5.unread x2)) (arg7.view.readCov (⟨Rect.unit (s := S4x128x512) ![2, 0, 0] S1x128x512.size inb_S4x128x512_S1x128x512_2_0_0, D2 c i arg3 harg3 arg4 harg4 arg5 harg5 arg6 harg6 arg7 harg7 x0 x1 x2⟩ :: (⟨Rect.unit (s := S4x128x512) ![1, 0, 0] S1x128x512.size inb_S4x128x512_S1x128x512_1_0_0, D1 c i arg3 harg3 arg4 harg4 arg5 harg5 arg6 harg6 arg7 harg7 x0 x1 x2⟩ :: (⟨Rect.unit (s := S4x128x512) ![0, 0, 0] S1x128x512.size inb_S4x128x512_S1x128x512_0_0_0, D0 c i arg3 harg3 arg4 harg4 arg5 harg5 arg6 harg6 arg7 harg7 x0 x1 x2⟩ :: (LL c i arg3 harg3 arg4 harg4 arg5 harg5 arg6 harg6 arg7 harg7 x0 x1 x2)))) (Rect.unit (s := S4x128x512) ![3, 0, 0] S1x128x512.size inb_S4x128x512_S1x128x512_3_0_0).toLoadRect)

set_option maxHeartbeats 2000000 in
/-- The stores to the result, as the run found them. -/
theorem pieces_found : (kernelRun2_A c i arg3 harg3 arg4 harg4 arg5 harg5 arg6 harg6 arg7 harg7 x0 x1 x2).1 =
     [⟨Rect.unit (s := S1x512x512) ![0, 0, 384] ![1, 512, 128] inb_S1x512x512_S1x512x128_0_0_384, k2_pay201 (k2_pay193 ((S4 c i arg3 harg3 arg4 harg4 arg5 harg5 arg6 harg6 arg7 harg7 x0 x1 x2).1.2.2.2.2.2.2.1) ((S4 c i arg3 harg3 arg4 harg4 arg5 harg5 arg6 harg6 arg7 harg7 x0 x1 x2).1.2.2.2.2.2.2.2) (View.readAt (Elt F) arg4.view (Rect.unit (s := S1x4x4096x256) (k2_off55 i) S1x1x512x256.size (k2_off55_inb i)).toLoadRect (harg4.unread x1)) (View.readAt (Elt F) arg3.view (Rect.unit (s := S1x4x512x256) ![0, 3, 0, 0] S1x1x512x256.size inb_S1x4x512x256_S1x1x512x256_0_3_0_0).toLoadRect (harg3.unread x0))) (arg7.view.readCov (⟨Rect.unit (s := S4x128x512) ![3, 0, 0] S1x128x512.size inb_S4x128x512_S1x128x512_3_0_0, D3 c i arg3 harg3 arg4 harg4 arg5 harg5 arg6 harg6 arg7 harg7 x0 x1 x2⟩ :: (⟨Rect.unit (s := S4x128x512) ![2, 0, 0] S1x128x512.size inb_S4x128x512_S1x128x512_2_0_0, D2 c i arg3 harg3 arg4 harg4 arg5 harg5 arg6 harg6 arg7 harg7 x0 x1 x2⟩ :: (⟨Rect.unit (s := S4x128x512) ![1, 0, 0] S1x128x512.size inb_S4x128x512_S1x128x512_1_0_0, D1 c i arg3 harg3 arg4 harg4 arg5 harg5 arg6 harg6 arg7 harg7 x0 x1 x2⟩ :: (⟨Rect.unit (s := S4x128x512) ![0, 0, 0] S1x128x512.size inb_S4x128x512_S1x128x512_0_0_0, D0 c i arg3 harg3 arg4 harg4 arg5 harg5 arg6 harg6 arg7 harg7 x0 x1 x2⟩ :: (LL c i arg3 harg3 arg4 harg4 arg5 harg5 arg6 harg6 arg7 harg7 x0 x1 x2))))) (Rect.unit (s := S4x128x512) ![3, 0, 0] S1x128x512.size inb_S4x128x512_S1x128x512_3_0_0).toLoadRect)⟩,
      ⟨Rect.unit (s := S1x512x512) ![0, 0, 256] ![1, 512, 128] inb_S1x512x512_S1x512x128_0_0_256, k2_pay201 (k2_pay193 ((S4 c i arg3 harg3 arg4 harg4 arg5 harg5 arg6 harg6 arg7 harg7 x0 x1 x2).1.2.2.2.2.1) ((S4 c i arg3 harg3 arg4 harg4 arg5 harg5 arg6 harg6 arg7 harg7 x0 x1 x2).1.2.2.2.2.2.1) (View.readAt (Elt F) arg4.view (Rect.unit (s := S1x4x4096x256) (k2_off53 i) S1x1x512x256.size (k2_off53_inb i)).toLoadRect (harg4.unread x1)) (View.readAt (Elt F) arg3.view (Rect.unit (s := S1x4x512x256) ![0, 2, 0, 0] S1x1x512x256.size inb_S1x4x512x256_S1x1x512x256_0_2_0_0).toLoadRect (harg3.unread x0))) (arg7.view.readCov (⟨Rect.unit (s := S4x128x512) ![3, 0, 0] S1x128x512.size inb_S4x128x512_S1x128x512_3_0_0, D3 c i arg3 harg3 arg4 harg4 arg5 harg5 arg6 harg6 arg7 harg7 x0 x1 x2⟩ :: (⟨Rect.unit (s := S4x128x512) ![2, 0, 0] S1x128x512.size inb_S4x128x512_S1x128x512_2_0_0, D2 c i arg3 harg3 arg4 harg4 arg5 harg5 arg6 harg6 arg7 harg7 x0 x1 x2⟩ :: (⟨Rect.unit (s := S4x128x512) ![1, 0, 0] S1x128x512.size inb_S4x128x512_S1x128x512_1_0_0, D1 c i arg3 harg3 arg4 harg4 arg5 harg5 arg6 harg6 arg7 harg7 x0 x1 x2⟩ :: (⟨Rect.unit (s := S4x128x512) ![0, 0, 0] S1x128x512.size inb_S4x128x512_S1x128x512_0_0_0, D0 c i arg3 harg3 arg4 harg4 arg5 harg5 arg6 harg6 arg7 harg7 x0 x1 x2⟩ :: (LL c i arg3 harg3 arg4 harg4 arg5 harg5 arg6 harg6 arg7 harg7 x0 x1 x2))))) (Rect.unit (s := S4x128x512) ![2, 0, 0] S1x128x512.size inb_S4x128x512_S1x128x512_2_0_0).toLoadRect)⟩,
      ⟨Rect.unit (s := S1x512x512) ![0, 0, 128] ![1, 512, 128] inb_S1x512x512_S1x512x128_0_0_128, k2_pay201 (k2_pay193 ((S4 c i arg3 harg3 arg4 harg4 arg5 harg5 arg6 harg6 arg7 harg7 x0 x1 x2).1.2.2.1) ((S4 c i arg3 harg3 arg4 harg4 arg5 harg5 arg6 harg6 arg7 harg7 x0 x1 x2).1.2.2.2.1) (View.readAt (Elt F) arg4.view (Rect.unit (s := S1x4x4096x256) (k2_off51 i) S1x1x512x256.size (k2_off51_inb i)).toLoadRect (harg4.unread x1)) (View.readAt (Elt F) arg3.view (Rect.unit (s := S1x4x512x256) ![0, 1, 0, 0] S1x1x512x256.size inb_S1x4x512x256_S1x1x512x256_0_1_0_0).toLoadRect (harg3.unread x0))) (arg7.view.readCov (⟨Rect.unit (s := S4x128x512) ![3, 0, 0] S1x128x512.size inb_S4x128x512_S1x128x512_3_0_0, D3 c i arg3 harg3 arg4 harg4 arg5 harg5 arg6 harg6 arg7 harg7 x0 x1 x2⟩ :: (⟨Rect.unit (s := S4x128x512) ![2, 0, 0] S1x128x512.size inb_S4x128x512_S1x128x512_2_0_0, D2 c i arg3 harg3 arg4 harg4 arg5 harg5 arg6 harg6 arg7 harg7 x0 x1 x2⟩ :: (⟨Rect.unit (s := S4x128x512) ![1, 0, 0] S1x128x512.size inb_S4x128x512_S1x128x512_1_0_0, D1 c i arg3 harg3 arg4 harg4 arg5 harg5 arg6 harg6 arg7 harg7 x0 x1 x2⟩ :: (⟨Rect.unit (s := S4x128x512) ![0, 0, 0] S1x128x512.size inb_S4x128x512_S1x128x512_0_0_0, D0 c i arg3 harg3 arg4 harg4 arg5 harg5 arg6 harg6 arg7 harg7 x0 x1 x2⟩ :: (LL c i arg3 harg3 arg4 harg4 arg5 harg5 arg6 harg6 arg7 harg7 x0 x1 x2))))) (Rect.unit (s := S4x128x512) ![1, 0, 0] S1x128x512.size inb_S4x128x512_S1x128x512_1_0_0).toLoadRect)⟩,
      ⟨Rect.unit (s := S1x512x512) ![0, 0, 0] ![1, 512, 128] inb_S1x512x512_S1x512x128_0_0_0, k2_pay201 (k2_pay193 ((S4 c i arg3 harg3 arg4 harg4 arg5 harg5 arg6 harg6 arg7 harg7 x0 x1 x2).1.1) ((S4 c i arg3 harg3 arg4 harg4 arg5 harg5 arg6 harg6 arg7 harg7 x0 x1 x2).1.2.1) (View.readAt (Elt F) arg4.view (Rect.unit (s := S1x4x4096x256) (k2_off49 i) S1x1x512x256.size (k2_off49_inb i)).toLoadRect (harg4.unread x1)) (View.readAt (Elt F) arg3.view (Rect.unit (s := S1x4x512x256) ![0, 0, 0, 0] S1x1x512x256.size inb_S1x4x512x256_S1x1x512x256_0_0_0_0).toLoadRect (harg3.unread x0))) (arg7.view.readCov (⟨Rect.unit (s := S4x128x512) ![3, 0, 0] S1x128x512.size inb_S4x128x512_S1x128x512_3_0_0, D3 c i arg3 harg3 arg4 harg4 arg5 harg5 arg6 harg6 arg7 harg7 x0 x1 x2⟩ :: (⟨Rect.unit (s := S4x128x512) ![2, 0, 0] S1x128x512.size inb_S4x128x512_S1x128x512_2_0_0, D2 c i arg3 harg3 arg4 harg4 arg5 harg5 arg6 harg6 arg7 harg7 x0 x1 x2⟩ :: (⟨Rect.unit (s := S4x128x512) ![1, 0, 0] S1x128x512.size inb_S4x128x512_S1x128x512_1_0_0, D1 c i arg3 harg3 arg4 harg4 arg5 harg5 arg6 harg6 arg7 harg7 x0 x1 x2⟩ :: (⟨Rect.unit (s := S4x128x512) ![0, 0, 0] S1x128x512.size inb_S4x128x512_S1x128x512_0_0_0, D0 c i arg3 harg3 arg4 harg4 arg5 harg5 arg6 harg6 arg7 harg7 x0 x1 x2⟩ :: (LL c i arg3 harg3 arg4 harg4 arg5 harg5 arg6 harg6 arg7 harg7 x0 x1 x2))))) (Rect.unit (s := S4x128x512) ![0, 0, 0] S1x128x512.size inb_S4x128x512_S1x128x512_0_0_0).toLoadRect)⟩] := by
  unfold kernelRun2_A
  dsimp only
  rfl

end

end Cert.KernelIdeal.Val
-- ==== Proof.FlashBlock.lean ====
module

public import proofs.«01_k».proof.Proof.FlashPoint

/-!
# The attention call: the block of one grid point, in closed form

The stores found by the run are the blocks `outB` of the four heads, side by side.
-/

@[expose] public section

set_option maxRecDepth 16384

noncomputable section

namespace Cert.KernelIdeal.Val

open Cert.KernelIdeal Cert.KernelIdeal.Gen Idealize.ShloMosaic Idealize.ShloMosaic.TcCoe VecWindow

variable {F : FTy → Type} [FloatOps F] [Named F]
variable (c : Dev nD) (i : grid2.Coords) (arg3 : Memref sig .tc .vmem S1x4x512x256 .bf16) (harg3 : arg3.IsWhole) (arg4 : Memref sig .tc .vmem S1x4x4096x256 .bf16)
    (harg4 : arg4.IsWhole) (arg5 : Memref sig .tc .vmem S1x4x128x4096 .bf16) (harg5 : arg5.IsWhole) (arg6 : Memref sig .tc .vmem S1x512x512 .bf16)
    (harg6 : arg6.IsWhole) (arg7 : Memref sig .tc .vmem S4x128x512 .f32) (harg7 : arg7.IsWhole)
    (x0 : Vec F S1x4x512x256 .bf16) (x1 : Vec F S1x4x4096x256 .bf16) (x2 : Vec F S1x4x128x4096 .bf16)

/-- Before the first loop: no block taken, the scratch zero. -/
theorem after_zero : After x0 x1 x2 0 (k2_pay163, k2_pay164, k2_pay163, k2_pay164, k2_pay163, k2_pay164, k2_pay163, k2_pay164)
    (arg7.view.read (Elt F) (arg7.view.writes (Elt F) arg7.view.junk kernelRun2_A.sl.HS0_1)) := by
  refine ⟨rfl, fun hh => ?_⟩
  have e : (arg7.view.read (Elt F) (arg7.view.writes (Elt F) arg7.view.junk kernelRun2_A.sl.HS0_1)) = k2_pay162 := View.read_writes_full _ _ _ _ _
  rw [e]
  rfl

/-- After the pair loop. -/
theorem after_S1 : After x0 x1 x2 (2 * ((i 2).val / 2)) (S1 c i arg3 harg3 arg4 harg4 arg5 harg5 arg6 harg6 arg7 harg7 x0 x1 x2).1 (arg7.view.read (Elt F) (arg7.view.writes (Elt F) arg7.view.junk ((S1 c i arg3 harg3 arg4 harg4 arg5 harg5 arg6 harg6 arg7 harg7 x0 x1 x2).2 ++ kernelRun2_A.sl.HS0_1))) := by
  have h := after_t1 c i arg3 harg3 arg4 harg4 arg5 harg5 arg6 harg6 arg7 harg7 x0 x1 x2 (arg7.view.writes (Elt F) arg7.view.junk kernelRun2_A.sl.HS0_1) _
    (after_zero arg7 x0 x1 x2) _ (le_refl _)
  rw [trips_t1] at h
  rw [View.writes_append]
  have e : S1 c i arg3 harg3 arg4 harg4 arg5 harg5 arg6 harg6 arg7 harg7 x0 x1 x2 = st_k2_t1 Variants.none c none i arg3 harg3 arg4 harg4 arg5 harg5 arg6 harg6 arg7 harg7 (harg3.unread x0) (harg4.unread x1) (harg5.unread x2) (arg7.view.writes (Elt F) arg7.view.junk kernelRun2_A.sl.HS0_1)
    (k2_pay163, k2_pay164, k2_pay163, k2_pay164, k2_pay163, k2_pay164, k2_pay163, k2_pay164) ((i 2).val / 2) := by
    unfold S1
    rw [show (Scf.trips (k2_t1_loop i).lb (k2_t1_loop i).ub (k2_t1_loop i).st) = (i 2).val / 2 from trips_t1 i]
  rw [e]
  exact h

theorem S2_eq : S2 c i arg3 harg3 arg4 harg4 arg5 harg5 arg6 harg6 arg7 harg7 x0 x1 x2 = ((S1 c i arg3 harg3 arg4 harg4 arg5 harg5 arg6 harg6 arg7 harg7 x0 x1 x2).1, []) := by
  unfold S2
  rw [show (Scf.trips (k2_t2_loop i).lb (k2_t2_loop i).ub (k2_t2_loop i).st) = 0 from trips_t2 i]
  generalize S1 c i arg3 harg3 arg4 harg4 arg5 harg5 arg6 harg6 arg7 harg7 x0 x1 x2 = s
  rfl

theorem r_eq : kernelRun2_A.sl.r c i arg3 harg3 arg4 harg4 arg5 harg5 arg6 harg6 arg7 harg7 x0 x1 x2 = (S2 c i arg3 harg3 arg4 harg4 arg5 harg5 arg6 harg6 arg7 harg7 x0 x1 x2).1.1 := by
  unfold kernelRun2_A.sl.r S2; rfl
theorem r_1_eq : kernelRun2_A.sl.r_1 c i arg3 harg3 arg4 harg4 arg5 harg5 arg6 harg6 arg7 harg7 x0 x1 x2 = (S2 c i arg3 harg3 arg4 harg4 arg5 harg5 arg6 harg6 arg7 harg7 x0 x1 x2).1.2.1 := by
  unfold kernelRun2_A.sl.r_1 S2; rfl
theorem r_2_eq : kernelRun2_A.sl.r_2 c i arg3 harg3 arg4 harg4 arg5 harg5 arg6 harg6 arg7 harg7 x0 x1 x2 = (S2 c i arg3 harg3 arg4 harg4 arg5 harg5 arg6 harg6 arg7 harg7 x0 x1 x2).1.2.2.1 := by
  unfold kernelRun2_A.sl.r_2 S2; rfl
theorem r_3_eq : kernelRun2_A.sl.r_3 c i arg3 harg3 arg4 harg4 arg5 harg5 arg6 harg6 arg7 harg7 x0 x1 x2 = (S2 c i arg3 harg3 arg4 harg4 arg5 harg5 arg6 harg6 arg7 harg7 x0 x1 x2).1.2.2.2.1 := by
  unfold kernelRun2_A.sl.r_3 S2; rfl
theorem r_4_eq : kernelRun2_A.sl.r_4 c i arg3 harg3 arg4 harg4 arg5 harg5 arg6 harg6 arg7 harg7 x0 x1 x2 = (S2 c i arg3 harg3 arg4 harg4 arg5 harg5 arg6 harg6 arg7 harg7 x0 x1 x2).1.2.2.2.2.1 := by
  unfold kernelRun2_A.sl.r_4 S2; rfl
theorem r_5_eq : kernelRun2_A.sl.r_5 c i arg3 harg3 arg4 harg4 arg5 harg5 arg6 harg6 arg7 harg7 x0 x1 x2 = (S2 c i arg3 harg3 arg4 harg4 arg5 harg5 arg6 harg6 arg7 harg7 x0 x1 x2).1.2.2.2.2.2.1 := by
  unfold kernelRun2_A.sl.r_5 S2; rfl
theorem r_6_eq : kernelRun2_A.sl.r_6 c i arg3 harg3 arg4 harg4 arg5 harg5 arg6 harg6 arg7 harg7 x0 x1 x2 = (S2 c i arg3 harg3 arg4 harg4 arg5 harg5 arg6 harg6 arg7 harg7 x0 x1 x2).1.2.2.2.2.2.2.1 := by
  unfold kernelRun2_A.sl.r_6 S2; rfl
theorem r_7_eq : kernelRun2_A.sl.r_7 c i arg3 harg3 arg4 harg4 arg5 harg5 arg6 harg6 arg7 harg7 x0 x1 x2 = (S2 c i arg3 harg3 arg4 harg4 arg5 harg5 arg6 harg6 arg7 harg7 x0 x1 x2).1.2.2.2.2.2.2.2 := by
  unfold kernelRun2_A.sl.r_7 S2; rfl

/-- After the odd loop. -/
theorem after_S3 : After x0 x1 x2 (i 2).val (S3 c i arg3 harg3 arg4 harg4 arg5 harg5 arg6 harg6 arg7 harg7 x0 x1 x2).1 (arg7.view.read (Elt F) (arg7.view.writes (Elt F) arg7.view.junk ((S3 c i arg3 harg3 arg4 harg4 arg5 harg5 arg6 harg6 arg7 harg7 x0 x1 x2).2 ++ ((S2 c i arg3 harg3 arg4 harg4 arg5 harg5 arg6 harg6 arg7 harg7 x0 x1 x2).2 ++ ((S1 c i arg3 harg3 arg4 harg4 arg5 harg5 arg6 harg6 arg7 harg7 x0 x1 x2).2 ++ kernelRun2_A.sl.HS0_1))))) := by
  have hr : (kernelRun2_A.sl.r c i arg3 harg3 arg4 harg4 arg5 harg5 arg6 harg6 arg7 harg7 x0 x1 x2, kernelRun2_A.sl.r_1 c i arg3 harg3 arg4 harg4 arg5 harg5 arg6 harg6 arg7 harg7 x0 x1 x2, kernelRun2_A.sl.r_2 c i arg3 harg3 arg4 harg4 arg5 harg5 arg6 harg6 arg7 harg7 x0 x1 x2, kernelRun2_A.sl.r_3 c i arg3 harg3 arg4 harg4 arg5 harg5 arg6 harg6 arg7 harg7 x0 x1 x2, kernelRun2_A.sl.r_4 c i arg3 harg3 arg4 harg4 arg5 harg5 arg6 harg6 arg7 harg7 x0 x1 x2, kernelRun2_A.sl.r_5 c i arg3 harg3 arg4 harg4 arg5 harg5 arg6 harg6 arg7 harg7 x0 x1 x2, kernelRun2_A.sl.r_6 c i arg3 harg3 arg4 harg4 arg5 harg5 arg6 harg6 arg7 harg7 x0 x1 x2, kernelRun2_A.sl.r_7 c i arg3 harg3 arg4 harg4 arg5 harg5 arg6 harg6 arg7 harg7 x0 x1 x2) = (S1 c i arg3 harg3 arg4 harg4 arg5 harg5 arg6 harg6 arg7 harg7 x0 x1 x2).1 := by
    rw [r_eq, r_1_eq, r_2_eq, r_3_eq, r_4_eq, r_5_eq, r_6_eq, r_7_eq, S2_eq]
  have hL : ((S2 c i arg3 harg3 arg4 harg4 arg5 harg5 arg6 harg6 arg7 harg7 x0 x1 x2).2 ++ ((S1 c i arg3 harg3 arg4 harg4 arg5 harg5 arg6 harg6 arg7 harg7 x0 x1 x2).2 ++ kernelRun2_A.sl.HS0_1)) = ((S1 c i arg3 harg3 arg4 harg4 arg5 harg5 arg6 harg6 arg7 harg7 x0 x1 x2).2 ++ kernelRun2_A.sl.HS0_1) := by rw [S2_eq, List.nil_append]
  have h1 := after_S1 c i arg3 harg3 arg4 harg4 arg5 harg5 arg6 harg6 arg7 harg7 x0 x1 x2
  have h := after_t3 c i arg3 harg3 arg4 harg4 arg5 harg5 arg6 harg6 arg7 harg7 x0 x1 x2 (BitVec.ofNat 32 (i 2).val) (kernelRun2_A.sl.r c i arg3 harg3 arg4 harg4 arg5 harg5 arg6 harg6 arg7 harg7 x0 x1 x2) (kernelRun2_A.sl.r_1 c i arg3 harg3 arg4 harg4 arg5 harg5 arg6 harg6 arg7 harg7 x0 x1 x2) (kernelRun2_A.sl.r_2 c i arg3 harg3 arg4 harg4 arg5 harg5 arg6 harg6 arg7 harg7 x0 x1 x2) (kernelRun2_A.sl.r_3 c i arg3 harg3 arg4 harg4 arg5 harg5 arg6 harg6 arg7 harg7 x0 x1 x2) (kernelRun2_A.sl.r_4 c i arg3 harg3 arg4 harg4 arg5 harg5 arg6 harg6 arg7 harg7 x0 x1 x2) (kernelRun2_A.sl.r_5 c i arg3 harg3 arg4 harg4 arg5 harg5 arg6 harg6 arg7 harg7 x0 x1 x2) (kernelRun2_A.sl.r_6 c i arg3 harg3 arg4 harg4 arg5 harg5 arg6 harg6 arg7 harg7 x0 x1 x2) (kernelRun2_A.sl.r_7 c i arg3 harg3 arg4 harg4 arg5 harg5 arg6 harg6 arg7 harg7 x0 x1 x2) (kernelRun2_A.sl.v30 i) (kernelRun2_A.sl.v35 i) (1#32) (arg7.view.writes (Elt F) arg7.view.junk ((S1 c i arg3 harg3 arg4 harg4 arg5 harg5 arg6 harg6 arg7 harg7 x0 x1 x2).2 ++ kernelRun2_A.sl.HS0_1)) _ h1 _ (le_refl _)
  rw [trips_t3] at h
  rw [View.writes_append, hL]
  have e : S3 c i arg3 harg3 arg4 harg4 arg5 harg5 arg6 harg6 arg7 harg7 x0 x1 x2 = st_k2_t3 Variants.none c none i arg3 harg3 arg4 harg4 arg5 harg5 arg6 harg6 arg7 harg7 (BitVec.ofNat 32 (i 2).val) (kernelRun2_A.sl.r c i arg3 harg3 arg4 harg4 arg5 harg5 arg6 harg6 arg7 harg7 x0 x1 x2) (kernelRun2_A.sl.r_1 c i arg3 harg3 arg4 harg4 arg5 harg5 arg6 harg6 arg7 harg7 x0 x1 x2) (kernelRun2_A.sl.r_2 c i arg3 harg3 arg4 harg4 arg5 harg5 arg6 harg6 arg7 harg7 x0 x1 x2) (kernelRun2_A.sl.r_3 c i arg3 harg3 arg4 harg4 arg5 harg5 arg6 harg6 arg7 harg7 x0 x1 x2) (kernelRun2_A.sl.r_4 c i arg3 harg3 arg4 harg4 arg5 harg5 arg6 harg6 arg7 harg7 x0 x1 x2) (kernelRun2_A.sl.r_5 c i arg3 harg3 arg4 harg4 arg5 harg5 arg6 harg6 arg7 harg7 x0 x1 x2) (kernelRun2_A.sl.r_6 c i arg3 harg3 arg4 harg4 arg5 harg5 arg6 harg6 arg7 harg7 x0 x1 x2) (kernelRun2_A.sl.r_7 c i arg3 harg3 arg4 harg4 arg5 harg5 arg6 harg6 arg7 harg7 x0 x1 x2) (kernelRun2_A.sl.v30 i) (kernelRun2_A.sl.v35 i) (1#32) (harg3.unread x0) (harg4.unread x1) (harg5.unread x2) (arg7.view.writes (Elt F) arg7.view.junk ((S1 c i arg3 harg3 arg4 harg4 arg5 harg5 arg6 harg6 arg7 harg7 x0 x1 x2).2 ++ kernelRun2_A.sl.HS0_1)) (S1 c i arg3 harg3 arg4 harg4 arg5 harg5 arg6 harg6 arg7 harg7 x0 x1 x2).1 ((i 2).val - 2 * ((i 2).val / 2)) := by
    unfold S3
    rw [show (Scf.trips (k2_t3_loop i).lb (k2_t3_loop i).ub (k2_t3_loop i).st) = (i 2).val - 2 * ((i 2).val / 2) from trips_t3 i, hr, hL]
  rw [e]
  rw [show 2 * ((i 2).val / 2) + ((i 2).val - 2 * ((i 2).val / 2)) = (i 2).val by omega] at h
  exact h

theorem S4_eq : S4 c i arg3 harg3 arg4 harg4 arg5 harg5 arg6 harg6 arg7 harg7 x0 x1 x2 = ((S3 c i arg3 harg3 arg4 harg4 arg5 harg5 arg6 harg6 arg7 harg7 x0 x1 x2).1, []) := by
  unfold S4
  rw [show (Scf.trips (k2_t4_loop i).lb (k2_t4_loop i).ub (k2_t4_loop i).st) = 0 from trips_t4 i]
  generalize S3 c i arg3 harg3 arg4 harg4 arg5 harg5 arg6 harg6 arg7 harg7 x0 x1 x2 = s
  rfl

/-- Before the diagonal block. -/
theorem after_S4 : After x0 x1 x2 (i 2).val (S4 c i arg3 harg3 arg4 harg4 arg5 harg5 arg6 harg6 arg7 harg7 x0 x1 x2).1 (arg7.view.read (Elt F) (arg7.view.writes (Elt F) arg7.view.junk (LL c i arg3 harg3 arg4 harg4 arg5 harg5 arg6 harg6 arg7 harg7 x0 x1 x2))) := by
  have hL : LL c i arg3 harg3 arg4 harg4 arg5 harg5 arg6 harg6 arg7 harg7 x0 x1 x2 = ((S3 c i arg3 harg3 arg4 harg4 arg5 harg5 arg6 harg6 arg7 harg7 x0 x1 x2).2 ++ ((S2 c i arg3 harg3 arg4 harg4 arg5 harg5 arg6 harg6 arg7 harg7 x0 x1 x2).2 ++ ((S1 c i arg3 harg3 arg4 harg4 arg5 harg5 arg6 harg6 arg7 harg7 x0 x1 x2).2 ++ kernelRun2_A.sl.HS0_1))) := by unfold LL; rw [S4_eq, List.nil_append]
  rw [S4_eq, hL]
  exact after_S3 c i arg3 harg3 arg4 harg4 arg5 harg5 arg6 harg6 arg7 harg7 x0 x1 x2

theorem S4_m0 : (S4 c i arg3 harg3 arg4 harg4 arg5 harg5 arg6 harg6 arg7 harg7 x0 x1 x2).1.1 = (run x0 x1 x2 0 (i 2).val).m := by
  rw [(after_S4 c i arg3 harg3 arg4 harg4 arg5 harg5 arg6 harg6 arg7 harg7 x0 x1 x2).1]; rfl
theorem S4_l0 : (S4 c i arg3 harg3 arg4 harg4 arg5 harg5 arg6 harg6 arg7 harg7 x0 x1 x2).1.2.1 = (run x0 x1 x2 0 (i 2).val).l := by
  rw [(after_S4 c i arg3 harg3 arg4 harg4 arg5 harg5 arg6 harg6 arg7 harg7 x0 x1 x2).1]; rfl
theorem D0_eq : D0 c i arg3 harg3 arg4 harg4 arg5 harg5 arg6 harg6 arg7 harg7 x0 x1 x2 = (full x0 x1 x2 (i 2).val 0).a := by
  unfold D0
  rw [S4_m0, ld49 i arg4 _ x1 (harg4.read_unread _), ldQ0 arg3 _ x0 (harg3.read_unread _), ld50 i arg5 _ x2 (harg5.read_unread _),
    show arg7.view.readCov (LL c i arg3 harg3 arg4 harg4 arg5 harg5 arg6 harg6 arg7 harg7 x0 x1 x2) (Rect.unit (s := S4x128x512) ![0, 0, 0] S1x128x512.size inb_S4x128x512_S1x128x512_0_0_0).toLoadRect = _ from ldA0 arg7 _,
    (after_S4 c i arg3 harg3 arg4 harg4 arg5 harg5 arg6 harg6 arg7 harg7 x0 x1 x2).2 0]
  rfl

theorem S4_m1 : (S4 c i arg3 harg3 arg4 harg4 arg5 harg5 arg6 harg6 arg7 harg7 x0 x1 x2).1.2.2.1 = (run x0 x1 x2 1 (i 2).val).m := by
  rw [(after_S4 c i arg3 harg3 arg4 harg4 arg5 harg5 arg6 harg6 arg7 harg7 x0 x1 x2).1]; rfl
theorem S4_l1 : (S4 c i arg3 harg3 arg4 harg4 arg5 harg5 arg6 harg6 arg7 harg7 x0 x1 x2).1.2.2.2.1 = (run x0 x1 x2 1 (i 2).val).l := by
  rw [(after_S4 c i arg3 harg3 arg4 harg4 arg5 harg5 arg6 harg6 arg7 harg7 x0 x1 x2).1]; rfl
theorem D1_eq : D1 c i arg3 harg3 arg4 harg4 arg5 harg5 arg6 harg6 arg7 harg7 x0 x1 x2 = (full x0 x1 x2 (i 2).val 1).a := by
  unfold D1
  rw [readCov_cons_ne _ _ _ _ _ (by decide)]
  rw [S4_m1, ld51 i arg4 _ x1 (harg4.read_unread _), ldQ1 arg3 _ x0 (harg3.read_unread _), ld52 i arg5 _ x2 (harg5.read_unread _),
    show arg7.view.readCov (LL c i arg3 harg3 arg4 harg4 arg5 harg5 arg6 harg6 arg7 harg7 x0 x1 x2) (Rect.unit (s := S4x128x512) ![1, 0, 0] S1x128x512.size inb_S4x128x512_S1x128x512_1_0_0).toLoadRect = _ from ldA1 arg7 _,
    (after_S4 c i arg3 harg3 arg4 harg4 arg5 harg5 arg6 harg6 arg7 harg7 x0 x1 x2).2 1]
  rfl

theorem S4_m2 : (S4 c i arg3 harg3 arg4 harg4 arg5 harg5 arg6 harg6 arg7 harg7 x0 x1 x2).1.2.2.2.2.1 = (run x0 x1 x2 2 (i 2).val).m := by
  rw [(after_S4 c i arg3 harg3 arg4 harg4 arg5 harg5 arg6 harg6 arg7 harg7 x0 x1 x2).1]; rfl
theorem S4_l2 : (S4 c i arg3 harg3 arg4 harg4 arg5 harg5 arg6 harg6 arg7 harg7 x0 x1 x2).1.2.2.2.2.2.1 = (run x0 x1 x2 2 (i 2).val).l := by
  rw [(after_S4 c i arg3 harg3 arg4 harg4 arg5 harg5 arg6 harg6 arg7 harg7 x0 x1 x2).1]; rfl
theorem D2_eq : D2 c i arg3 harg3 arg4 harg4 arg5 harg5 arg6 harg6 arg7 harg7 x0 x1 x2 = (full x0 x1 x2 (i 2).val 2).a := by
  unfold D2
  rw [readCov_cons_ne _ _ _ _ _ (by decide), readCov_cons_ne _ _ _ _ _ (by decide)]
  rw [S4_m2, ld53 i arg4 _ x1 (harg4.read_unread _), ldQ2 arg3 _ x0 (harg3.read_unread _), ld54 i arg5 _ x2 (harg5.read_unread _),
    show arg7.view.readCov (LL c i arg3 harg3 arg4 harg4 arg5 harg5 arg6 harg6 arg7 harg7 x0 x1 x2) (Rect.unit (s := S4x128x512) ![2, 0, 0] S1x128x512.size inb_S4x128x512_S1x128x512_2_0_0).toLoadRect = _ from ldA2 arg7 _,
    (after_S4 c i arg3 harg3 arg4 harg4 arg5 harg5 arg6 harg6 arg7 harg7 x0 x1 x2).2 2]
  rfl

theorem S4_m3 : (S4 c i arg3 harg3 arg4 harg4 arg5 harg5 arg6 harg6 arg7 harg7 x0 x1 x2).1.2.2.2.2.2.2.1 = (run x0 x1 x2 3 (i 2).val).m := by
  rw [(after_S4 c i arg3 harg3 arg4 harg4 arg5 harg5 arg6 harg6 arg7 harg7 x0 x1 x2).1]; rfl
theorem S4_l3 : (S4 c i arg3 harg3 arg4 harg4 arg5 harg5 arg6 harg6 arg7 harg7 x0 x1 x2).1.2.2.2.2.2.2.2 = (run x0 x1 x2 3 (i 2).val).l := by
  rw [(after_S4 c i arg3 harg3 arg4 harg4 arg5 harg5 arg6 harg6 arg7 harg7 x0 x1 x2).1]; rfl
theorem D3_eq : D3 c i arg3 harg3 arg4 harg4 arg5 harg5 arg6 harg6 arg7 harg7 x0 x1 x2 = (full x0 x1 x2 (i 2).val 3).a := by
  unfold D3
  rw [readCov_cons_ne _ _ _ _ _ (by decide), readCov_cons_ne _ _ _ _ _ (by decide), readCov_cons_ne _ _ _ _ _ (by decide)]
  rw [S4_m3, ld55 i arg4 _ x1 (harg4.read_unread _), ldQ3 arg3 _ x0 (harg3.read_unread _), ld56 i arg5 _ x2 (harg5.read_unread _),
    show arg7.view.readCov (LL c i arg3 harg3 arg4 harg4 arg5 harg5 arg6 harg6 arg7 harg7 x0 x1 x2) (Rect.unit (s := S4x128x512) ![3, 0, 0] S1x128x512.size inb_S4x128x512_S1x128x512_3_0_0).toLoadRect = _ from ldA3 arg7 _,
    (after_S4 c i arg3 harg3 arg4 harg4 arg5 harg5 arg6 harg6 arg7 harg7 x0 x1 x2).2 3]
  rfl

theorem slabs_last : (⟨Rect.unit (s := S4x128x512) ![3, 0, 0] S1x128x512.size inb_S4x128x512_S1x128x512_3_0_0, D3 c i arg3 harg3 arg4 harg4 arg5 harg5 arg6 harg6 arg7 harg7 x0 x1 x2⟩ :: (⟨Rect.unit (s := S4x128x512) ![2, 0, 0] S1x128x512.size inb_S4x128x512_S1x128x512_2_0_0, D2 c i arg3 harg3 arg4 harg4 arg5 harg5 arg6 harg6 arg7 harg7 x0 x1 x2⟩ :: (⟨Rect.unit (s := S4x128x512) ![1, 0, 0] S1x128x512.size inb_S4x128x512_S1x128x512_1_0_0, D1 c i arg3 harg3 arg4 harg4 arg5 harg5 arg6 harg6 arg7 harg7 x0 x1 x2⟩ :: (⟨Rect.unit (s := S4x128x512) ![0, 0, 0] S1x128x512.size inb_S4x128x512_S1x128x512_0_0_0, D0 c i arg3 harg3 arg4 harg4 arg5 harg5 arg6 harg6 arg7 harg7 x0 x1 x2⟩ :: (LL c i arg3 harg3 arg4 harg4 arg5 harg5 arg6 harg6 arg7 harg7 x0 x1 x2))))) = pieces (fun hh => (full x0 x1 x2 (i 2).val hh).a) ++ LL c i arg3 harg3 arg4 harg4 arg5 harg5 arg6 harg6 arg7 harg7 x0 x1 x2 := by
  rw [D0_eq, D1_eq, D2_eq, D3_eq]; rfl

theorem last0 : arg7.view.readCov (⟨Rect.unit (s := S4x128x512) ![3, 0, 0] S1x128x512.size inb_S4x128x512_S1x128x512_3_0_0, D3 c i arg3 harg3 arg4 harg4 arg5 harg5 arg6 harg6 arg7 harg7 x0 x1 x2⟩ :: (⟨Rect.unit (s := S4x128x512) ![2, 0, 0] S1x128x512.size inb_S4x128x512_S1x128x512_2_0_0, D2 c i arg3 harg3 arg4 harg4 arg5 harg5 arg6 harg6 arg7 harg7 x0 x1 x2⟩ :: (⟨Rect.unit (s := S4x128x512) ![1, 0, 0] S1x128x512.size inb_S4x128x512_S1x128x512_1_0_0, D1 c i arg3 harg3 arg4 harg4 arg5 harg5 arg6 harg6 arg7 harg7 x0 x1 x2⟩ :: (⟨Rect.unit (s := S4x128x512) ![0, 0, 0] S1x128x512.size inb_S4x128x512_S1x128x512_0_0_0, D0 c i arg3 harg3 arg4 harg4 arg5 harg5 arg6 harg6 arg7 harg7 x0 x1 x2⟩ :: (LL c i arg3 harg3 arg4 harg4 arg5 harg5 arg6 harg6 arg7 harg7 x0 x1 x2))))) (Rect.unit (s := S4x128x512) ![0, 0, 0] S1x128x512.size inb_S4x128x512_S1x128x512_0_0_0).toLoadRect = (full x0 x1 x2 (i 2).val 0).a := by
  rw [slabs_last]
  exact (ldA0 arg7 _).trans (aW_pieces _ _ _ _ _)

theorem last1 : arg7.view.readCov (⟨Rect.unit (s := S4x128x512) ![3, 0, 0] S1x128x512.size inb_S4x128x512_S1x128x512_3_0_0, D3 c i arg3 harg3 arg4 harg4 arg5 harg5 arg6 harg6 arg7 harg7 x0 x1 x2⟩ :: (⟨Rect.unit (s := S4x128x512) ![2, 0, 0] S1x128x512.size inb_S4x128x512_S1x128x512_2_0_0, D2 c i arg3 harg3 arg4 harg4 arg5 harg5 arg6 harg6 arg7 harg7 x0 x1 x2⟩ :: (⟨Rect.unit (s := S4x128x512) ![1, 0, 0] S1x128x512.size inb_S4x128x512_S1x128x512_1_0_0, D1 c i arg3 harg3 arg4 harg4 arg5 harg5 arg6 harg6 arg7 harg7 x0 x1 x2⟩ :: (⟨Rect.unit (s := S4x128x512) ![0, 0, 0] S1x128x512.size inb_S4x128x512_S1x128x512_0_0_0, D0 c i arg3 harg3 arg4 harg4 arg5 harg5 arg6 harg6 arg7 harg7 x0 x1 x2⟩ :: (LL c i arg3 harg3 arg4 harg4 arg5 harg5 arg6 harg6 arg7 harg7 x0 x1 x2))))) (Rect.unit (s := S4x128x512) ![1, 0, 0] S1x128x512.size inb_S4x128x512_S1x128x512_1_0_0).toLoadRect = (full x0 x1 x2 (i 2).val 1).a := by
  rw [slabs_last]
  exact (ldA1 arg7 _).trans (aW_pieces _ _ _ _ _)

theorem last2 : arg7.view.readCov (⟨Rect.unit (s := S4x128x512) ![3, 0, 0] S1x128x512.size inb_S4x128x512_S1x128x512_3_0_0, D3 c i arg3 harg3 arg4 harg4 arg5 harg5 arg6 harg6 arg7 harg7 x0 x1 x2⟩ :: (⟨Rect.unit (s := S4x128x512) ![2, 0, 0] S1x128x512.size inb_S4x128x512_S1x128x512_2_0_0, D2 c i arg3 harg3 arg4 harg4 arg5 harg5 arg6 harg6 arg7 harg7 x0 x1 x2⟩ :: (⟨Rect.unit (s := S4x128x512) ![1, 0, 0] S1x128x512.size inb_S4x128x512_S1x128x512_1_0_0, D1 c i arg3 harg3 arg4 harg4 arg5 harg5 arg6 harg6 arg7 harg7 x0 x1 x2⟩ :: (⟨Rect.unit (s := S4x128x512) ![0, 0, 0] S1x128x512.size inb_S4x128x512_S1x128x512_0_0_0, D0 c i arg3 harg3 arg4 harg4 arg5 harg5 arg6 harg6 arg7 harg7 x0 x1 x2⟩ :: (LL c i arg3 harg3 arg4 harg4 arg5 harg5 arg6 harg6 arg7 harg7 x0 x1 x2))))) (Rect.unit (s := S4x128x512) ![2, 0, 0] S1x128x512.size inb_S4x128x512_S1x128x512_2_0_0).toLoadRect = (full x0 x1 x2 (i 2).val 2).a := by
  rw [slabs_last]
  exact (ldA2 arg7 _).trans (aW_pieces _ _ _ _ _)

theorem last3 : arg7.view.readCov (⟨Rect.unit (s := S4x128x512) ![3, 0, 0] S1x128x512.size inb_S4x128x512_S1x128x512_3_0_0, D3 c i arg3 harg3 arg4 harg4 arg5 harg5 arg6 harg6 arg7 harg7 x0 x1 x2⟩ :: (⟨Rect.unit (s := S4x128x512) ![2, 0, 0] S1x128x512.size inb_S4x128x512_S1x128x512_2_0_0, D2 c i arg3 harg3 arg4 harg4 arg5 harg5 arg6 harg6 arg7 harg7 x0 x1 x2⟩ :: (⟨Rect.unit (s := S4x128x512) ![1, 0, 0] S1x128x512.size inb_S4x128x512_S1x128x512_1_0_0, D1 c i arg3 harg3 arg4 harg4 arg5 harg5 arg6 harg6 arg7 harg7 x0 x1 x2⟩ :: (⟨Rect.unit (s := S4x128x512) ![0, 0, 0] S1x128x512.size inb_S4x128x512_S1x128x512_0_0_0, D0 c i arg3 harg3 arg4 harg4 arg5 harg5 arg6 harg6 arg7 harg7 x0 x1 x2⟩ :: (LL c i arg3 harg3 arg4 harg4 arg5 harg5 arg6 harg6 arg7 harg7 x0 x1 x2))))) (Rect.unit (s := S4x128x512) ![3, 0, 0] S1x128x512.size inb_S4x128x512_S1x128x512_3_0_0).toLoadRect = (full x0 x1 x2 (i 2).val 3).a := by
  rw [slabs_last]
  exact (ldA3 arg7 _).trans (aW_pieces _ _ _ _ _)

/-- What one grid point stores in its block of the result: the four heads' blocks side by side. -/
theorem pieces_eq : (kernelRun2_A c i arg3 harg3 arg4 harg4 arg5 harg5 arg6 harg6 arg7 harg7 x0 x1 x2).1 =
     [⟨Rect.unit (s := S1x512x512) ![0, 0, 384] ![1, 512, 128] inb_S1x512x512_S1x512x128_0_0_384, outB x0 x1 x2 (i 2).val 3⟩,
      ⟨Rect.unit (s := S1x512x512) ![0, 0, 256] ![1, 512, 128] inb_S1x512x512_S1x512x128_0_0_256, outB x0 x1 x2 (i 2).val 2⟩,
      ⟨Rect.unit (s := S1x512x512) ![0, 0, 128] ![1, 512, 128] inb_S1x512x512_S1x512x128_0_0_128, outB x0 x1 x2 (i 2).val 1⟩,
      ⟨Rect.unit (s := S1x512x512) ![0, 0, 0] ![1, 512, 128] inb_S1x512x512_S1x512x128_0_0_0, outB x0 x1 x2 (i 2).val 0⟩] := by
  rw [pieces_found, last0, last1, last2, last3, S4_m0, S4_l0, S4_m1, S4_l1, S4_m2, S4_l2, S4_m3, S4_l3,
    ld49 i arg4 _ x1 (harg4.read_unread _), ld51 i arg4 _ x1 (harg4.read_unread _), ld53 i arg4 _ x1 (harg4.read_unread _), ld55 i arg4 _ x1 (harg4.read_unread _), ldQ0 arg3 _ x0 (harg3.read_unread _), ldQ1 arg3 _ x0 (harg3.read_unread _), ldQ2 arg3 _ x0 (harg3.read_unread _), ldQ3 arg3 _ x0 (harg3.read_unread _)]
  rfl

end Cert.KernelIdeal.Val
-- ==== Proof.FlashValue.lean ====
module

public import proofs.«01_k».proof.Proof.FlashPoint
public import proofs.«01_k».proof.Proof.Online

/-!
# The attention call over the extended reals: what one grid point computes

Where the queries, keys and values are real, a block of the result is the softmax of powers of two over the keys up to
the query, in closed form: the running maximum is gone.
-/

@[expose] public section

set_option maxRecDepth 16384

noncomputable section

namespace Cert.KernelIdeal.Val

open Cert.KernelIdeal Cert.KernelIdeal.Gen Idealize.ShloMosaic Idealize.ShloMosaic.TcCoe Cert.Online

/-- The pattern of minus infinity. -/
theorem neg_inf : Ideal.ofBits FTy.f32 4286578688#32 = (⊥ : EReal) := by
  simp [Ideal.ofBits, Ideal.ieee]

/-- The mask constant is minus infinity. -/
theorem mask_bot : (Named.named (F := Ideal) κ "mask" (φ := .f32) 4048155338#32 : EReal) = ⊥ := by
  exact IdealRules.named_const.ideal_named_scalar _ _ _ _ rfl

theorem qW_at (x0 : Vec Ideal S1x4x512x256 .bf16) (hh : Fin 4) (r : Fin 512) (x : Fin 256) :
    qW x0 hh (ix4 0 0 r x) = x0 (ix4 0 hh r x) := by
  unfold qW VecWindow.window
  congr 1
  funext a
  apply Fin.ext
  match a with
  | ⟨0, _⟩ => rfl
  | ⟨1, _⟩ => rfl
  | ⟨2, _⟩ => show 0 + 1 * r.val = r.val; omega
  | ⟨3, _⟩ => show 0 + 1 * x.val = x.val; omega

theorem kW_at (x1 : Vec Ideal S1x4x4096x256 .bf16) (hh : Fin 4) {n : ℕ} (hn : n < 8) (j : Fin 512) (x : Fin 256) :
    kW x1 hh n (ix4 0 0 j x) = x1 (ix4 0 hh ⟨512 * n + j.val, by omega⟩ x) := by
  unfold kW VecWindow.window
  congr 1
  funext a
  apply Fin.ext
  match a with
  | ⟨0, _⟩ => rfl
  | ⟨1, _⟩ => rfl
  | ⟨2, _⟩ => show 512 * (n % 8) + 1 * j.val = 512 * n + j.val; omega
  | ⟨3, _⟩ => show 0 + 1 * x.val = x.val; omega

theorem vW_at (x2 : Vec Ideal S1x4x128x4096 .bf16) (hh : Fin 4) {n : ℕ} (hn : n < 8) (e : Fin 128) (j : Fin 512) :
    vW x2 hh n (ix4 0 0 e j) = x2 (ix4 0 hh e ⟨512 * n + j.val, by omega⟩) := by
  unfold vW VecWindow.window
  congr 1
  funext a
  apply Fin.ext
  match a with
  | ⟨0, _⟩ => rfl
  | ⟨1, _⟩ => rfl
  | ⟨2, _⟩ => show 0 + 1 * e.val = e.val; omega
  | ⟨3, _⟩ => show 512 * (n % 8) + 1 * j.val = 512 * n + j.val; omega

section

variable (k q : Vec Ideal S1x1x512x256 .bf16) (v : Vec Ideal S1x1x128x512 .bf16) (s : Car Ideal) (r : Fin 512)
    (kr : Fin 512 → Fin 256 → ℝ) (qr : Fin 256 → ℝ) (vr : Fin 128 → Fin 512 → ℝ)
    (hk : ∀ j x, k (ix4 0 0 j x) = (kr j x : EReal)) (hq : ∀ x, q (ix4 0 0 r x) = (qr x : EReal))
    (hv : ∀ e j, v (ix4 0 0 e j) = (vr e j : EReal))
include hk hq

theorem score (j : Fin 512) : k2_pay2 k q (ix2 j r) = ((∑ x, kr j x * qr x : ℝ) : EReal) := by
  have e : k2_pay2 k q (ix2 j r) = ∑ x, k (ix4 0 0 j x) * q (ix4 0 0 r x) := by pointwise [k2_pay2]
  rw [e, ← coe_sum]
  exact Finset.sum_congr rfl fun x _ => by rw [hk, hq, EReal.coe_mul]

/-- The masked scores of the diagonal block. -/
theorem score_diag (j : Fin 512) : k2_pay189 k q (ix2 j r) = if j.val ≤ r.val then ((∑ x, kr j x * qr x : ℝ) : EReal) else ⊥ := by
  have e : k2_pay189 k q (ix2 j r) = Scalar.select (IntOp.cmpi CmpIPredicate.sle (BitVec.ofNat 32 ↑j) (BitVec.ofNat 32 ↑r))
      (k2_pay2 k q (ix2 j r)) (Named.named κ "mask" 4048155338#32) := by pointwise [k2_pay189, k2_pay2]
  rw [e, score k q r kr qr hk hq j, mask_bot]
  have hj := j.isLt
  have hr := r.isLt
  have w := WordCmp.cmpi_sle_ofNat_eq_one_iff (w := 32) (a := j.val) (b := r.val) (by omega) (by omega)
  unfold Scalar.select
  by_cases h : j.val ≤ r.val
  · rw [if_pos h]
    exact if_pos (w.mpr h)
  · rw [if_neg h]
    exact if_neg fun e => h (w.mp e)

include hv

theorem acc_block {L : ℝ} {A : Fin 128 → ℝ} (h : Acc (s.m (ix2 0 r)) (s.l (ix2 0 r)) (fun e => s.a (ix3 0 e r)) L A) :
    Acc ((step k q v s).m (ix2 0 r)) ((step k q v s).l (ix2 0 r)) (fun e => (step k q v s).a (ix3 0 e r))
      (L + ∑ j, (2 : ℝ) ^ (∑ x, kr j x * qr x)) (fun e => A e + ∑ j, (2 : ℝ) ^ (∑ x, kr j x * qr x) * vr e j) := by
  have key := acc_step h (fun _ : Fin 512 => True) (fun j => ∑ x, kr j x * qr x) vr 0 trivial
    (fun j => k2_pay2 k q (ix2 j r)) (fun j => by rw [if_pos trivial]; exact score k q r kr qr hk hq j)
    (m' := (step k q v s).m (ix2 0 r)) (by
      have e : k2_pay3 s.m k q (ix2 0 r) = max (s.m (ix2 0 r)) (Finset.fold max (Ideal.ofBits FTy.f32 4286578688#32) (fun x => k2_pay2 k q (ix2 x r)) Finset.univ) := by
        pointwise [k2_pay3]
      rw [neg_inf] at e
      exact e)
    (l' := (step k q v s).l (ix2 0 r)) (by
      have e : k2_pay6 s.m s.l k q (ix2 0 r) = FloatOps.exp2 (s.m (ix2 0 r) - k2_pay3 s.m k q (ix2 0 r)) * s.l (ix2 0 r)
          + ∑ j, FloatOps.exp2 (k2_pay2 k q (ix2 j r) - k2_pay3 s.m k q (ix2 0 r)) := by
        pointwise [k2_pay6, k2_pay5, k2_pay4]
      exact e)
    (a' := fun f => (step k q v s).a (ix3 0 f r)) (fun f => by
      have e : k2_pay8 (k2_pay7 s.m k q v s.a) (ix3 0 f r) = FloatOps.exp2 (s.m (ix2 0 r) - k2_pay3 s.m k q (ix2 0 r)) * s.a (ix3 0 f r)
          + ∑ j, v (ix4 0 0 f j) * FloatOps.exp2 (k2_pay2 k q (ix2 j r) - k2_pay3 s.m k q (ix2 0 r)) := by
        pointwise [k2_pay8, k2_pay7, k2_pay5, k2_pay4]
      simp only [hv] at e
      exact e)
  simpa using key

theorem acc_diag {L : ℝ} {A : Fin 128 → ℝ} (h : Acc (s.m (ix2 0 r)) (s.l (ix2 0 r)) (fun e => s.a (ix3 0 e r)) L A) :
    Acc ((diag k q v s).m (ix2 0 r)) ((diag k q v s).l (ix2 0 r)) (fun e => (diag k q v s).a (ix3 0 e r))
      (L + ∑ j : Fin 512, if j.val ≤ r.val then (2 : ℝ) ^ (∑ x, kr j x * qr x) else 0)
      (fun e => A e + ∑ j : Fin 512, if j.val ≤ r.val then (2 : ℝ) ^ (∑ x, kr j x * qr x) * vr e j else 0) := by
  exact acc_step h (fun j : Fin 512 => j.val ≤ r.val) (fun j => ∑ x, kr j x * qr x) vr 0 (Nat.zero_le _)
    (fun j => k2_pay189 k q (ix2 j r)) (fun j => score_diag k q r kr qr hk hq j)
    (m' := (diag k q v s).m (ix2 0 r)) (by
      have e : k2_pay190 s.m k q (ix2 0 r) = max (s.m (ix2 0 r)) (Finset.fold max (Ideal.ofBits FTy.f32 4286578688#32) (fun x => k2_pay189 k q (ix2 x r)) Finset.univ) := by
        pointwise [k2_pay190]
      rw [neg_inf] at e
      exact e)
    (l' := (diag k q v s).l (ix2 0 r)) (by
      have e : k2_pay193 s.m s.l k q (ix2 0 r) = FloatOps.exp2 (s.m (ix2 0 r) - k2_pay190 s.m k q (ix2 0 r)) * s.l (ix2 0 r)
          + ∑ j, FloatOps.exp2 (k2_pay189 k q (ix2 j r) - k2_pay190 s.m k q (ix2 0 r)) := by
        pointwise [k2_pay193, k2_pay192, k2_pay191]
      exact e)
    (a' := fun f => (diag k q v s).a (ix3 0 f r)) (fun f => by
      have e : k2_pay194 s.m k q v s.a (ix3 0 f r) = FloatOps.exp2 (s.m (ix2 0 r) - k2_pay190 s.m k q (ix2 0 r)) * s.a (ix3 0 f r)
          + ∑ j, v (ix4 0 0 f j) * FloatOps.exp2 (k2_pay189 k q (ix2 j r) - k2_pay190 s.m k q (ix2 0 r)) := by
        pointwise [k2_pay194, k2_pay192, k2_pay191]
      simp only [hv] at e
      exact e)

end

section

variable (x0 : Vec Ideal S1x4x512x256 .bf16) (x1 : Vec Ideal S1x4x4096x256 .bf16) (x2 : Vec Ideal S1x4x128x4096 .bf16) (hh : Fin 4) (r : Fin 512)
    (kr : ℕ → Fin 256 → ℝ) (qr : Fin 256 → ℝ) (vr : Fin 128 → ℕ → ℝ)
    (hq : ∀ x, x0 (ix4 0 hh r x) = (qr x : EReal))
    (hk : ∀ (j : Fin 4096) x, x1 (ix4 0 hh j x) = (kr j.val x : EReal))
    (hv : ∀ e (j : Fin 4096), x2 (ix4 0 hh e j) = (vr e j.val : EReal))
include hq hk hv

/-- The first `n` blocks. -/
theorem acc_run (n : ℕ) (hn : n ≤ 8) :
    Acc ((run x0 x1 x2 hh n).m (ix2 0 r)) ((run x0 x1 x2 hh n).l (ix2 0 r)) (fun e => (run x0 x1 x2 hh n).a (ix3 0 e r))
      (∑ n' ∈ Finset.range n, ∑ j : Fin 512, (2 : ℝ) ^ (∑ x, kr (512 * n' + j.val) x * qr x))
      (fun e => ∑ n' ∈ Finset.range n, ∑ j : Fin 512, (2 : ℝ) ^ (∑ x, kr (512 * n' + j.val) x * qr x) * vr e (512 * n' + j.val)) := by
  induction n with
  | zero =>
    refine .inl ⟨?_, ?_, fun e => ?_, ?_, fun e => ?_⟩
    · show k2_pay163 (F := Ideal) (ix2 0 r) = ⊥
      have e : k2_pay163 (F := Ideal) (ix2 0 r) = Named.named κ "mask" 4048155338#32 := by pointwise [k2_pay163]
      rw [e, mask_bot]
    · show k2_pay164 (F := Ideal) (ix2 0 r) = 0
      pointwise [k2_pay164]
    · show Ideal.ofBits FTy.f32 0x00000000#32 = 0
      simp [Ideal.ofBits, Ideal.ieee]
    · simp
    · simp
  | succ n ih =>
    have key := acc_block (kW x1 hh n) (qW x0 hh) (vW x2 hh n) (run x0 x1 x2 hh n) r (fun j => kr (512 * n + j.val)) qr (fun e j => vr e (512 * n + j.val))
      (fun j x => by rw [kW_at x1 hh (by omega), hk]) (fun x => by rw [qW_at, hq]) (fun e j => by rw [vW_at x2 hh (by omega), hv]) (ih (by omega))
    simp only [Finset.sum_range_succ]
    exact key

/-- A block of the result in closed form. -/
theorem outB_at (n : ℕ) (hn : n < 8) (e : Fin 128) :
    outB x0 x1 x2 n hh (ix3 0 r e) =
      (((∑ k : Fin 4096, if k.val ≤ 512 * n + r.val then (2 : ℝ) ^ (∑ x, kr k.val x * qr x) * vr e k.val else 0)
        / (∑ k : Fin 4096, if k.val ≤ 512 * n + r.val then (2 : ℝ) ^ (∑ x, kr k.val x * qr x) else 0) : ℝ) : EReal) := by
  have key := acc_diag (kW x1 hh n) (qW x0 hh) (vW x2 hh n) (run x0 x1 x2 hh n) r (fun j => kr (512 * n + j.val)) qr (fun e j => vr e (512 * n + j.val))
      (fun j x => by rw [kW_at x1 hh hn, hk]) (fun x => by rw [qW_at, hq]) (fun e j => by rw [vW_at x2 hh hn, hv]) (acc_run x0 x1 x2 hh r kr qr vr hq hk hv n hn.le)
  have e1 : outB x0 x1 x2 n hh (ix3 0 r e) = Ideal.div ((full x0 x1 x2 n hh).a (ix3 0 e r)) ((full x0 x1 x2 n hh).l (ix2 0 r)) := by
    unfold outB
    generalize full x0 x1 x2 n hh = s
    pointwise [k2_pay201]
  have hpos : 0 < ∑ k : Fin 4096, if k.val ≤ 512 * n + r.val then (2 : ℝ) ^ (∑ x, kr k.val x * qr x) else 0 := by
    refine Finset.sum_pos' (fun k _ => ?_) ⟨⟨0, by omega⟩, Finset.mem_univ _, ?_⟩
    · split_ifs <;> positivity
    · rw [if_pos (Nat.zero_le _)]; positivity
  have hL := sum_causal (fun k => (2 : ℝ) ^ (∑ x, kr k x * qr x)) hn r.isLt
  have hA := sum_causal (fun k => (2 : ℝ) ^ (∑ x, kr k x * qr x) * vr e k) hn r.isLt
  rw [e1, hA, hL]
  rw [hL] at hpos
  exact acc_div key hpos.ne' e

end

end Cert.KernelIdeal.Val

end
-- ==== Proof.FlashArray.lean ====
module

public import proofs.«01_k».proof.Proof.FlashBlock
public import proofs.«01_k».proof.Proof.FlashValue
public import Idealize.ShloMosaic.Lib.Pipeline.ValueKit.Tiles

/-!
# The attention call: the whole array

The four heads of a grid point lie side by side in its block, and the blocks of all points make up the array: every
entry is the causal softmax of its query, in base two.
-/

@[expose] public section

set_option maxRecDepth 16384

noncomputable section

namespace Cert.KernelIdeal.Val

open Cert.KernelIdeal Cert.KernelIdeal.Gen Idealize.ShloMosaic Idealize.ShloMosaic.TcCoe VecWindow

/-- One head's tile sits at its features. -/
theorem emb_tile (o : ℕ) (inb : ∀ a, (![0, 0, o] : Fin 3 → ℕ) a + S1x512x128.size a ≤ S1x512x512.size a)
    (r : Fin 512) (e : Fin 128) (f : Fin 512) (hf : f.val = o + e.val) :
    (Rect.unit (s := S1x512x512) ![0, 0, o] S1x512x128.size inb).emb (ix3 0 r e) = ix3 0 r f := by
  funext a
  apply Fin.ext
  match a with
  | ⟨0, _⟩ => rfl
  | ⟨1, _⟩ => show 0 + 1 * r.val = r.val; omega
  | ⟨2, _⟩ => show o + 1 * e.val = f.val; omega

/-- A piece whose payload is a function's values at features from `o` on. -/
theorem tile_at3 {G : Fin 512 → Fin 512 → EReal} (y : S1x512x512.Idx) (o : ℕ)
    (inb : ∀ a, (![0, 0, o] : Fin 3 → ℕ) a + S1x512x128.size a ≤ S1x512x512.size a) (P : Vec Ideal S1x512x128 .bf16)
    (hP : ∀ (r : Fin 512) (e : Fin 128) (f : Fin 512), f.val = o + e.val → P (ix3 0 r e) = G r f) :
    View.RectAt (Val := Elt Ideal) (e := .bf16) y (Rect.unit (s := S1x512x512) ![0, 0, o] S1x512x128.size inb) P (G (y 1) (y 2)) := by
  intro x hx
  obtain ⟨u0, r, e, rfl⟩ : ∃ (u0 : Fin 1) (r : Fin 512) (e : Fin 128), x = ix3 u0 r e := ⟨x 0, x 1, x 2, eq_ix3 x⟩
  obtain rfl : u0 = 0 := Subsingleton.elim _ _
  have hb : o + 128 ≤ 512 := inb 2
  rw [← hx, emb_tile o inb r e ⟨o + e.val, by omega⟩ rfl]
  exact hP r e _ rfl

section

variable (c : Dev nD) (i : grid2.Coords) (arg3 : Memref sig .tc .vmem S1x4x512x256 .bf16) (harg3 : arg3.IsWhole) (arg4 : Memref sig .tc .vmem S1x4x4096x256 .bf16)
    (harg4 : arg4.IsWhole) (arg5 : Memref sig .tc .vmem S1x4x128x4096 .bf16) (harg5 : arg5.IsWhole) (arg6 : Memref sig .tc .vmem S1x512x512 .bf16)
    (harg6 : arg6.IsWhole) (arg7 : Memref sig .tc .vmem S4x128x512 .f32) (harg7 : arg7.IsWhole)
    (x0 : Vec Ideal S1x4x512x256 .bf16) (x1 : Vec Ideal S1x4x4096x256 .bf16) (x2 : Vec Ideal S1x4x128x4096 .bf16)

/-- A point's block: feature `f` belongs to head `f / 128` of the four. -/
theorem out2_at (y : S1x512x512.Idx) : out2_A_3 (F := Ideal) c i arg3 harg3 arg4 harg4 arg5 harg5 arg6 harg6 arg7 harg7 x0 x1 x2 y =
    outB x0 x1 x2 (i 2).val ⟨(y 2).val / 128, by have : (y 2).val < 512 := (y 2).isLt; omega⟩ (ix3 0 (y 1) ⟨(y 2).val % 128, Nat.mod_lt _ (by norm_num)⟩) := by
  unfold out2_A_3
  have hc := cover2_A_3 (F := Ideal) c i arg3 harg3 arg4 harg4 arg5 harg5 arg6 harg6 arg7 harg7 x0 x1 x2
  rw [View.read_writes_eq_canon _ _ _ hc]
  refine View.canon_eq_of_allAt _ y _ (hc y) ?_
  rw [pieces_eq]
  have key : ∀ (hh : Fin 4) (r : Fin 512) (e : Fin 128) (f : Fin 512), f.val = 128 * hh.val + e.val → outB x0 x1 x2 (i 2).val hh (ix3 0 r e) =
      outB x0 x1 x2 (i 2).val ⟨f.val / 128, by omega⟩ (ix3 0 r ⟨f.val % 128, Nat.mod_lt _ (by norm_num)⟩) := by
    intro hh r e f hf
    have e1 : (⟨f.val / 128, by omega⟩ : Fin 4) = hh := Fin.ext (by show f.val / 128 = hh.val; omega)
    have e2 : (⟨f.val % 128, Nat.mod_lt _ (by norm_num)⟩ : Fin 128) = e := Fin.ext (by show f.val % 128 = e.val; omega)
    rw [e1, e2]
  refine View.allAt_cons _ _ _ (tile_at3 (G := fun r f => outB x0 x1 x2 (i 2).val ⟨f.val / 128, by omega⟩ (ix3 0 r ⟨f.val % 128, Nat.mod_lt _ (by norm_num)⟩)) y 384 _ _ (fun r e f hf => key 3 r e f hf)) ?_
  refine View.allAt_cons _ _ _ (tile_at3 (G := fun r f => outB x0 x1 x2 (i 2).val ⟨f.val / 128, by omega⟩ (ix3 0 r ⟨f.val % 128, Nat.mod_lt _ (by norm_num)⟩)) y 256 _ _ (fun r e f hf => key 2 r e f hf)) ?_
  refine View.allAt_cons _ _ _ (tile_at3 (G := fun r f => outB x0 x1 x2 (i 2).val ⟨f.val / 128, by omega⟩ (ix3 0 r ⟨f.val % 128, Nat.mod_lt _ (by norm_num)⟩)) y 128 _ _ (fun r e f hf => key 1 r e f hf)) ?_
  refine View.allAt_cons _ _ _ (tile_at3 (G := fun r f => outB x0 x1 x2 (i 2).val ⟨f.val / 128, by omega⟩ (ix3 0 r ⟨f.val % 128, Nat.mod_lt _ (by norm_num)⟩)) y 0 _ _ (fun r e f hf => key 0 r e f (by rw [hf]; rfl))) ?_
  exact View.allAt_nil _ _

end

/-- The causal softmax of one query in base two, real queries, keys and values given. -/
def attn (Q : Fin 4 → Fin 8 → ℕ → Fin 256 → ℝ) (K : Fin 4 → Fin 8 → ℕ → Fin 256 → ℝ) (W : Fin 4 → Fin 8 → Fin 128 → ℕ → ℝ)
    (b : Fin 4) (h : Fin 8) (s : ℕ) (e : Fin 128) : ℝ :=
  (∑ k : Fin 4096, if k.val ≤ s then (2 : ℝ) ^ (∑ x, K b h k.val x * Q b h s x) * W b h e k.val else 0)
    / (∑ k : Fin 4096, if k.val ≤ s then (2 : ℝ) ^ (∑ x, K b h k.val x * Q b h s x) else 0)

/-- The whole attention array. -/
def oA (Q : Fin 4 → Fin 8 → ℕ → Fin 256 → ℝ) (K : Fin 4 → Fin 8 → ℕ → Fin 256 → ℝ) (W : Fin 4 → Fin 8 → Fin 128 → ℕ → ℝ) : Vec Ideal S4x4096x1024 .bf16 :=
  fun i => ((attn Q K W (i 0) ⟨(i 2).val / 128, by have : (i 2).val < 1024 := (i 2).isLt; omega⟩ (i 1).val ⟨(i 2).val % 128, Nat.mod_lt _ (by norm_num)⟩ : ℝ) : EReal)

/-- Where the blocks lie. -/
theorem idx2 : ∀ t : Fin grid2.N, (cc2_transform_0 (grid2.coords t) 0 = t.val / 16 ∧ cc2_transform_0 (grid2.coords t) 1 = t.val / 8 % 2 ∧ cc2_transform_0 (grid2.coords t) 2 = t.val % 8 ∧ cc2_transform_0 (grid2.coords t) 3 = 0) ∧
    (cc2_transform_1 (grid2.coords t) 0 = t.val / 16 ∧ cc2_transform_1 (grid2.coords t) 1 = t.val / 8 % 2 ∧ cc2_transform_1 (grid2.coords t) 2 = 0 ∧ cc2_transform_1 (grid2.coords t) 3 = 0) ∧
    (cc2_transform_2 (grid2.coords t) 0 = t.val / 16 ∧ cc2_transform_2 (grid2.coords t) 1 = t.val / 8 % 2 ∧ cc2_transform_2 (grid2.coords t) 2 = 0 ∧ cc2_transform_2 (grid2.coords t) 3 = 0) ∧
    (cc2_transform_3 (grid2.coords t) 0 = t.val / 16 ∧ cc2_transform_3 (grid2.coords t) 1 = t.val % 8 ∧ cc2_transform_3 (grid2.coords t) 2 = t.val / 8 % 2) ∧
    (grid2.coords t 2).val = t.val % 8 := by
  decide +kernel

variable (V : (c : Dev nD) → (b : Ref sig .tc) → Buf (Elt Ideal) ((c : Thread nD τ).loc b))

theorem lt2 (t : Fin cfg2.N) : t.val < 64 := lt_of_lt_of_eq t.isLt N_2

theorem blk2_0 (c : Dev nD) (t : Fin cfg2.N) (hh : Fin 4) (r : Fin 512) (x : Fin 256) :
    (iblk2 V c 0 t : Vec Ideal S1x4x512x256 .bf16) (ix4 0 hh r x) = (V c main_v45_0 : Vec Ideal S4x8x4096x256 .bf16)
      (ix4 ⟨t.val / 16, by have := lt2 t; omega⟩ ⟨4 * (t.val / 8 % 2) + hh.val, by omega⟩ ⟨512 * (t.val % 8) + r.val, by omega⟩ x) := by
  have hi := (idx2 t).1
  unfold iblk2
  rw [View.read_apply]
  show V c main_v45_0 _ = V c main_v45_0 _
  congr 1
  funext a
  apply Fin.ext
  match a with
  | ⟨0, _⟩ => show cc2_transform_0 (grid2.coords t) 0 * 1 + 1 * 0 = t.val / 16; rw [hi.1]; omega
  | ⟨1, _⟩ => show cc2_transform_0 (grid2.coords t) 1 * 4 + 1 * hh.val = 4 * (t.val / 8 % 2) + hh.val; rw [hi.2.1]; omega
  | ⟨2, _⟩ => show cc2_transform_0 (grid2.coords t) 2 * 512 + 1 * r.val = 512 * (t.val % 8) + r.val; rw [hi.2.2.1]; omega
  | ⟨3, _⟩ => show cc2_transform_0 (grid2.coords t) 3 * 256 + 1 * x.val = x.val; rw [hi.2.2.2]; omega

theorem blk2_1 (c : Dev nD) (t : Fin cfg2.N) (hh : Fin 4) (r : Fin 4096) (x : Fin 256) :
    (iblk2 V c 1 t : Vec Ideal S1x4x4096x256 .bf16) (ix4 0 hh r x) = (V c main_v45_1 : Vec Ideal S4x8x4096x256 .bf16)
      (ix4 ⟨t.val / 16, by have := lt2 t; omega⟩ ⟨4 * (t.val / 8 % 2) + hh.val, by omega⟩ r x) := by
  have hi := (idx2 t).2.1
  unfold iblk2
  rw [View.read_apply]
  show V c main_v45_1 _ = V c main_v45_1 _
  congr 1
  funext a
  apply Fin.ext
  match a with
  | ⟨0, _⟩ => show cc2_transform_1 (grid2.coords t) 0 * 1 + 1 * 0 = t.val / 16; rw [hi.1]; omega
  | ⟨1, _⟩ => show cc2_transform_1 (grid2.coords t) 1 * 4 + 1 * hh.val = 4 * (t.val / 8 % 2) + hh.val; rw [hi.2.1]; omega
  | ⟨2, _⟩ => show cc2_transform_1 (grid2.coords t) 2 * 4096 + 1 * r.val = r.val; rw [hi.2.2.1]; omega
  | ⟨3, _⟩ => show cc2_transform_1 (grid2.coords t) 3 * 256 + 1 * x.val = x.val; rw [hi.2.2.2]; omega

theorem blk2_2 (c : Dev nD) (t : Fin cfg2.N) (hh : Fin 4) (e : Fin 128) (r : Fin 4096) :
    (iblk2 V c 2 t : Vec Ideal S1x4x128x4096 .bf16) (ix4 0 hh e r) = (V c main_v45_2 : Vec Ideal S4x8x128x4096 .bf16)
      (ix4 ⟨t.val / 16, by have := lt2 t; omega⟩ ⟨4 * (t.val / 8 % 2) + hh.val, by omega⟩ e r) := by
  have hi := (idx2 t).2.2.1
  unfold iblk2
  rw [View.read_apply]
  show V c main_v45_2 _ = V c main_v45_2 _
  congr 1
  funext a
  apply Fin.ext
  match a with
  | ⟨0, _⟩ => show cc2_transform_2 (grid2.coords t) 0 * 1 + 1 * 0 = t.val / 16; rw [hi.1]; omega
  | ⟨1, _⟩ => show cc2_transform_2 (grid2.coords t) 1 * 4 + 1 * hh.val = 4 * (t.val / 8 % 2) + hh.val; rw [hi.2.1]; omega
  | ⟨2, _⟩ => show cc2_transform_2 (grid2.coords t) 2 * 128 + 1 * e.val = e.val; rw [hi.2.2.1]; omega
  | ⟨3, _⟩ => show cc2_transform_2 (grid2.coords t) 3 * 4096 + 1 * r.val = r.val; rw [hi.2.2.2]; omega

variable (Q K : Fin 4 → Fin 8 → ℕ → Fin 256 → ℝ) (W : Fin 4 → Fin 8 → Fin 128 → ℕ → ℝ)

/-- A point's block is its part of the array. -/
theorem G_at2 (c : Dev nD) (t : Fin cfg2.N)
    (hq : ∀ b h (s : Fin 4096) x, (V c main_v45_0 : Vec Ideal S4x8x4096x256 .bf16) (ix4 b h s x) = ((Q b h s.val x : ℝ) : EReal))
    (hk : ∀ b h (s : Fin 4096) x, (V c main_v45_1 : Vec Ideal S4x8x4096x256 .bf16) (ix4 b h s x) = ((K b h s.val x : ℝ) : EReal))
    (hv : ∀ b h e (s : Fin 4096), (V c main_v45_2 : Vec Ideal S4x8x128x4096 .bf16) (ix4 b h e s) = ((W b h e s.val : ℝ) : EReal))
    (y : S1x512x512.Idx) (i : S4x4096x1024.Idx) (h0 : (i 0).val = t.val / 16) (h1 : (i 1).val = 512 * (t.val % 8) + (y 1).val)
    (h2 : (i 2).val = 512 * (t.val / 8 % 2) + (y 2).val) : (outsAt2 V c t : Vec Ideal S1x512x512 .bf16) y = oA Q K W i := by
  have ht := lt2 t
  have hy1 : (y 1).val < 512 := (y 1).isLt
  have hy2 : (y 2).val < 512 := (y 2).isLt
  unfold outsAt2
  refine (out2_at _ _ _ _ _ _ _ _ _ _ _ _ _ _ _ y).trans ?_
  have hn := (idx2 t).2.2.2.2
  rw [hn]
  refine (outB_at _ _ _ _ (y 1)
    (K ⟨t.val / 16, by omega⟩ ⟨4 * (t.val / 8 % 2) + (y 2).val / 128, by omega⟩)
    (Q ⟨t.val / 16, by omega⟩ ⟨4 * (t.val / 8 % 2) + (y 2).val / 128, by omega⟩ (512 * (t.val % 8) + (y 1).val))
    (W ⟨t.val / 16, by omega⟩ ⟨4 * (t.val / 8 % 2) + (y 2).val / 128, by omega⟩)
    (fun x => (blk2_0 V c t _ _ x).trans (hq _ _ _ _)) (fun j x => (blk2_1 V c t _ j x).trans (hk _ _ _ _))
    (fun e j => (blk2_2 V c t _ e j).trans (hv _ _ _ _)) (t.val % 8) (by omega) _).trans ?_
  unfold oA attn
  have e0 : (⟨t.val / 16, by omega⟩ : Fin 4) = i 0 := Fin.ext h0.symm
  have e1 : (⟨4 * (t.val / 8 % 2) + (y 2).val / 128, by omega⟩ : Fin 8) = ⟨(i 2).val / 128, by have : (i 2).val < 1024 := (i 2).isLt; omega⟩ :=
    Fin.ext (by show 4 * (t.val / 8 % 2) + (y 2).val / 128 = (i 2).val / 128; omega)
  have e2 : (⟨(y 2).val % 128, Nat.mod_lt _ (by norm_num)⟩ : Fin 128) = ⟨(i 2).val % 128, Nat.mod_lt _ (by norm_num)⟩ :=
    Fin.ext (by show (y 2).val % 128 = (i 2).val % 128; omega)
  rw [e0, e1, e2, ← h1]

/-- The attention call's array. -/
theorem final2_3 (c : Dev nD)
    (hq : ∀ b h (s : Fin 4096) x, (V c main_v45_0 : Vec Ideal S4x8x4096x256 .bf16) (ix4 b h s x) = ((Q b h s.val x : ℝ) : EReal))
    (hk : ∀ b h (s : Fin 4096) x, (V c main_v45_1 : Vec Ideal S4x8x4096x256 .bf16) (ix4 b h s x) = ((K b h s.val x : ℝ) : EReal))
    (hv : ∀ b h e (s : Fin 4096), (V c main_v45_2 : Vec Ideal S4x8x128x4096 .bf16) (ix4 b h e s) = ((W b h e s.val : ℝ) : EReal)) :
    (dat2 V c).arrAt 3 cfg2.N = oA Q K W :=
  (dat2 V c).arrAt_eq_of_cover 3 (oA Q K W) (fun t _ => by
    show (cfg2.win 3).cut (grid2.coords t) ((dat2 V c).after 3 t) = _
    rw [after2_3]
    have hi := (idx2 t).2.2.2.1
    funext j
    rw [View.read_apply]
    show (outsAt2 V c t : Vec Ideal S1x512x512 .bf16) j = (oA Q K W) _
    refine G_at2 V Q K W c t hq hk hv j _ ?_ ?_ ?_
    · show cc2_transform_3 (grid2.coords t) 0 * 1 + 1 * (j 0).val = _; rw [hi.1]; have : (j 0).val < 1 := (j 0).isLt; omega
    · show cc2_transform_3 (grid2.coords t) 1 * 512 + 1 * (j 1).val = _; rw [hi.2.1]; omega
    · show cc2_transform_3 (grid2.coords t) 2 * 512 + 1 * (j 2).val = _; rw [hi.2.2]; omega)
  fun i => by
    have h0 : (i 0 : Nat) < 4 := (i 0).isLt
    have h1 : (i 1 : Nat) < 4096 := (i 1).isLt
    have h2 : (i 2 : Nat) < 1024 := (i 2).isLt
    obtain ⟨t, htv⟩ : ∃ t : Fin cfg2.N, t.val = 16 * (i 0 : Nat) + 8 * ((i 2 : Nat) / 512) + (i 1 : Nat) / 512 :=
      ⟨⟨16 * (i 0 : Nat) + 8 * ((i 2 : Nat) / 512) + (i 1 : Nat) / 512, by rw [show cfg2.N = 64 from N_2]; omega⟩, rfl⟩
    refine ⟨t, flush2_3 _, ?_⟩
    have hi := (idx2 t).2.2.2.1
    show i ∈ ((View.whole main_v46).slice (win2_3.rect t)).set
    rw [View.set_slice_whole, Rect.mem_set_unit]
    intro a
    match a with
    | ⟨0, _⟩ => show cc2_transform_3 (grid2.coords t) 0 * 1 ≤ (i 0 : Nat) ∧ (i 0 : Nat) < cc2_transform_3 (grid2.coords t) 0 * 1 + 1
                rw [hi.1]; omega
    | ⟨1, _⟩ => show cc2_transform_3 (grid2.coords t) 1 * 512 ≤ (i 1 : Nat) ∧ (i 1 : Nat) < cc2_transform_3 (grid2.coords t) 1 * 512 + 512
                rw [hi.2.1]; omega
    | ⟨2, _⟩ => show cc2_transform_3 (grid2.coords t) 2 * 512 ≤ (i 2 : Nat) ∧ (i 2 : Nat) < cc2_transform_3 (grid2.coords t) 2 * 512 + 512
                rw [hi.2.2]; omega

end Cert.KernelIdeal.Val

end
-- ==== Proof.KernelValue.lean ====
module

public import proofs.«01_k».proof.Proof.HostReads
public import proofs.«01_k».proof.Proof.InProj
public import proofs.«01_k».proof.Proof.MlaProj
public import proofs.«01_k».proof.Proof.FlashArray

/-!
# The kernel program's results, from real arguments

The latents, the queries, keys and values of the projection call, and the attention array, entry by entry, as the real
numbers of the branch.
-/

@[expose] public section

set_option maxRecDepth 16384

noncomputable section

namespace Cert.KernelIdeal.Val

open Cert.KernelIdeal Cert.KernelIdeal.Gen Cert.Spec Idealize.ShloMosaic Idealize.ShloMosaic.TcCoe
open Cert.Layer (Args rot)

variable (m : (ℓ : Loc nD τ sig) → Buf (Elt Ideal) ℓ) (ρ : Dev nD → PrngReg) (c : Dev nD) (A : Args)

/-- `A` is what the program's arguments hold. -/
abbrev Holds : Prop := A.Reads (aX m c) (aP m c) (aG m c) (aWi m c) (aQg m c) (aUq m c) (aKg m c) (aUkv m c)

variable {m c A} (H : Holds m c A)
include H

/-! ## The latents -/

omit H in
theorem proj_congr {x x' g g' w w' : Fin 1024 → EReal} (hx : ∀ k, x k = x' k) (hg : ∀ k, g k = g' k) (hw : ∀ k, w k = w' k) :
    Cert.Spec.proj x g w = Cert.Spec.proj x' g' w' := by
  rw [funext hx, funext hg, funext hw]

omit H in
theorem rms_congr {n : ℕ} {N : EReal} {v v' g g' : Fin n → EReal} (hv : ∀ k, v k = v' k) (hg : ∀ k, g k = g' k) (i : Fin n) :
    rms N v g i = rms N v' g' i := by
  rw [funext hv, funext hg]

theorem x_at (r : Fin 16384) (k : Fin 1024) : (V1 m ρ c main_v9 : Vec Ideal S16384x1024 .f32) (ix2 r k) = ((A.x (rowB r) (rowS r) k : ℝ) : EReal) :=
  (V1_x m ρ c r k).trans (H.x _ _ _)

theorem g_at (k : Fin 1024) : (V1 m ρ c main_v18 : Vec Ideal S1x1024 .f32) (ix2 0 k) = ((A.g k : ℝ) : EReal) :=
  (V1_g m ρ c k).trans (H.g _)

theorem cq_at (r : Fin 16384) (d : Fin 256) :
    (V3 m ρ c main_v24_1 : Vec Ideal S16384x256 .f32) (ix2 r d) = ((A.z (rowB r) (rowS r) ⟨2048 + d.val, by omega⟩ : ℝ) : EReal) := by
  rw [V3_cq, final0_9]
  exact (proj_congr (x_at ρ H r) (g_at ρ H) fun k => (V1_wcq m ρ c k d).trans (H.w _ _)).trans (A.z_coe _ _ _)

theorem ckv_eq (r : Fin 16384) (e : Fin 384) {w' : Fin 1024 → EReal}
    (hw : ∀ k, (V1 m ρ c main_v17 : Vec Ideal S1024x384 .bf16) (ix2 k e) = w' k) :
    (V3 m ρ c main_v24_2 : Vec Ideal S16384x384 .f32) (ix2 r e)
      = Cert.Spec.proj (fun d => ((A.x (rowB r) (rowS r) d : ℝ) : EReal)) (fun d => ((A.g d : ℝ) : EReal)) w' := by
  rw [V3_ckv, final0_10]
  show Cert.Spec.proj (fun k => (V1 m ρ c main_v9 : Vec Ideal S16384x1024 .f32) (ix2 r k)) (fun k => (V1 m ρ c main_v18 : Vec Ideal S1x1024 .f32) (ix2 0 k))
    (fun k => (V1 m ρ c main_v17 : Vec Ideal S1024x384 .bf16) (ix2 k e)) = _
  exact proj_congr (x_at ρ H r) (g_at ρ H) hw

theorem ckv_lat (r : Fin 16384) (d : Fin 128) :
    (V3 m ρ c main_v24_2 : Vec Ideal S16384x384 .f32) (ix2 r ⟨d.val, by omega⟩) = ((A.z (rowB r) (rowS r) ⟨2304 + d.val, by omega⟩ : ℝ) : EReal) := by
  refine (ckv_eq ρ H r _ fun k => ?_).trans (A.z_coe _ _ _)
  refine (V1_wckv m ρ c k _).trans ?_
  simp only [d.isLt, dite_true]
  exact H.w _ _

theorem ckv_key (r : Fin 16384) (j : Fin 128) :
    (V3 m ρ c main_v24_2 : Vec Ideal S16384x384 .f32) (ix2 r ⟨128 + j.val, by omega⟩)
      = if h : j.val < 64 then ((A.z (rowB r) (rowS r) ⟨2432 + j.val, by omega⟩ : ℝ) : EReal) else 0 := by
  have n1 : ¬ (128 + j.val < 128) := by omega
  have e1 : 128 + j.val - 128 = j.val := by omega
  by_cases h : j.val < 64
  · rw [dif_pos h]
    refine (ckv_eq ρ H r _ fun k => ?_).trans (A.z_coe _ _ _)
    refine (V1_wckv m ρ c k _).trans ?_
    simp only [n1, e1, h, dite_true, dite_false]
    exact H.w _ _
  · rw [dif_neg h]
    have n2 : j.val - 64 < 64 := by omega
    refine (ckv_eq ρ H r _ fun k => ?_).trans (A.z_zero _ _)
    refine (V1_wckv m ρ c k _).trans ?_
    simp only [n1, e1, h, n2, dite_true, dite_false]

theorem ckv_turn (r : Fin 16384) (j : Fin 128) :
    (V3 m ρ c main_v24_2 : Vec Ideal S16384x384 .f32) (ix2 r ⟨256 + j.val, by omega⟩)
      = if h : j.val < 64 then
          (if h' : j.val < 32 then ((-A.z (rowB r) (rowS r) ⟨2432 + (32 + j.val), by omega⟩ : ℝ) : EReal)
          else ((A.z (rowB r) (rowS r) ⟨2432 + (j.val - 32), by omega⟩ : ℝ) : EReal))
        else 0 := by
  have n1 : ¬ (256 + j.val < 128) := by omega
  have n2 : ¬ (256 + j.val - 128 < 64) := by omega
  have n3 : ¬ (256 + j.val - 128 - 64 < 64) := by omega
  have e1 : 256 + j.val - 128 - 64 - 64 = j.val := by omega
  by_cases h : j.val < 64
  · rw [dif_pos h]
    by_cases h' : j.val < 32
    · rw [dif_pos h']
      refine (ckv_eq ρ H r _ fun k => ?_).trans (A.z_neg _ _ _)
      refine (V1_wckv m ρ c k _).trans ?_
      simp only [n1, n2, n3, e1, h, h', dite_true, dite_false]
      exact congrArg (fun t : EReal => -t) (H.w _ _)
    · rw [dif_neg h']
      refine (ckv_eq ρ H r _ fun k => ?_).trans (A.z_coe _ _ _)
      refine (V1_wckv m ρ c k _).trans ?_
      simp only [n1, n2, n3, e1, h, h', dite_true, dite_false]
      exact H.w _ _
  · rw [dif_neg h]
    refine (ckv_eq ρ H r _ fun k => ?_).trans (A.z_zero _ _)
    refine (V1_wckv m ρ c k _).trans ?_
    simp only [n1, n2, n3, e1, h, dite_false]

/-! ## Angles -/

theorem V3_pos (r : Fin 16384) : (V3 m ρ c main_v8 : Vec Ideal S16384x1 .i32) (ix2 r 0) = A.p (rowB r) (rowS r) := by
  rw [V3_old m ρ c main_v8 (by decide) (by decide), V1_pos, H.p]

omit H in
theorem V3_invf (j : Fin 128) : (V3 m ρ c main_v7 : Vec Ideal S1x128 .f32) (ix2 0 j)
    = if h : j.val < 32 then Cert.Layer.freq ⟨j.val, h⟩ else if h : j.val - 32 < 32 then Cert.Layer.freq ⟨j.val - 32, h⟩ else 0 := by
  rw [V3_old m ρ c main_v7 (by decide) (by decide), V1_invf]

theorem cos_at (r : Fin 16384) (j : Fin 128) (i : Fin 32) (hi : j.val = i.val ∨ j.val = 32 + i.val) :
    cosT (V3 m ρ c main_v8 : Vec Ideal S16384x1 .i32) (V3 m ρ c main_v7 : Vec Ideal S1x128 .f32) r j = ((A.co (rowB r) (rowS r) i : ℝ) : EReal) := by
  have e : (V3 m ρ c main_v7 : Vec Ideal S1x128 .f32) (ix2 0 j) = Cert.Layer.freq i := by
    rw [V3_invf]
    rcases hi with hi | hi
    · rw [dif_pos (by omega)]
      congr 1
      exact Fin.ext hi
    · rw [dif_neg (by omega), dif_pos (by omega)]
      congr 1
      apply Fin.ext
      show j.val - 32 = i.val
      omega
  unfold cosT
  rw [e, V3_pos ρ H]
  exact A.co_coe _ _ _

theorem sin_at (r : Fin 16384) (j : Fin 128) (i : Fin 32) (hi : j.val = i.val ∨ j.val = 32 + i.val) :
    sinT (V3 m ρ c main_v8 : Vec Ideal S16384x1 .i32) (V3 m ρ c main_v7 : Vec Ideal S1x128 .f32) r j = ((A.si (rowB r) (rowS r) i : ℝ) : EReal) := by
  have e : (V3 m ρ c main_v7 : Vec Ideal S1x128 .f32) (ix2 0 j) = Cert.Layer.freq i := by
    rw [V3_invf]
    rcases hi with hi | hi
    · rw [dif_pos (by omega)]
      congr 1
      exact Fin.ext hi
    · rw [dif_neg (by omega), dif_pos (by omega)]
      congr 1
      apply Fin.ext
      show j.val - 32 = i.val
      omega
  unfold sinT
  rw [e, V3_pos ρ H]
  exact A.si_coe _ _ _

/-! ## Queries -/

theorem qn_at (r : Fin 16384) (d : Fin 256) :
    qnT (V3 m ρ c main_v24_1 : Vec Ideal S16384x256 .f32) (V3 m ρ c main_v42 : Vec Ideal S1x256 .f32) r d = ((A.qn (rowB r) (rowS r) d : ℝ) : EReal) := by
  exact (rms_congr (cq_at ρ H r) (fun k => (V3_gq m ρ c k).trans (H.qg _)) d).trans (A.qn_coe _ _ _)

theorem qa_at (r : Fin 16384) (h : Fin 8) (x : Fin 256) :
    qaT (V3 m ρ c main_v24_1 : Vec Ideal S16384x256 .f32) (V3 m ρ c main_v42 : Vec Ideal S1x256 .f32) (V3 m ρ c main_v28 : Vec Ideal S256x2048 .bf16) r
        ⟨256 * h.val + x.val, by omega⟩
      = if hx : x.val < 192 then ((A.qf (rowB r) (rowS r) ⟨192 * h.val + x.val, by omega⟩ : ℝ) : EReal) else 0 := by
  have e1 : (256 * h.val + x.val) % 256 = x.val := by omega
  have e2 : (256 * h.val + x.val) / 256 * 192 + x.val = 192 * h.val + x.val := by omega
  by_cases hx : x.val < 192
  · rw [dif_pos hx]
    refine (Finset.sum_congr rfl fun k _ => congrArg₂ (· * ·) (qn_at ρ H r k) ?_).trans (A.qf_coe _ _ _)
    refine (V3_wq m ρ c k _).trans ?_
    simp only [e1, hx, dite_true, e2]
    exact H.uq _ _
  · rw [dif_neg hx]
    refine Finset.sum_eq_zero fun k _ => ?_
    have w0 : (V3 m ρ c main_v28 : Vec Ideal S256x2048 .bf16) (ix2 k ⟨256 * h.val + x.val, by omega⟩) = (0 : EReal) := by
      refine (V3_wq m ρ c k _).trans ?_
      simp only [e1, hx, dite_false]
    exact (congrArg (fun t : EReal => _ * t) w0).trans (mul_zero _)

theorem qr_at (r : Fin 16384) (h : Fin 8) (j : Fin 128) :
    qrT (V3 m ρ c main_v24_1 : Vec Ideal S16384x256 .f32) (V3 m ρ c main_v42 : Vec Ideal S1x256 .f32) (V3 m ρ c main_v35 : Vec Ideal S256x1024 .bf16) r
        ⟨128 * h.val + j.val, by omega⟩
      = if h1 : j.val < 64 then
          (if h2 : j.val < 32 then ((-A.qf (rowB r) (rowS r) ⟨192 * h.val + (128 + (32 + j.val)), by omega⟩ : ℝ) : EReal)
          else ((A.qf (rowB r) (rowS r) ⟨192 * h.val + (128 + (j.val - 32)), by omega⟩ : ℝ) : EReal))
        else 0 := by
  have e1 : (128 * h.val + j.val) % 128 = j.val := by omega
  have e2 : ∀ y, (128 * h.val + j.val) / 128 * 192 + y = 192 * h.val + y := fun y => by omega
  by_cases h1 : j.val < 64
  · rw [dif_pos h1]
    by_cases h2 : j.val < 32
    · rw [dif_pos h2]
      refine (Finset.sum_congr rfl fun k _ => congrArg₂ (· * ·) (qn_at ρ H r k) ?_).trans (A.qf_neg _ _ _)
      refine (V3_wr m ρ c k _).trans ?_
      simp only [e1, h1, h2, dite_true, e2]
      exact congrArg (fun t : EReal => -t) (H.uq _ _)
    · rw [dif_neg h2]
      refine (Finset.sum_congr rfl fun k _ => congrArg₂ (· * ·) (qn_at ρ H r k) ?_).trans (A.qf_coe _ _ _)
      refine (V3_wr m ρ c k _).trans ?_
      simp only [e1, h1, h2, dite_true, dite_false, e2]
      exact H.uq _ _
  · rw [dif_neg h1]
    refine Finset.sum_eq_zero fun k _ => ?_
    have w0 : (V3 m ρ c main_v35 : Vec Ideal S256x1024 .bf16) (ix2 k ⟨128 * h.val + j.val, by omega⟩) = (0 : EReal) := by
      refine (V3_wr m ρ c k _).trans ?_
      simp only [e1, h1, dite_false]
    exact (congrArg (fun t : EReal => _ * t) w0).trans (mul_zero _)

omit H in
/-- The factor of the queries is the exact one. -/
theorem qs_eq : qs = ((Cert.Layer.Args.qsR : ℝ) : EReal) := IdealRules.named_const.ideal_named_scalar _ _ _ _ rfl

omit H in
theorem zero_core (a b x y z : EReal) (ha : a = 0) (hb : b = 0) : (a * x + b * y) * z = 0 := by
  rw [ha, hb, zero_mul, zero_mul, zero_add, zero_mul]

theorem q_at (r : Fin 16384) (h : Fin 8) (d : Fin 256) :
    qT (V3 m ρ c main_v24_1 : Vec Ideal S16384x256 .f32) (V3 m ρ c main_v8 : Vec Ideal S16384x1 .i32) (V3 m ρ c main_v7 : Vec Ideal S1x128 .f32)
        (V3 m ρ c main_v42 : Vec Ideal S1x256 .f32) (V3 m ρ c main_v28 : Vec Ideal S256x2048 .bf16) (V3 m ρ c main_v35 : Vec Ideal S256x1024 .bf16) r h d
      = ((A.qk (rowB r) h (rowS r) d : ℝ) : EReal) := by
  unfold qT Cert.Layer.Args.qk
  have qa := qa_at ρ H r h d
  by_cases h1 : d.val < 128
  · rw [dif_pos h1, dif_pos h1]
    refine (congrArg₂ (fun s t : EReal => s * t) (qa.trans (dif_pos (by omega))) qs_eq).trans ?_
    exact (EReal.coe_mul _ _).symm
  · rw [dif_neg h1, dif_neg h1]
    have q := qr_at ρ H r h ⟨d.val - 128, by omega⟩
    by_cases h2 : d.val - 128 < 64
    · rw [dif_pos h2]
      replace qa := qa.trans (dif_pos (by omega))
      replace q := q.trans (dif_pos h2)
      unfold Cert.Layer.Args.qrot rot
      by_cases h3 : d.val - 128 < 32
      · rw [dif_pos h3]
        refine (congrArg₂ (fun s t : EReal => s * t) (congrArg₂ (fun s t : EReal => s + t)
          (congrArg₂ (fun s t : EReal => s * t) qa (cos_at ρ H r _ ⟨d.val - 128, h3⟩ (.inl rfl)))
          (congrArg₂ (fun s t : EReal => s * t) (q.trans (dif_pos h3)) (sin_at ρ H r _ ⟨d.val - 128, h3⟩ (.inl rfl)))) qs_eq).trans ?_
        simp only [← EReal.coe_mul, ← EReal.coe_add]
        rw [neg_mul, ← sub_eq_add_neg]
        congr 5
        · congr 1
          omega
        · congr 1
          omega
      · have h4 : d.val - 128 = 32 + (d.val - 128 - 32) := by omega
        rw [dif_neg h3]
        refine (congrArg₂ (fun s t : EReal => s * t) (congrArg₂ (fun s t : EReal => s + t)
          (congrArg₂ (fun s t : EReal => s * t) qa (cos_at ρ H r _ ⟨d.val - 128 - 32, by omega⟩ (.inr h4)))
          (congrArg₂ (fun s t : EReal => s * t) (q.trans (dif_neg h3)) (sin_at ρ H r _ ⟨d.val - 128 - 32, by omega⟩ (.inr h4)))) qs_eq).trans ?_
        simp only [← EReal.coe_mul, ← EReal.coe_add]
        congr 5
        · congr 1
          omega
        · congr 1
          omega
    · rw [dif_neg h2]
      exact (zero_core _ _ _ _ _ (qa.trans (dif_neg (by omega))) (q.trans (dif_neg h2))).trans EReal.coe_zero.symm

/-! ## Keys and values -/

theorem kvn_at (r : Fin 16384) (d : Fin 128) :
    kvnT (V3 m ρ c main_v24_2 : Vec Ideal S16384x384 .f32) (V3 m ρ c main_v43 : Vec Ideal S1x128 .f32) r d = ((A.kvn (rowB r) (rowS r) d : ℝ) : EReal) := by
  exact (rms_congr (ckv_lat ρ H r) (fun k => (V3_gkv m ρ c k).trans (H.kg _)) d).trans (A.kvn_coe _ _ _)

theorem k_at (r : Fin 16384) (h : Fin 8) (d : Fin 256) :
    kT (V3 m ρ c main_v24_2 : Vec Ideal S16384x384 .f32) (V3 m ρ c main_v8 : Vec Ideal S16384x1 .i32) (V3 m ρ c main_v7 : Vec Ideal S1x128 .f32)
        (V3 m ρ c main_v43 : Vec Ideal S1x128 .f32) (V3 m ρ c main_v39 : Vec Ideal S128x1024 .bf16) r h d
      = ((A.kk (rowB r) h (rowS r) d : ℝ) : EReal) := by
  unfold kT Cert.Layer.Args.kk
  by_cases h1 : d.val < 128
  · rw [dif_pos h1, dif_pos h1]
    have e1 : (128 * h.val + d.val) / 128 * 256 + (128 * h.val + d.val) % 128 = 256 * h.val + d.val := by omega
    refine (Finset.sum_congr rfl fun k _ => congrArg₂ (· * ·) (kvn_at ρ H r k) ?_).trans (A.kvf_coe _ _ _)
    refine (V3_wk m ρ c k _).trans ?_
    simp only [e1]
    exact H.ukv _ _
  · rw [dif_neg h1, dif_neg h1]
    unfold krT
    have k1 := ckv_key ρ H r ⟨d.val - 128, by omega⟩
    have k2 := ckv_turn ρ H r ⟨d.val - 128, by omega⟩
    rw [k1, k2]
    by_cases h2 : d.val - 128 < 64
    · rw [dif_pos h2, dif_pos h2, dif_pos h2]
      unfold Cert.Layer.Args.krot rot
      by_cases h3 : d.val - 128 < 32
      · rw [dif_pos h3, dif_pos h3, cos_at ρ H r _ ⟨d.val - 128, h3⟩ (.inl rfl), sin_at ρ H r _ ⟨d.val - 128, h3⟩ (.inl rfl),
          ← EReal.coe_mul, ← EReal.coe_mul, ← EReal.coe_add, neg_mul, ← sub_eq_add_neg]
      · have h4 : d.val - 128 = 32 + (d.val - 128 - 32) := by omega
        rw [dif_neg h3, dif_neg h3, cos_at ρ H r _ ⟨d.val - 128 - 32, by omega⟩ (.inr h4), sin_at ρ H r _ ⟨d.val - 128 - 32, by omega⟩ (.inr h4),
          ← EReal.coe_mul, ← EReal.coe_mul, ← EReal.coe_add]
    · rw [dif_neg h2, dif_neg h2, dif_neg h2, zero_mul, zero_mul, zero_add, EReal.coe_zero]

theorem v_at (r : Fin 16384) (h : Fin 8) (e : Fin 128) :
    vT (V3 m ρ c main_v24_2 : Vec Ideal S16384x384 .f32) (V3 m ρ c main_v43 : Vec Ideal S1x128 .f32) (V3 m ρ c main_v44 : Vec Ideal S1024x128 .bf16) r h e
      = ((A.v (rowB r) (rowS r) h e : ℝ) : EReal) := by
  have e1 : (128 * h.val + e.val) / 128 * 256 + (128 + (128 * h.val + e.val) % 128) = 256 * h.val + (128 + e.val) := by omega
  have w : ∀ k : Fin 128, (V3 m ρ c main_v44 : Vec Ideal S1024x128 .bf16) (ix2 ⟨128 * h.val + e.val, by omega⟩ k)
      = ((A.ukv k ⟨256 * h.val + (128 + e.val), by omega⟩ : ℝ) : EReal) := by
    intro k
    refine (V3_wv m ρ c _ k).trans ?_
    simp only [e1]
    exact H.ukv _ _
  unfold vT vaT
  refine (Finset.sum_congr rfl fun k _ => congrArg₂ (fun s t : EReal => s * t) (w k) (kvn_at ρ H r k)).trans ?_
  exact (Finset.sum_congr rfl fun k _ => mul_comm _ _).trans (A.kvf_coe _ _ _)

/-! ## The attention array -/

omit H in
theorem rowB_tok (b : Fin 4) (s : Fin 4096) : rowB (tok b s) = b := Fin.ext (by show (4096 * b.val + s.val) / 4096 = b.val; omega)
omit H in
theorem rowS_tok (b : Fin 4) (s : Fin 4096) : rowS (tok b s) = s := Fin.ext (by show (4096 * b.val + s.val) % 4096 = s.val; omega)

/-- A place as a number. -/
abbrev place (n : ℕ) : Fin 4096 := Fin.ofNat 4096 n

omit H in
theorem place_val (s : Fin 4096) : place s.val = s := Fin.ext (Nat.mod_eq_of_lt s.isLt)

/-- The attention results as real numbers. -/
theorem o_at (b : Fin 4) (s : Fin 4096) (f : Fin 1024) :
    (V5 m ρ c main_v46 : Vec Ideal S4x4096x1024 .bf16) (ix3 b s f)
      = ((A.att b ⟨f.val / 128, by omega⟩ s ⟨f.val % 128, by omega⟩ : ℝ) : EReal) := by
  have e := final2_3 (V4 m ρ) (fun b h n x => A.qk b h (place n) x) (fun b h n x => A.kk b h (place n) x)
    (fun b h e n => A.v b (place n) h e) c
    (fun b h s x => by
      rw [V4_q, final1_10, place_val]
      show qT _ _ _ _ _ _ (tok b s) h x = _
      rw [q_at ρ H, rowB_tok, rowS_tok])
    (fun b h s x => by
      rw [V4_k, final1_11, place_val]
      show kT _ _ _ _ _ (tok b s) h x = _
      rw [k_at ρ H, rowB_tok, rowS_tok])
    (fun b h e s => by
      rw [V4_v, final1_12, place_val]
      show vT _ _ _ (tok b s) h e = _
      rw [v_at ρ H, rowB_tok, rowS_tok])
  rw [V5_o, e]
  show ((attn _ _ _ b ⟨f.val / 128, _⟩ s.val ⟨f.val % 128, _⟩ : ℝ) : EReal) = _
  unfold attn Cert.Layer.Args.att
  simp only [place_val, Cert.Layer.Args.weight]

end Cert.KernelIdeal.Val

end
-- ==== Proof.Finite.lean ====
module

public import proofs.«01_k».proof.Defs
public import proofs.«01_k».proof.Proof.Layer
public import proofs.«01_k».proof.Proof.Gen.Pre_finite

/-!
# The precondition: every float argument is a real number

The condition reduces "absolute value below infinity" over each array with `and`; each entry's bit is therefore set.
-/

@[expose] public section

noncomputable section

namespace Cert.Proof

open Idealize.ShloMosaic

theorem and1 : ∀ a b : BitVec 1, IntOp.andi a b = 1#1 → a = 1#1 ∧ b = 1#1 := by decide

theorem foldl_and {α : Type} (f : α → BitVec 1) (l : List α) (r : BitVec 1)
    (h : l.foldl (fun r n => IntOp.andi r (f n)) r = 1#1) : r = 1#1 ∧ ∀ n ∈ l, f n = 1#1 := by
  induction l generalizing r with
  | nil => exact ⟨h, by simp⟩
  | cons a l ih =>
    obtain ⟨h1, h2⟩ := ih _ h
    obtain ⟨h3, h4⟩ := and1 _ _ h1
    exact ⟨h3, by simpa using ⟨h4, h2⟩⟩

/-- An array whose bits reduce to one has every bit set. -/
theorem reduce_all {s u : Shape} {ds : List (Fin s.rank)} (x : IVec s 1) (init : IVec u 1) (h : s.ReducesTo ds ⟨0, ![]⟩) (hu : 0 < u.numel)
    (j : (⟨0, ![]⟩ : Shape).Idx) (hr : Host.reduce IntOp.andi x init h hu j = 1#1) (i : s.Idx) : x i = 1#1 := by
  have := (foldl_and (fun n => x (s.rowMajor.symm n)) _ _ hr).2 (s.rowMajor i) (by
    rw [List.mem_filter]
    exact ⟨List.mem_finRange _, by simp only [decide_eq_true_eq]; funext a; exact a.elim0⟩)
  simpa using this

/-- Below infinity in absolute value: a real number. -/
theorem real_of_lt {s : Shape} (a : FVec Ideal s .f32) (i : s.Idx) (B : FVec Ideal s .f32) (hB : B i = (⊤ : EReal))
    (h : cmpf .olt (Host.absf a) B i = 1#1) : ∃ r : ℝ, (a i : EReal) = (r : EReal) := by
  have h' : Ideal.cmp .olt (max (a i : EReal) (-(a i : EReal))) (B i) = 1#1 := h
  rw [hB] at h'
  have hlt : max (a i : EReal) (-(a i : EReal)) < ⊤ := by
    by_contra hn
    simp [Ideal.cmp, hn] at h'
  rw [max_lt_iff] at hlt
  refine ⟨(a i : EReal).toReal, (EReal.coe_toReal hlt.1.ne ?_).symm⟩
  intro hb
  rw [hb] at hlt
  simp at hlt

/-- The bound of the condition, at any place. -/
theorem inf_at {s : Shape} (h : (⟨0, ![]⟩ : Shape).BroadcastsInDim s ![]) (i : s.Idx) :
    (broadcastInDim s ![] h (constant (F := Ideal) ⟨0, ![]⟩ .f32 0x7F800000#32) : FVec Ideal s .f32) i = (⊤ : EReal) := by
  show Ideal.ofBits .f32 0x7F800000#32 = ⊤
  simp [Ideal.ofBits, Ideal.ieee]

theorem vand {s : Shape} (a b : IVec s 1) (i : s.Idx) (h : andi a b i = 1#1) : a i = 1#1 ∧ b i = 1#1 := and1 _ _ h

open Cert.Pre_finite Cert.Pre_finite.Facts in
theorem finite_args [Cert.Pre_finite.Facts] (a0 : FVec Ideal S4x4096x1024 .f32) (a1 : IVec S4x4096 32) (a2 : FVec Ideal S1024 .f32)
    (a3 : FVec Ideal S1024x4544 .f32) (a4 : FVec Ideal S2048 .f32) (a5 : FVec Ideal S256 .f32) (a6 : FVec Ideal S256x1536 .f32)
    (a7 : FVec Ideal S128 .f32) (a8 : FVec Ideal S128x2048 .f32)
    (h : Cert.Pre_finite.fn (F := Ideal) a0 a1 a2 a3 a4 a5 a6 a7 a8 = fun _ => 1#1) :
    ∃ A : Cert.Layer.Args, A.Reads a0 a1 a2 a3 a5 a6 a7 a8 := by
  have h0 := congrFun h ix0
  obtain ⟨h0, h8⟩ := vand _ _ _ h0
  obtain ⟨h0, h7⟩ := vand _ _ _ h0
  obtain ⟨h0, h6⟩ := vand _ _ _ h0
  obtain ⟨h0, h5⟩ := vand _ _ _ h0
  obtain ⟨h0, h4⟩ := vand _ _ _ h0
  obtain ⟨h0, h3⟩ := vand _ _ _ h0
  obtain ⟨h0, h2⟩ := vand _ _ _ h0
  have r0 := fun i => real_of_lt a0 i _ (inf_at bcast_S_S4x4096x1024 i) (reduce_all _ _ _ _ _ h0 i)
  have r2 := fun i => real_of_lt a2 i _ (inf_at bcast_S_S1024 i) (reduce_all _ _ _ _ _ h2 i)
  have r3 := fun i => real_of_lt a3 i _ (inf_at bcast_S_S1024x4544 i) (reduce_all _ _ _ _ _ h3 i)
  have r5 := fun i => real_of_lt a5 i _ (inf_at bcast_S_S256 i) (reduce_all _ _ _ _ _ h5 i)
  have r6 := fun i => real_of_lt a6 i _ (inf_at bcast_S_S256x1536 i) (reduce_all _ _ _ _ _ h6 i)
  have r7 := fun i => real_of_lt a7 i _ (inf_at bcast_S_S128 i) (reduce_all _ _ _ _ _ h7 i)
  have r8 := fun i => real_of_lt a8 i _ (inf_at bcast_S_S128x2048 i) (reduce_all _ _ _ _ _ h8 i)
  choose f0 r0 using r0
  choose f2 r2 using r2
  choose f3 r3 using r3
  choose f5 r5 using r5
  choose f6 r6 using r6
  choose f7 r7 using r7
  choose f8 r8 using r8
  exact ⟨⟨fun b s d => f0 (ix3 b s d), fun b s => a1 (ix2 b s), fun d => f2 (ix1 d), fun d e => f3 (ix2 d e), fun d => f5 (ix1 d),
    fun d e => f6 (ix2 d e), fun d => f7 (ix1 d), fun d e => f8 (ix2 d e)⟩,
    ⟨fun _ _ _ => r0 _, fun _ _ => rfl, fun _ => r2 _, fun _ _ => r3 _, fun _ => r5 _, fun _ _ => r6 _, fun _ => r7 _, fun _ _ => r8 _⟩⟩

end Cert.Proof

end
-- ==== Proof.RefValue.lean ====
module

public import proofs.«01_k».proof.Proof.Layer
public import proofs.«01_k».proof.Proof.Gen.ReferenceIdeal.Run
public import Idealize.ShloMosaic.Lib.Pointwise

/-!
# The reference's arrays, entry by entry
-/

@[expose] public section

set_option maxRecDepth 16384

noncomputable section

namespace Cert.ReferenceIdeal.Val

open Cert.ReferenceIdeal Cert.ReferenceIdeal.Gen Cert.ReferenceIdeal.Value Cert.Spec Idealize.ShloMosaic Idealize.ShloMosaic.TcCoe Idealize.ShloMosaic.StableHlo

variable (V : Valuation τ sig (Elt Ideal))

abbrev aX : Vec Ideal S4x4096x1024 .f32 := V (Proc.devRef .tc main_arg0)
abbrev aP : Vec Ideal S4x4096 .i32 := V (Proc.devRef .tc main_arg1)
abbrev aG : Vec Ideal S1024 .f32 := V (Proc.devRef .tc main_arg2)
abbrev aWi : Vec Ideal S1024x4544 .f32 := V (Proc.devRef .tc main_arg3)
abbrev aB : Vec Ideal S2048 .f32 := V (Proc.devRef .tc main_arg4)
abbrev aQg : Vec Ideal S256 .f32 := V (Proc.devRef .tc main_arg5)
abbrev aUq : Vec Ideal S256x1536 .f32 := V (Proc.devRef .tc main_arg6)
abbrev aKg : Vec Ideal S128 .f32 := V (Proc.devRef .tc main_arg7)
abbrev aUkv : Vec Ideal S128x2048 .f32 := V (Proc.devRef .tc main_arg8)

/-- The fused projection. -/
theorem z_at (b : Fin 4) (s : Fin 4096) (e : Fin 4544) : (res_main_v13 V : Vec Ideal S4x4096x4544 .f32) (ix3 b s e)
    = proj (fun d => aX V (ix3 b s d)) (fun d => aG V (ix1 d)) (fun d => aWi V (ix2 d e)) := by
  unfold proj rms rinv
  pointwise [res_main_v13]

theorem cq_at (b : Fin 4) (s : Fin 4096) (d : Fin 256) : (res_main_v16 V : Vec Ideal S4x4096x256 .f32) (ix3 b s d)
    = (res_main_v13 V : Vec Ideal S4x4096x4544 .f32) (ix3 b s ⟨2048 + d.val, by omega⟩) := by
  pointwise [res_main_v16]

theorem ckv_at (b : Fin 4) (s : Fin 4096) (d : Fin 192) : (res_main_v17 V : Vec Ideal S4x4096x192 .f32) (ix3 b s d)
    = (res_main_v13 V : Vec Ideal S4x4096x4544 .f32) (ix3 b s ⟨2304 + d.val, by omega⟩) := by
  pointwise [res_main_v17]

theorem lat_at (b : Fin 4) (s : Fin 4096) (d : Fin 128) : (res_main_v19 V : Vec Ideal S4x4096x128 .f32) (ix3 b s d)
    = (res_main_v17 V : Vec Ideal S4x4096x192 .f32) (ix3 b s ⟨d.val, by omega⟩) := by
  pointwise [res_main_v19]

/-- Queries of all heads. -/
theorem q_at (b : Fin 4) (s : Fin 4096) (h : Fin 8) (d : Fin 192) : (res_main_v35 V : Vec Ideal S4x4096x8x192 .f32) (ix4 b s h d)
    = ∑ k : Fin 256, rms n256 (fun d => (res_main_v16 V : Vec Ideal S4x4096x256 .f32) (ix3 b s d)) (fun d => aQg V (ix1 d)) k
        * aUq V (ix2 k ⟨h.val * 192 + d.val, by omega⟩) := by
  unfold rms rinv
  pointwise [res_main_v35]

/-- Keys and values of all heads. -/
theorem kv_at (b : Fin 4) (s : Fin 4096) (h : Fin 8) (d : Fin 256) : (res_main_v81 V : Vec Ideal S4x4096x8x256 .f32) (ix4 b s h d)
    = ∑ k : Fin 128, rms n128 (fun d => (res_main_v19 V : Vec Ideal S4x4096x128 .f32) (ix3 b s d)) (fun d => aKg V (ix1 d)) k
        * aUkv V (ix2 k ⟨h.val * 256 + d.val, by omega⟩) := by
  unfold rms rinv
  pointwise [res_main_v81]

theorem qr_at (b : Fin 4) (s : Fin 4096) (h : Fin 8) (d : Fin 64) : (res_main_v37 V : Vec Ideal S4x4096x8x64 .f32) (ix4 b s h d)
    = (res_main_v35 V : Vec Ideal S4x4096x8x192 .f32) (ix4 b s h ⟨128 + d.val, by omega⟩) := by
  pointwise [res_main_v37]

theorem kr_at (b : Fin 4) (s : Fin 4096) (d : Fin 64) : (res_main_v84 V : Vec Ideal S4x4096x1x64 .f32) (ix4 b s 0 d)
    = (res_main_v17 V : Vec Ideal S4x4096x192 .f32) (ix3 b s ⟨128 + d.val, by omega⟩) := by
  pointwise [res_main_v84]

theorem ang_at (b : Fin 4) (s : Fin 4096) (j : Fin 32) : (res_main_v49 V : Vec Ideal S4x4096x32 .f32) (ix3 b s j)
    = FloatOps.sitofp (F := Ideal) .f32 (aP V (ix2 b s)) * Cert.Layer.freq j := by
  unfold Cert.Layer.freq
  pointwise [res_main_v49]

theorem ang_at' (b : Fin 4) (s : Fin 4096) (j : Fin 32) : (res_main_v96 V : Vec Ideal S4x4096x32 .f32) (ix3 b s j)
    = FloatOps.sitofp (F := Ideal) .f32 (aP V (ix2 b s)) * Cert.Layer.freq j := by
  unfold Cert.Layer.freq
  pointwise [res_main_v96]

theorem co_at (b : Fin 4) (s : Fin 4096) (j : Fin 32) : (res_main_v51 V : Vec Ideal S4x4096x1x32 .f32) (ix4 b s 0 j)
    = Ideal.cos ((res_main_v49 V : Vec Ideal S4x4096x32 .f32) (ix3 b s j)) := by
  pointwise [res_main_v51]

theorem si_at (b : Fin 4) (s : Fin 4096) (j : Fin 32) : (res_main_v53 V : Vec Ideal S4x4096x1x32 .f32) (ix4 b s 0 j)
    = Ideal.sin ((res_main_v49 V : Vec Ideal S4x4096x32 .f32) (ix3 b s j)) := by
  pointwise [res_main_v53]

theorem co_at' (b : Fin 4) (s : Fin 4096) (j : Fin 32) : (res_main_v98 V : Vec Ideal S4x4096x1x32 .f32) (ix4 b s 0 j)
    = Ideal.cos ((res_main_v96 V : Vec Ideal S4x4096x32 .f32) (ix3 b s j)) := by
  pointwise [res_main_v98]

theorem si_at' (b : Fin 4) (s : Fin 4096) (j : Fin 32) : (res_main_v100 V : Vec Ideal S4x4096x1x32 .f32) (ix4 b s 0 j)
    = Ideal.sin ((res_main_v96 V : Vec Ideal S4x4096x32 .f32) (ix3 b s j)) := by
  pointwise [res_main_v100]

theorem h1_at (b : Fin 4) (s : Fin 4096) (h : Fin 8) (j : Fin 32) : (res_main_v54 V : Vec Ideal S4x4096x8x32 .f32) (ix4 b s h j)
    = (res_main_v37 V : Vec Ideal S4x4096x8x64 .f32) (ix4 b s h ⟨j.val, by omega⟩) := by
  pointwise [res_main_v54]

theorem h2_at (b : Fin 4) (s : Fin 4096) (h : Fin 8) (j : Fin 32) : (res_main_v55 V : Vec Ideal S4x4096x8x32 .f32) (ix4 b s h j)
    = (res_main_v37 V : Vec Ideal S4x4096x8x64 .f32) (ix4 b s h ⟨32 + j.val, by omega⟩) := by
  pointwise [res_main_v55]

theorem k1_at (b : Fin 4) (s : Fin 4096) (j : Fin 32) : (res_main_v101 V : Vec Ideal S4x4096x1x32 .f32) (ix4 b s 0 j)
    = (res_main_v84 V : Vec Ideal S4x4096x1x64 .f32) (ix4 b s 0 ⟨j.val, by omega⟩) := by
  pointwise [res_main_v101]

theorem k2_at (b : Fin 4) (s : Fin 4096) (j : Fin 32) : (res_main_v102 V : Vec Ideal S4x4096x1x32 .f32) (ix4 b s 0 j)
    = (res_main_v84 V : Vec Ideal S4x4096x1x64 .f32) (ix4 b s 0 ⟨32 + j.val, by omega⟩) := by
  pointwise [res_main_v102]

end Cert.ReferenceIdeal.Val

end
-- ==== Proof.RefScore.lean ====
module

public import proofs.«01_k».proof.Proof.RefValue
public import Idealize.ShloMosaic.Lib.Pointwise

/-!
# The reference's scores and results, entry by entry
-/

@[expose] public section

set_option maxRecDepth 16384

noncomputable section

namespace Cert.ReferenceIdeal.Val

open Cert.ReferenceIdeal Cert.ReferenceIdeal.Gen Cert.ReferenceIdeal.Value Cert.Spec Idealize.ShloMosaic Idealize.ShloMosaic.TcCoe Idealize.ShloMosaic.StableHlo

variable (V : Valuation τ sig (Elt Ideal))

/-- The arrays the scores are made of, as extended reals. -/
abbrev v13 (b : Fin 4) (s : Fin 4096) (e : Fin 4544) : EReal := (res_main_v13 V : Vec Ideal S4x4096x4544 .f32) (ix3 b s e)
abbrev v35 (b : Fin 4) (s : Fin 4096) (h : Fin 8) (d : Fin 192) : EReal := (res_main_v35 V : Vec Ideal S4x4096x8x192 .f32) (ix4 b s h d)
abbrev v81 (b : Fin 4) (s : Fin 4096) (h : Fin 8) (d : Fin 256) : EReal := (res_main_v81 V : Vec Ideal S4x4096x8x256 .f32) (ix4 b s h d)
abbrev v101 (b : Fin 4) (s : Fin 4096) (j : Fin 32) : EReal := (res_main_v101 V : Vec Ideal S4x4096x1x32 .f32) (ix4 b s 0 j)
abbrev v102 (b : Fin 4) (s : Fin 4096) (j : Fin 32) : EReal := (res_main_v102 V : Vec Ideal S4x4096x1x32 .f32) (ix4 b s 0 j)
abbrev v98 (b : Fin 4) (s : Fin 4096) (j : Fin 32) : EReal := (res_main_v98 V : Vec Ideal S4x4096x1x32 .f32) (ix4 b s 0 j)
abbrev v100 (b : Fin 4) (s : Fin 4096) (j : Fin 32) : EReal := (res_main_v100 V : Vec Ideal S4x4096x1x32 .f32) (ix4 b s 0 j)
abbrev v51 (b : Fin 4) (s : Fin 4096) (j : Fin 32) : EReal := (res_main_v51 V : Vec Ideal S4x4096x1x32 .f32) (ix4 b s 0 j)
abbrev v53 (b : Fin 4) (s : Fin 4096) (j : Fin 32) : EReal := (res_main_v53 V : Vec Ideal S4x4096x1x32 .f32) (ix4 b s 0 j)
abbrev v54 (b : Fin 4) (s : Fin 4096) (h : Fin 8) (j : Fin 32) : EReal := (res_main_v54 V : Vec Ideal S4x4096x8x32 .f32) (ix4 b s h j)
abbrev v55 (b : Fin 4) (s : Fin 4096) (h : Fin 8) (j : Fin 32) : EReal := (res_main_v55 V : Vec Ideal S4x4096x8x32 .f32) (ix4 b s h j)
abbrev v126 (b : Fin 4) (h : Fin 8) (s k : Fin 4096) : EReal := (res_main_v126 V : Vec Ideal S4x8x4096x4096 .f32) (ix4 b h s k)
abbrev v133 (b : Fin 4) (h : Fin 8) (s k : Fin 4096) : EReal := (res_main_v133 V : Vec Ideal S4x8x4096x4096 .f32) (ix4 b h s k)

/-- A score, from the queries, keys and rotated halves. -/
abbrev raw (b : Fin 4) (h : Fin 8) (s k : Fin 4096) : EReal :=
  (∑ x : Fin 128, v35 V b s h ⟨x.val, by omega⟩ * v81 V b k h ⟨x.val, by omega⟩ +
    (∑ x : Fin 32, (v101 V b k x * v98 V b k x - v102 V b k x * v100 V b k x) * (v54 V b s h x * v51 V b s x - v55 V b s h x * v53 V b s x) +
      ∑ x : Fin 32, (v102 V b k x * v98 V b k x + v101 V b k x * v100 V b k x) * (v55 V b s h x * v51 V b s x + v54 V b s h x * v53 V b s x))) *
  Ideal.div 1 (Ideal.sqrt (Ideal.ofBits FTy.f32 1128267776#32))

/-- A masked score. -/
theorem s_at (b : Fin 4) (h : Fin 8) (s k : Fin 4096) : v126 V b h s k
    = Scalar.select (IntOp.cmpi CmpIPredicate.sle (BitVec.ofNat 32 k.val) (BitVec.ofNat 32 s.val)) (raw V b h s k : EReal)
      ((id (constant (F := Ideal) S_ FTy.f32 4286578688#32) : Vec Ideal S_ .f32) ix0) := by
  show (res_main_v126 V : Vec Ideal S4x8x4096x4096 .f32) (ix4 b h s k) = _
  pointwise [res_main_v126, res_main_v119]

/-- A row's maximum, along its last axis. -/
theorem rowmax {n0 n1 n2 n3 : ℕ} (h : (⟨4, ![n0, n1, n2, n3]⟩ : Shape).ReducesTo [3] ⟨3, ![n0, n1, n2]⟩) (hu : 0 < (⟨0, ![]⟩ : Shape).numel)
    (x : FVec Ideal ⟨4, ![n0, n1, n2, n3]⟩ .f32) (init : FVec Ideal ⟨0, ![]⟩ .f32) (b : Fin n0) (i : Fin n1) (j : Fin n2) :
    (Host.reduce FloatOps.maximumf x init h hu : FVec Ideal ⟨3, ![n0, n1, n2]⟩ .f32) (ix3 b i j)
      = (Finset.univ : Finset (Fin n3)).fold max (init ix0 : EReal) (fun k => (x (ix4 b i j k) : EReal)) := by
  pointwise
  rw [show Shape.Idx.first hu = ix0 from funext fun a => a.elim0]

/-- The exponentials of scores relative to given maxima. -/
theorem exp_gen (X : FVec Ideal S4x8x4096x4096 .f32) (M : FVec Ideal S4x8x4096 .f32) (b : Fin 4) (h : Fin 8) (s k : Fin 4096) :
    (Host.exp (subf X (broadcastInDim S4x8x4096x4096 ![0, 1, 2, 3] bcast_S4x8x4096x1_S4x8x4096x4096_0_1_2_3 (broadcastInDim S4x8x4096x1 ![0, 1, 2] bcast_S4x8x4096_S4x8x4096x1_0_1_2 (maximumf (broadcastInDim S4x8x4096 ![] bcast_S_S4x8x4096 (constant S_ .f32 0xFF800000#32)) M)))) : FVec Ideal S4x8x4096x4096 .f32) (ix4 b h s k)
      = Ideal.exp ((X (ix4 b h s k) : EReal) - max (Ideal.ofBits FTy.f32 0xFF800000#32) (M (ix3 b h s))) := by
  pointwise

/-- Its exponential, relative to the row's maximum. -/
theorem e_at (b : Fin 4) (h : Fin 8) (s k : Fin 4096) : v133 V b h s k
    = Ideal.exp (v126 V b h s k
        - max (Ideal.ofBits FTy.f32 0xFF800000#32) ((Finset.univ : Finset (Fin 4096)).fold max (Ideal.ofBits FTy.f32 0xFF800000#32) (fun j => v126 V b h s j))) := by
  unfold v133 res_main_v133
  refine (exp_gen (res_main_v126 V) _ b h s k).trans ?_
  exact congrArg (fun t : EReal => Ideal.exp (v126 V b h s k - max (Ideal.ofBits FTy.f32 0xFF800000#32) t)) (rowmax _ _ (res_main_v126 V) _ b h s)

/-- A row's sum, along its last axis. -/
theorem rowsum {n0 n1 n2 n3 : ℕ} (h : (⟨4, ![n0, n1, n2, n3]⟩ : Shape).ReducesTo [3] ⟨3, ![n0, n1, n2]⟩) (hu : 0 < (⟨0, ![]⟩ : Shape).numel)
    (x : FVec Ideal ⟨4, ![n0, n1, n2, n3]⟩ .f32) (b : Fin n0) (i : Fin n1) (j : Fin n2) :
    (Host.reduceAdd x (constant ⟨0, ![]⟩ .f32 0x00000000#32) h hu : FVec Ideal ⟨3, ![n0, n1, n2]⟩ .f32) (ix3 b i j)
      = ∑ k : Fin n3, (x (ix4 b i j k) : EReal) := by
  pointwise

/-- The values weighted by exponentials over their sums, head by head. -/
theorem o_gen (W : FVec Ideal S4x4096x8x256 .f32) (E : FVec Ideal S4x8x4096x4096 .f32) (D : FVec Ideal S4x8x4096 .f32) (b : Fin 4) (s : Fin 4096) (f : Fin 1024) :
    (truncf .bf16 (shapeCast _ (transpose S4x4096x8x128 [0, 3, 1, 2] (Host.dotGeneral dot_S4x4096x8x128_S4x8x4096x4096_S4x8x128x4096_1_3_3_2_02_01 none (extractStridedSlice S4x4096x8x128 ![0, 0, 0, 128] W slices_S4x4096x8x256_S4x4096x8x128_0_0_0_128) (Host.divf E (broadcastInDim S4x8x4096x4096 ![0, 1, 2, 3] bcast_S4x8x4096x1_S4x8x4096x4096_0_1_2_3 (broadcastInDim S4x8x4096x1 ![0, 1, 2] bcast_S4x8x4096_S4x8x4096x1_0_1_2 D)))) transposes_S4x8x128x4096_S4x4096x8x128_0_3_1_2) shapeCasts_S4x4096x8x128_S4x4096x1024) bitsLt_bf16_f32 : Vec Ideal S4x4096x1024 .bf16) (ix3 b s f)
      = ∑ k : Fin 4096, (W (ix4 b k ⟨f.val / 128, by omega⟩ ⟨128 + f.val % 128, by omega⟩) : EReal)
          * Ideal.div (E (ix4 b ⟨f.val / 128, by omega⟩ s k)) (D (ix3 b ⟨f.val / 128, by omega⟩ s)) := by
  pointwise

/-- The gated half of the first 2048 projections. -/
theorem hglu_at (r : Fin 16384) (e : Fin 1024) : (shapeCast _ (mulf (extractStridedSlice S4x4096x1024 ![0, 0, 0] (res_main_v13 V) slices_S4x4096x4544_S4x4096x1024_0_0_0) (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 1024] (res_main_v13 V) slices_S4x4096x4544_S4x4096x1024_0_0_1024)))))) shapeCasts_S4x4096x1024_S16384x1024 : Vec Ideal S16384x1024 .f32) (ix2 r e)
    = (v13 V ⟨r.val / 4096, by omega⟩ ⟨r.val % 4096, by omega⟩ ⟨e.val, by omega⟩ * sigm (v13 V ⟨r.val / 4096, by omega⟩ ⟨r.val % 4096, by omega⟩ ⟨1024 + e.val, by omega⟩) : EReal) := by
  unfold sigm
  pointwise

/-- The gates. -/
theorem gates_at (r : Fin 16384) (e : Fin 2048) : (truncf .bf16 (shapeCast _ (Host.divf (broadcastInDim S4x4096x2048 ![] bcast_S_S4x4096x2048 (constant S_ .f32 0x3F800000#32)) (addf (broadcastInDim S4x4096x2048 ![] bcast_S_S4x4096x2048 (constant S_ .f32 0x3F800000#32)) (Host.exp (Host.negf (addf (extractStridedSlice S4x4096x2048 ![0, 0, 2496] (res_main_v13 V) slices_S4x4096x4544_S4x4096x2048_0_0_2496) (broadcastInDim S4x4096x2048 ![0, 1, 2] bcast_S1x1x2048_S4x4096x2048_0_1_2 (broadcastInDim S1x1x2048 ![2] bcast_S2048_S1x1x2048_2 (V (Proc.devRef .tc main_arg4))))))))) shapeCasts_S4x4096x2048_S16384x2048) bitsLt_bf16_f32 : Vec Ideal S16384x2048 .bf16) (ix2 r e)
    = sigm (v13 V ⟨r.val / 4096, by omega⟩ ⟨r.val % 4096, by omega⟩ ⟨2496 + e.val, by omega⟩ + aB V (ix1 e)) := by
  unfold sigm
  pointwise

end Cert.ReferenceIdeal.Val

end
-- ==== Proof.RefReal.lean ====
module

public import proofs.«01_k».proof.Proof.RefScore
public import Idealize.ShloMosaic.Lib.WordCmp

/-!
# The reference's attention results, from real arguments
-/

@[expose] public section

set_option maxRecDepth 16384

noncomputable section

namespace Cert.ReferenceIdeal.Val

open Cert.ReferenceIdeal Cert.ReferenceIdeal.Gen Cert.ReferenceIdeal.Value Cert.Spec Idealize.ShloMosaic Idealize.ShloMosaic.TcCoe Idealize.ShloMosaic.StableHlo
open Cert.Layer (Args rot)

/-- `A` is what the reference's arguments hold. -/
abbrev Holds (V : Valuation τ sig (Elt Ideal)) (A : Args) : Prop :=
  A.Reads (aX V) (aP V) (aG V) (aWi V) (aQg V) (aUq V) (aKg V) (aUkv V)

variable {V : Valuation τ sig (Elt Ideal)} {A : Args} (H : Holds V A)
include H

omit H in
theorem proj_congr {x x' g g' w w' : Fin 1024 → EReal} (hx : ∀ k, x k = x' k) (hg : ∀ k, g k = g' k) (hw : ∀ k, w k = w' k) :
    Cert.Spec.proj x g w = Cert.Spec.proj x' g' w' := by
  rw [funext hx, funext hg, funext hw]

omit H in
theorem rms_congr {n : ℕ} {N : EReal} {v v' g g' : Fin n → EReal} (hv : ∀ k, v k = v' k) (hg : ∀ k, g k = g' k) (i : Fin n) :
    rms N v g i = rms N v' g' i := by
  rw [funext hv, funext hg]

theorem z_real (b : Fin 4) (s : Fin 4096) (e : Fin 4544) : v13 V b s e = ((A.z b s e : ℝ) : EReal) :=
  (z_at V b s e).trans ((proj_congr (H.x b s) H.g fun d => H.w d e).trans (A.z_coe b s e))

theorem q_real (b : Fin 4) (s : Fin 4096) (h : Fin 8) (d : Fin 192) (e : Fin 1536) (he : h.val * 192 + d.val = e.val) :
    v35 V b s h d = ((A.qf b s e : ℝ) : EReal) := by
  have hl : h.val * 192 + d.val < 1536 := by omega
  obtain rfl : e = (⟨h.val * 192 + d.val, hl⟩ : Fin 1536) := Fin.ext he.symm
  refine Eq.trans (α := EReal) (q_at V b s h d) (Eq.trans (α := EReal) (Finset.sum_congr rfl fun k _ => congrArg₂ (fun s t : EReal => s * t) ?_ (H.uq k _)) (A.qf_coe b s _))
  exact (rms_congr (fun d => (cq_at V b s d).trans (z_real H b s _)) H.qg k).trans (A.qn_coe b s k)

theorem kv_real (b : Fin 4) (s : Fin 4096) (h : Fin 8) (d : Fin 256) (e : Fin 2048) (he : h.val * 256 + d.val = e.val) :
    v81 V b s h d = ((A.kvf b s e : ℝ) : EReal) := by
  have hl : h.val * 256 + d.val < 2048 := by omega
  obtain rfl : e = (⟨h.val * 256 + d.val, hl⟩ : Fin 2048) := Fin.ext he.symm
  refine Eq.trans (α := EReal) (kv_at V b s h d) (Eq.trans (α := EReal) (Finset.sum_congr rfl fun k _ => congrArg₂ (fun s t : EReal => s * t) ?_ (H.ukv k _)) (A.kvf_coe b s _))
  exact (rms_congr (fun d => (lat_at V b s d).trans ((ckv_at V b s _).trans (z_real H b s _))) H.kg k).trans (A.kvn_coe b s k)

theorem h1_real (b : Fin 4) (s : Fin 4096) (h : Fin 8) (j : Fin 32) : v54 V b s h j = ((A.qf b s ⟨192 * h.val + 128 + j.val, by omega⟩ : ℝ) : EReal) :=
  (h1_at V b s h j).trans ((qr_at V b s h _).trans (q_real H b s h _ _ (by show h.val * 192 + (128 + j.val) = 192 * h.val + 128 + j.val; omega)))

theorem h2_real (b : Fin 4) (s : Fin 4096) (h : Fin 8) (j : Fin 32) : v55 V b s h j = ((A.qf b s ⟨192 * h.val + 128 + (32 + j.val), by omega⟩ : ℝ) : EReal) :=
  (h2_at V b s h j).trans ((qr_at V b s h _).trans (q_real H b s h _ _ (by show h.val * 192 + (128 + (32 + j.val)) = 192 * h.val + 128 + (32 + j.val); omega)))

theorem k1_real (b : Fin 4) (s : Fin 4096) (j : Fin 32) : v101 V b s j = ((A.z b s ⟨2432 + j.val, by omega⟩ : ℝ) : EReal) := by
  refine (k1_at V b s j).trans ((kr_at V b s _).trans ((ckv_at V b s _).trans ((z_real H b s _).trans ?_)))
  congr 2
  apply Fin.ext
  show 2304 + (128 + j.val) = 2432 + j.val
  omega

theorem k2_real (b : Fin 4) (s : Fin 4096) (j : Fin 32) : v102 V b s j = ((A.z b s ⟨2432 + (32 + j.val), by omega⟩ : ℝ) : EReal) := by
  refine (k2_at V b s j).trans ((kr_at V b s _).trans ((ckv_at V b s _).trans ((z_real H b s _).trans ?_)))
  congr 2
  apply Fin.ext
  show 2304 + (128 + (32 + j.val)) = 2432 + (32 + j.val)
  omega

theorem ang_real (b : Fin 4) (s : Fin 4096) (j : Fin 32) : (FloatOps.sitofp (F := Ideal) .f32 (aP V (ix2 b s)) * Cert.Layer.freq j : EReal)
    = (((A.p b s).toInt : ℝ) : EReal) * Cert.Layer.freq j := by
  rw [H.p]
  rfl

theorem v51_real (b : Fin 4) (s : Fin 4096) (j : Fin 32) : v51 V b s j = ((A.co b s j : ℝ) : EReal) :=
  (co_at V b s j).trans ((congrArg Ideal.cos ((ang_at V b s j).trans (ang_real H b s j))).trans (A.co_coe b s j))

theorem v53_real (b : Fin 4) (s : Fin 4096) (j : Fin 32) : v53 V b s j = ((A.si b s j : ℝ) : EReal) :=
  (si_at V b s j).trans ((congrArg Ideal.sin ((ang_at V b s j).trans (ang_real H b s j))).trans (A.si_coe b s j))

theorem v98_real (b : Fin 4) (s : Fin 4096) (j : Fin 32) : v98 V b s j = ((A.co b s j : ℝ) : EReal) :=
  (co_at' V b s j).trans ((congrArg Ideal.cos ((ang_at' V b s j).trans (ang_real H b s j))).trans (A.co_coe b s j))

theorem v100_real (b : Fin 4) (s : Fin 4096) (j : Fin 32) : v100 V b s j = ((A.si b s j : ℝ) : EReal) :=
  (si_at' V b s j).trans ((congrArg Ideal.sin ((ang_at' V b s j).trans (ang_real H b s j))).trans (A.si_coe b s j))

omit H in
/-- The scale the reference computes. -/
theorem scale_real : Ideal.div 1 (Ideal.sqrt (Ideal.ofBits FTy.f32 1128267776#32)) = (((Real.sqrt 192)⁻¹ : ℝ) : EReal) := by
  have h : Ideal.ofBits FTy.f32 1128267776#32 = ((192 : ℝ) : EReal) := by
    simp [Ideal.ofBits, Ideal.ieee, -EReal.coe_mul]; try norm_num
  rw [h, Ideal.sqrt_coe, if_neg (by norm_num), Ideal.div_coe (by positivity), one_mul, one_div]

omit H in
/-- Sums over 64 rotated features, by halves. -/
theorem sum_rot (t u : Fin 64 → ℝ) (c s c' s' : Fin 32 → ℝ) :
    ∑ j, rot t c s j * rot u c' s' j
      = ∑ x : Fin 32, (t ⟨x.val, by omega⟩ * c x - t ⟨32 + x.val, by omega⟩ * s x) * (u ⟨x.val, by omega⟩ * c' x - u ⟨32 + x.val, by omega⟩ * s' x)
        + ∑ x : Fin 32, (t ⟨32 + x.val, by omega⟩ * c x + t ⟨x.val, by omega⟩ * s x) * (u ⟨32 + x.val, by omega⟩ * c' x + u ⟨x.val, by omega⟩ * s' x) := by
  refine (Fin.sum_univ_add (a := 32) (b := 32) (fun j : Fin (32 + 32) => rot t c s j * rot u c' s' j)).trans (congrArg₂ (· + ·) ?_ ?_)
  · refine Finset.sum_congr rfl fun x _ => ?_
    have e : ∀ (t : Fin 64 → ℝ) (c s : Fin 32 → ℝ), rot t c s (Fin.castAdd 32 x) = t ⟨x.val, by omega⟩ * c x - t ⟨32 + x.val, by omega⟩ * s x := by
      intro t c s
      unfold rot
      exact dif_pos x.isLt
    rw [e, e]
  · refine Finset.sum_congr rfl fun x _ => ?_
    have e : ∀ (t : Fin 64 → ℝ) (c s : Fin 32 → ℝ), rot t c s (Fin.natAdd 32 x) = t ⟨32 + x.val, by omega⟩ * c x + t ⟨x.val, by omega⟩ * s x := by
      intro t c s
      unfold rot
      have n : ¬ (32 + x.val < 32) := by omega
      have e0 : 32 + x.val - 32 = x.val := by omega
      refine (dif_neg n).trans ?_
      simp only [Fin.val_natAdd, e0]
    rw [e, e]

theorem raw_real (b : Fin 4) (h : Fin 8) (s k : Fin 4096) : raw V b h s k = ((A.score b h s k : ℝ) : EReal) := by
  have q : ∀ x : Fin 128, v35 V b s h ⟨x.val, by omega⟩ = ((A.qf b s ⟨192 * h.val + x.val, by omega⟩ : ℝ) : EReal) :=
    fun x => q_real H b s h _ _ (by show h.val * 192 + x.val = 192 * h.val + x.val; omega)
  have kv : ∀ x : Fin 128, v81 V b k h ⟨x.val, by omega⟩ = ((A.kvf b k ⟨256 * h.val + x.val, by omega⟩ : ℝ) : EReal) :=
    fun x => kv_real H b k h _ _ (by show h.val * 256 + x.val = 256 * h.val + x.val; omega)
  unfold raw
  simp only [q, kv, h1_real H, h2_real H, k1_real H, k2_real H, v51_real H, v53_real H, v98_real H, v100_real H, scale_real,
    ← EReal.coe_mul, ← EReal.coe_add, ← EReal.coe_sub, Online.coe_sum]
  congr 1
  unfold Cert.Layer.Args.score Cert.Layer.Args.krot Cert.Layer.Args.qrot
  rw [sum_rot]

theorem masked (b : Fin 4) (h : Fin 8) (s k : Fin 4096) : v126 V b h s k = if k.val ≤ s.val then ((A.score b h s k : ℝ) : EReal) else ⊥ := by
  have m : ((id (constant (F := Ideal) S_ FTy.f32 4286578688#32) : Vec Ideal S_ .f32) ix0 : EReal) = ⊥ := by
    show Ideal.ofBits FTy.f32 4286578688#32 = ⊥
    simp [Ideal.ofBits, Ideal.ieee]
  have w := WordCmp.cmpi_sle_ofNat_eq_one_iff (w := 32) (a := k.val) (b := s.val) (by omega) (by omega)
  refine (s_at V b h s k).trans ?_
  unfold Scalar.select
  by_cases hc : k.val ≤ s.val
  · rw [if_pos hc]
    exact (if_pos (w.mpr hc)).trans (raw_real H b h s k)
  · rw [if_neg hc]
    exact (if_neg fun t => hc (w.mp t)).trans m

omit H in
theorem ninf : Ideal.ofBits FTy.f32 0xFF800000#32 = ⊥ := by simp [Ideal.ofBits, Ideal.ieee]

/-- The attention results as real numbers. -/
theorem o_real (b : Fin 4) (s : Fin 4096) (f : Fin 1024) :
    (truncf .bf16 (shapeCast _ (transpose S4x4096x8x128 [0, 3, 1, 2] (Host.dotGeneral dot_S4x4096x8x128_S4x8x4096x4096_S4x8x128x4096_1_3_3_2_02_01 none (extractStridedSlice S4x4096x8x128 ![0, 0, 0, 128] (res_main_v81 V) slices_S4x4096x8x256_S4x4096x8x128_0_0_0_128) (Host.divf (res_main_v133 V) (broadcastInDim S4x8x4096x4096 ![0, 1, 2, 3] bcast_S4x8x4096x1_S4x8x4096x4096_0_1_2_3 (broadcastInDim S4x8x4096x1 ![0, 1, 2] bcast_S4x8x4096_S4x8x4096x1_0_1_2 (Host.reduceAdd (res_main_v133 V) (constant S_ .f32 0x00000000#32) reducesTo_S4x8x4096x4096_S4x8x4096_d3 h_S_))))) transposes_S4x8x128x4096_S4x4096x8x128_0_3_1_2) shapeCasts_S4x4096x8x128_S4x4096x1024) bitsLt_bf16_f32 : Vec Ideal S4x4096x1024 .bf16) (ix3 b s f)
      = ((A.att b ⟨f.val / 128, by omega⟩ s ⟨f.val % 128, by omega⟩ : ℝ) : EReal) := by
  have hh : f.val / 128 < 8 := by omega
  have he : f.val % 128 < 128 := by omega
  refine (o_gen (res_main_v81 V) (res_main_v133 V) _ b s f).trans ?_
  have t := Online.softmax_all (fun k : Fin 4096 => k.val ≤ s.val) (fun k => A.score b ⟨f.val / 128, hh⟩ s k) (fun k => A.v b k ⟨f.val / 128, hh⟩ ⟨f.val % 128, he⟩) s le_rfl
    (fun k => v126 V b ⟨f.val / 128, hh⟩ s k) (masked H b ⟨f.val / 128, hh⟩ s)
  refine Eq.trans ?_ t
  have e : ∀ k, v133 V b ⟨f.val / 128, hh⟩ s k = Ideal.exp (v126 V b ⟨f.val / 128, hh⟩ s k
      - max ⊥ ((Finset.univ : Finset (Fin 4096)).fold max (⊥ : EReal) (fun j => v126 V b ⟨f.val / 128, hh⟩ s j))) := by
    intro k
    rw [e_at, ninf]
  refine Finset.sum_congr rfl fun k _ => congrArg₂ (fun s t : EReal => s * t) ?_ (congrArg₂ Ideal.div (e k) ?_)
  · exact kv_real H b k ⟨f.val / 128, hh⟩ ⟨128 + f.val % 128, by omega⟩ _ (by show f.val / 128 * 256 + (128 + f.val % 128) = 256 * (f.val / 128) + (128 + f.val % 128); omega)
  · exact (rowsum _ _ (res_main_v133 V) b ⟨f.val / 128, hh⟩ s).trans (Finset.sum_congr rfl fun k _ => e k)

end Cert.ReferenceIdeal.Val

end
-- ==== Proof.Equation.lean ====
module

public import proofs.«01_k».proof.Defs
public import proofs.«01_k».proof.Proof.KernelRun
public import proofs.«01_k».proof.Proof.KernelValue
public import proofs.«01_k».proof.Proof.Finite
public import proofs.«01_k».proof.Proof.RefReal
public import proofs.«01_k».proof.Proof.Gen.Pre_finite
public import proofs.«01_k».proof.Proof.Gen.ReferenceIdeal.Run

/-!
# The kernel program and the reference hold the same results

The gated half and the gates are the same expression of the arguments in both programs, whatever the arguments are; the
attention results are the same real numbers when the arguments are finite.
-/

@[expose] public section

set_option maxRecDepth 16384

noncomputable section

namespace Cert.Proof

open Idealize.ShloMosaic Idealize.ShloMosaic.TcCoe Idealize.SL.Sem Cert.Spec
open Cert.KernelIdeal.Val (rowB rowS)
open Cert.KernelIdeal.Gen (V1 V5)

/-! ## The kernel program's gated half and gates, in the arguments -/

section kernel

open Cert.KernelIdeal

variable (m : (ℓ : Loc nD τ sig) → Buf (Elt Ideal) ℓ) (ρ : Dev nD → PrngReg) (c : Dev nD)

/-- A token's projection to the feature `e`, from the kernel program's arguments. -/
def zK (r : Fin 16384) (e : Fin 4544) : EReal :=
  proj (fun d => Val.aX m c (ix3 (rowB r) (rowS r) d)) (fun d => Val.aG m c (ix1 d)) (fun d => Val.aWi m c (ix2 d e))

theorem hgluK (r : Fin 16384) (e : Fin 1024) : (V5 m ρ c main_v24_0 : Vec Ideal S16384x1024 .f32) (ix2 r e)
    = zK m c r ⟨e.val, by omega⟩ * sigm (zK m c r ⟨1024 + e.val, by omega⟩) := by
  refine (congrFun ((Val.V5_hglu m ρ c).trans (Val.final0_8 (V1 m ρ) c)) (ix2 r e)).trans ?_
  exact congrArg₂ (fun s t : EReal => s * sigm t)
    (Val.proj_congr (fun k => Val.V1_x m ρ c r k) (fun k => Val.V1_g m ρ c k) (fun k => Val.V1_wval m ρ c k e))
    (Val.proj_congr (fun k => Val.V1_x m ρ c r k) (fun k => Val.V1_g m ρ c k) (fun k => Val.V1_wgate m ρ c k e))

theorem gatesK (r : Fin 16384) (e : Fin 2048) : (V5 m ρ c main_v24_3 : Vec Ideal S16384x2048 .bf16) (ix2 r e)
    = sigm (zK m c r ⟨2496 + e.val, by omega⟩ + Val.aB m c (ix1 e)) := by
  refine (congrFun ((Val.V5_gates m ρ c).trans (Val.final0_11 (V1 m ρ) c)) (ix2 r e)).trans ?_
  exact congrArg₂ (fun s t : EReal => sigm (s + t))
    (Val.proj_congr (fun k => Val.V1_x m ρ c r k) (fun k => Val.V1_g m ρ c k) (fun k => Val.V1_wg m ρ c k e))
    (Val.V1_bg m ρ c e)

end kernel

/-! ## The equation -/

/-- With finite arguments the kernel program and the reference end with equal results. -/
theorem algebraic : Cert.algebraic_KernelIdeal_ReferenceIdeal_pre_finite := by
  intro m g m' g' hpre hargs
  refine ⟨fun c => V5 m g c Cert.KernelIdeal.main_v46, fun c => V5 m g c Cert.KernelIdeal.main_v24_0,
    fun c => V5 m g c Cert.KernelIdeal.main_v24_3, Cert.KernelIdeal.Val.kernelRun m g,
    (θ_run Cert.ReferenceIdeal.defs _ _).mono (fun _ h c => ?_) (Cert.ReferenceIdeal.Value.run (F := Ideal) m' g')⟩
  obtain ⟨A, H⟩ := finite_args _ _ _ _ _ _ _ _ _ (hpre c)
  obtain ⟨e0, e1, e2, e3, e4, e5, e6, e7, e8⟩ := hargs c
  obtain ⟨h0, h1, h2, rest⟩ := h c
  have x0 : Cert.ReferenceIdeal.Val.aX (Idealize.ShloMosaic.StableHlo.launchContents m' c) = Cert.KernelIdeal.Val.aX m c := e0
  have x1 : Cert.ReferenceIdeal.Val.aP (Idealize.ShloMosaic.StableHlo.launchContents m' c) = Cert.KernelIdeal.Val.aP m c := e1
  have x2 : Cert.ReferenceIdeal.Val.aG (Idealize.ShloMosaic.StableHlo.launchContents m' c) = Cert.KernelIdeal.Val.aG m c := e2
  have x3 : Cert.ReferenceIdeal.Val.aWi (Idealize.ShloMosaic.StableHlo.launchContents m' c) = Cert.KernelIdeal.Val.aWi m c := e3
  have x4 : Cert.ReferenceIdeal.Val.aB (Idealize.ShloMosaic.StableHlo.launchContents m' c) = Cert.KernelIdeal.Val.aB m c := e4
  have x5 : Cert.ReferenceIdeal.Val.aQg (Idealize.ShloMosaic.StableHlo.launchContents m' c) = Cert.KernelIdeal.Val.aQg m c := e5
  have x6 : Cert.ReferenceIdeal.Val.aUq (Idealize.ShloMosaic.StableHlo.launchContents m' c) = Cert.KernelIdeal.Val.aUq m c := e6
  have x7 : Cert.ReferenceIdeal.Val.aKg (Idealize.ShloMosaic.StableHlo.launchContents m' c) = Cert.KernelIdeal.Val.aKg m c := e7
  have x8 : Cert.ReferenceIdeal.Val.aUkv (Idealize.ShloMosaic.StableHlo.launchContents m' c) = Cert.KernelIdeal.Val.aUkv m c := e8
  have HK : Cert.KernelIdeal.Val.Holds m c A := H
  have HR : Cert.ReferenceIdeal.Val.Holds (Idealize.ShloMosaic.StableHlo.launchContents m' c) A := by
    show A.Reads (Cert.ReferenceIdeal.Val.aX _) (Cert.ReferenceIdeal.Val.aP _) (Cert.ReferenceIdeal.Val.aG _) (Cert.ReferenceIdeal.Val.aWi _)
      (Cert.ReferenceIdeal.Val.aQg _) (Cert.ReferenceIdeal.Val.aUq _) (Cert.ReferenceIdeal.Val.aKg _) (Cert.ReferenceIdeal.Val.aUkv _)
    rw [x0, x1, x2, x3, x5, x6, x7, x8]
    exact H
  have z : ∀ (r : Fin 16384) (e : Fin 4544), Cert.ReferenceIdeal.Val.v13 (Idealize.ShloMosaic.StableHlo.launchContents m' c)
      ⟨r.val / 4096, by omega⟩ ⟨r.val % 4096, by omega⟩ e = zK m c r e := by
    intro r e
    refine (Cert.ReferenceIdeal.Val.z_at _ _ _ _).trans ?_
    rw [x0, x2, x3]
    rfl
  refine ⟨h0.trans ?_, h1.trans ?_, h2.trans ?_, rest⟩
  · refine funext fun i => ?_
    obtain ⟨b, s, f, rfl⟩ : ∃ (b : Fin 4) (s : Fin 4096) (f : Fin 1024), i = ix3 b s f := ⟨i 0, i 1, i 2, eq_ix3 i⟩
    exact (Cert.ReferenceIdeal.Val.o_real HR b s f).trans (Cert.KernelIdeal.Val.o_at g HK b s f).symm
  · refine funext fun i => ?_
    obtain ⟨r, e, rfl⟩ : ∃ (r : Fin 16384) (e : Fin 1024), i = ix2 r e := ⟨i 0, i 1, eq_ix2 i⟩
    refine Eq.trans (α := EReal) (Cert.ReferenceIdeal.Val.hglu_at _ r e) (Eq.trans (α := EReal) ?_ (hgluK m g c r e).symm)
    exact congrArg₂ (fun s t : EReal => s * sigm t) (z r _) (z r _)
  · refine funext fun i => ?_
    obtain ⟨r, e, rfl⟩ : ∃ (r : Fin 16384) (e : Fin 2048), i = ix2 r e := ⟨i 0, i 1, eq_ix2 i⟩
    refine Eq.trans (α := EReal) (Cert.ReferenceIdeal.Val.gates_at _ r e) (Eq.trans (α := EReal) ?_ (gatesK m g c r e).symm)
    exact congrArg₂ (fun s t : EReal => sigm (s + t)) (z r _) (congrFun x4 (ix1 e))

end Cert.Proof

end
-- ==== Proof.PrepBlock.lean ====
module

public import proofs.«01_k».proof.Proof.Spec
public import proofs.«01_k».proof.Proof.Gen.PrepIdeal.Value
public import Idealize.ShloMosaic.Lib.Pointwise

/-!
# The expert queries against the sub-keys, one block of tokens

The call holds 512 tokens at once. It stores the products of sixteen query parts with their 128 sub-keys in 64 pieces:
a piece holds one part and 128 of the tokens, its sub-keys split into sixteen groups of eight. Read at an entry of the
block, the pieces are one function.
-/

@[expose] public section

set_option maxRecDepth 16384

noncomputable section

namespace Cert.PrepIdeal.Val

open Cert.PrepIdeal Cert.PrepIdeal.Gen Idealize.ShloMosaic Idealize.ShloMosaic.TcCoe Idealize.SL.Sem Cert.Spec

theorem z2 : (![0, 0] : Fin 2 → Nat) = fun _ => 0 := funext fun a => by fin_cases a <;> rfl

/-- The block's entry: the part and the sub-key come from the first coordinate and the second's remainder, the token
    from the second's quotient and the third. -/
def scoreA (Q : Vec Ideal S2048x512 .bf16) (K : Vec Ideal S16x128x128 .bf16) : Vec Ideal S256x32x128 .f32 := fun y =>
  (∑ j : Fin 128, (K (ix3 ⟨(y 0).val / 16, by have h : (y 0).val < 256 := (y 0).isLt; omega⟩
      ⟨(y 0).val % 16 * 8 + (y 1).val % 8, by omega⟩ j) : EReal)
    * Q (ix2 ⟨(y 0).val / 16 * 128 + j.val, by have h : (y 0).val < 256 := (y 0).isLt; omega⟩
      ⟨(y 1).val / 8 * 128 + (y 2).val, by have h : (y 1).val < 32 := (y 1).isLt; have h' : (y 2).val < 128 := (y 2).isLt; omega⟩) : EReal)

/-- A part's sub-keys, read out of all parts' sub-keys. -/
theorem ld_at (K : Vec Ideal S16x128x128 .bf16) (hp : ℕ) (h : hp < 16)
    (hi : ∀ a, (![hp, 0, 0] : Fin 3 → Nat) a + S1x128x128.size a ≤ S16x128x128.size a) (k j : Fin 128) :
    (View.ld K (Rect.unit (s := S16x128x128) ![hp, 0, 0] S1x128x128.size hi) : Vec Ideal S1x128x128 .bf16) (ix3 0 k j) = K (ix3 ⟨hp, h⟩ k j) := by
  show K _ = K _
  congr 1
  funext a
  apply Fin.ext
  match a with
  | ⟨0, _⟩ => show hp + 1 * 0 = hp; omega
  | ⟨1, _⟩ => show 0 + 1 * k.val = k.val; omega
  | ⟨2, _⟩ => show 0 + 1 * j.val = j.val; omega

/-- One of the 64 pieces, at its entry. -/
theorem scorePiece (hp a : ℕ) (h : hp < 16) (ha : a < 4) (hq : S2048x512.Slices ![128 * hp, 0] S128x512)
    (hs : S128x512.Slices ![0, 128 * a] S128x128)
    (hr : ∀ b, (![16 * hp, 8 * a, 0] : Fin 3 → Nat) b + S16x8x128.size b ≤ S256x32x128.size b)
    (Q : Vec Ideal S2048x512 .bf16) (K : Vec Ideal S16x128x128 .bf16) (kb : Vec Ideal S1x128x128 .bf16)
    (hk : ∀ k j : Fin 128, kb (ix3 0 k j) = K (ix3 ⟨hp, h⟩ k j)) (x : S16x8x128.Idx) :
    (shapeCast S16x8x128 (extractStridedSlice S128x128 ![0, 128 * a]
        (matmul (F := Ideal) (φ₁ := .bf16) (φ₂ := .bf16) dot_S128x128_S128x512_S128x512_1_0_0_1_n_n none (shapeCast S128x128 kb shapeCasts_S1x128x128_S128x128)
          (extractStridedSlice S128x512 ![128 * hp, 0] Q hq) (constant S128x512 .f32 0x00000000#32)) hs)
        shapeCasts_S128x128_S16x8x128 : Vec Ideal S16x8x128 .f32) x
      = scoreA Q K ((Rect.unit (s := S256x32x128) ![16 * hp, 8 * a, 0] S16x8x128.size hr).emb x) := by
  obtain ⟨g, s, l, rfl⟩ : ∃ (g : Fin 16) (s : Fin 8) (l : Fin 128), x = ix3 g s l := ⟨x 0, x 1, x 2, eq_ix3 x⟩
  pointwise
  unfold scoreA
  refine Finset.sum_congr rfl fun j _ => ?_
  rw [hk]
  have hg := g.isLt
  have hl := s.isLt
  refine congrArg₂ (fun u v : EReal => u * v) (congrArg K (funext fun b => Fin.ext ?_)) (congrArg Q (funext fun b => Fin.ext ?_))
  · match b with
    | ⟨0, _⟩ => show hp = (16 * hp + 1 * g.val) / 16; omega
    | ⟨1, _⟩ => show g.val * 8 + s.val = (16 * hp + 1 * g.val) % 16 * 8 + (8 * a + 1 * s.val) % 8; omega
    | ⟨2, _⟩ => rfl
  · match b with
    | ⟨0, _⟩ => show 128 * hp + j.val = (16 * hp + 1 * g.val) / 16 * 128 + j.val; omega
    | ⟨1, _⟩ => show 128 * a + l.val = (8 * a + 1 * s.val) / 8 * 128 + (0 + 1 * l.val); omega

/-- The 64 pieces leave the block's function. -/
theorem block_at (x0 : Vec Ideal S512x1024 .f32) (x1 : Vec Ideal S1x1024 .f32) (x2 : Vec Ideal S2048x1024 .bf16)
    (x3 : Vec Ideal S16x128x128 .bf16) : out0_5 x0 x1 x2 x3 = scoreA (k0_pay88 x0 x1 x2 x3) x3 := by
  funext y
  unfold out0_5
  refine View.canon_apply_of_pieces (scoreA (k0_pay88 x0 x1 x2 x3) x3) _ ?_ y (by exact cover0_5 ..)
  refine List.forall_mem_cons.2 ⟨fun x => scorePiece 15 3 (by omega) (by omega) slices_S2048x512_o1920_0_S128x512 slices_S128x512_o0_384_S128x128 inb_S256x32x128_S16x8x128_240_24_0 _ x3 _ (fun k j => ld_at x3 15 (by omega) inb_S16x128x128_S1x128x128_15_0_0 k j) x, ?_⟩
  refine List.forall_mem_cons.2 ⟨fun x => scorePiece 15 2 (by omega) (by omega) slices_S2048x512_o1920_0_S128x512 slices_S128x512_o0_256_S128x128 inb_S256x32x128_S16x8x128_240_16_0 _ x3 _ (fun k j => ld_at x3 15 (by omega) inb_S16x128x128_S1x128x128_15_0_0 k j) x, ?_⟩
  refine List.forall_mem_cons.2 ⟨fun x => scorePiece 15 1 (by omega) (by omega) slices_S2048x512_o1920_0_S128x512 slices_S128x512_o0_128_S128x128 inb_S256x32x128_S16x8x128_240_8_0 _ x3 _ (fun k j => ld_at x3 15 (by omega) inb_S16x128x128_S1x128x128_15_0_0 k j) x, ?_⟩
  refine List.forall_mem_cons.2 ⟨fun x => scorePiece 15 0 (by omega) (by omega) slices_S2048x512_o1920_0_S128x512 slices_S128x512_o0_0_S128x128 inb_S256x32x128_S16x8x128_240_0_0 _ x3 _ (fun k j => ld_at x3 15 (by omega) inb_S16x128x128_S1x128x128_15_0_0 k j) x, ?_⟩
  refine List.forall_mem_cons.2 ⟨fun x => scorePiece 14 3 (by omega) (by omega) slices_S2048x512_o1792_0_S128x512 slices_S128x512_o0_384_S128x128 inb_S256x32x128_S16x8x128_224_24_0 _ x3 _ (fun k j => ld_at x3 14 (by omega) inb_S16x128x128_S1x128x128_14_0_0 k j) x, ?_⟩
  refine List.forall_mem_cons.2 ⟨fun x => scorePiece 14 2 (by omega) (by omega) slices_S2048x512_o1792_0_S128x512 slices_S128x512_o0_256_S128x128 inb_S256x32x128_S16x8x128_224_16_0 _ x3 _ (fun k j => ld_at x3 14 (by omega) inb_S16x128x128_S1x128x128_14_0_0 k j) x, ?_⟩
  refine List.forall_mem_cons.2 ⟨fun x => scorePiece 14 1 (by omega) (by omega) slices_S2048x512_o1792_0_S128x512 slices_S128x512_o0_128_S128x128 inb_S256x32x128_S16x8x128_224_8_0 _ x3 _ (fun k j => ld_at x3 14 (by omega) inb_S16x128x128_S1x128x128_14_0_0 k j) x, ?_⟩
  refine List.forall_mem_cons.2 ⟨fun x => scorePiece 14 0 (by omega) (by omega) slices_S2048x512_o1792_0_S128x512 slices_S128x512_o0_0_S128x128 inb_S256x32x128_S16x8x128_224_0_0 _ x3 _ (fun k j => ld_at x3 14 (by omega) inb_S16x128x128_S1x128x128_14_0_0 k j) x, ?_⟩
  refine List.forall_mem_cons.2 ⟨fun x => scorePiece 13 3 (by omega) (by omega) slices_S2048x512_o1664_0_S128x512 slices_S128x512_o0_384_S128x128 inb_S256x32x128_S16x8x128_208_24_0 _ x3 _ (fun k j => ld_at x3 13 (by omega) inb_S16x128x128_S1x128x128_13_0_0 k j) x, ?_⟩
  refine List.forall_mem_cons.2 ⟨fun x => scorePiece 13 2 (by omega) (by omega) slices_S2048x512_o1664_0_S128x512 slices_S128x512_o0_256_S128x128 inb_S256x32x128_S16x8x128_208_16_0 _ x3 _ (fun k j => ld_at x3 13 (by omega) inb_S16x128x128_S1x128x128_13_0_0 k j) x, ?_⟩
  refine List.forall_mem_cons.2 ⟨fun x => scorePiece 13 1 (by omega) (by omega) slices_S2048x512_o1664_0_S128x512 slices_S128x512_o0_128_S128x128 inb_S256x32x128_S16x8x128_208_8_0 _ x3 _ (fun k j => ld_at x3 13 (by omega) inb_S16x128x128_S1x128x128_13_0_0 k j) x, ?_⟩
  refine List.forall_mem_cons.2 ⟨fun x => scorePiece 13 0 (by omega) (by omega) slices_S2048x512_o1664_0_S128x512 slices_S128x512_o0_0_S128x128 inb_S256x32x128_S16x8x128_208_0_0 _ x3 _ (fun k j => ld_at x3 13 (by omega) inb_S16x128x128_S1x128x128_13_0_0 k j) x, ?_⟩
  refine List.forall_mem_cons.2 ⟨fun x => scorePiece 12 3 (by omega) (by omega) slices_S2048x512_o1536_0_S128x512 slices_S128x512_o0_384_S128x128 inb_S256x32x128_S16x8x128_192_24_0 _ x3 _ (fun k j => ld_at x3 12 (by omega) inb_S16x128x128_S1x128x128_12_0_0 k j) x, ?_⟩
  refine List.forall_mem_cons.2 ⟨fun x => scorePiece 12 2 (by omega) (by omega) slices_S2048x512_o1536_0_S128x512 slices_S128x512_o0_256_S128x128 inb_S256x32x128_S16x8x128_192_16_0 _ x3 _ (fun k j => ld_at x3 12 (by omega) inb_S16x128x128_S1x128x128_12_0_0 k j) x, ?_⟩
  refine List.forall_mem_cons.2 ⟨fun x => scorePiece 12 1 (by omega) (by omega) slices_S2048x512_o1536_0_S128x512 slices_S128x512_o0_128_S128x128 inb_S256x32x128_S16x8x128_192_8_0 _ x3 _ (fun k j => ld_at x3 12 (by omega) inb_S16x128x128_S1x128x128_12_0_0 k j) x, ?_⟩
  refine List.forall_mem_cons.2 ⟨fun x => scorePiece 12 0 (by omega) (by omega) slices_S2048x512_o1536_0_S128x512 slices_S128x512_o0_0_S128x128 inb_S256x32x128_S16x8x128_192_0_0 _ x3 _ (fun k j => ld_at x3 12 (by omega) inb_S16x128x128_S1x128x128_12_0_0 k j) x, ?_⟩
  refine List.forall_mem_cons.2 ⟨fun x => scorePiece 11 3 (by omega) (by omega) slices_S2048x512_o1408_0_S128x512 slices_S128x512_o0_384_S128x128 inb_S256x32x128_S16x8x128_176_24_0 _ x3 _ (fun k j => ld_at x3 11 (by omega) inb_S16x128x128_S1x128x128_11_0_0 k j) x, ?_⟩
  refine List.forall_mem_cons.2 ⟨fun x => scorePiece 11 2 (by omega) (by omega) slices_S2048x512_o1408_0_S128x512 slices_S128x512_o0_256_S128x128 inb_S256x32x128_S16x8x128_176_16_0 _ x3 _ (fun k j => ld_at x3 11 (by omega) inb_S16x128x128_S1x128x128_11_0_0 k j) x, ?_⟩
  refine List.forall_mem_cons.2 ⟨fun x => scorePiece 11 1 (by omega) (by omega) slices_S2048x512_o1408_0_S128x512 slices_S128x512_o0_128_S128x128 inb_S256x32x128_S16x8x128_176_8_0 _ x3 _ (fun k j => ld_at x3 11 (by omega) inb_S16x128x128_S1x128x128_11_0_0 k j) x, ?_⟩
  refine List.forall_mem_cons.2 ⟨fun x => scorePiece 11 0 (by omega) (by omega) slices_S2048x512_o1408_0_S128x512 slices_S128x512_o0_0_S128x128 inb_S256x32x128_S16x8x128_176_0_0 _ x3 _ (fun k j => ld_at x3 11 (by omega) inb_S16x128x128_S1x128x128_11_0_0 k j) x, ?_⟩
  refine List.forall_mem_cons.2 ⟨fun x => scorePiece 10 3 (by omega) (by omega) slices_S2048x512_o1280_0_S128x512 slices_S128x512_o0_384_S128x128 inb_S256x32x128_S16x8x128_160_24_0 _ x3 _ (fun k j => ld_at x3 10 (by omega) inb_S16x128x128_S1x128x128_10_0_0 k j) x, ?_⟩
  refine List.forall_mem_cons.2 ⟨fun x => scorePiece 10 2 (by omega) (by omega) slices_S2048x512_o1280_0_S128x512 slices_S128x512_o0_256_S128x128 inb_S256x32x128_S16x8x128_160_16_0 _ x3 _ (fun k j => ld_at x3 10 (by omega) inb_S16x128x128_S1x128x128_10_0_0 k j) x, ?_⟩
  refine List.forall_mem_cons.2 ⟨fun x => scorePiece 10 1 (by omega) (by omega) slices_S2048x512_o1280_0_S128x512 slices_S128x512_o0_128_S128x128 inb_S256x32x128_S16x8x128_160_8_0 _ x3 _ (fun k j => ld_at x3 10 (by omega) inb_S16x128x128_S1x128x128_10_0_0 k j) x, ?_⟩
  refine List.forall_mem_cons.2 ⟨fun x => scorePiece 10 0 (by omega) (by omega) slices_S2048x512_o1280_0_S128x512 slices_S128x512_o0_0_S128x128 inb_S256x32x128_S16x8x128_160_0_0 _ x3 _ (fun k j => ld_at x3 10 (by omega) inb_S16x128x128_S1x128x128_10_0_0 k j) x, ?_⟩
  refine List.forall_mem_cons.2 ⟨fun x => scorePiece 9 3 (by omega) (by omega) slices_S2048x512_o1152_0_S128x512 slices_S128x512_o0_384_S128x128 inb_S256x32x128_S16x8x128_144_24_0 _ x3 _ (fun k j => ld_at x3 9 (by omega) inb_S16x128x128_S1x128x128_9_0_0 k j) x, ?_⟩
  refine List.forall_mem_cons.2 ⟨fun x => scorePiece 9 2 (by omega) (by omega) slices_S2048x512_o1152_0_S128x512 slices_S128x512_o0_256_S128x128 inb_S256x32x128_S16x8x128_144_16_0 _ x3 _ (fun k j => ld_at x3 9 (by omega) inb_S16x128x128_S1x128x128_9_0_0 k j) x, ?_⟩
  refine List.forall_mem_cons.2 ⟨fun x => scorePiece 9 1 (by omega) (by omega) slices_S2048x512_o1152_0_S128x512 slices_S128x512_o0_128_S128x128 inb_S256x32x128_S16x8x128_144_8_0 _ x3 _ (fun k j => ld_at x3 9 (by omega) inb_S16x128x128_S1x128x128_9_0_0 k j) x, ?_⟩
  refine List.forall_mem_cons.2 ⟨fun x => scorePiece 9 0 (by omega) (by omega) slices_S2048x512_o1152_0_S128x512 slices_S128x512_o0_0_S128x128 inb_S256x32x128_S16x8x128_144_0_0 _ x3 _ (fun k j => ld_at x3 9 (by omega) inb_S16x128x128_S1x128x128_9_0_0 k j) x, ?_⟩
  refine List.forall_mem_cons.2 ⟨fun x => scorePiece 8 3 (by omega) (by omega) slices_S2048x512_o1024_0_S128x512 slices_S128x512_o0_384_S128x128 inb_S256x32x128_S16x8x128_128_24_0 _ x3 _ (fun k j => ld_at x3 8 (by omega) inb_S16x128x128_S1x128x128_8_0_0 k j) x, ?_⟩
  refine List.forall_mem_cons.2 ⟨fun x => scorePiece 8 2 (by omega) (by omega) slices_S2048x512_o1024_0_S128x512 slices_S128x512_o0_256_S128x128 inb_S256x32x128_S16x8x128_128_16_0 _ x3 _ (fun k j => ld_at x3 8 (by omega) inb_S16x128x128_S1x128x128_8_0_0 k j) x, ?_⟩
  refine List.forall_mem_cons.2 ⟨fun x => scorePiece 8 1 (by omega) (by omega) slices_S2048x512_o1024_0_S128x512 slices_S128x512_o0_128_S128x128 inb_S256x32x128_S16x8x128_128_8_0 _ x3 _ (fun k j => ld_at x3 8 (by omega) inb_S16x128x128_S1x128x128_8_0_0 k j) x, ?_⟩
  refine List.forall_mem_cons.2 ⟨fun x => scorePiece 8 0 (by omega) (by omega) slices_S2048x512_o1024_0_S128x512 slices_S128x512_o0_0_S128x128 inb_S256x32x128_S16x8x128_128_0_0 _ x3 _ (fun k j => ld_at x3 8 (by omega) inb_S16x128x128_S1x128x128_8_0_0 k j) x, ?_⟩
  refine List.forall_mem_cons.2 ⟨fun x => scorePiece 7 3 (by omega) (by omega) slices_S2048x512_o896_0_S128x512 slices_S128x512_o0_384_S128x128 inb_S256x32x128_S16x8x128_112_24_0 _ x3 _ (fun k j => ld_at x3 7 (by omega) inb_S16x128x128_S1x128x128_7_0_0 k j) x, ?_⟩
  refine List.forall_mem_cons.2 ⟨fun x => scorePiece 7 2 (by omega) (by omega) slices_S2048x512_o896_0_S128x512 slices_S128x512_o0_256_S128x128 inb_S256x32x128_S16x8x128_112_16_0 _ x3 _ (fun k j => ld_at x3 7 (by omega) inb_S16x128x128_S1x128x128_7_0_0 k j) x, ?_⟩
  refine List.forall_mem_cons.2 ⟨fun x => scorePiece 7 1 (by omega) (by omega) slices_S2048x512_o896_0_S128x512 slices_S128x512_o0_128_S128x128 inb_S256x32x128_S16x8x128_112_8_0 _ x3 _ (fun k j => ld_at x3 7 (by omega) inb_S16x128x128_S1x128x128_7_0_0 k j) x, ?_⟩
  refine List.forall_mem_cons.2 ⟨fun x => scorePiece 7 0 (by omega) (by omega) slices_S2048x512_o896_0_S128x512 slices_S128x512_o0_0_S128x128 inb_S256x32x128_S16x8x128_112_0_0 _ x3 _ (fun k j => ld_at x3 7 (by omega) inb_S16x128x128_S1x128x128_7_0_0 k j) x, ?_⟩
  refine List.forall_mem_cons.2 ⟨fun x => scorePiece 6 3 (by omega) (by omega) slices_S2048x512_o768_0_S128x512 slices_S128x512_o0_384_S128x128 inb_S256x32x128_S16x8x128_96_24_0 _ x3 _ (fun k j => ld_at x3 6 (by omega) inb_S16x128x128_S1x128x128_6_0_0 k j) x, ?_⟩
  refine List.forall_mem_cons.2 ⟨fun x => scorePiece 6 2 (by omega) (by omega) slices_S2048x512_o768_0_S128x512 slices_S128x512_o0_256_S128x128 inb_S256x32x128_S16x8x128_96_16_0 _ x3 _ (fun k j => ld_at x3 6 (by omega) inb_S16x128x128_S1x128x128_6_0_0 k j) x, ?_⟩
  refine List.forall_mem_cons.2 ⟨fun x => scorePiece 6 1 (by omega) (by omega) slices_S2048x512_o768_0_S128x512 slices_S128x512_o0_128_S128x128 inb_S256x32x128_S16x8x128_96_8_0 _ x3 _ (fun k j => ld_at x3 6 (by omega) inb_S16x128x128_S1x128x128_6_0_0 k j) x, ?_⟩
  refine List.forall_mem_cons.2 ⟨fun x => scorePiece 6 0 (by omega) (by omega) slices_S2048x512_o768_0_S128x512 slices_S128x512_o0_0_S128x128 inb_S256x32x128_S16x8x128_96_0_0 _ x3 _ (fun k j => ld_at x3 6 (by omega) inb_S16x128x128_S1x128x128_6_0_0 k j) x, ?_⟩
  refine List.forall_mem_cons.2 ⟨fun x => scorePiece 5 3 (by omega) (by omega) slices_S2048x512_o640_0_S128x512 slices_S128x512_o0_384_S128x128 inb_S256x32x128_S16x8x128_80_24_0 _ x3 _ (fun k j => ld_at x3 5 (by omega) inb_S16x128x128_S1x128x128_5_0_0 k j) x, ?_⟩
  refine List.forall_mem_cons.2 ⟨fun x => scorePiece 5 2 (by omega) (by omega) slices_S2048x512_o640_0_S128x512 slices_S128x512_o0_256_S128x128 inb_S256x32x128_S16x8x128_80_16_0 _ x3 _ (fun k j => ld_at x3 5 (by omega) inb_S16x128x128_S1x128x128_5_0_0 k j) x, ?_⟩
  refine List.forall_mem_cons.2 ⟨fun x => scorePiece 5 1 (by omega) (by omega) slices_S2048x512_o640_0_S128x512 slices_S128x512_o0_128_S128x128 inb_S256x32x128_S16x8x128_80_8_0 _ x3 _ (fun k j => ld_at x3 5 (by omega) inb_S16x128x128_S1x128x128_5_0_0 k j) x, ?_⟩
  refine List.forall_mem_cons.2 ⟨fun x => scorePiece 5 0 (by omega) (by omega) slices_S2048x512_o640_0_S128x512 slices_S128x512_o0_0_S128x128 inb_S256x32x128_S16x8x128_80_0_0 _ x3 _ (fun k j => ld_at x3 5 (by omega) inb_S16x128x128_S1x128x128_5_0_0 k j) x, ?_⟩
  refine List.forall_mem_cons.2 ⟨fun x => scorePiece 4 3 (by omega) (by omega) slices_S2048x512_o512_0_S128x512 slices_S128x512_o0_384_S128x128 inb_S256x32x128_S16x8x128_64_24_0 _ x3 _ (fun k j => ld_at x3 4 (by omega) inb_S16x128x128_S1x128x128_4_0_0 k j) x, ?_⟩
  refine List.forall_mem_cons.2 ⟨fun x => scorePiece 4 2 (by omega) (by omega) slices_S2048x512_o512_0_S128x512 slices_S128x512_o0_256_S128x128 inb_S256x32x128_S16x8x128_64_16_0 _ x3 _ (fun k j => ld_at x3 4 (by omega) inb_S16x128x128_S1x128x128_4_0_0 k j) x, ?_⟩
  refine List.forall_mem_cons.2 ⟨fun x => scorePiece 4 1 (by omega) (by omega) slices_S2048x512_o512_0_S128x512 slices_S128x512_o0_128_S128x128 inb_S256x32x128_S16x8x128_64_8_0 _ x3 _ (fun k j => ld_at x3 4 (by omega) inb_S16x128x128_S1x128x128_4_0_0 k j) x, ?_⟩
  refine List.forall_mem_cons.2 ⟨fun x => scorePiece 4 0 (by omega) (by omega) slices_S2048x512_o512_0_S128x512 slices_S128x512_o0_0_S128x128 inb_S256x32x128_S16x8x128_64_0_0 _ x3 _ (fun k j => ld_at x3 4 (by omega) inb_S16x128x128_S1x128x128_4_0_0 k j) x, ?_⟩
  refine List.forall_mem_cons.2 ⟨fun x => scorePiece 3 3 (by omega) (by omega) slices_S2048x512_o384_0_S128x512 slices_S128x512_o0_384_S128x128 inb_S256x32x128_S16x8x128_48_24_0 _ x3 _ (fun k j => ld_at x3 3 (by omega) inb_S16x128x128_S1x128x128_3_0_0 k j) x, ?_⟩
  refine List.forall_mem_cons.2 ⟨fun x => scorePiece 3 2 (by omega) (by omega) slices_S2048x512_o384_0_S128x512 slices_S128x512_o0_256_S128x128 inb_S256x32x128_S16x8x128_48_16_0 _ x3 _ (fun k j => ld_at x3 3 (by omega) inb_S16x128x128_S1x128x128_3_0_0 k j) x, ?_⟩
  refine List.forall_mem_cons.2 ⟨fun x => scorePiece 3 1 (by omega) (by omega) slices_S2048x512_o384_0_S128x512 slices_S128x512_o0_128_S128x128 inb_S256x32x128_S16x8x128_48_8_0 _ x3 _ (fun k j => ld_at x3 3 (by omega) inb_S16x128x128_S1x128x128_3_0_0 k j) x, ?_⟩
  refine List.forall_mem_cons.2 ⟨fun x => scorePiece 3 0 (by omega) (by omega) slices_S2048x512_o384_0_S128x512 slices_S128x512_o0_0_S128x128 inb_S256x32x128_S16x8x128_48_0_0 _ x3 _ (fun k j => ld_at x3 3 (by omega) inb_S16x128x128_S1x128x128_3_0_0 k j) x, ?_⟩
  refine List.forall_mem_cons.2 ⟨fun x => scorePiece 2 3 (by omega) (by omega) slices_S2048x512_o256_0_S128x512 slices_S128x512_o0_384_S128x128 inb_S256x32x128_S16x8x128_32_24_0 _ x3 _ (fun k j => ld_at x3 2 (by omega) inb_S16x128x128_S1x128x128_2_0_0 k j) x, ?_⟩
  refine List.forall_mem_cons.2 ⟨fun x => scorePiece 2 2 (by omega) (by omega) slices_S2048x512_o256_0_S128x512 slices_S128x512_o0_256_S128x128 inb_S256x32x128_S16x8x128_32_16_0 _ x3 _ (fun k j => ld_at x3 2 (by omega) inb_S16x128x128_S1x128x128_2_0_0 k j) x, ?_⟩
  refine List.forall_mem_cons.2 ⟨fun x => scorePiece 2 1 (by omega) (by omega) slices_S2048x512_o256_0_S128x512 slices_S128x512_o0_128_S128x128 inb_S256x32x128_S16x8x128_32_8_0 _ x3 _ (fun k j => ld_at x3 2 (by omega) inb_S16x128x128_S1x128x128_2_0_0 k j) x, ?_⟩
  refine List.forall_mem_cons.2 ⟨fun x => scorePiece 2 0 (by omega) (by omega) slices_S2048x512_o256_0_S128x512 slices_S128x512_o0_0_S128x128 inb_S256x32x128_S16x8x128_32_0_0 _ x3 _ (fun k j => ld_at x3 2 (by omega) inb_S16x128x128_S1x128x128_2_0_0 k j) x, ?_⟩
  refine List.forall_mem_cons.2 ⟨fun x => scorePiece 1 3 (by omega) (by omega) slices_S2048x512_o128_0_S128x512 slices_S128x512_o0_384_S128x128 inb_S256x32x128_S16x8x128_16_24_0 _ x3 _ (fun k j => ld_at x3 1 (by omega) inb_S16x128x128_S1x128x128_1_0_0 k j) x, ?_⟩
  refine List.forall_mem_cons.2 ⟨fun x => scorePiece 1 2 (by omega) (by omega) slices_S2048x512_o128_0_S128x512 slices_S128x512_o0_256_S128x128 inb_S256x32x128_S16x8x128_16_16_0 _ x3 _ (fun k j => ld_at x3 1 (by omega) inb_S16x128x128_S1x128x128_1_0_0 k j) x, ?_⟩
  refine List.forall_mem_cons.2 ⟨fun x => scorePiece 1 1 (by omega) (by omega) slices_S2048x512_o128_0_S128x512 slices_S128x512_o0_128_S128x128 inb_S256x32x128_S16x8x128_16_8_0 _ x3 _ (fun k j => ld_at x3 1 (by omega) inb_S16x128x128_S1x128x128_1_0_0 k j) x, ?_⟩
  refine List.forall_mem_cons.2 ⟨fun x => scorePiece 1 0 (by omega) (by omega) slices_S2048x512_o128_0_S128x512 slices_S128x512_o0_0_S128x128 inb_S256x32x128_S16x8x128_16_0_0 _ x3 _ (fun k j => ld_at x3 1 (by omega) inb_S16x128x128_S1x128x128_1_0_0 k j) x, ?_⟩
  refine List.forall_mem_cons.2 ⟨fun x => scorePiece 0 3 (by omega) (by omega) slices_S2048x512_o0_0_S128x512 slices_S128x512_o0_384_S128x128 inb_S256x32x128_S16x8x128_0_24_0 _ x3 _ (fun k j => ld_at x3 0 (by omega) inb_S16x128x128_S1x128x128_0_0_0 k j) x, ?_⟩
  refine List.forall_mem_cons.2 ⟨fun x => scorePiece 0 2 (by omega) (by omega) slices_S2048x512_o0_0_S128x512 slices_S128x512_o0_256_S128x128 inb_S256x32x128_S16x8x128_0_16_0 _ x3 _ (fun k j => ld_at x3 0 (by omega) inb_S16x128x128_S1x128x128_0_0_0 k j) x, ?_⟩
  refine List.forall_mem_cons.2 ⟨fun x => scorePiece 0 1 (by omega) (by omega) slices_S2048x512_o0_0_S128x512 slices_S128x512_o0_128_S128x128 inb_S256x32x128_S16x8x128_0_8_0 _ x3 _ (fun k j => ld_at x3 0 (by omega) inb_S16x128x128_S1x128x128_0_0_0 k j) x, ?_⟩
  refine List.forall_mem_cons.2 ⟨fun x => scorePiece 0 0 (by omega) (by omega) slices_S2048x512_o0_0_S128x512 slices_S128x512_o0_0_S128x128 inb_S256x32x128_S16x8x128_0_0_0 _ x3 _ (fun k j => ld_at x3 0 (by omega) inb_S16x128x128_S1x128x128_0_0_0 k j) x, ?_⟩
  exact fun p hp => absurd hp List.not_mem_nil

end Cert.PrepIdeal.Val

end
-- ==== Proof.PrepValue.lean ====
module

public import proofs.«01_k».proof.Proof.PrepBlock
public import Idealize.ShloMosaic.Lib.StableHlo.RunClose

/-!
# The expert queries, the call's two arrays as functions of the arguments

The call walks the 16384 tokens in blocks of 512. It keeps the scaled rows, turned, and every token's scores against
the sub-keys, laid out in tiles of eight sub-keys by 128 tokens.
-/

@[expose] public section

set_option maxRecDepth 16384

noncomputable section

namespace Cert.Spec

/-- A token's score: its query part, a projection of the scaled row, against one sub-key. -/
def score (x g : Fin 1024 → EReal) (w : Fin 128 → Fin 1024 → EReal) (k : Fin 128 → EReal) : EReal :=
  ∑ j, k j * proj x g (w j)

end Cert.Spec

namespace Cert.PrepIdeal.Val

open Cert.PrepIdeal Cert.PrepIdeal.Gen Idealize.ShloMosaic Idealize.ShloMosaic.TcCoe Idealize.SL.Sem Cert.Spec

/-- Where the blocks of the three moving windows start. -/
theorem idx_at : ∀ t : Fin grid0.N, (cc0_transform_0 (grid0.coords t) 0 = t.val ∧ cc0_transform_0 (grid0.coords t) 1 = 0) ∧
    (cc0_transform_4 (grid0.coords t) 0 = 0 ∧ cc0_transform_4 (grid0.coords t) 1 = t.val) ∧
    (cc0_transform_5 (grid0.coords t) 0 = 0 ∧ cc0_transform_5 (grid0.coords t) 1 = t.val ∧ cc0_transform_5 (grid0.coords t) 2 = 0) := by
  decide +kernel

theorem points : cfg0.N = 32 := by decide +kernel

theorem lt0 (t : Fin cfg0.N) : t.val < 32 := lt_of_lt_of_eq t.isLt points

/-- A token of a block of 512 is a token of the array. -/
abbrev row512 (t : ℕ) (ht : t < 32) (r : Fin 512) : Fin 16384 := ⟨512 * t + r.val, by omega⟩

variable (m : (ℓ : Loc nD τ sig) → Buf (Elt Ideal) ℓ) (ρ : Dev nD → PrngReg) (c : Dev nD)

/-- The arguments, as arrays of extended reals. -/
abbrev aX : Vec Ideal S16384x1024 .f32 := m ((c : Thread nD τ).loc main_arg0)
abbrev aG : Vec Ideal S1024 .f32 := m ((c : Thread nD τ).loc main_arg1)
abbrev aW : Vec Ideal S1024x2048 .f32 := m ((c : Thread nD τ).loc main_arg2)
abbrev aK : Vec Ideal S8x2x128x128 .f32 := m ((c : Thread nD τ).loc main_arg3)

/-! ## What the host operations prepare -/

theorem V_g (d : Fin 1024) : (V m c main_v2 : Vec Ideal S1x1024 .f32) (ix2 0 d) = aG m c (ix1 d) := by
  show (StableHlo.after hostOps0 (fun b => m (c, b)) (Proc.devRef .tc main_v2) : Vec Ideal S1x1024 .f32) (ix2 0 d) = _
  simp only [hostOps0]
  after_results_simp
  pointwise

theorem V_w (q : Fin 2048) (d : Fin 1024) : (V m c main_v4 : Vec Ideal S2048x1024 .bf16) (ix2 q d) = aW m c (ix2 d q) := by
  show (StableHlo.after hostOps0 (fun b => m (c, b)) (Proc.devRef .tc main_v4) : Vec Ideal S2048x1024 .bf16) (ix2 q d) = _
  simp only [hostOps0]
  after_results_simp
  pointwise

theorem V_k (p : Fin 16) (k j : Fin 128) : (V m c main_v1 : Vec Ideal S16x128x128 .bf16) (ix3 p k j)
    = aK m c (ix4 ⟨p.val / 2, by omega⟩ ⟨p.val % 2, by omega⟩ k j) := by
  show (StableHlo.after hostOps0 (fun b => m (c, b)) (Proc.devRef .tc main_v1) : Vec Ideal S16x128x128 .bf16) (ix3 p k j) = _
  simp only [hostOps0]
  after_results_simp
  pointwise

/-! ## The blocks -/

theorem blk_x (t : Fin cfg0.N) (r : Fin 512) (d : Fin 1024) :
    (iblk m c 0 t : Vec Ideal S512x1024 .f32) (ix2 r d) = aX m c (ix2 (row512 t.val (lt0 t) r) d) := by
  have hi := (idx_at t).1
  refine Eq.trans ?_ (congrFun (V_main_arg0 m c) _)
  unfold iblk
  rw [View.read_apply]
  show V m c main_arg0 _ = V m c main_arg0 _
  congr 1
  funext a
  apply Fin.ext
  match a with
  | ⟨0, _⟩ => show cc0_transform_0 (grid0.coords t) 0 * 512 + 1 * r.val = 512 * t.val + r.val; rw [hi.1]; omega
  | ⟨1, _⟩ => show cc0_transform_0 (grid0.coords t) 1 * 1024 + 1 * d.val = d.val; rw [hi.2]; omega

theorem blk_g (t : Fin cfg0.N) (d : Fin 1024) : (iblk m c 1 t : Vec Ideal S1x1024 .f32) (ix2 0 d) = aG m c (ix1 d) := by
  refine Eq.trans ?_ (V_g m c d)
  unfold iblk
  rw [View.read_apply]
  show V m c main_v2 _ = V m c main_v2 _
  congr 1
  funext a
  apply Fin.ext
  match a with
  | ⟨0, _⟩ => show 0 * 1 + 1 * 0 = 0; omega
  | ⟨1, _⟩ => show 0 * 1024 + 1 * d.val = d.val; omega

theorem blk_w (t : Fin cfg0.N) (q : Fin 2048) (d : Fin 1024) :
    (iblk m c 2 t : Vec Ideal S2048x1024 .bf16) (ix2 q d) = aW m c (ix2 d q) := by
  refine Eq.trans ?_ (V_w m c q d)
  unfold iblk
  rw [View.read_apply]
  show V m c main_v4 _ = V m c main_v4 _
  congr 1
  funext a
  apply Fin.ext
  match a with
  | ⟨0, _⟩ => show 0 * 2048 + 1 * q.val = q.val; omega
  | ⟨1, _⟩ => show 0 * 1024 + 1 * d.val = d.val; omega

theorem blk_k (t : Fin cfg0.N) (p : Fin 16) (k j : Fin 128) :
    (iblk m c 3 t : Vec Ideal S16x128x128 .bf16) (ix3 p k j) = aK m c (ix4 ⟨p.val / 2, by omega⟩ ⟨p.val % 2, by omega⟩ k j) := by
  refine Eq.trans ?_ (V_k m c p k j)
  unfold iblk
  rw [View.read_apply]
  show V m c main_v1 _ = V m c main_v1 _
  congr 1
  funext a
  apply Fin.ext
  match a with
  | ⟨0, _⟩ => show 0 * 16 + 1 * p.val = p.val; omega
  | ⟨1, _⟩ => show 0 * 128 + 1 * k.val = k.val; omega
  | ⟨2, _⟩ => show 0 * 128 + 1 * j.val = j.val; omega

/-! ## The two arrays -/

/-- The scaled rows, turned. -/
def turnedA (x : Vec Ideal S16384x1024 .f32) (g : Vec Ideal S1024 .f32) : Vec Ideal S1024x16384 .bf16 :=
  fun i => rms n1024 (fun d => x (ix2 (i 1) d)) (fun d => g (ix1 d)) (i 0)

/-- The score of a query part, a sub-key and a token. -/
def scoreAt (x : Vec Ideal S16384x1024 .f32) (g : Vec Ideal S1024 .f32) (w : Vec Ideal S1024x2048 .f32) (k : Vec Ideal S8x2x128x128 .f32)
    (p : Fin 16) (s : Fin 128) (r : Fin 16384) : EReal :=
  score (fun d => x (ix2 r d)) (fun d => g (ix1 d)) (fun j d => w (ix2 d ⟨p.val * 128 + j.val, by omega⟩))
    (fun j => k (ix4 ⟨p.val / 2, by omega⟩ ⟨p.val % 2, by omega⟩ s j))

/-- The scores, in their layout. -/
def scoresA (x : Vec Ideal S16384x1024 .f32) (g : Vec Ideal S1024 .f32) (w : Vec Ideal S1024x2048 .f32) (k : Vec Ideal S8x2x128x128 .f32) :
    Vec Ideal S256x1024x128 .f32 := fun i =>
  scoreAt x g w k ⟨(i 0).val / 16, by have h : (i 0).val < 256 := (i 0).isLt; omega⟩ ⟨(i 0).val % 16 * 8 + (i 1).val % 8, by omega⟩
    ⟨(i 1).val / 8 * 128 + (i 2).val, by have h : (i 1).val < 1024 := (i 1).isLt; have h' : (i 2).val < 128 := (i 2).isLt; omega⟩

theorem turned_at (t : Fin cfg0.N) (d : Fin 1024) (r : Fin 512) :
    (out0_4 (iblk m c 0 t) (iblk m c 1 t) (iblk m c 2 t) (iblk m c 3 t) : Vec Ideal S1024x512 .bf16) (ix2 d r)
      = turnedA (aX m c) (aG m c) (ix2 d (row512 t.val (lt0 t) r)) := by
  have hx := fun d => blk_x m c t r d
  have hg := fun d => blk_g m c t d
  generalize (iblk m c 0 t : Vec Ideal S512x1024 .f32) = x0 at hx ⊢
  generalize (iblk m c 1 t : Vec Ideal S1x1024 .f32) = x1 at hg ⊢
  unfold out0_4
  rw [View.canon_unit_zero z2]
  pointwise [k0_pay4, k0_pay3]
  simp only [hx, hg, turnedA, rms, rinv]
  rfl

/-- A query part of a token of the block. -/
theorem query_at (t : Fin cfg0.N) (q : Fin 2048) (r : Fin 512) :
    (k0_pay88 (iblk m c 0 t) (iblk m c 1 t) (iblk m c 2 t) (iblk m c 3 t) : Vec Ideal S2048x512 .bf16) (ix2 q r)
      = proj (fun d => aX m c (ix2 (row512 t.val (lt0 t) r) d)) (fun d => aG m c (ix1 d)) (fun d => aW m c (ix2 d q)) := by
  have hx := fun d => blk_x m c t r d
  have hg := fun d => blk_g m c t d
  have hw := fun d => blk_w m c t q d
  generalize (iblk m c 0 t : Vec Ideal S512x1024 .f32) = x0 at hx ⊢
  generalize (iblk m c 1 t : Vec Ideal S1x1024 .f32) = x1 at hg ⊢
  generalize (iblk m c 2 t : Vec Ideal S2048x1024 .bf16) = x2 at hw ⊢
  unfold k0_pay88
  pointwise [k0_pay5, k0_pay3]
  simp only [hx, hg, hw, proj, rms, rinv]
  exact Finset.sum_congr rfl fun d _ => mul_comm _ _

theorem scores_at (t : Fin cfg0.N) (G : Fin 256) (R : Fin 32) (L : Fin 128) :
    (out0_5 (iblk m c 0 t) (iblk m c 1 t) (iblk m c 2 t) (iblk m c 3 t) : Vec Ideal S256x32x128 .f32) (ix3 G R L)
      = scoresA (aX m c) (aG m c) (aW m c) (aK m c) (ix3 G ⟨32 * t.val + R.val, by have := lt0 t; omega⟩ L) := by
  have ht := lt0 t
  rw [block_at]
  unfold scoreA scoresA scoreAt score
  refine Finset.sum_congr rfl fun j _ => ?_
  refine congrArg₂ (fun u v : EReal => u * v) ((blk_k m c t _ _ j).trans ?_) ((query_at m c t _ _).trans ?_)
  · refine congrArg (aK m c) (funext fun b => Fin.ext ?_)
    match b with
    | ⟨0, _⟩ => rfl
    | ⟨1, _⟩ => rfl
    | ⟨2, _⟩ => show G.val % 16 * 8 + R.val % 8 = G.val % 16 * 8 + (32 * t.val + R.val) % 8; omega
    | ⟨3, _⟩ => rfl
  · have hr : row512 t.val ht ⟨R.val / 8 * 128 + L.val, by omega⟩
        = (⟨(32 * t.val + R.val) / 8 * 128 + L.val, by omega⟩ : Fin 16384) := Fin.ext (by show 512 * t.val + (R.val / 8 * 128 + L.val) = (32 * t.val + R.val) / 8 * 128 + L.val; omega)
    exact congrArg (fun u : Fin 16384 => proj (fun d => aX m c (ix2 u d)) (fun d => aG m c (ix1 d))
      (fun d => aW m c (ix2 d ⟨G.val / 16 * 128 + j.val, by omega⟩))) hr

theorem final4 : (dats m 0 c).arrAt 4 cfg0.N = turnedA (aX m c) (aG m c) :=
  (dats m 0 c).arrAt_eq_of_cover 4 (turnedA (aX m c) (aG m c)) (fun t _ => by
    show (cfg0.win 4).cut (grid0.coords t) ((dats m 0 c).after 4 t) = _
    rw [after0_4]
    have hi := (idx_at t).2.1
    funext j
    obtain ⟨d, r, rfl⟩ : ∃ (d : Fin 1024) (r : Fin 512), j = ix2 d r := ⟨j 0, j 1, eq_ix2 j⟩
    refine (turned_at m c t d r).trans ?_
    rw [View.read_apply]
    show turnedA (aX m c) (aG m c) _ = turnedA (aX m c) (aG m c) _
    congr 1
    funext a
    apply Fin.ext
    match a with
    | ⟨0, _⟩ => show d.val = cc0_transform_4 (grid0.coords t) 0 * 1024 + 1 * d.val; rw [hi.1]; omega
    | ⟨1, _⟩ => show 512 * t.val + r.val = cc0_transform_4 (grid0.coords t) 1 * 512 + 1 * r.val; rw [hi.2]; omega)
  fun i => by
    have h0 : (i 0 : Nat) < 1024 := (i 0).isLt
    have h1 : (i 1 : Nat) < 16384 := (i 1).isLt
    obtain ⟨t, htv⟩ : ∃ t : Fin cfg0.N, t.val = (i 1 : Nat) / 512 := ⟨⟨(i 1 : Nat) / 512, by rw [points]; omega⟩, rfl⟩
    refine ⟨t, flush0_4 _, ?_⟩
    have hi := (idx_at t).2.1
    show i ∈ ((View.whole main_v5_0).slice (win0_4.rect t)).set
    rw [View.set_slice_whole, Rect.mem_set_unit]
    intro a
    match a with
    | ⟨0, _⟩ => show cc0_transform_4 (grid0.coords t) 0 * 1024 ≤ (i 0 : Nat) ∧ (i 0 : Nat) < cc0_transform_4 (grid0.coords t) 0 * 1024 + 1024
                rw [hi.1]; omega
    | ⟨1, _⟩ => show cc0_transform_4 (grid0.coords t) 1 * 512 ≤ (i 1 : Nat) ∧ (i 1 : Nat) < cc0_transform_4 (grid0.coords t) 1 * 512 + 512
                rw [hi.2]; omega

theorem final5 : (dats m 0 c).arrAt 5 cfg0.N = scoresA (aX m c) (aG m c) (aW m c) (aK m c) :=
  (dats m 0 c).arrAt_eq_of_cover 5 (scoresA (aX m c) (aG m c) (aW m c) (aK m c)) (fun t _ => by
    show (cfg0.win 5).cut (grid0.coords t) ((dats m 0 c).after 5 t) = _
    rw [after0_5]
    have hi := (idx_at t).2.2
    funext j
    obtain ⟨G, R, L, rfl⟩ : ∃ (G : Fin 256) (R : Fin 32) (L : Fin 128), j = ix3 G R L := ⟨j 0, j 1, j 2, eq_ix3 j⟩
    refine (scores_at m c t G R L).trans ?_
    rw [View.read_apply]
    show scoresA (aX m c) (aG m c) (aW m c) (aK m c) _ = scoresA (aX m c) (aG m c) (aW m c) (aK m c) _
    congr 1
    funext a
    apply Fin.ext
    match a with
    | ⟨0, _⟩ => show G.val = cc0_transform_5 (grid0.coords t) 0 * 256 + 1 * G.val; rw [hi.1]; omega
    | ⟨1, _⟩ => show 32 * t.val + R.val = cc0_transform_5 (grid0.coords t) 1 * 32 + 1 * R.val; rw [hi.2.1]; omega
    | ⟨2, _⟩ => show L.val = cc0_transform_5 (grid0.coords t) 2 * 128 + 1 * L.val; rw [hi.2.2]; omega)
  fun i => by
    have h0 : (i 0 : Nat) < 256 := (i 0).isLt
    have h1 : (i 1 : Nat) < 1024 := (i 1).isLt
    have h2 : (i 2 : Nat) < 128 := (i 2).isLt
    obtain ⟨t, htv⟩ : ∃ t : Fin cfg0.N, t.val = (i 1 : Nat) / 32 := ⟨⟨(i 1 : Nat) / 32, by rw [points]; omega⟩, rfl⟩
    refine ⟨t, flush0_5 _, ?_⟩
    have hi := (idx_at t).2.2
    show i ∈ ((View.whole main_v5_1).slice (win0_5.rect t)).set
    rw [View.set_slice_whole, Rect.mem_set_unit]
    intro a
    match a with
    | ⟨0, _⟩ => show cc0_transform_5 (grid0.coords t) 0 * 256 ≤ (i 0 : Nat) ∧ (i 0 : Nat) < cc0_transform_5 (grid0.coords t) 0 * 256 + 256
                rw [hi.1]; omega
    | ⟨1, _⟩ => show cc0_transform_5 (grid0.coords t) 1 * 32 ≤ (i 1 : Nat) ∧ (i 1 : Nat) < cc0_transform_5 (grid0.coords t) 1 * 32 + 32
                rw [hi.2.1]; omega
    | ⟨2, _⟩ => show cc0_transform_5 (grid0.coords t) 2 * 128 ≤ (i 2 : Nat) ∧ (i 2 : Nat) < cc0_transform_5 (grid0.coords t) 2 * 128 + 128
                rw [hi.2.2]; omega

end Cert.PrepIdeal.Val

end
-- ==== Proof.Prep.lean ====
module

public import proofs.«01_k».proof.Defs
public import proofs.«01_k».proof.Proof.PrepValue
public import proofs.«01_k».proof.Proof.Gen.Prep.Frame
public import proofs.«01_k».proof.Proof.Gen.PrepReferenceIdeal.Run
public import Idealize.ShloMosaic.Lib.Quiescent

/-!
# The expert queries: the call and its reference hold the same results

The reference's scores, read at an entry of their layout, are the same sums of products.
-/

@[expose] public section

set_option maxRecDepth 16384

noncomputable section

namespace Cert.Proof

open Idealize.ShloMosaic Idealize.ShloMosaic.TcCoe Idealize.SL.Sem Cert.Spec

theorem frame_prep_p : Cert.quiescent_Prep := fun m ρ _ => Cert.Prep.Gen.frame m ρ

theorem frame_prep_pi : Cert.quiescent_PrepIdeal := fun m ρ _ => Cert.PrepIdeal.Gen.frame m ρ

theorem frame_prep_ri : Cert.quiescent_PrepReferenceIdeal := fun m ρ _ =>
  (θ_run Cert.PrepReferenceIdeal.defs _ _).mono
    (fun r h => ⟨fun c => (h c).2.2, sem_eq_zero_of_no_sems (by decide) r.2⟩)
    (Cert.PrepReferenceIdeal.Value.run (F := Ideal) m ρ)

theorem preserves_prep : Cert.preserves_Prep_PrepIdeal := trivial

/-- The expert queries and their reference end with equal results. -/
theorem algebraic_prep : Cert.algebraic_PrepIdeal_PrepReferenceIdeal := by
  intro m g m' g' _ hargs
  refine ⟨fun c => Cert.PrepIdeal.Val.turnedA (Cert.PrepIdeal.Val.aX m c) (Cert.PrepIdeal.Val.aG m c),
    fun c => Cert.PrepIdeal.Val.scoresA (Cert.PrepIdeal.Val.aX m c) (Cert.PrepIdeal.Val.aG m c) (Cert.PrepIdeal.Val.aW m c) (Cert.PrepIdeal.Val.aK m c),
    (θ_run Cert.PrepIdeal.defs _ _).mono (fun _ h c => ⟨(h c).1.trans (Cert.PrepIdeal.Val.final4 m c),
        (h c).2.1.trans (Cert.PrepIdeal.Val.final5 m c), (h c).2.2⟩)
      (Cert.PrepIdeal.Value.run_blocks (F := Ideal) m g),
    (θ_run Cert.PrepReferenceIdeal.defs _ _).mono (fun _ h c => ⟨(h c).1.trans ?_, (h c).2.1.trans ?_, (h c).2.2⟩)
      (Cert.PrepReferenceIdeal.Value.run (F := Ideal) m' g')⟩
  · obtain ⟨e0, e1, e2, e3⟩ := hargs c
    rw [e0, e1]
    refine funext fun i => ?_
    obtain ⟨d, r, rfl⟩ : ∃ (d : Fin 1024) (r : Fin 16384), i = ix2 d r := ⟨i 0, i 1, eq_ix2 i⟩
    show _ = rms n1024 (fun d => Cert.PrepIdeal.Val.aX m c (ix2 r d)) (fun d => Cert.PrepIdeal.Val.aG m c (ix1 d)) d
    unfold rms rinv
    pointwise
  · obtain ⟨e0, e1, e2, e3⟩ := hargs c
    rw [e0, e1, e2, e3]
    refine funext fun i => ?_
    obtain ⟨G, R, L, rfl⟩ : ∃ (G : Fin 256) (R : Fin 1024) (L : Fin 128), i = ix3 G R L := ⟨i 0, i 1, i 2, eq_ix3 i⟩
    show _ = Cert.PrepIdeal.Val.scoreAt (Cert.PrepIdeal.Val.aX m c) (Cert.PrepIdeal.Val.aG m c) (Cert.PrepIdeal.Val.aW m c) (Cert.PrepIdeal.Val.aK m c)
      ⟨G.val / 16, by omega⟩ ⟨G.val % 16 * 8 + R.val % 8, by omega⟩ ⟨R.val / 8 * 128 + L.val, by omega⟩
    pointwise
    unfold Cert.PrepIdeal.Val.scoreAt score proj rms rinv
    refine Finset.sum_congr rfl fun j _ => ?_
    refine congrArg₂ (fun u v : EReal => u * v) (congrArg (Cert.PrepIdeal.Val.aK m c) (funext fun b => Fin.ext ?_)) ?_
    · match b with
      | ⟨0, _⟩ => show G.val / 32 = G.val / 16 / 2; omega
      | ⟨1, _⟩ => rfl
      | ⟨2, _⟩ => rfl
      | ⟨3, _⟩ => rfl
    · refine Finset.sum_congr rfl fun d _ => ?_
      refine congrArg (fun v : EReal => _ * v) (congrArg (Cert.PrepIdeal.Val.aW m c) (funext fun b => Fin.ext ?_))
      match b with
      | ⟨0, _⟩ => rfl
      | ⟨1, _⟩ => show G.val / 32 * 256 + G.val / 16 % 2 * 128 + j.val = G.val / 16 * 128 + j.val; omega

end Cert.Proof

end
-- ==== Proof.LastNorm.lean ====
module

public import proofs.«01_k».proof.Defs
public import proofs.«01_k».proof.Proof.Spec
public import proofs.«01_k».proof.Proof.Gen.Final.Frame
public import proofs.«01_k».proof.Proof.Gen.FinalIdeal.Value
public import proofs.«01_k».proof.Proof.Gen.FinalReferenceIdeal.Run
public import Idealize.ShloMosaic.Lib.Pointwise
public import Idealize.ShloMosaic.Lib.StableHlo.RunClose
public import Idealize.ShloMosaic.Lib.Quiescent

/-!
# The last step: a residual sum and its norm

The call adds the turned array of expert outputs to the residual rows, block by block, and scales every row to unit
mean square. A row reads nothing but itself, so the result is one function of the three arguments; the reference is
the same function.
-/

@[expose] public section

set_option maxRecDepth 16384

noncomputable section

/-- An entry of the last step: the sum's row scaled to unit mean square, then by the weights. -/
def Cert.Spec.lastNorm (pt : Fin 1024 → EReal) (h g : Fin 1024 → EReal) (e : Fin 1024) : EReal :=
  Cert.Spec.rms Cert.Spec.n1024 (fun d => h d + pt d) g e

namespace Cert.FinalIdeal.Val

open Cert.FinalIdeal Cert.FinalIdeal.Gen Idealize.ShloMosaic Idealize.ShloMosaic.TcCoe Idealize.SL.Sem Cert.Spec

theorem z2 : (![0, 0] : Fin 2 → Nat) = fun _ => 0 := funext fun a => by fin_cases a <;> rfl

/-- Where the blocks of the three moving windows start. -/
theorem idx_at : ∀ t : Fin grid0.N, (cc0_transform_0 (grid0.coords t) 0 = 0 ∧ cc0_transform_0 (grid0.coords t) 1 = t.val) ∧
    (cc0_transform_1 (grid0.coords t) 0 = t.val ∧ cc0_transform_1 (grid0.coords t) 1 = 0) ∧
    (cc0_transform_3 (grid0.coords t) 0 = t.val ∧ cc0_transform_3 (grid0.coords t) 1 = 0) := by
  decide +kernel

theorem points : cfg0.N = 32 := by decide +kernel

theorem lt0 (t : Fin cfg0.N) : t.val < 32 := lt_of_lt_of_eq t.isLt points

/-- A row of a block of 512 is a row of the array. -/
abbrev row512 (t : ℕ) (ht : t < 32) (r : Fin 512) : Fin 16384 := ⟨512 * t + r.val, by omega⟩

variable (m : (ℓ : Loc nD τ sig) → Buf (Elt Ideal) ℓ) (ρ : Dev nD → PrngReg) (c : Dev nD)

/-- The arguments, as arrays of extended reals. -/
abbrev aP : Vec Ideal S1024x16384 .f32 := m ((c : Thread nD τ).loc main_arg0)
abbrev aH : Vec Ideal S16384x1024 .f32 := m ((c : Thread nD τ).loc main_arg1)
abbrev aG : Vec Ideal S1024 .f32 := m ((c : Thread nD τ).loc main_arg2)

theorem V_g (d : Fin 1024) : (V m c main_v0 : Vec Ideal S1x1024 .f32) (ix2 0 d) = aG m c (ix1 d) := by
  show (StableHlo.after hostOps0 (fun b => m (c, b)) (Proc.devRef .tc main_v0) : Vec Ideal S1x1024 .f32) (ix2 0 d) = _
  simp only [hostOps0]
  after_results_simp
  pointwise

theorem blk_p (t : Fin cfg0.N) (d : Fin 1024) (r : Fin 512) :
    (iblk m c 0 t : Vec Ideal S1024x512 .f32) (ix2 d r) = aP m c (ix2 d (row512 t.val (lt0 t) r)) := by
  have hi := (idx_at t).1
  refine Eq.trans ?_ (congrFun (V_main_arg0 m c) _)
  unfold iblk
  rw [View.read_apply]
  show V m c main_arg0 _ = V m c main_arg0 _
  congr 1
  funext a
  apply Fin.ext
  match a with
  | ⟨0, _⟩ => show cc0_transform_0 (grid0.coords t) 0 * 1024 + 1 * d.val = d.val; rw [hi.1]; omega
  | ⟨1, _⟩ => show cc0_transform_0 (grid0.coords t) 1 * 512 + 1 * r.val = 512 * t.val + r.val; rw [hi.2]; omega

theorem blk_h (t : Fin cfg0.N) (r : Fin 512) (d : Fin 1024) :
    (iblk m c 1 t : Vec Ideal S512x1024 .f32) (ix2 r d) = aH m c (ix2 (row512 t.val (lt0 t) r) d) := by
  have hi := (idx_at t).2.1
  refine Eq.trans ?_ (congrFun (V_main_arg1 m c) _)
  unfold iblk
  rw [View.read_apply]
  show V m c main_arg1 _ = V m c main_arg1 _
  congr 1
  funext a
  apply Fin.ext
  match a with
  | ⟨0, _⟩ => show cc0_transform_1 (grid0.coords t) 0 * 512 + 1 * r.val = 512 * t.val + r.val; rw [hi.1]; omega
  | ⟨1, _⟩ => show cc0_transform_1 (grid0.coords t) 1 * 1024 + 1 * d.val = d.val; rw [hi.2]; omega

theorem blk_g (t : Fin cfg0.N) (d : Fin 1024) : (iblk m c 2 t : Vec Ideal S1x1024 .f32) (ix2 0 d) = aG m c (ix1 d) := by
  refine Eq.trans ?_ (V_g m c d)
  unfold iblk
  rw [View.read_apply]
  show V m c main_v0 _ = V m c main_v0 _
  congr 1
  funext a
  apply Fin.ext
  match a with
  | ⟨0, _⟩ => show 0 * 1 + 1 * 0 = 0; omega
  | ⟨1, _⟩ => show 0 * 1024 + 1 * d.val = d.val; omega

/-- The result, as an array. -/
def lastA (p : Vec Ideal S1024x16384 .f32) (h : Vec Ideal S16384x1024 .f32) (g : Vec Ideal S1024 .f32) : Vec Ideal S16384x1024 .f32 :=
  fun i => lastNorm (fun d => p (ix2 d (i 0))) (fun d => h (ix2 (i 0) d)) (fun d => g (ix1 d)) (i 1)

theorem G_at (t : Fin cfg0.N) (r : Fin 512) (e : Fin 1024) :
    (out0_3 (iblk m c 0 t) (iblk m c 1 t) (iblk m c 2 t) : Vec Ideal S512x1024 .f32) (ix2 r e)
      = lastA (aP m c) (aH m c) (aG m c) (ix2 (row512 t.val (lt0 t) r) e) := by
  have hp := fun d => blk_p m c t d r
  have hh := fun d => blk_h m c t r d
  have hg := fun d => blk_g m c t d
  generalize (iblk m c 0 t : Vec Ideal S1024x512 .f32) = x0 at hp ⊢
  generalize (iblk m c 1 t : Vec Ideal S512x1024 .f32) = x1 at hh ⊢
  generalize (iblk m c 2 t : Vec Ideal S1x1024 .f32) = x2 at hg ⊢
  unfold out0_3
  rw [View.canon_unit_zero z2]
  pointwise [k0_pay1]
  simp only [hp, hh, hg, lastA, lastNorm, rms, rinv]
  rfl

theorem final3 : (dats m 0 c).arrAt 3 cfg0.N = lastA (aP m c) (aH m c) (aG m c) :=
  (dats m 0 c).arrAt_eq_of_cover 3 (lastA (aP m c) (aH m c) (aG m c)) (fun t _ => by
    show (cfg0.win 3).cut (grid0.coords t) ((dats m 0 c).after 3 t) = _
    rw [after0_3]
    have hi := (idx_at t).2.2
    funext j
    obtain ⟨r, e, rfl⟩ : ∃ (r : Fin 512) (e : Fin 1024), j = ix2 r e := ⟨j 0, j 1, eq_ix2 j⟩
    refine (G_at m c t r e).trans ?_
    rw [View.read_apply]
    show lastA (aP m c) (aH m c) (aG m c) _ = lastA (aP m c) (aH m c) (aG m c) _
    congr 1
    funext a
    apply Fin.ext
    match a with
    | ⟨0, _⟩ => show 512 * t.val + r.val = cc0_transform_3 (grid0.coords t) 0 * 512 + 1 * r.val; rw [hi.1]; omega
    | ⟨1, _⟩ => show e.val = cc0_transform_3 (grid0.coords t) 1 * 1024 + 1 * e.val; rw [hi.2]; omega)
  fun i => by
    have h0 : (i 0 : Nat) < 16384 := (i 0).isLt
    have h1 : (i 1 : Nat) < 1024 := (i 1).isLt
    obtain ⟨t, htv⟩ : ∃ t : Fin cfg0.N, t.val = (i 0 : Nat) / 512 := ⟨⟨(i 0 : Nat) / 512, by rw [points]; omega⟩, rfl⟩
    refine ⟨t, flush0_3 _, ?_⟩
    have hi := (idx_at t).2.2
    show i ∈ ((View.whole main_v1).slice (win0_3.rect t)).set
    rw [View.set_slice_whole, Rect.mem_set_unit]
    intro a
    match a with
    | ⟨0, _⟩ => show cc0_transform_3 (grid0.coords t) 0 * 512 ≤ (i 0 : Nat) ∧ (i 0 : Nat) < cc0_transform_3 (grid0.coords t) 0 * 512 + 512
                rw [hi.1]; omega
    | ⟨1, _⟩ => show cc0_transform_3 (grid0.coords t) 1 * 1024 ≤ (i 1 : Nat) ∧ (i 1 : Nat) < cc0_transform_3 (grid0.coords t) 1 * 1024 + 1024
                rw [hi.2]; omega

end Cert.FinalIdeal.Val

namespace Cert.Proof

open Idealize.ShloMosaic Idealize.ShloMosaic.TcCoe Idealize.SL.Sem Cert.Spec

theorem frame_final_p : Cert.quiescent_Final := fun m ρ _ => Cert.Final.Gen.frame m ρ

theorem frame_final_pi : Cert.quiescent_FinalIdeal := fun m ρ _ => Cert.FinalIdeal.Gen.frame m ρ

theorem frame_final_ri : Cert.quiescent_FinalReferenceIdeal := fun m ρ _ =>
  (θ_run Cert.FinalReferenceIdeal.defs _ _).mono
    (fun r h => ⟨fun c => (h c).2, sem_eq_zero_of_no_sems (by decide) r.2⟩)
    (Cert.FinalReferenceIdeal.Value.run (F := Ideal) m ρ)

theorem preserves_final : Cert.preserves_Final_FinalIdeal := trivial

/-- The last step and its reference end with equal results. -/
theorem algebraic_final : Cert.algebraic_FinalIdeal_FinalReferenceIdeal := by
  intro m g m' g' _ hargs
  refine ⟨fun c => Cert.FinalIdeal.Val.lastA (Cert.FinalIdeal.Val.aP m c) (Cert.FinalIdeal.Val.aH m c) (Cert.FinalIdeal.Val.aG m c),
    (θ_run Cert.FinalIdeal.defs _ _).mono (fun _ h c => ⟨(h c).1.trans (Cert.FinalIdeal.Val.final3 m c), (h c).2⟩)
      (Cert.FinalIdeal.Value.run_blocks (F := Ideal) m g),
    (θ_run Cert.FinalReferenceIdeal.defs _ _).mono (fun _ h c => ⟨(h c).1.trans ?_, (h c).2⟩)
      (Cert.FinalReferenceIdeal.Value.run (F := Ideal) m' g')⟩
  obtain ⟨e0, e1, e2⟩ := hargs c
  rw [e0, e1, e2]
  refine funext fun i => ?_
  obtain ⟨r, e, rfl⟩ : ∃ (r : Fin 16384) (e : Fin 1024), i = ix2 r e := ⟨i 0, i 1, eq_ix2 i⟩
  show _ = lastNorm (fun d => Cert.FinalIdeal.Val.aP m c (ix2 d r)) (fun d => Cert.FinalIdeal.Val.aH m c (ix2 r d))
    (fun d => Cert.FinalIdeal.Val.aG m c (ix1 d)) e
  unfold lastNorm rms rinv
  pointwise

end Cert.Proof

end
-- ==== Proof.lean ====
module

public import proofs.«01_k».proof.Defs
public import proofs.«01_k».proof.Proof.Frames
public import proofs.«01_k».proof.Proof.Equation
public import proofs.«01_k».proof.Proof.Prep
public import proofs.«01_k».proof.Proof.LastNorm

/-!
The proof of the certificate's claim, for three groups of programs: the layer's projections and attention, the expert
queries with their scores, and the last norm. For each group the frames, the preservation of the idealization, and the
equality of the kernel program's results with the reference's.
-/

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Prep.Gen.facts, Cert.PrepIdeal.Gen.facts, Cert.PrepReferenceIdeal.Gen.facts,
    Cert.Final.Gen.facts, Cert.FinalIdeal.Gen.facts, Cert.FinalReferenceIdeal.Gen.facts, Cert.Pre_finite.Gen.facts,
    frame_p, frame_pi, fun m ρ _ => frame_pi m ρ trivial, frame_ri, fun m ρ _ => frame_ri m ρ trivial,
    frame_prep_p, frame_prep_pi, frame_prep_ri, frame_final_p, frame_final_pi, frame_final_ri,
    preserves, algebraic, preserves_prep, algebraic_prep, preserves_final, algebraic_final⟩

end Cert.Proof

end
